-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "inv127" .f32 0x3C010204#32 ((1 / 127 : ℝ) : EReal)
  ∧ IdealRules.named_const.Statement Cert.KernelIdeal.κ "invSqrt2" .f32 0x3F3504F3#32 ((8388608 / 11863283 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_v0_7) = v7 c
          ∧ r.2.mem ((c.tc : Thread Cert.ReferenceIdeal.nD Cert.ReferenceIdeal.τ).loc Cert.ReferenceIdeal.main_v0_8) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x768 : Shape := ⟨3, ![2, 1024, 768]⟩
abbrev S2x768x1024 : Shape := ⟨3, ![2, 768, 1024]⟩
abbrev S1024x1024 : Shape := ⟨2, ![1024, 1024]⟩
abbrev S1x1024 : Shape := ⟨2, ![1, 1024]⟩
abbrev S1024x4096 : Shape := ⟨2, ![1024, 4096]⟩
abbrev S1x4096 : Shape := ⟨2, ![1, 4096]⟩
abbrev S4096x1024 : Shape := ⟨2, ![4096, 1024]⟩
abbrev S2x768 : Shape := ⟨2, ![2, 768]⟩
abbrev S2x768x4096 : Shape := ⟨3, ![2, 768, 4096]⟩
abbrev S1x1024x256 : Shape := ⟨3, ![1, 1024, 256]⟩
abbrev S1x256x1024 : Shape := ⟨3, ![1, 256, 1024]⟩
abbrev S1x256x4096 : Shape := ⟨3, ![1, 256, 4096]⟩
abbrev S1024x256 : Shape := ⟨2, ![1024, 256]⟩
abbrev S256x4096 : Shape := ⟨2, ![256, 4096]⟩
abbrev S256x1024 : Shape := ⟨2, ![256, 1024]⟩
abbrev S128x1024 : Shape := ⟨2, ![128, 1024]⟩
abbrev S128x4096 : Shape := ⟨2, ![128, 4096]⟩
abbrev S256 : Shape := ⟨1, ![256]⟩
abbrev S1x256 : Shape := ⟨2, ![1, 256]⟩
abbrev S1x128 : Shape := ⟨2, ![1, 128]⟩
abbrev S128x128 : Shape := ⟨2, ![128, 128]⟩
abbrev S128x1 : Shape := ⟨2, ![128, 1]⟩
abbrev S1x128x1024 : Shape := ⟨3, ![1, 128, 1024]⟩
abbrev S128 : Shape := ⟨1, ![128]⟩
abbrev S1024x512 : Shape := ⟨2, ![1024, 512]⟩
abbrev S128x512 : Shape := ⟨2, ![128, 512]⟩
abbrev S1x512 : Shape := ⟨2, ![1, 512]⟩
abbrev S1x128x512 : Shape := ⟨3, ![1, 128, 512]⟩

abbrev nBuf : Space → Nat
  | .hbm => 26
  | .vmem => 41
  | .smem => 0
  | _ => 0

abbrev bufTy : (tb : Table) → Fin (tcTables nBuf tb) → BufTy
  | .hbm, ⟨0, _⟩ => ⟨S2x1024x768, .f32⟩
  | .hbm, ⟨1, _⟩ => ⟨S2x768x1024, .bf16⟩
  | .hbm, ⟨2, _⟩ => ⟨S1024x1024, .i8⟩
  | .hbm, ⟨3, _⟩ => ⟨S1x1024, .f32⟩
  | .hbm, ⟨4, _⟩ => ⟨S1x1024, .f32⟩
  | .hbm, ⟨5, _⟩ => ⟨S1024x4096, .i8⟩
  | .hbm, ⟨6, _⟩ => ⟨S1x4096, .f32⟩
  | .hbm, ⟨7, _⟩ => ⟨S1x4096, .f32⟩
  | .hbm, ⟨8, _⟩ => ⟨S4096x1024, .i8⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S2x768x1024, .i8⟩
  | .hbm, ⟨18, _⟩ => ⟨S2x768, .f32⟩
  | .hbm, ⟨19, _⟩ => ⟨S2x768x1024, .f32⟩
  | .hbm, ⟨20, _⟩ => ⟨S2x1024x768, .i8⟩
  | .hbm, ⟨21, _⟩ => ⟨S2x768, .f32⟩
  | .hbm, ⟨22, _⟩ => ⟨S2x768x1024, .i8⟩
  | .hbm, ⟨23, _⟩ => ⟨S2x768, .f32⟩
  | .hbm, ⟨24, _⟩ => ⟨S2x768x4096, .i8⟩
  | .hbm, ⟨25, _⟩ => ⟨S2x768, .f32⟩
  | .local _ .vmem, ⟨0, _⟩ => ⟨S1x1024x256, .f32⟩
  | .local _ .vmem, ⟨1, _⟩ => ⟨S1x1024x256, .f32⟩
  | .local _ .vmem, ⟨2, _⟩ => ⟨S1x256x1024, .bf16⟩
  | .local _ .vmem, ⟨3, _⟩ => ⟨S1x256x1024, .bf16⟩
  | .local _ .vmem, ⟨4, _⟩ => ⟨S1024x1024, .i8⟩
  | .local _ .vmem, ⟨5, _⟩ => ⟨S1x1024, .f32⟩
  | .local _ .vmem, ⟨6, _⟩ => ⟨S1x1024, .f32⟩
  | .local _ .vmem, ⟨7, _⟩ => ⟨S1024x4096, .i8⟩
  | .local _ .vmem, ⟨8, _⟩ => ⟨S1x4096, .f32⟩
  | .local _ .vmem, ⟨9, _⟩ => ⟨S1x4096, .f32⟩
  | .local _ .vmem, ⟨10, _⟩ => ⟨S4096x1024, .i8⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x256x1024, .i8⟩
  | .local _ .vmem, ⟨20, _⟩ => ⟨S1x256x1024, .i8⟩
  | .local _ .vmem, ⟨21, _⟩ => ⟨S2x768, .f32⟩
  | .local _ .vmem, ⟨22, _⟩ => ⟨S1x256x1024, .f32⟩
  | .local _ .vmem, ⟨23, _⟩ => ⟨S1x256x1024, .f32⟩
  | .local _ .vmem, ⟨24, _⟩ => ⟨S1x1024x256, .i8⟩
  | .local _ .vmem, ⟨25, _⟩ => ⟨S1x1024x256, .i8⟩
  | .local _ .vmem, ⟨26, _⟩ => ⟨S2x768, .f32⟩
  | .local _ .vmem, ⟨27, _⟩ => ⟨S1x256x1024, .i8⟩
  | .local _ .vmem, ⟨28, _⟩ => ⟨S1x256x1024, .i8⟩
  | .local _ .vmem, ⟨29, _⟩ => ⟨S2x768, .f32⟩
  | .local _ .vmem, ⟨30, _⟩ => ⟨S1x256x4096, .i8⟩
  | .local _ .vmem, ⟨31, _⟩ => ⟨S1x256x4096, .i8⟩
  | .local _ .vmem, ⟨32, _⟩ => ⟨S2x768, .f32⟩
  | .local _ .vmem, ⟨33, _⟩ => ⟨S1024x1024, .bf16⟩
  | .local _ .vmem, ⟨34, _⟩ => ⟨S1024x4096, .bf16⟩
  | .local _ .vmem, ⟨35, _⟩ => ⟨S4096x1024, .bf16⟩
  | .local _ .vmem, ⟨36, _⟩ => ⟨S1024x256, .bf16⟩
  | .local _ .vmem, ⟨37, _⟩ => ⟨S256x4096, .f32⟩
  | .local _ .vmem, ⟨38, _⟩ => ⟨S256x4096, .bf16⟩
  | .local _ .vmem, ⟨39, _⟩ => ⟨S256x1024, .f32⟩
  | .local _ .vmem, ⟨40, _⟩ => ⟨S256x1024, .bf16⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev main_v0_3 : Ref sig .tc := ⟨.hbm, 20, rfl⟩
abbrev main_v0_4 : Ref sig .tc := ⟨.hbm, 21, rfl⟩
abbrev main_v0_5 : Ref sig .tc := ⟨.hbm, 22, rfl⟩
abbrev main_v0_6 : Ref sig .tc := ⟨.hbm, 23, rfl⟩
abbrev main_v0_7 : Ref sig .tc := ⟨.hbm, 24, rfl⟩
abbrev main_v0_8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg22_1 : Ref sig .tc := ⟨.vmem, 28, rfl⟩
abbrev cc0_stg23_0 : Ref sig .tc := ⟨.vmem, 29, rfl⟩
abbrev cc0_stg24_0 : Ref sig .tc := ⟨.vmem, 30, rfl⟩
abbrev cc0_stg24_1 : Ref sig .tc := ⟨.vmem, 31, rfl⟩
abbrev cc0_stg25_0 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_scratch4 : Ref sig .tc := ⟨.vmem, 37, rfl⟩
abbrev cc0_scratch5 : Ref sig .tc := ⟨.vmem, 38, rfl⟩
abbrev cc0_scratch6 : Ref sig .tc := ⟨.vmem, 39, rfl⟩
abbrev cc0_scratch7 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem22_0 : DmaSem sig := 27
abbrev cc0_sem22_1 : DmaSem sig := 28
abbrev cc0_sem23_0 : DmaSem sig := 29
abbrev cc0_sem24_0 : DmaSem sig := 30
abbrev cc0_sem24_1 : DmaSem sig := 31
abbrev cc0_sem25_0 : DmaSem sig := 32

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_665 : BitVec 32 := 0#32
  let c8_i32 : BitVec 32 := 8#32
  let v1474 : BitVec 32 := Scalar.addi c0_i32_665 c8_i32
  let c1_i32_666 : BitVec 32 := 1#32
  ⟨c0_i32_665, v1474, c1_i32_666⟩
def k0_mult1 (k0_t1 : Fin k0_t1_loop.trips) : BitVec 32 :=
  let c0_i32_665 : BitVec 32 := 0#32
  let c1_i32_666 : BitVec 32 := 1#32
  let arg35 : BitVec 32 := Scf.iv c0_i32_665 c1_i32_666 k0_t1
  let c128_i32 : BitVec 32 := 128#32
  let v1477 : BitVec 32 := Scalar.muli arg35 c128_i32
  v1477
def k0_off1 (k0_t1 : Fin k0_t1_loop.trips) : Fin 2 → Nat :=
  let c0_i32_665 : BitVec 32 := 0#32
  let c1_i32_666 : BitVec 32 := 1#32
  let arg35 : BitVec 32 := Scf.iv c0_i32_665 c1_i32_666 k0_t1
  let c128_i32 : BitVec 32 := 128#32
  let v1477 : BitVec 32 := Scalar.muli arg35 c128_i32
  let v1478 : BitVec 32 := v1477
  let v1479 : Index := Scalar.indexCast v1478
  let c0_675 : Index := 0#32
  ![v1479.toNat, 0]
@[reducible] def k0_t2_loop : Scf.Loop 32 :=
  let c0_i32_668 : BitVec 32 := 0#32
  let c8_i32_669 : BitVec 32 := 8#32
  let v1475 : BitVec 32 := Scalar.addi c0_i32_668 c8_i32_669
  let c1_i32_670 : BitVec 32 := 1#32
  ⟨c0_i32_668, v1475, c1_i32_670⟩
def k0_mult2 (k0_t2 : Fin k0_t2_loop.trips) : BitVec 32 :=
  let c0_i32_668 : BitVec 32 := 0#32
  let c1_i32_670 : BitVec 32 := 1#32
  let arg35 : BitVec 32 := Scf.iv c0_i32_668 c1_i32_670 k0_t2
  let c128_i32 : BitVec 32 := 128#32
  let v1477 : BitVec 32 := Scalar.muli arg35 c128_i32
  v1477
def k0_off2 (k0_t2 : Fin k0_t2_loop.trips) : Fin 2 → Nat :=
  let c0_i32_668 : BitVec 32 := 0#32
  let c1_i32_670 : BitVec 32 := 1#32
  let arg35 : BitVec 32 := Scf.iv c0_i32_668 c1_i32_670 k0_t2
  let c128_i32 : BitVec 32 := 128#32
  let v1477 : BitVec 32 := Scalar.muli arg35 c128_i32
  let v1478 : BitVec 32 := v1477
  let v1479 : Index := Scalar.indexCast v1478
  let c0_675 : Index := 0#32
  ![v1479.toNat, 0]
@[reducible] def k0_t3_loop : Scf.Loop 32 :=
  let c0_i32_672 : BitVec 32 := 0#32
  let c32_i32 : BitVec 32 := 32#32
  let v1476 : BitVec 32 := Scalar.addi c0_i32_672 c32_i32
  let c1_i32_673 : BitVec 32 := 1#32
  ⟨c0_i32_672, v1476, c1_i32_673⟩
def k0_mult3 (k0_t3 : Fin k0_t3_loop.trips) : BitVec 32 :=
  let c0_i32_672 : BitVec 32 := 0#32
  let c1_i32_673 : BitVec 32 := 1#32
  let arg35 : BitVec 32 := Scf.iv c0_i32_672 c1_i32_673 k0_t3
  let c128_i32 : BitVec 32 := 128#32
  let v1477 : BitVec 32 := Scalar.muli arg35 c128_i32
  v1477
def k0_off3 (k0_t3 : Fin k0_t3_loop.trips) : Fin 2 → Nat :=
  let c0_i32_672 : BitVec 32 := 0#32
  let c1_i32_673 : BitVec 32 := 1#32
  let arg35 : BitVec 32 := Scf.iv c0_i32_672 c1_i32_673 k0_t3
  let c128_i32 : BitVec 32 := 128#32
  let v1477 : BitVec 32 := Scalar.muli arg35 c128_i32
  let v1478 : BitVec 32 := v1477
  let v1479 : Index := Scalar.indexCast v1478
  let c0_675 : Index := 0#32
  ![v1479.toNat, 0]
def k0_cond2 (i : grid0.Coords) : BitVec 1 :=
  let arg0 : BitVec 32 := BitVec.ofNat 32 (i 0).val
  let c0_i32_14 : BitVec 32 := 0#32
  let v32 : BitVec 1 := Scalar.cmpi .sgt arg0 c0_i32_14
  let v33 : BitVec 32 := Scalar.extui v32
  let c0_i32_15 : BitVec 32 := 0#32
  let v34 : BitVec 1 := Scalar.cmpi .slt arg0 c0_i32_15
  let v35 : BitVec 32 := Scalar.extui v34
  let v36 : BitVec 32 := Scalar.subi v33 v35
  let c3_i32 : BitVec 32 := 3#32
  let c0_i32_16 : BitVec 32 := 0#32
  let v37 : BitVec 1 := Scalar.cmpi .sgt c3_i32 c0_i32_16
  let v38 : BitVec 32 := Scalar.extui v37
  let c0_i32_17 : BitVec 32 := 0#32
  let v39 : BitVec 1 := Scalar.cmpi .slt c3_i32 c0_i32_17
  let v40 : BitVec 32 := Scalar.extui v39
  let v41 : BitVec 32 := Scalar.subi v38 v40
  let v42 : BitVec 1 := Scalar.cmpi .ne v36 v41
  let v43 : BitVec 32 := Scalar.remsi arg0 c3_i32
  let c0_i32_18 : BitVec 32 := 0#32
  let v44 : BitVec 1 := Scalar.cmpi .ne v43 c0_i32_18
  let v45 : BitVec 1 := Scalar.andi v42 v44
  let v31 : BitVec 32 := Scalar.divsi arg0 c3_i32
  let c1_i32 : BitVec 32 := 1#32
  let v46 : BitVec 32 := Scalar.subi v31 c1_i32
  let v47 : BitVec 32 := Scalar.select v45 v46 v31
  let c0_i32_19 : BitVec 32 := 0#32
  let v48 : BitVec 1 := Scalar.cmpi .eq v47 c0_i32_19
  let v49 : BitVec 32 := Scalar.extui v48
  let c0_i32_20 : BitVec 32 := 0#32
  let v50 : BitVec 1 := Scalar.cmpi .ne v49 c0_i32_20
  v50

def k0_mult4 (i : grid0.Coords) : BitVec 32 :=
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  v1484
def k0_off4 (i : grid0.Coords) : Fin 2 → Nat :=
  let c0_671 : Index := 0#32
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let v1485 : BitVec 32 := v1484
  let v1486 : Index := Scalar.indexCast v1485
  ![0, v1486.toNat]
def k0_cond3 (i : grid0.Coords) : BitVec 1 :=
  let arg0 : BitVec 32 := BitVec.ofNat 32 (i 0).val
  let c0_i32_22 : BitVec 32 := 0#32
  let v52 : BitVec 1 := Scalar.cmpi .sgt arg0 c0_i32_22
  let v53 : BitVec 32 := Scalar.extui v52
  let c0_i32_23 : BitVec 32 := 0#32
  let v54 : BitVec 1 := Scalar.cmpi .slt arg0 c0_i32_23
  let v55 : BitVec 32 := Scalar.extui v54
  let v56 : BitVec 32 := Scalar.subi v53 v55
  let c3_i32_21 : BitVec 32 := 3#32
  let c0_i32_24 : BitVec 32 := 0#32
  let v57 : BitVec 1 := Scalar.cmpi .sgt c3_i32_21 c0_i32_24
  let v58 : BitVec 32 := Scalar.extui v57
  let c0_i32_25 : BitVec 32 := 0#32
  let v59 : BitVec 1 := Scalar.cmpi .slt c3_i32_21 c0_i32_25
  let v60 : BitVec 32 := Scalar.extui v59
  let v61 : BitVec 32 := Scalar.subi v58 v60
  let v62 : BitVec 1 := Scalar.cmpi .ne v56 v61
  let v63 : BitVec 32 := Scalar.remsi arg0 c3_i32_21
  let c0_i32_26 : BitVec 32 := 0#32
  let v64 : BitVec 1 := Scalar.cmpi .ne v63 c0_i32_26
  let v65 : BitVec 1 := Scalar.andi v62 v64
  let v51 : BitVec 32 := Scalar.divsi arg0 c3_i32_21
  let c1_i32_27 : BitVec 32 := 1#32
  let v66 : BitVec 32 := Scalar.subi v51 c1_i32_27
  let v67 : BitVec 32 := Scalar.select v65 v66 v51
  let c1_i32_28 : BitVec 32 := 1#32
  let v68 : BitVec 1 := Scalar.cmpi .eq v67 c1_i32_28
  let v69 : BitVec 32 := Scalar.extui v68
  let c0_i32_29 : BitVec 32 := 0#32
  let v70 : BitVec 1 := Scalar.cmpi .ne v69 c0_i32_29
  v70

def k0_mult5 (i : grid0.Coords) : BitVec 32 :=
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  v1484
def k0_off5 (i : grid0.Coords) : Fin 2 → Nat :=
  let c1 : Index := 1#32
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let v1485 : BitVec 32 := v1484
  let v1486 : Index := Scalar.indexCast v1485
  ![1, v1486.toNat]
def k0_cond4 (i : grid0.Coords) : BitVec 1 :=
  let arg0 : BitVec 32 := BitVec.ofNat 32 (i 0).val
  let c0_i32_77 : BitVec 32 := 0#32
  let v174 : BitVec 1 := Scalar.cmpi .sgt arg0 c0_i32_77
  let v175 : BitVec 32 := Scalar.extui v174
  let c0_i32_78 : BitVec 32 := 0#32
  let v176 : BitVec 1 := Scalar.cmpi .slt arg0 c0_i32_78
  let v177 : BitVec 32 := Scalar.extui v176
  let v178 : BitVec 32 := Scalar.subi v175 v177
  let c3_i32_76 : BitVec 32 := 3#32
  let c0_i32_79 : BitVec 32 := 0#32
  let v179 : BitVec 1 := Scalar.cmpi .sgt c3_i32_76 c0_i32_79
  let v180 : BitVec 32 := Scalar.extui v179
  let c0_i32_80 : BitVec 32 := 0#32
  let v181 : BitVec 1 := Scalar.cmpi .slt c3_i32_76 c0_i32_80
  let v182 : BitVec 32 := Scalar.extui v181
  let v183 : BitVec 32 := Scalar.subi v180 v182
  let v184 : BitVec 1 := Scalar.cmpi .ne v178 v183
  let v185 : BitVec 32 := Scalar.remsi arg0 c3_i32_76
  let c0_i32_81 : BitVec 32 := 0#32
  let v186 : BitVec 1 := Scalar.cmpi .ne v185 c0_i32_81
  let v187 : BitVec 1 := Scalar.andi v184 v186
  let v173 : BitVec 32 := Scalar.divsi arg0 c3_i32_76
  let c1_i32_82 : BitVec 32 := 1#32
  let v188 : BitVec 32 := Scalar.subi v173 c1_i32_82
  let v189 : BitVec 32 := Scalar.select v187 v188 v173
  let c0_i32_83 : BitVec 32 := 0#32
  let v190 : BitVec 1 := Scalar.cmpi .eq v189 c0_i32_83
  let v191 : BitVec 32 := Scalar.extui v190
  let c0_i32_84 : BitVec 32 := 0#32
  let v192 : BitVec 1 := Scalar.cmpi .ne v191 c0_i32_84
  v192

def k0_mult6 (i : grid0.Coords) : BitVec 32 :=
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c0_i32_671 : BitVec 32 := 0#32
  let v1485 : BitVec 32 := Scalar.addi v1484 c0_i32_671
  v1485
def k0_off6 (i : grid0.Coords) : Fin 2 → Nat :=
  let c0_672 : Index := 0#32
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c0_i32_671 : BitVec 32 := 0#32
  let v1485 : BitVec 32 := Scalar.addi v1484 c0_i32_671
  let v1486 : BitVec 32 := v1485
  let v1487 : Index := Scalar.indexCast v1486
  ![0, v1487.toNat]
def k0_cond5 (i : grid0.Coords) : BitVec 1 :=
  let arg0 : BitVec 32 := BitVec.ofNat 32 (i 0).val
  let c0_i32_86 : BitVec 32 := 0#32
  let v194 : BitVec 1 := Scalar.cmpi .sgt arg0 c0_i32_86
  let v195 : BitVec 32 := Scalar.extui v194
  let c0_i32_87 : BitVec 32 := 0#32
  let v196 : BitVec 1 := Scalar.cmpi .slt arg0 c0_i32_87
  let v197 : BitVec 32 := Scalar.extui v196
  let v198 : BitVec 32 := Scalar.subi v195 v197
  let c3_i32_85 : BitVec 32 := 3#32
  let c0_i32_88 : BitVec 32 := 0#32
  let v199 : BitVec 1 := Scalar.cmpi .sgt c3_i32_85 c0_i32_88
  let v200 : BitVec 32 := Scalar.extui v199
  let c0_i32_89 : BitVec 32 := 0#32
  let v201 : BitVec 1 := Scalar.cmpi .slt c3_i32_85 c0_i32_89
  let v202 : BitVec 32 := Scalar.extui v201
  let v203 : BitVec 32 := Scalar.subi v200 v202
  let v204 : BitVec 1 := Scalar.cmpi .ne v198 v203
  let v205 : BitVec 32 := Scalar.remsi arg0 c3_i32_85
  let c0_i32_90 : BitVec 32 := 0#32
  let v206 : BitVec 1 := Scalar.cmpi .ne v205 c0_i32_90
  let v207 : BitVec 1 := Scalar.andi v204 v206
  let v193 : BitVec 32 := Scalar.divsi arg0 c3_i32_85
  let c1_i32_91 : BitVec 32 := 1#32
  let v208 : BitVec 32 := Scalar.subi v193 c1_i32_91
  let v209 : BitVec 32 := Scalar.select v207 v208 v193
  let c1_i32_92 : BitVec 32 := 1#32
  let v210 : BitVec 1 := Scalar.cmpi .eq v209 c1_i32_92
  let v211 : BitVec 32 := Scalar.extui v210
  let c0_i32_93 : BitVec 32 := 0#32
  let v212 : BitVec 1 := Scalar.cmpi .ne v211 c0_i32_93
  v212

def k0_mult7 (i : grid0.Coords) : BitVec 32 :=
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c0_i32_671 : BitVec 32 := 0#32
  let v1485 : BitVec 32 := Scalar.addi v1484 c0_i32_671
  v1485
def k0_off7 (i : grid0.Coords) : Fin 2 → Nat :=
  let c1 : Index := 1#32
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c0_i32_671 : BitVec 32 := 0#32
  let v1485 : BitVec 32 := Scalar.addi v1484 c0_i32_671
  let v1486 : BitVec 32 := v1485
  let v1487 : Index := Scalar.indexCast v1486
  ![1, v1487.toNat]
def k0_cond6 (i : grid0.Coords) : BitVec 1 :=
  let arg0 : BitVec 32 := BitVec.ofNat 32 (i 0).val
  let c0_i32_206 : BitVec 32 := 0#32
  let v501 : BitVec 1 := Scalar.cmpi .sgt arg0 c0_i32_206
  let v502 : BitVec 32 := Scalar.extui v501
  let c0_i32_207 : BitVec 32 := 0#32
  let v503 : BitVec 1 := Scalar.cmpi .slt arg0 c0_i32_207
  let v504 : BitVec 32 := Scalar.extui v503
  let v505 : BitVec 32 := Scalar.subi v502 v504
  let c3_i32_205 : BitVec 32 := 3#32
  let c0_i32_208 : BitVec 32 := 0#32
  let v506 : BitVec 1 := Scalar.cmpi .sgt c3_i32_205 c0_i32_208
  let v507 : BitVec 32 := Scalar.extui v506
  let c0_i32_209 : BitVec 32 := 0#32
  let v508 : BitVec 1 := Scalar.cmpi .slt c3_i32_205 c0_i32_209
  let v509 : BitVec 32 := Scalar.extui v508
  let v510 : BitVec 32 := Scalar.subi v507 v509
  let v511 : BitVec 1 := Scalar.cmpi .ne v505 v510
  let v512 : BitVec 32 := Scalar.remsi arg0 c3_i32_205
  let c0_i32_210 : BitVec 32 := 0#32
  let v513 : BitVec 1 := Scalar.cmpi .ne v512 c0_i32_210
  let v514 : BitVec 1 := Scalar.andi v511 v513
  let v500 : BitVec 32 := Scalar.divsi arg0 c3_i32_205
  let c1_i32_211 : BitVec 32 := 1#32
  let v515 : BitVec 32 := Scalar.subi v500 c1_i32_211
  let v516 : BitVec 32 := Scalar.select v514 v515 v500
  let c0_i32_212 : BitVec 32 := 0#32
  let v517 : BitVec 1 := Scalar.cmpi .eq v516 c0_i32_212
  let v518 : BitVec 32 := Scalar.extui v517
  let c0_i32_213 : BitVec 32 := 0#32
  let v519 : BitVec 1 := Scalar.cmpi .ne v518 c0_i32_213
  v519

def k0_mult8 (i : grid0.Coords) : BitVec 32 :=
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c0_i32_671 : BitVec 32 := 0#32
  let v1485 : BitVec 32 := Scalar.addi v1484 c0_i32_671
  v1485
def k0_off8 (i : grid0.Coords) : Fin 2 → Nat :=
  let c0_672 : Index := 0#32
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c0_i32_671 : BitVec 32 := 0#32
  let v1485 : BitVec 32 := Scalar.addi v1484 c0_i32_671
  let v1486 : BitVec 32 := v1485
  let v1487 : Index := Scalar.indexCast v1486
  ![0, v1487.toNat]
def k0_cond7 (i : grid0.Coords) : BitVec 1 :=
  let arg0 : BitVec 32 := BitVec.ofNat 32 (i 0).val
  let c0_i32_215 : BitVec 32 := 0#32
  let v521 : BitVec 1 := Scalar.cmpi .sgt arg0 c0_i32_215
  let v522 : BitVec 32 := Scalar.extui v521
  let c0_i32_216 : BitVec 32 := 0#32
  let v523 : BitVec 1 := Scalar.cmpi .slt arg0 c0_i32_216
  let v524 : BitVec 32 := Scalar.extui v523
  let v525 : BitVec 32 := Scalar.subi v522 v524
  let c3_i32_214 : BitVec 32 := 3#32
  let c0_i32_217 : BitVec 32 := 0#32
  let v526 : BitVec 1 := Scalar.cmpi .sgt c3_i32_214 c0_i32_217
  let v527 : BitVec 32 := Scalar.extui v526
  let c0_i32_218 : BitVec 32 := 0#32
  let v528 : BitVec 1 := Scalar.cmpi .slt c3_i32_214 c0_i32_218
  let v529 : BitVec 32 := Scalar.extui v528
  let v530 : BitVec 32 := Scalar.subi v527 v529
  let v531 : BitVec 1 := Scalar.cmpi .ne v525 v530
  let v532 : BitVec 32 := Scalar.remsi arg0 c3_i32_214
  let c0_i32_219 : BitVec 32 := 0#32
  let v533 : BitVec 1 := Scalar.cmpi .ne v532 c0_i32_219
  let v534 : BitVec 1 := Scalar.andi v531 v533
  let v520 : BitVec 32 := Scalar.divsi arg0 c3_i32_214
  let c1_i32_220 : BitVec 32 := 1#32
  let v535 : BitVec 32 := Scalar.subi v520 c1_i32_220
  let v536 : BitVec 32 := Scalar.select v534 v535 v520
  let c1_i32_221 : BitVec 32 := 1#32
  let v537 : BitVec 1 := Scalar.cmpi .eq v536 c1_i32_221
  let v538 : BitVec 32 := Scalar.extui v537
  let c0_i32_222 : BitVec 32 := 0#32
  let v539 : BitVec 1 := Scalar.cmpi .ne v538 c0_i32_222
  v539

def k0_mult9 (i : grid0.Coords) : BitVec 32 :=
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c0_i32_671 : BitVec 32 := 0#32
  let v1485 : BitVec 32 := Scalar.addi v1484 c0_i32_671
  v1485
def k0_off9 (i : grid0.Coords) : Fin 2 → Nat :=
  let c1 : Index := 1#32
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c0_i32_671 : BitVec 32 := 0#32
  let v1485 : BitVec 32 := Scalar.addi v1484 c0_i32_671
  let v1486 : BitVec 32 := v1485
  let v1487 : Index := Scalar.indexCast v1486
  ![1, v1487.toNat]
def k0_cond8 (i : grid0.Coords) : BitVec 1 :=
  let arg0 : BitVec 32 := BitVec.ofNat 32 (i 0).val
  let c0_i32_330 : BitVec 32 := 0#32
  let v735 : BitVec 1 := Scalar.cmpi .sgt arg0 c0_i32_330
  let v736 : BitVec 32 := Scalar.extui v735
  let c0_i32_331 : BitVec 32 := 0#32
  let v737 : BitVec 1 := Scalar.cmpi .slt arg0 c0_i32_331
  let v738 : BitVec 32 := Scalar.extui v737
  let v739 : BitVec 32 := Scalar.subi v736 v738
  let c3_i32_329 : BitVec 32 := 3#32
  let c0_i32_332 : BitVec 32 := 0#32
  let v740 : BitVec 1 := Scalar.cmpi .sgt c3_i32_329 c0_i32_332
  let v741 : BitVec 32 := Scalar.extui v740
  let c0_i32_333 : BitVec 32 := 0#32
  let v742 : BitVec 1 := Scalar.cmpi .slt c3_i32_329 c0_i32_333
  let v743 : BitVec 32 := Scalar.extui v742
  let v744 : BitVec 32 := Scalar.subi v741 v743
  let v745 : BitVec 1 := Scalar.cmpi .ne v739 v744
  let v746 : BitVec 32 := Scalar.remsi arg0 c3_i32_329
  let c0_i32_334 : BitVec 32 := 0#32
  let v747 : BitVec 1 := Scalar.cmpi .ne v746 c0_i32_334
  let v748 : BitVec 1 := Scalar.andi v745 v747
  let v734 : BitVec 32 := Scalar.divsi arg0 c3_i32_329
  let c1_i32_335 : BitVec 32 := 1#32
  let v749 : BitVec 32 := Scalar.subi v734 c1_i32_335
  let v750 : BitVec 32 := Scalar.select v748 v749 v734
  let c0_i32_336 : BitVec 32 := 0#32
  let v751 : BitVec 1 := Scalar.cmpi .eq v750 c0_i32_336
  let v752 : BitVec 32 := Scalar.extui v751
  let c0_i32_337 : BitVec 32 := 0#32
  let v753 : BitVec 1 := Scalar.cmpi .ne v752 c0_i32_337
  v753

def k0_mult10 (i : grid0.Coords) : BitVec 32 :=
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c0_i32_671 : BitVec 32 := 0#32
  let v1485 : BitVec 32 := Scalar.addi v1484 c0_i32_671
  v1485
def k0_off10 (i : grid0.Coords) : Fin 2 → Nat :=
  let c0_672 : Index := 0#32
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c0_i32_671 : BitVec 32 := 0#32
  let v1485 : BitVec 32 := Scalar.addi v1484 c0_i32_671
  let v1486 : BitVec 32 := v1485
  let v1487 : Index := Scalar.indexCast v1486
  ![0, v1487.toNat]
def k0_cond9 (i : grid0.Coords) : BitVec 1 :=
  let arg0 : BitVec 32 := BitVec.ofNat 32 (i 0).val
  let c0_i32_339 : BitVec 32 := 0#32
  let v755 : BitVec 1 := Scalar.cmpi .sgt arg0 c0_i32_339
  let v756 : BitVec 32 := Scalar.extui v755
  let c0_i32_340 : BitVec 32 := 0#32
  let v757 : BitVec 1 := Scalar.cmpi .slt arg0 c0_i32_340
  let v758 : BitVec 32 := Scalar.extui v757
  let v759 : BitVec 32 := Scalar.subi v756 v758
  let c3_i32_338 : BitVec 32 := 3#32
  let c0_i32_341 : BitVec 32 := 0#32
  let v760 : BitVec 1 := Scalar.cmpi .sgt c3_i32_338 c0_i32_341
  let v761 : BitVec 32 := Scalar.extui v760
  let c0_i32_342 : BitVec 32 := 0#32
  let v762 : BitVec 1 := Scalar.cmpi .slt c3_i32_338 c0_i32_342
  let v763 : BitVec 32 := Scalar.extui v762
  let v764 : BitVec 32 := Scalar.subi v761 v763
  let v765 : BitVec 1 := Scalar.cmpi .ne v759 v764
  let v766 : BitVec 32 := Scalar.remsi arg0 c3_i32_338
  let c0_i32_343 : BitVec 32 := 0#32
  let v767 : BitVec 1 := Scalar.cmpi .ne v766 c0_i32_343
  let v768 : BitVec 1 := Scalar.andi v765 v767
  let v754 : BitVec 32 := Scalar.divsi arg0 c3_i32_338
  let c1_i32_344 : BitVec 32 := 1#32
  let v769 : BitVec 32 := Scalar.subi v754 c1_i32_344
  let v770 : BitVec 32 := Scalar.select v768 v769 v754
  let c1_i32_345 : BitVec 32 := 1#32
  let v771 : BitVec 1 := Scalar.cmpi .eq v770 c1_i32_345
  let v772 : BitVec 32 := Scalar.extui v771
  let c0_i32_346 : BitVec 32 := 0#32
  let v773 : BitVec 1 := Scalar.cmpi .ne v772 c0_i32_346
  v773

def k0_mult11 (i : grid0.Coords) : BitVec 32 :=
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c0_i32_671 : BitVec 32 := 0#32
  let v1485 : BitVec 32 := Scalar.addi v1484 c0_i32_671
  v1485
def k0_off11 (i : grid0.Coords) : Fin 2 → Nat :=
  let c1 : Index := 1#32
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c0_i32_671 : BitVec 32 := 0#32
  let v1485 : BitVec 32 := Scalar.addi v1484 c0_i32_671
  let v1486 : BitVec 32 := v1485
  let v1487 : Index := Scalar.indexCast v1486
  ![1, v1487.toNat]
def k0_cond10 (i : grid0.Coords) : BitVec 1 :=
  let arg0 : BitVec 32 := BitVec.ofNat 32 (i 0).val
  let c0_i32_388 : BitVec 32 := 0#32
  let v874 : BitVec 1 := Scalar.cmpi .sgt arg0 c0_i32_388
  let v875 : BitVec 32 := Scalar.extui v874
  let c0_i32_389 : BitVec 32 := 0#32
  let v876 : BitVec 1 := Scalar.cmpi .slt arg0 c0_i32_389
  let v877 : BitVec 32 := Scalar.extui v876
  let v878 : BitVec 32 := Scalar.subi v875 v877
  let c3_i32_387 : BitVec 32 := 3#32
  let c0_i32_390 : BitVec 32 := 0#32
  let v879 : BitVec 1 := Scalar.cmpi .sgt c3_i32_387 c0_i32_390
  let v880 : BitVec 32 := Scalar.extui v879
  let c0_i32_391 : BitVec 32 := 0#32
  let v881 : BitVec 1 := Scalar.cmpi .slt c3_i32_387 c0_i32_391
  let v882 : BitVec 32 := Scalar.extui v881
  let v883 : BitVec 32 := Scalar.subi v880 v882
  let v884 : BitVec 1 := Scalar.cmpi .ne v878 v883
  let v885 : BitVec 32 := Scalar.remsi arg0 c3_i32_387
  let c0_i32_392 : BitVec 32 := 0#32
  let v886 : BitVec 1 := Scalar.cmpi .ne v885 c0_i32_392
  let v887 : BitVec 1 := Scalar.andi v884 v886
  let v873 : BitVec 32 := Scalar.divsi arg0 c3_i32_387
  let c1_i32_393 : BitVec 32 := 1#32
  let v888 : BitVec 32 := Scalar.subi v873 c1_i32_393
  let v889 : BitVec 32 := Scalar.select v887 v888 v873
  let c0_i32_394 : BitVec 32 := 0#32
  let v890 : BitVec 1 := Scalar.cmpi .eq v889 c0_i32_394
  let v891 : BitVec 32 := Scalar.extui v890
  let c0_i32_395 : BitVec 32 := 0#32
  let v892 : BitVec 1 := Scalar.cmpi .ne v891 c0_i32_395
  v892

def k0_mult12 (i : grid0.Coords) : BitVec 32 :=
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c128_i32 : BitVec 32 := 128#32
  let v1485 : BitVec 32 := Scalar.addi v1484 c128_i32
  v1485
def k0_off12 (i : grid0.Coords) : Fin 2 → Nat :=
  let c0_671 : Index := 0#32
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c128_i32 : BitVec 32 := 128#32
  let v1485 : BitVec 32 := Scalar.addi v1484 c128_i32
  let v1486 : BitVec 32 := v1485
  let v1487 : Index := Scalar.indexCast v1486
  ![0, v1487.toNat]
def k0_cond11 (i : grid0.Coords) : BitVec 1 :=
  let arg0 : BitVec 32 := BitVec.ofNat 32 (i 0).val
  let c0_i32_397 : BitVec 32 := 0#32
  let v894 : BitVec 1 := Scalar.cmpi .sgt arg0 c0_i32_397
  let v895 : BitVec 32 := Scalar.extui v894
  let c0_i32_398 : BitVec 32 := 0#32
  let v896 : BitVec 1 := Scalar.cmpi .slt arg0 c0_i32_398
  let v897 : BitVec 32 := Scalar.extui v896
  let v898 : BitVec 32 := Scalar.subi v895 v897
  let c3_i32_396 : BitVec 32 := 3#32
  let c0_i32_399 : BitVec 32 := 0#32
  let v899 : BitVec 1 := Scalar.cmpi .sgt c3_i32_396 c0_i32_399
  let v900 : BitVec 32 := Scalar.extui v899
  let c0_i32_400 : BitVec 32 := 0#32
  let v901 : BitVec 1 := Scalar.cmpi .slt c3_i32_396 c0_i32_400
  let v902 : BitVec 32 := Scalar.extui v901
  let v903 : BitVec 32 := Scalar.subi v900 v902
  let v904 : BitVec 1 := Scalar.cmpi .ne v898 v903
  let v905 : BitVec 32 := Scalar.remsi arg0 c3_i32_396
  let c0_i32_401 : BitVec 32 := 0#32
  let v906 : BitVec 1 := Scalar.cmpi .ne v905 c0_i32_401
  let v907 : BitVec 1 := Scalar.andi v904 v906
  let v893 : BitVec 32 := Scalar.divsi arg0 c3_i32_396
  let c1_i32_402 : BitVec 32 := 1#32
  let v908 : BitVec 32 := Scalar.subi v893 c1_i32_402
  let v909 : BitVec 32 := Scalar.select v907 v908 v893
  let c1_i32_403 : BitVec 32 := 1#32
  let v910 : BitVec 1 := Scalar.cmpi .eq v909 c1_i32_403
  let v911 : BitVec 32 := Scalar.extui v910
  let c0_i32_404 : BitVec 32 := 0#32
  let v912 : BitVec 1 := Scalar.cmpi .ne v911 c0_i32_404
  v912

def k0_mult13 (i : grid0.Coords) : BitVec 32 :=
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c128_i32 : BitVec 32 := 128#32
  let v1485 : BitVec 32 := Scalar.addi v1484 c128_i32
  v1485
def k0_off13 (i : grid0.Coords) : Fin 2 → Nat :=
  let c1 : Index := 1#32
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c128_i32 : BitVec 32 := 128#32
  let v1485 : BitVec 32 := Scalar.addi v1484 c128_i32
  let v1486 : BitVec 32 := v1485
  let v1487 : Index := Scalar.indexCast v1486
  ![1, v1487.toNat]
def k0_cond12 (i : grid0.Coords) : BitVec 1 :=
  let arg0 : BitVec 32 := BitVec.ofNat 32 (i 0).val
  let c0_i32_524 : BitVec 32 := 0#32
  let v1201 : BitVec 1 := Scalar.cmpi .sgt arg0 c0_i32_524
  let v1202 : BitVec 32 := Scalar.extui v1201
  let c0_i32_525 : BitVec 32 := 0#32
  let v1203 : BitVec 1 := Scalar.cmpi .slt arg0 c0_i32_525
  let v1204 : BitVec 32 := Scalar.extui v1203
  let v1205 : BitVec 32 := Scalar.subi v1202 v1204
  let c3_i32_523 : BitVec 32 := 3#32
  let c0_i32_526 : BitVec 32 := 0#32
  let v1206 : BitVec 1 := Scalar.cmpi .sgt c3_i32_523 c0_i32_526
  let v1207 : BitVec 32 := Scalar.extui v1206
  let c0_i32_527 : BitVec 32 := 0#32
  let v1208 : BitVec 1 := Scalar.cmpi .slt c3_i32_523 c0_i32_527
  let v1209 : BitVec 32 := Scalar.extui v1208
  let v1210 : BitVec 32 := Scalar.subi v1207 v1209
  let v1211 : BitVec 1 := Scalar.cmpi .ne v1205 v1210
  let v1212 : BitVec 32 := Scalar.remsi arg0 c3_i32_523
  let c0_i32_528 : BitVec 32 := 0#32
  let v1213 : BitVec 1 := Scalar.cmpi .ne v1212 c0_i32_528
  let v1214 : BitVec 1 := Scalar.andi v1211 v1213
  let v1200 : BitVec 32 := Scalar.divsi arg0 c3_i32_523
  let c1_i32_529 : BitVec 32 := 1#32
  let v1215 : BitVec 32 := Scalar.subi v1200 c1_i32_529
  let v1216 : BitVec 32 := Scalar.select v1214 v1215 v1200
  let c0_i32_530 : BitVec 32 := 0#32
  let v1217 : BitVec 1 := Scalar.cmpi .eq v1216 c0_i32_530
  let v1218 : BitVec 32 := Scalar.extui v1217
  let c0_i32_531 : BitVec 32 := 0#32
  let v1219 : BitVec 1 := Scalar.cmpi .ne v1218 c0_i32_531
  v1219

def k0_mult14 (i : grid0.Coords) : BitVec 32 :=
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c128_i32 : BitVec 32 := 128#32
  let v1485 : BitVec 32 := Scalar.addi v1484 c128_i32
  v1485
def k0_off14 (i : grid0.Coords) : Fin 2 → Nat :=
  let c0_671 : Index := 0#32
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c128_i32 : BitVec 32 := 128#32
  let v1485 : BitVec 32 := Scalar.addi v1484 c128_i32
  let v1486 : BitVec 32 := v1485
  let v1487 : Index := Scalar.indexCast v1486
  ![0, v1487.toNat]
def k0_cond13 (i : grid0.Coords) : BitVec 1 :=
  let arg0 : BitVec 32 := BitVec.ofNat 32 (i 0).val
  let c0_i32_533 : BitVec 32 := 0#32
  let v1221 : BitVec 1 := Scalar.cmpi .sgt arg0 c0_i32_533
  let v1222 : BitVec 32 := Scalar.extui v1221
  let c0_i32_534 : BitVec 32 := 0#32
  let v1223 : BitVec 1 := Scalar.cmpi .slt arg0 c0_i32_534
  let v1224 : BitVec 32 := Scalar.extui v1223
  let v1225 : BitVec 32 := Scalar.subi v1222 v1224
  let c3_i32_532 : BitVec 32 := 3#32
  let c0_i32_535 : BitVec 32 := 0#32
  let v1226 : BitVec 1 := Scalar.cmpi .sgt c3_i32_532 c0_i32_535
  let v1227 : BitVec 32 := Scalar.extui v1226
  let c0_i32_536 : BitVec 32 := 0#32
  let v1228 : BitVec 1 := Scalar.cmpi .slt c3_i32_532 c0_i32_536
  let v1229 : BitVec 32 := Scalar.extui v1228
  let v1230 : BitVec 32 := Scalar.subi v1227 v1229
  let v1231 : BitVec 1 := Scalar.cmpi .ne v1225 v1230
  let v1232 : BitVec 32 := Scalar.remsi arg0 c3_i32_532
  let c0_i32_537 : BitVec 32 := 0#32
  let v1233 : BitVec 1 := Scalar.cmpi .ne v1232 c0_i32_537
  let v1234 : BitVec 1 := Scalar.andi v1231 v1233
  let v1220 : BitVec 32 := Scalar.divsi arg0 c3_i32_532
  let c1_i32_538 : BitVec 32 := 1#32
  let v1235 : BitVec 32 := Scalar.subi v1220 c1_i32_538
  let v1236 : BitVec 32 := Scalar.select v1234 v1235 v1220
  let c1_i32_539 : BitVec 32 := 1#32
  let v1237 : BitVec 1 := Scalar.cmpi .eq v1236 c1_i32_539
  let v1238 : BitVec 32 := Scalar.extui v1237
  let c0_i32_540 : BitVec 32 := 0#32
  let v1239 : BitVec 1 := Scalar.cmpi .ne v1238 c0_i32_540
  v1239

def k0_mult15 (i : grid0.Coords) : BitVec 32 :=
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c128_i32 : BitVec 32 := 128#32
  let v1485 : BitVec 32 := Scalar.addi v1484 c128_i32
  v1485
def k0_off15 (i : grid0.Coords) : Fin 2 → Nat :=
  let c1 : Index := 1#32
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c128_i32 : BitVec 32 := 128#32
  let v1485 : BitVec 32 := Scalar.addi v1484 c128_i32
  let v1486 : BitVec 32 := v1485
  let v1487 : Index := Scalar.indexCast v1486
  ![1, v1487.toNat]
def k0_cond14 (i : grid0.Coords) : BitVec 1 :=
  let arg0 : BitVec 32 := BitVec.ofNat 32 (i 0).val
  let c0_i32_648 : BitVec 32 := 0#32
  let v1435 : BitVec 1 := Scalar.cmpi .sgt arg0 c0_i32_648
  let v1436 : BitVec 32 := Scalar.extui v1435
  let c0_i32_649 : BitVec 32 := 0#32
  let v1437 : BitVec 1 := Scalar.cmpi .slt arg0 c0_i32_649
  let v1438 : BitVec 32 := Scalar.extui v1437
  let v1439 : BitVec 32 := Scalar.subi v1436 v1438
  let c3_i32_647 : BitVec 32 := 3#32
  let c0_i32_650 : BitVec 32 := 0#32
  let v1440 : BitVec 1 := Scalar.cmpi .sgt c3_i32_647 c0_i32_650
  let v1441 : BitVec 32 := Scalar.extui v1440
  let c0_i32_651 : BitVec 32 := 0#32
  let v1442 : BitVec 1 := Scalar.cmpi .slt c3_i32_647 c0_i32_651
  let v1443 : BitVec 32 := Scalar.extui v1442
  let v1444 : BitVec 32 := Scalar.subi v1441 v1443
  let v1445 : BitVec 1 := Scalar.cmpi .ne v1439 v1444
  let v1446 : BitVec 32 := Scalar.remsi arg0 c3_i32_647
  let c0_i32_652 : BitVec 32 := 0#32
  let v1447 : BitVec 1 := Scalar.cmpi .ne v1446 c0_i32_652
  let v1448 : BitVec 1 := Scalar.andi v1445 v1447
  let v1434 : BitVec 32 := Scalar.divsi arg0 c3_i32_647
  let c1_i32_653 : BitVec 32 := 1#32
  let v1449 : BitVec 32 := Scalar.subi v1434 c1_i32_653
  let v1450 : BitVec 32 := Scalar.select v1448 v1449 v1434
  let c0_i32_654 : BitVec 32 := 0#32
  let v1451 : BitVec 1 := Scalar.cmpi .eq v1450 c0_i32_654
  let v1452 : BitVec 32 := Scalar.extui v1451
  let c0_i32_655 : BitVec 32 := 0#32
  let v1453 : BitVec 1 := Scalar.cmpi .ne v1452 c0_i32_655
  v1453

def k0_mult16 (i : grid0.Coords) : BitVec 32 :=
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c128_i32 : BitVec 32 := 128#32
  let v1485 : BitVec 32 := Scalar.addi v1484 c128_i32
  v1485
def k0_off16 (i : grid0.Coords) : Fin 2 → Nat :=
  let c0_671 : Index := 0#32
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c128_i32 : BitVec 32 := 128#32
  let v1485 : BitVec 32 := Scalar.addi v1484 c128_i32
  let v1486 : BitVec 32 := v1485
  let v1487 : Index := Scalar.indexCast v1486
  ![0, v1487.toNat]
def k0_cond15 (i : grid0.Coords) : BitVec 1 :=
  let arg0 : BitVec 32 := BitVec.ofNat 32 (i 0).val
  let c0_i32_657 : BitVec 32 := 0#32
  let v1455 : BitVec 1 := Scalar.cmpi .sgt arg0 c0_i32_657
  let v1456 : BitVec 32 := Scalar.extui v1455
  let c0_i32_658 : BitVec 32 := 0#32
  let v1457 : BitVec 1 := Scalar.cmpi .slt arg0 c0_i32_658
  let v1458 : BitVec 32 := Scalar.extui v1457
  let v1459 : BitVec 32 := Scalar.subi v1456 v1458
  let c3_i32_656 : BitVec 32 := 3#32
  let c0_i32_659 : BitVec 32 := 0#32
  let v1460 : BitVec 1 := Scalar.cmpi .sgt c3_i32_656 c0_i32_659
  let v1461 : BitVec 32 := Scalar.extui v1460
  let c0_i32_660 : BitVec 32 := 0#32
  let v1462 : BitVec 1 := Scalar.cmpi .slt c3_i32_656 c0_i32_660
  let v1463 : BitVec 32 := Scalar.extui v1462
  let v1464 : BitVec 32 := Scalar.subi v1461 v1463
  let v1465 : BitVec 1 := Scalar.cmpi .ne v1459 v1464
  let v1466 : BitVec 32 := Scalar.remsi arg0 c3_i32_656
  let c0_i32_661 : BitVec 32 := 0#32
  let v1467 : BitVec 1 := Scalar.cmpi .ne v1466 c0_i32_661
  let v1468 : BitVec 1 := Scalar.andi v1465 v1467
  let v1454 : BitVec 32 := Scalar.divsi arg0 c3_i32_656
  let c1_i32_662 : BitVec 32 := 1#32
  let v1469 : BitVec 32 := Scalar.subi v1454 c1_i32_662
  let v1470 : BitVec 32 := Scalar.select v1468 v1469 v1454
  let c1_i32_663 : BitVec 32 := 1#32
  let v1471 : BitVec 1 := Scalar.cmpi .eq v1470 c1_i32_663
  let v1472 : BitVec 32 := Scalar.extui v1471
  let c0_i32_664 : BitVec 32 := 0#32
  let v1473 : BitVec 1 := Scalar.cmpi .ne v1472 c0_i32_664
  v1473

def k0_mult17 (i : grid0.Coords) : BitVec 32 :=
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c128_i32 : BitVec 32 := 128#32
  let v1485 : BitVec 32 := Scalar.addi v1484 c128_i32
  v1485
def k0_off17 (i : grid0.Coords) : Fin 2 → Nat :=
  let c1 : Index := 1#32
  let arg0 : BitVec 32 := BitVec.ofNat 32 (i 0).val
  let c3_i32_665 : BitVec 32 := 3#32
  let c0_i32_666 : BitVec 32 := 0#32
  let v1474 : BitVec 1 := Scalar.cmpi .eq c3_i32_665 c0_i32_666
  let c1_i32_667 : BitVec 32 := 1#32
  let v1475 : BitVec 32 := Scalar.select v1474 c1_i32_667 c3_i32_665
  let v1476 : BitVec 32 := Scalar.remsi arg0 v1475
  let c0_i32_669 : BitVec 32 := 0#32
  let v1478 : BitVec 1 := Scalar.cmpi .slt v1476 c0_i32_669
  let c0_i32_670 : BitVec 32 := 0#32
  let v1479 : BitVec 1 := Scalar.cmpi .slt v1475 c0_i32_670
  let v1480 : BitVec 1 := Scalar.xori v1478 v1479
  let c0_i32_668 : BitVec 32 := 0#32
  let v1477 : BitVec 1 := Scalar.cmpi .ne v1476 c0_i32_668
  let v1481 : BitVec 1 := Scalar.andi v1480 v1477
  let v1482 : BitVec 32 := Scalar.addi v1476 v1475
  let v1483 : BitVec 32 := Scalar.select v1481 v1482 v1476
  let c256_i32 : BitVec 32 := 256#32
  let v1484 : BitVec 32 := Scalar.muli v1483 c256_i32
  let c128_i32 : BitVec 32 := 128#32
  let v1485 : BitVec 32 := Scalar.addi v1484 c128_i32
  let v1486 : BitVec 32 := v1485
  let v1487 : Index := Scalar.indexCast v1486
  ![1, v1487.toNat]
def cc0_transform_0 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_20 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x256x1024 .i8 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S2x768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1x256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1024x256 .i8 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S2x768 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 2 → Memref sig .tc .vmem S1x256x1024 .i8 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S2x768 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S1x256x4096 .i8 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S2x768 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== KernelIdeal.lean ====
variable {F : FTy → Type} [FloatOps F] [Named F]
def κ : String → Option EReal := fun
  | "inv127" => some ((1 / 127 : ℝ) : EReal)
  | "invSqrt2" => some ((8388608 / 11863283 : ℝ) : EReal)
  | _ => none
-- ==== ReferenceIdeal.lean ====
abbrev S2x1024x768 : Shape := ⟨3, ![2, 1024, 768]⟩
abbrev S2x768x1024 : Shape := ⟨3, ![2, 768, 1024]⟩
abbrev S1024x1024 : Shape := ⟨2, ![1024, 1024]⟩
abbrev S1x1024 : Shape := ⟨2, ![1, 1024]⟩
abbrev S1024x4096 : Shape := ⟨2, ![1024, 4096]⟩
abbrev S1x4096 : Shape := ⟨2, ![1, 4096]⟩
abbrev S4096x1024 : Shape := ⟨2, ![4096, 1024]⟩
abbrev S2x768 : Shape := ⟨2, ![2, 768]⟩
abbrev S2x768x4096 : Shape := ⟨3, ![2, 768, 4096]⟩
abbrev S1536x1024 : Shape := ⟨2, ![1536, 1024]⟩
abbrev S1536 : Shape := ⟨1, ![1536]⟩
abbrev S1536x1 : Shape := ⟨2, ![1536, 1]⟩
abbrev S1536x4096 : Shape := ⟨2, ![1536, 4096]⟩

abbrev nBuf : Space → Nat
  | .hbm => 26
  | .vmem => 26
  | .smem => 0
  | _ => 0

abbrev bufTy : (tb : Table) → Fin (tcTables nBuf tb) → BufTy
  | .hbm, ⟨0, _⟩ => ⟨S2x1024x768, .f32⟩
  | .hbm, ⟨1, _⟩ => ⟨S2x768x1024, .bf16⟩
  | .hbm, ⟨2, _⟩ => ⟨S1024x1024, .i8⟩
  | .hbm, ⟨3, _⟩ => ⟨S1x1024, .f32⟩
  | .hbm, ⟨4, _⟩ => ⟨S1x1024, .f32⟩
  | .hbm, ⟨5, _⟩ => ⟨S1024x4096, .i8⟩
  | .hbm, ⟨6, _⟩ => ⟨S1x4096, .f32⟩
  | .hbm, ⟨7, _⟩ => ⟨S1x4096, .f32⟩
  | .hbm, ⟨8, _⟩ => ⟨S4096x1024, .i8⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S2x768x1024, .i8⟩
  | .hbm, ⟨18, _⟩ => ⟨S2x768, .f32⟩
  | .hbm, ⟨19, _⟩ => ⟨S2x768x1024, .f32⟩
  | .hbm, ⟨20, _⟩ => ⟨S2x1024x768, .i8⟩
  | .hbm, ⟨21, _⟩ => ⟨S2x768, .f32⟩
  | .hbm, ⟨22, _⟩ => ⟨S2x768x1024, .i8⟩
  | .hbm, ⟨23, _⟩ => ⟨S2x768, .f32⟩
  | .hbm, ⟨24, _⟩ => ⟨S2x768x4096, .i8⟩
  | .hbm, ⟨25, _⟩ => ⟨S2x768, .f32⟩
  | .local _ .vmem, ⟨0, _⟩ => ⟨S2x1024x768, .f32⟩
  | .local _ .vmem, ⟨1, _⟩ => ⟨S2x768x1024, .bf16⟩
  | .local _ .vmem, ⟨2, _⟩ => ⟨S1024x1024, .i8⟩
  | .local _ .vmem, ⟨3, _⟩ => ⟨S1x1024, .f32⟩
  | .local _ .vmem, ⟨4, _⟩ => ⟨S1x1024, .f32⟩
  | .local _ .vmem, ⟨5, _⟩ => ⟨S1024x4096, .i8⟩
  | .local _ .vmem, ⟨6, _⟩ => ⟨S1x4096, .f32⟩
  | .local _ .vmem, ⟨7, _⟩ => ⟨S1x4096, .f32⟩
  | .local _ .vmem, ⟨8, _⟩ => ⟨S4096x1024, .i8⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S2x768x1024, .i8⟩
  | .local _ .vmem, ⟨18, _⟩ => ⟨S2x768, .f32⟩
  | .local _ .vmem, ⟨19, _⟩ => ⟨S2x768x1024, .f32⟩
  | .local _ .vmem, ⟨20, _⟩ => ⟨S2x1024x768, .i8⟩
  | .local _ .vmem, ⟨21, _⟩ => ⟨S2x768, .f32⟩
  | .local _ .vmem, ⟨22, _⟩ => ⟨S2x768x1024, .i8⟩
  | .local _ .vmem, ⟨23, _⟩ => ⟨S2x768, .f32⟩
  | .local _ .vmem, ⟨24, _⟩ => ⟨S2x768x4096, .i8⟩
  | .local _ .vmem, ⟨25, _⟩ => ⟨S2x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev main_v0_3 : Ref sig .tc := ⟨.hbm, 20, rfl⟩
abbrev main_v0_4 : Ref sig .tc := ⟨.hbm, 21, rfl⟩
abbrev main_v0_5 : Ref sig .tc := ⟨.hbm, 22, rfl⟩
abbrev main_v0_6 : Ref sig .tc := ⟨.hbm, 23, rfl⟩
abbrev main_v0_7 : Ref sig .tc := ⟨.hbm, 24, rfl⟩
abbrev main_v0_8 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25

abbrev nD : Nat := 1
abbrev τ : Topo := Topo.v7x

variable {F : FTy → Type} [FloatOps F]

abbrev grid0 : Pipeline.Grid := .none

abbrev stage0_0 : Fin 1 → Memref sig .tc .vmem S2x1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x4096 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x1024 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x768x1024 .i8 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x768x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x1024x768 .i8 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x768 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S2x768x1024 .i8 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S2x768 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S2x768x4096 .i8 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x768 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
-- ==== Proof.Weights.lean ====
module

public import proofs.«01_k».proof.Proof.Gen.Kernel.Frame
public import proofs.«01_k».proof.Proof.Gen.Kernel.Skeleton
public import proofs.«01_k».proof.Proof.Gen.Kernel.Loops
public import Idealize.ShloMosaic.Lib.Tactic
public import Idealize.ShloMosaic.Lib.WritesUnit
public import Idealize.ShloMosaic.Lib.Pointwise

@[expose] public section

set_option maxRecDepth 16384
set_option maxHeartbeats 400000

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- Rows converted 128 at a time: the first `k` pieces cover the first `128 k` rows, each piece agreeing with `G`. -/
theorem read_rows {sp : Space} {d : Fin 2 → ℕ} {e : EltTy} (M : View sig .tc sp (⟨2, d⟩ : Shape) e) (f : M.ty.Contents (Elt F))
    (G : (⟨2, d⟩ : Shape).Idx → Elt F e) (n : ℕ) (pb : ℕ → List (View.Piece (Elt F) (⟨2, d⟩ : Shape) e)) (size : Fin 2 → ℕ)
    (hW : size (0 : Fin 2) = 128) (hD : size (1 : Fin 2) = d (1 : Fin 2))
    (hs : ∀ k : Fin n, ∃ (off : Fin 2 → ℕ) (inb : ∀ a : Fin 2, off a + size a ≤ d a)
      (w : (Rect.unit (s := ⟨2, d⟩) off size inb).shape.Idx → Elt F e), off = ![128 * k.val, 0]
        ∧ (∀ x, w x = G ((Rect.unit (s := ⟨2, d⟩) off size inb).emb x))
        ∧ pb (k.val + 1) = (⟨Rect.unit (s := ⟨2, d⟩) off size inb, w⟩ : View.Piece (Elt F) (⟨2, d⟩ : Shape) e) :: pb k.val) :
    ∀ (k : ℕ), k ≤ n → ∀ y : (⟨2, d⟩ : Shape).Idx, (y (0 : Fin 2)).val < 128 * k → M.read (Elt F) (M.writes (Elt F) f (pb k)) y = G y
  | 0, _, y, hy => absurd hy (by omega)
  | k + 1, hk, y, hy => by
    obtain ⟨off, inb, w, hoff, hw, hpb⟩ := hs ⟨k, hk⟩
    rw [hpb]
    by_cases h : 128 * k ≤ (y (0 : Fin 2)).val
    · subst hoff
      have hm : y ∈ (Rect.unit (s := ⟨2, d⟩) ![128 * k, 0] size inb).set := by
        rw [Rect.mem_set_unit]
        exact Rect.unit_rows_mem y hW hD ⟨h, by omega⟩
      obtain ⟨x, rfl⟩ := (Rect.unit (s := ⟨2, d⟩) ![128 * k, 0] size inb).exists_idx_of_mem hm
      exact (View.read_writes_cons_emb M f _ w _ x).trans (hw x)
    · rw [View.read_writes_cons_rows_of_not_mem M f inb w _ y hoff hW (.inl (by show (y (0 : Fin 2)).val < 128 * k; omega))]
      exact read_rows M f G n pb size hW hD hs k (by omega) y (by omega)

theorem off1_eq : ∀ k : Fin k0_t1_loop.trips, k0_off1 k = ![128 * k.val, 0] := by decide +kernel
theorem off2_eq : ∀ k : Fin k0_t2_loop.trips, k0_off2 k = ![128 * k.val, 0] := by decide +kernel
theorem off3_eq : ∀ k : Fin k0_t3_loop.trips, k0_off3 k = ![128 * k.val, 0] := by decide +kernel
theorem trips1 : k0_t1_loop.trips = 8 := by decide +kernel
theorem trips2 : k0_t2_loop.trips = 8 := by decide +kernel
theorem trips3 : k0_t3_loop.trips = 32 := by decide +kernel

/-- After its trips the loop has filled the copy with the weights, converted. -/
theorem read_pb1 (c : Dev nD) (i : grid0.Coords)
  (M1 : Memref sig .tc .vmem S1x1024x256 .f32) (h1 : M1.IsWhole)
  (M2 : Memref sig .tc .vmem S1x256x1024 .bf16) (h2 : M2.IsWhole)
  (M3 : Memref sig .tc .vmem S1024x1024 .i8) (h3 : M3.IsWhole)
  (M4 : Memref sig .tc .vmem S1x1024 .f32) (h4 : M4.IsWhole)
  (M5 : Memref sig .tc .vmem S1x1024 .f32) (h5 : M5.IsWhole)
  (M6 : Memref sig .tc .vmem S1024x4096 .i8) (h6 : M6.IsWhole)
  (M7 : Memref sig .tc .vmem S1x4096 .f32) (h7 : M7.IsWhole)
  (M8 : Memref sig .tc .vmem S1x4096 .f32) (h8 : M8.IsWhole)
  (M9 : Memref sig .tc .vmem S4096x1024 .i8) (h9 : M9.IsWhole)
  (M10 : Memref sig .tc .vmem S1x1024 .f32) (h10 : M10.IsWhole)
  (M11 : Memref sig .tc .vmem S1x1024 .f32) (h11 : M11.IsWhole)
  (M12 : Memref sig .tc .vmem S1x1024 .f32) (h12 : M12.IsWhole)
  (M13 : Memref sig .tc .vmem S1x1024 .f32) (h13 : M13.IsWhole)
  (M14 : Memref sig .tc .vmem S1x1024 .f32) (h14 : M14.IsWhole)
  (M15 : Memref sig .tc .vmem S1x1024 .f32) (h15 : M15.IsWhole)
  (M16 : Memref sig .tc .vmem S1x1024 .f32) (h16 : M16.IsWhole)
  (M17 : Memref sig .tc .vmem S1x1024 .f32) (h17 : M17.IsWhole)
  (M18 : Memref sig .tc .vmem S1x256x1024 .i8) (h18 : M18.IsWhole)
  (M19 : Memref sig .tc .vmem S2x768 .f32) (h19 : M19.IsWhole)
  (M20 : Memref sig .tc .vmem S1x256x1024 .f32) (h20 : M20.IsWhole)
  (M21 : Memref sig .tc .vmem S1x1024x256 .i8) (h21 : M21.IsWhole)
  (M22 : Memref sig .tc .vmem S2x768 .f32) (h22 : M22.IsWhole)
  (M23 : Memref sig .tc .vmem S1x256x1024 .i8) (h23 : M23.IsWhole)
  (M24 : Memref sig .tc .vmem S2x768 .f32) (h24 : M24.IsWhole)
  (M25 : Memref sig .tc .vmem S1x256x4096 .i8) (h25 : M25.IsWhole)
  (M26 : Memref sig .tc .vmem S2x768 .f32) (h26 : M26.IsWhole)
  (M27 : Memref sig .tc .vmem S1024x1024 .bf16) (h27 : M27.IsWhole)
  (M28 : Memref sig .tc .vmem S1024x4096 .bf16) (h28 : M28.IsWhole)
  (M29 : Memref sig .tc .vmem S4096x1024 .bf16) (h29 : M29.IsWhole)
  (M30 : Memref sig .tc .vmem S1024x256 .bf16) (h30 : M30.IsWhole)
  (M31 : Memref sig .tc .vmem S256x4096 .f32) (h31 : M31.IsWhole)
  (M32 : Memref sig .tc .vmem S256x4096 .bf16) (h32 : M32.IsWhole)
  (M33 : Memref sig .tc .vmem S256x1024 .f32) (h33 : M33.IsWhole)
  (M34 : Memref sig .tc .vmem S256x1024 .bf16) (h34 : M34.IsWhole)
 (hc : k0_cond1 i = 1#1) (X : Vec F S1024x1024 .i8) (f : Bf (F := F) c M27) :
    M27.view.read (Elt F) (M27.view.writes (Elt F) f (pb_k0_t1 (F := F) Variants.none c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc (h3.unread X) k0_t1_loop.trips))
      = sitofp .bf16 X := by
  funext y
  refine read_rows (d := ![1024, 1024]) M27.view f (sitofp .bf16 X) k0_t1_loop.trips (pb_k0_t1 (F := F) Variants.none c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc (h3.unread X)) ![128, 1024] rfl rfl
    (fun k => ⟨k0_off1 k, k0_off1_inb i k hc, (k0_pay1 (View.readAt (Elt F) M3.view (Rect.unit (s := S1024x1024) (k0_off1 k) S128x1024.size (k0_off1_inb i k hc)).toLoadRect (h3.unread X)) : Vec F S128x1024 .bf16), off1_eq k, fun x => ?_, ?_⟩) _ le_rfl y ?_
  · unfold k0_pay1
    simp only [shapeCast_self]
    show FloatOps.sitofp _ (M3.view.read (Elt F) (h3.unread X) _) = FloatOps.sitofp _ _
    rw [h3.read_unread]; rfl
  · rw [pb_k0_t1_succ]; unfold tripL_k0_t1 trip_k0_t1; rfl
  · rw [trips1]; exact (y (0 : Fin 2)).isLt

/-- After its trips the loop has filled the copy with the weights, converted. -/
theorem read_pb2 (c : Dev nD) (i : grid0.Coords)
  (M1 : Memref sig .tc .vmem S1x1024x256 .f32) (h1 : M1.IsWhole)
  (M2 : Memref sig .tc .vmem S1x256x1024 .bf16) (h2 : M2.IsWhole)
  (M3 : Memref sig .tc .vmem S1024x1024 .i8) (h3 : M3.IsWhole)
  (M4 : Memref sig .tc .vmem S1x1024 .f32) (h4 : M4.IsWhole)
  (M5 : Memref sig .tc .vmem S1x1024 .f32) (h5 : M5.IsWhole)
  (M6 : Memref sig .tc .vmem S1024x4096 .i8) (h6 : M6.IsWhole)
  (M7 : Memref sig .tc .vmem S1x4096 .f32) (h7 : M7.IsWhole)
  (M8 : Memref sig .tc .vmem S1x4096 .f32) (h8 : M8.IsWhole)
  (M9 : Memref sig .tc .vmem S4096x1024 .i8) (h9 : M9.IsWhole)
  (M10 : Memref sig .tc .vmem S1x1024 .f32) (h10 : M10.IsWhole)
  (M11 : Memref sig .tc .vmem S1x1024 .f32) (h11 : M11.IsWhole)
  (M12 : Memref sig .tc .vmem S1x1024 .f32) (h12 : M12.IsWhole)
  (M13 : Memref sig .tc .vmem S1x1024 .f32) (h13 : M13.IsWhole)
  (M14 : Memref sig .tc .vmem S1x1024 .f32) (h14 : M14.IsWhole)
  (M15 : Memref sig .tc .vmem S1x1024 .f32) (h15 : M15.IsWhole)
  (M16 : Memref sig .tc .vmem S1x1024 .f32) (h16 : M16.IsWhole)
  (M17 : Memref sig .tc .vmem S1x1024 .f32) (h17 : M17.IsWhole)
  (M18 : Memref sig .tc .vmem S1x256x1024 .i8) (h18 : M18.IsWhole)
  (M19 : Memref sig .tc .vmem S2x768 .f32) (h19 : M19.IsWhole)
  (M20 : Memref sig .tc .vmem S1x256x1024 .f32) (h20 : M20.IsWhole)
  (M21 : Memref sig .tc .vmem S1x1024x256 .i8) (h21 : M21.IsWhole)
  (M22 : Memref sig .tc .vmem S2x768 .f32) (h22 : M22.IsWhole)
  (M23 : Memref sig .tc .vmem S1x256x1024 .i8) (h23 : M23.IsWhole)
  (M24 : Memref sig .tc .vmem S2x768 .f32) (h24 : M24.IsWhole)
  (M25 : Memref sig .tc .vmem S1x256x4096 .i8) (h25 : M25.IsWhole)
  (M26 : Memref sig .tc .vmem S2x768 .f32) (h26 : M26.IsWhole)
  (M27 : Memref sig .tc .vmem S1024x1024 .bf16) (h27 : M27.IsWhole)
  (M28 : Memref sig .tc .vmem S1024x4096 .bf16) (h28 : M28.IsWhole)
  (M29 : Memref sig .tc .vmem S4096x1024 .bf16) (h29 : M29.IsWhole)
  (M30 : Memref sig .tc .vmem S1024x256 .bf16) (h30 : M30.IsWhole)
  (M31 : Memref sig .tc .vmem S256x4096 .f32) (h31 : M31.IsWhole)
  (M32 : Memref sig .tc .vmem S256x4096 .bf16) (h32 : M32.IsWhole)
  (M33 : Memref sig .tc .vmem S256x1024 .f32) (h33 : M33.IsWhole)
  (M34 : Memref sig .tc .vmem S256x1024 .bf16) (h34 : M34.IsWhole)
 (hc : k0_cond1 i = 1#1) (X : Vec F S1024x4096 .i8) (f : Bf (F := F) c M28) :
    M28.view.read (Elt F) (M28.view.writes (Elt F) f (pb_k0_t2 (F := F) Variants.none c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc (h6.unread X) k0_t2_loop.trips))
      = sitofp .bf16 X := by
  funext y
  refine read_rows (d := ![1024, 4096]) M28.view f (sitofp .bf16 X) k0_t2_loop.trips (pb_k0_t2 (F := F) Variants.none c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc (h6.unread X)) ![128, 4096] rfl rfl
    (fun k => ⟨k0_off2 k, k0_off2_inb i k hc, (k0_pay2 (View.readAt (Elt F) M6.view (Rect.unit (s := S1024x4096) (k0_off2 k) S128x4096.size (k0_off2_inb i k hc)).toLoadRect (h6.unread X)) : Vec F S128x4096 .bf16), off2_eq k, fun x => ?_, ?_⟩) _ le_rfl y ?_
  · unfold k0_pay2
    simp only [shapeCast_self]
    show FloatOps.sitofp _ (M6.view.read (Elt F) (h6.unread X) _) = FloatOps.sitofp _ _
    rw [h6.read_unread]; rfl
  · rw [pb_k0_t2_succ]; unfold tripL_k0_t2 trip_k0_t2; rfl
  · rw [trips2]; exact (y (0 : Fin 2)).isLt

/-- After its trips the loop has filled the copy with the weights, converted. -/
theorem read_pb3 (c : Dev nD) (i : grid0.Coords)
  (M1 : Memref sig .tc .vmem S1x1024x256 .f32) (h1 : M1.IsWhole)
  (M2 : Memref sig .tc .vmem S1x256x1024 .bf16) (h2 : M2.IsWhole)
  (M3 : Memref sig .tc .vmem S1024x1024 .i8) (h3 : M3.IsWhole)
  (M4 : Memref sig .tc .vmem S1x1024 .f32) (h4 : M4.IsWhole)
  (M5 : Memref sig .tc .vmem S1x1024 .f32) (h5 : M5.IsWhole)
  (M6 : Memref sig .tc .vmem S1024x4096 .i8) (h6 : M6.IsWhole)
  (M7 : Memref sig .tc .vmem S1x4096 .f32) (h7 : M7.IsWhole)
  (M8 : Memref sig .tc .vmem S1x4096 .f32) (h8 : M8.IsWhole)
  (M9 : Memref sig .tc .vmem S4096x1024 .i8) (h9 : M9.IsWhole)
  (M10 : Memref sig .tc .vmem S1x1024 .f32) (h10 : M10.IsWhole)
  (M11 : Memref sig .tc .vmem S1x1024 .f32) (h11 : M11.IsWhole)
  (M12 : Memref sig .tc .vmem S1x1024 .f32) (h12 : M12.IsWhole)
  (M13 : Memref sig .tc .vmem S1x1024 .f32) (h13 : M13.IsWhole)
  (M14 : Memref sig .tc .vmem S1x1024 .f32) (h14 : M14.IsWhole)
  (M15 : Memref sig .tc .vmem S1x1024 .f32) (h15 : M15.IsWhole)
  (M16 : Memref sig .tc .vmem S1x1024 .f32) (h16 : M16.IsWhole)
  (M17 : Memref sig .tc .vmem S1x1024 .f32) (h17 : M17.IsWhole)
  (M18 : Memref sig .tc .vmem S1x256x1024 .i8) (h18 : M18.IsWhole)
  (M19 : Memref sig .tc .vmem S2x768 .f32) (h19 : M19.IsWhole)
  (M20 : Memref sig .tc .vmem S1x256x1024 .f32) (h20 : M20.IsWhole)
  (M21 : Memref sig .tc .vmem S1x1024x256 .i8) (h21 : M21.IsWhole)
  (M22 : Memref sig .tc .vmem S2x768 .f32) (h22 : M22.IsWhole)
  (M23 : Memref sig .tc .vmem S1x256x1024 .i8) (h23 : M23.IsWhole)
  (M24 : Memref sig .tc .vmem S2x768 .f32) (h24 : M24.IsWhole)
  (M25 : Memref sig .tc .vmem S1x256x4096 .i8) (h25 : M25.IsWhole)
  (M26 : Memref sig .tc .vmem S2x768 .f32) (h26 : M26.IsWhole)
  (M27 : Memref sig .tc .vmem S1024x1024 .bf16) (h27 : M27.IsWhole)
  (M28 : Memref sig .tc .vmem S1024x4096 .bf16) (h28 : M28.IsWhole)
  (M29 : Memref sig .tc .vmem S4096x1024 .bf16) (h29 : M29.IsWhole)
  (M30 : Memref sig .tc .vmem S1024x256 .bf16) (h30 : M30.IsWhole)
  (M31 : Memref sig .tc .vmem S256x4096 .f32) (h31 : M31.IsWhole)
  (M32 : Memref sig .tc .vmem S256x4096 .bf16) (h32 : M32.IsWhole)
  (M33 : Memref sig .tc .vmem S256x1024 .f32) (h33 : M33.IsWhole)
  (M34 : Memref sig .tc .vmem S256x1024 .bf16) (h34 : M34.IsWhole)
 (hc : k0_cond1 i = 1#1) (X : Vec F S4096x1024 .i8) (f : Bf (F := F) c M29) :
    M29.view.read (Elt F) (M29.view.writes (Elt F) f (pb_k0_t3 (F := F) Variants.none c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc (h9.unread X) k0_t3_loop.trips))
      = sitofp .bf16 X := by
  funext y
  refine read_rows (d := ![4096, 1024]) M29.view f (sitofp .bf16 X) k0_t3_loop.trips (pb_k0_t3 (F := F) Variants.none c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc (h9.unread X)) ![128, 1024] rfl rfl
    (fun k => ⟨k0_off3 k, k0_off3_inb i k hc, (k0_pay3 (View.readAt (Elt F) M9.view (Rect.unit (s := S4096x1024) (k0_off3 k) S128x1024.size (k0_off3_inb i k hc)).toLoadRect (h9.unread X)) : Vec F S128x1024 .bf16), off3_eq k, fun x => ?_, ?_⟩) _ le_rfl y ?_
  · unfold k0_pay3
    simp only [shapeCast_self]
    show FloatOps.sitofp _ (M9.view.read (Elt F) (h9.unread X) _) = FloatOps.sitofp _ _
    rw [h9.read_unread]; rfl
  · rw [pb_k0_t3_succ]; unfold tripL_k0_t3 trip_k0_t3; rfl
  · rw [trips3]; exact (y (0 : Fin 2)).isLt

end Cert.Kernel.Body
-- ==== Proof.Body.lean ====
module

public import proofs.«01_k».proof.Proof.Gen.Kernel.Frame
public import proofs.«01_k».proof.Proof.Gen.Kernel.Skeleton
public import proofs.«01_k».proof.Proof.Gen.Kernel.Loops
public import Idealize.ShloMosaic.Lib.Tactic
public import proofs.«01_k».proof.Proof.Weights

@[expose] public section

set_option maxRecDepth 16384
set_option maxHeartbeats 400000

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The program past the conversion of the weights: found by unification against the printed body, which takes the
    conversion only at the first grid point. -/
def rest (i : grid0.Coords)
  (M1 : Memref sig .tc .vmem S1x1024x256 .f32) (h1 : M1.IsWhole)
  (M2 : Memref sig .tc .vmem S1x256x1024 .bf16) (h2 : M2.IsWhole)
  (M3 : Memref sig .tc .vmem S1024x1024 .i8) (h3 : M3.IsWhole)
  (M4 : Memref sig .tc .vmem S1x1024 .f32) (h4 : M4.IsWhole)
  (M5 : Memref sig .tc .vmem S1x1024 .f32) (h5 : M5.IsWhole)
  (M6 : Memref sig .tc .vmem S1024x4096 .i8) (h6 : M6.IsWhole)
  (M7 : Memref sig .tc .vmem S1x4096 .f32) (h7 : M7.IsWhole)
  (M8 : Memref sig .tc .vmem S1x4096 .f32) (h8 : M8.IsWhole)
  (M9 : Memref sig .tc .vmem S4096x1024 .i8) (h9 : M9.IsWhole)
  (M10 : Memref sig .tc .vmem S1x1024 .f32) (h10 : M10.IsWhole)
  (M11 : Memref sig .tc .vmem S1x1024 .f32) (h11 : M11.IsWhole)
  (M12 : Memref sig .tc .vmem S1x1024 .f32) (h12 : M12.IsWhole)
  (M13 : Memref sig .tc .vmem S1x1024 .f32) (h13 : M13.IsWhole)
  (M14 : Memref sig .tc .vmem S1x1024 .f32) (h14 : M14.IsWhole)
  (M15 : Memref sig .tc .vmem S1x1024 .f32) (h15 : M15.IsWhole)
  (M16 : Memref sig .tc .vmem S1x1024 .f32) (h16 : M16.IsWhole)
  (M17 : Memref sig .tc .vmem S1x1024 .f32) (h17 : M17.IsWhole)
  (M18 : Memref sig .tc .vmem S1x256x1024 .i8) (h18 : M18.IsWhole)
  (M19 : Memref sig .tc .vmem S2x768 .f32) (h19 : M19.IsWhole)
  (M20 : Memref sig .tc .vmem S1x256x1024 .f32) (h20 : M20.IsWhole)
  (M21 : Memref sig .tc .vmem S1x1024x256 .i8) (h21 : M21.IsWhole)
  (M22 : Memref sig .tc .vmem S2x768 .f32) (h22 : M22.IsWhole)
  (M23 : Memref sig .tc .vmem S1x256x1024 .i8) (h23 : M23.IsWhole)
  (M24 : Memref sig .tc .vmem S2x768 .f32) (h24 : M24.IsWhole)
  (M25 : Memref sig .tc .vmem S1x256x4096 .i8) (h25 : M25.IsWhole)
  (M26 : Memref sig .tc .vmem S2x768 .f32) (h26 : M26.IsWhole)
  (M27 : Memref sig .tc .vmem S1024x1024 .bf16) (h27 : M27.IsWhole)
  (M28 : Memref sig .tc .vmem S1024x4096 .bf16) (h28 : M28.IsWhole)
  (M29 : Memref sig .tc .vmem S4096x1024 .bf16) (h29 : M29.IsWhole)
  (M30 : Memref sig .tc .vmem S1024x256 .bf16) (h30 : M30.IsWhole)
  (M31 : Memref sig .tc .vmem S256x4096 .f32) (h31 : M31.IsWhole)
  (M32 : Memref sig .tc .vmem S256x4096 .bf16) (h32 : M32.IsWhole)
  (M33 : Memref sig .tc .vmem S256x1024 .f32) (h33 : M33.IsWhole)
  (M34 : Memref sig .tc .vmem S256x1024 .bf16) (h34 : M34.IsWhole)
 :
    { R : Prog (TpuEff nD τ sig (Elt F) Λ₀ .tc) PUnit //
      (¬ k0_cond1 i = 1#1 → cc0_ffn (F := F) i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 = R)
      ∧ ∀ hc : k0_cond1 i = 1#1, cc0_ffn (F := F) i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34
          = (Scf.Loop.for k0_t1_loop (k0_t1_ok i hc) ⟨⟩ (k0_t1_body i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc) >>= fun _ =>
             Scf.Loop.for k0_t2_loop (k0_t2_ok i hc) ⟨⟩ (k0_t2_body i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc) >>= fun _ =>
             Scf.Loop.for k0_t3_loop (k0_t3_ok i hc) ⟨⟩ (k0_t3_body i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc) >>= fun _ => R) } := by
  refine ⟨?_, fun hc => ?neg, fun hc => ?pos⟩
  case pos =>
    rw [cc0_ffn_eq_skeleton]; unfold cc0_ffn_skel
    rw [k0_part1_eq_skeleton]; unfold k0_part1_skel
    simp only [dif_pos hc, Prog.bind_assoc]
    rfl
  case neg =>
    rw [cc0_ffn_eq_skeleton]; unfold cc0_ffn_skel
    rw [k0_part1_eq_skeleton]; unfold k0_part1_skel
    simp only [dif_neg hc, Prog.bind_assoc]
/-- What the rest leaves. -/
noncomputable def runRest (c : Dev nD) (i : grid0.Coords)
  (M1 : Memref sig .tc .vmem S1x1024x256 .f32) (h1 : M1.IsWhole)
  (M2 : Memref sig .tc .vmem S1x256x1024 .bf16) (h2 : M2.IsWhole)
  (M3 : Memref sig .tc .vmem S1024x1024 .i8) (h3 : M3.IsWhole)
  (M4 : Memref sig .tc .vmem S1x1024 .f32) (h4 : M4.IsWhole)
  (M5 : Memref sig .tc .vmem S1x1024 .f32) (h5 : M5.IsWhole)
  (M6 : Memref sig .tc .vmem S1024x4096 .i8) (h6 : M6.IsWhole)
  (M7 : Memref sig .tc .vmem S1x4096 .f32) (h7 : M7.IsWhole)
  (M8 : Memref sig .tc .vmem S1x4096 .f32) (h8 : M8.IsWhole)
  (M9 : Memref sig .tc .vmem S4096x1024 .i8) (h9 : M9.IsWhole)
  (M10 : Memref sig .tc .vmem S1x1024 .f32) (h10 : M10.IsWhole)
  (M11 : Memref sig .tc .vmem S1x1024 .f32) (h11 : M11.IsWhole)
  (M12 : Memref sig .tc .vmem S1x1024 .f32) (h12 : M12.IsWhole)
  (M13 : Memref sig .tc .vmem S1x1024 .f32) (h13 : M13.IsWhole)
  (M14 : Memref sig .tc .vmem S1x1024 .f32) (h14 : M14.IsWhole)
  (M15 : Memref sig .tc .vmem S1x1024 .f32) (h15 : M15.IsWhole)
  (M16 : Memref sig .tc .vmem S1x1024 .f32) (h16 : M16.IsWhole)
  (M17 : Memref sig .tc .vmem S1x1024 .f32) (h17 : M17.IsWhole)
  (M18 : Memref sig .tc .vmem S1x256x1024 .i8) (h18 : M18.IsWhole)
  (M19 : Memref sig .tc .vmem S2x768 .f32) (h19 : M19.IsWhole)
  (M20 : Memref sig .tc .vmem S1x256x1024 .f32) (h20 : M20.IsWhole)
  (M21 : Memref sig .tc .vmem S1x1024x256 .i8) (h21 : M21.IsWhole)
  (M22 : Memref sig .tc .vmem S2x768 .f32) (h22 : M22.IsWhole)
  (M23 : Memref sig .tc .vmem S1x256x1024 .i8) (h23 : M23.IsWhole)
  (M24 : Memref sig .tc .vmem S2x768 .f32) (h24 : M24.IsWhole)
  (M25 : Memref sig .tc .vmem S1x256x4096 .i8) (h25 : M25.IsWhole)
  (M26 : Memref sig .tc .vmem S2x768 .f32) (h26 : M26.IsWhole)
  (M27 : Memref sig .tc .vmem S1024x1024 .bf16) (h27 : M27.IsWhole)
  (M28 : Memref sig .tc .vmem S1024x4096 .bf16) (h28 : M28.IsWhole)
  (M29 : Memref sig .tc .vmem S4096x1024 .bf16) (h29 : M29.IsWhole)
  (M30 : Memref sig .tc .vmem S1024x256 .bf16) (h30 : M30.IsWhole)
  (M31 : Memref sig .tc .vmem S256x4096 .f32) (h31 : M31.IsWhole)
  (M32 : Memref sig .tc .vmem S256x4096 .bf16) (h32 : M32.IsWhole)
  (M33 : Memref sig .tc .vmem S256x1024 .f32) (h33 : M33.IsWhole)
  (M34 : Memref sig .tc .vmem S256x1024 .bf16) (h34 : M34.IsWhole)

    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f27 : Bf (F := F) c M27) (f28 : Bf (F := F) c M28) (f29 : Bf (F := F) c M29) :
    { W : Bf (F := F) c M18 × Bf (F := F) c M20 × Bf (F := F) c M21 × Bf (F := F) c M23 × Bf (F := F) c M25 × (Bf (F := F) c M19 → Bf (F := F) c M19) × (Bf (F := F) c M22 → Bf (F := F) c M22) × (Bf (F := F) c M24 → Bf (F := F) c M24) × (Bf (F := F) c M26 → Bf (F := F) c M26) //
      ∀ (f18 : Bf (F := F) c M18) (f19 : Bf (F := F) c M19) (f20 : Bf (F := F) c M20) (f21 : Bf (F := F) c M21) (f22 : Bf (F := F) c M22) (f23 : Bf (F := F) c M23) (f24 : Bf (F := F) c M24) (f25 : Bf (F := F) c M25) (f26 : Bf (F := F) c M26) (f30 : Bf (F := F) c M30) (f31 : Bf (F := F) c M31) (f32 : Bf (F := F) c M32) (f33 : Bf (F := F) c M33) (f34 : Bf (F := F) c M34) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ pt c M21 f21 ∗ pt c M22 f22 ∗ pt c M23 f23 ∗ pt c M24 f24 ∗ pt c M25 f25 ∗ pt c M26 f26 ∗ pt c M27 f27 ∗ pt c M28 f28 ∗ pt c M29 f29 ∗ pt c M30 f30 ∗ pt c M31 f31 ∗ pt c M32 f32 ∗ pt c M33 f33 ∗ pt c M34 f34
          ∗ (iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 (W.1) ∗ pt c M19 (W.2.2.2.2.2.1 f19) ∗ pt c M20 (W.2.1) ∗ pt c M21 (W.2.2.1) ∗ pt c M22 (W.2.2.2.2.2.2.1 f22) ∗ pt c M23 (W.2.2.2.1) ∗ pt c M24 (W.2.2.2.2.2.2.2.1 f24) ∗ pt c M25 (W.2.2.2.2.1) ∗ pt c M26 (W.2.2.2.2.2.2.2.2 f26) ∗ pt c M27 f27 ∗ pt c M28 f28 ∗ pt c M29 f29 ∗ (∃ f, pt c M30 f) ∗ (∃ f, pt c M31 f) ∗ (∃ f, pt c M32 f) ∗ (∃ f, pt c M33 f) ∗ (∃ f, pt c M34 f)) -∗ Q ⟨⟩))
        ⊢ wp frame (wpE (defs₀ (F := F)) Variants.none c none) E (rest (F := F) i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34).1 Q } := by
  refine ⟨⟨?_, ?_, ?_, ?_, ?_, ?_, ?_, ?_, ?_⟩, fun f18 f19 f20 f21 f22 f23 f24 f25 f26 f30 f31 f32 f33 f34 E Q => ?run⟩
  case run =>
    iintro ⟨H1, H2, H3, H4, H5, H6, H7, H8, H9, H10, H11, H12, H13, H14, H15, H16, H17, H18, H19, H20, H21, H22, H23, H24, H25, H26, H27, H28, H29, H30, H31, H32, H33, H34, Hk⟩
    sl_unfold [rest]
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexists _; iexact H30
    isplitl [H31]; · iexists _; iexact H31
    isplitl [H32]; · iexists _; iexact H32
    isplitl [H33]; · iexists _; iexact H33
    iexists _; iexact H34

/-- The conversion of the weights at the first grid point, before any program `R`. -/
def runPrologue (c : Dev nD) (i : grid0.Coords)
  (M1 : Memref sig .tc .vmem S1x1024x256 .f32) (h1 : M1.IsWhole)
  (M2 : Memref sig .tc .vmem S1x256x1024 .bf16) (h2 : M2.IsWhole)
  (M3 : Memref sig .tc .vmem S1024x1024 .i8) (h3 : M3.IsWhole)
  (M4 : Memref sig .tc .vmem S1x1024 .f32) (h4 : M4.IsWhole)
  (M5 : Memref sig .tc .vmem S1x1024 .f32) (h5 : M5.IsWhole)
  (M6 : Memref sig .tc .vmem S1024x4096 .i8) (h6 : M6.IsWhole)
  (M7 : Memref sig .tc .vmem S1x4096 .f32) (h7 : M7.IsWhole)
  (M8 : Memref sig .tc .vmem S1x4096 .f32) (h8 : M8.IsWhole)
  (M9 : Memref sig .tc .vmem S4096x1024 .i8) (h9 : M9.IsWhole)
  (M10 : Memref sig .tc .vmem S1x1024 .f32) (h10 : M10.IsWhole)
  (M11 : Memref sig .tc .vmem S1x1024 .f32) (h11 : M11.IsWhole)
  (M12 : Memref sig .tc .vmem S1x1024 .f32) (h12 : M12.IsWhole)
  (M13 : Memref sig .tc .vmem S1x1024 .f32) (h13 : M13.IsWhole)
  (M14 : Memref sig .tc .vmem S1x1024 .f32) (h14 : M14.IsWhole)
  (M15 : Memref sig .tc .vmem S1x1024 .f32) (h15 : M15.IsWhole)
  (M16 : Memref sig .tc .vmem S1x1024 .f32) (h16 : M16.IsWhole)
  (M17 : Memref sig .tc .vmem S1x1024 .f32) (h17 : M17.IsWhole)
  (M18 : Memref sig .tc .vmem S1x256x1024 .i8) (h18 : M18.IsWhole)
  (M19 : Memref sig .tc .vmem S2x768 .f32) (h19 : M19.IsWhole)
  (M20 : Memref sig .tc .vmem S1x256x1024 .f32) (h20 : M20.IsWhole)
  (M21 : Memref sig .tc .vmem S1x1024x256 .i8) (h21 : M21.IsWhole)
  (M22 : Memref sig .tc .vmem S2x768 .f32) (h22 : M22.IsWhole)
  (M23 : Memref sig .tc .vmem S1x256x1024 .i8) (h23 : M23.IsWhole)
  (M24 : Memref sig .tc .vmem S2x768 .f32) (h24 : M24.IsWhole)
  (M25 : Memref sig .tc .vmem S1x256x4096 .i8) (h25 : M25.IsWhole)
  (M26 : Memref sig .tc .vmem S2x768 .f32) (h26 : M26.IsWhole)
  (M27 : Memref sig .tc .vmem S1024x1024 .bf16) (h27 : M27.IsWhole)
  (M28 : Memref sig .tc .vmem S1024x4096 .bf16) (h28 : M28.IsWhole)
  (M29 : Memref sig .tc .vmem S4096x1024 .bf16) (h29 : M29.IsWhole)
  (M30 : Memref sig .tc .vmem S1024x256 .bf16) (h30 : M30.IsWhole)
  (M31 : Memref sig .tc .vmem S256x4096 .f32) (h31 : M31.IsWhole)
  (M32 : Memref sig .tc .vmem S256x4096 .bf16) (h32 : M32.IsWhole)
  (M33 : Memref sig .tc .vmem S256x1024 .f32) (h33 : M33.IsWhole)
  (M34 : Memref sig .tc .vmem S256x1024 .bf16) (h34 : M34.IsWhole)
    (hc : k0_cond1 i = 1#1) (f3 : Bf (F := F) c M3) (f6 : Bf (F := F) c M6) (f9 : Bf (F := F) c M9) :
    { L : List (View.Piece (Elt F) S1024x1024 .bf16) × List (View.Piece (Elt F) S1024x4096 .bf16) × List (View.Piece (Elt F) S4096x1024 .bf16) //
      ∀ (f27 : Bf (F := F) c M27) (f28 : Bf (F := F) c M28) (f29 : Bf (F := F) c M29) (R : Prog (TpuEff nD τ sig (Elt F) Λ₀ .tc) PUnit) (E : Set ℕ) (Q : PUnit → sProp 𝕄),
        iprop(pt c M3 f3 ∗ pt c M6 f6 ∗ pt c M9 f9 ∗ pt c M27 f27 ∗ pt c M28 f28 ∗ pt c M29 f29
          ∗ (iprop(pt c M3 f3 ∗ pt c M6 f6 ∗ pt c M9 f9 ∗ pt c M27 (M27.view.writes (Elt F) f27 L.1)
              ∗ pt c M28 (M28.view.writes (Elt F) f28 L.2.1) ∗ pt c M29 (M29.view.writes (Elt F) f29 L.2.2))
              -∗ wp frame (wpE (defs₀ (F := F)) Variants.none c none) E R Q))
        ⊢ wp frame (wpE (defs₀ (F := F)) Variants.none c none) E
            (Scf.Loop.for k0_t1_loop (k0_t1_ok i hc) ⟨⟩ (k0_t1_body i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc) >>= fun _ =>
             Scf.Loop.for k0_t2_loop (k0_t2_ok i hc) ⟨⟩ (k0_t2_body i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc) >>= fun _ =>
             Scf.Loop.for k0_t3_loop (k0_t3_ok i hc) ⟨⟩ (k0_t3_body i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc) >>= fun _ => R) Q } := by
  refine ⟨⟨?_, ?_, ?_⟩, fun f27 f28 f29 R E Q => ?run⟩
  case run =>
    iintro ⟨H3, H6, H9, H27, H28, H29, Hk⟩
    sl_exec
    iapply Hk
    isplitl [H3]; · iexact H3
    isplitl [H6]; · iexact H6
    isplitl [H9]; · iexact H9
    isplitl [H27]; · iexact H27
    isplitl [H28]; · iexact H28
    iexact H29

end Cert.Kernel.Body
-- ==== Proof.Triple.lean ====
module

public import proofs.«01_k».proof.Proof.Gen.Kernel.Frame
public import proofs.«01_k».proof.Proof.Gen.Kernel.Skeleton
public import proofs.«01_k».proof.Proof.Gen.Kernel.Loops
public import Idealize.ShloMosaic.Lib.Tactic
public import proofs.«01_k».proof.Proof.Body
public import proofs.«01_k».proof.Proof.Weights

@[expose] public section

set_option maxRecDepth 16384
set_option maxHeartbeats 400000

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat RDat Cfg Window cellOf ΦA)
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body at a later grid point, the scratch copies of the weights at `X27`, `X28`, `X29`. -/
theorem wp_later (c : Dev nD) (i : grid0.Coords)
  (M1 : Memref sig .tc .vmem S1x1024x256 .f32) (h1 : M1.IsWhole)
  (M2 : Memref sig .tc .vmem S1x256x1024 .bf16) (h2 : M2.IsWhole)
  (M3 : Memref sig .tc .vmem S1024x1024 .i8) (h3 : M3.IsWhole)
  (M4 : Memref sig .tc .vmem S1x1024 .f32) (h4 : M4.IsWhole)
  (M5 : Memref sig .tc .vmem S1x1024 .f32) (h5 : M5.IsWhole)
  (M6 : Memref sig .tc .vmem S1024x4096 .i8) (h6 : M6.IsWhole)
  (M7 : Memref sig .tc .vmem S1x4096 .f32) (h7 : M7.IsWhole)
  (M8 : Memref sig .tc .vmem S1x4096 .f32) (h8 : M8.IsWhole)
  (M9 : Memref sig .tc .vmem S4096x1024 .i8) (h9 : M9.IsWhole)
  (M10 : Memref sig .tc .vmem S1x1024 .f32) (h10 : M10.IsWhole)
  (M11 : Memref sig .tc .vmem S1x1024 .f32) (h11 : M11.IsWhole)
  (M12 : Memref sig .tc .vmem S1x1024 .f32) (h12 : M12.IsWhole)
  (M13 : Memref sig .tc .vmem S1x1024 .f32) (h13 : M13.IsWhole)
  (M14 : Memref sig .tc .vmem S1x1024 .f32) (h14 : M14.IsWhole)
  (M15 : Memref sig .tc .vmem S1x1024 .f32) (h15 : M15.IsWhole)
  (M16 : Memref sig .tc .vmem S1x1024 .f32) (h16 : M16.IsWhole)
  (M17 : Memref sig .tc .vmem S1x1024 .f32) (h17 : M17.IsWhole)
  (M18 : Memref sig .tc .vmem S1x256x1024 .i8) (h18 : M18.IsWhole)
  (M19 : Memref sig .tc .vmem S2x768 .f32) (h19 : M19.IsWhole)
  (M20 : Memref sig .tc .vmem S1x256x1024 .f32) (h20 : M20.IsWhole)
  (M21 : Memref sig .tc .vmem S1x1024x256 .i8) (h21 : M21.IsWhole)
  (M22 : Memref sig .tc .vmem S2x768 .f32) (h22 : M22.IsWhole)
  (M23 : Memref sig .tc .vmem S1x256x1024 .i8) (h23 : M23.IsWhole)
  (M24 : Memref sig .tc .vmem S2x768 .f32) (h24 : M24.IsWhole)
  (M25 : Memref sig .tc .vmem S1x256x4096 .i8) (h25 : M25.IsWhole)
  (M26 : Memref sig .tc .vmem S2x768 .f32) (h26 : M26.IsWhole)
  (M27 : Memref sig .tc .vmem S1024x1024 .bf16) (h27 : M27.IsWhole)
  (M28 : Memref sig .tc .vmem S1024x4096 .bf16) (h28 : M28.IsWhole)
  (M29 : Memref sig .tc .vmem S4096x1024 .bf16) (h29 : M29.IsWhole)
  (M30 : Memref sig .tc .vmem S1024x256 .bf16) (h30 : M30.IsWhole)
  (M31 : Memref sig .tc .vmem S256x4096 .f32) (h31 : M31.IsWhole)
  (M32 : Memref sig .tc .vmem S256x4096 .bf16) (h32 : M32.IsWhole)
  (M33 : Memref sig .tc .vmem S256x1024 .f32) (h33 : M33.IsWhole)
  (M34 : Memref sig .tc .vmem S256x1024 .bf16) (h34 : M34.IsWhole)
 (hc : ¬ k0_cond1 i = 1#1) (X1 : Vec F S1x1024x256 .f32) (X2 : Vec F S1x256x1024 .bf16) (X3 : Vec F S1024x1024 .i8) (X4 : Vec F S1x1024 .f32) (X5 : Vec F S1x1024 .f32) (X6 : Vec F S1024x4096 .i8) (X7 : Vec F S1x4096 .f32) (X8 : Vec F S1x4096 .f32) (X9 : Vec F S4096x1024 .i8) (X10 : Vec F S1x1024 .f32) (X11 : Vec F S1x1024 .f32) (X12 : Vec F S1x1024 .f32) (X13 : Vec F S1x1024 .f32) (X14 : Vec F S1x1024 .f32) (X15 : Vec F S1x1024 .f32) (X16 : Vec F S1x1024 .f32) (X17 : Vec F S1x1024 .f32) (X27 : Vec F S1024x1024 .bf16) (X28 : Vec F S1024x4096 .bf16) (X29 : Vec F S4096x1024 .bf16) (f18 : Bf (F := F) c M18) (f19 : Bf (F := F) c M19) (f20 : Bf (F := F) c M20) (f21 : Bf (F := F) c M21) (f22 : Bf (F := F) c M22) (f23 : Bf (F := F) c M23) (f24 : Bf (F := F) c M24) (f25 : Bf (F := F) c M25) (f26 : Bf (F := F) c M26) (R : Bf (F := F) c M18 × Bf (F := F) c M20 × Bf (F := F) c M21 × Bf (F := F) c M23 × Bf (F := F) c M25 × (Bf (F := F) c M19 → Bf (F := F) c M19) × (Bf (F := F) c M22 → Bf (F := F) c M22) × (Bf (F := F) c M24 → Bf (F := F) c M24) × (Bf (F := F) c M26 → Bf (F := F) c M26)) (hR : (runRest (F := F) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 (h1.unread X1) (h2.unread X2) (h3.unread X3) (h4.unread X4) (h5.unread X5) (h6.unread X6) (h7.unread X7) (h8.unread X8) (h9.unread X9) (h10.unread X10) (h11.unread X11) (h12.unread X12) (h13.unread X13) (h14.unread X14) (h15.unread X15) (h16.unread X16) (h17.unread X17) (h27.unread X27) (h28.unread X28) (h29.unread X29)).1 = R) (E : Set ℕ) (Q : PUnit → sProp 𝕄) :
    iprop(pt c M1 (h1.unread X1) ∗ pt c M2 (h2.unread X2) ∗ pt c M3 (h3.unread X3) ∗ pt c M4 (h4.unread X4) ∗ pt c M5 (h5.unread X5) ∗ pt c M6 (h6.unread X6) ∗ pt c M7 (h7.unread X7) ∗ pt c M8 (h8.unread X8) ∗ pt c M9 (h9.unread X9) ∗ pt c M10 (h10.unread X10) ∗ pt c M11 (h11.unread X11) ∗ pt c M12 (h12.unread X12) ∗ pt c M13 (h13.unread X13) ∗ pt c M14 (h14.unread X14) ∗ pt c M15 (h15.unread X15) ∗ pt c M16 (h16.unread X16) ∗ pt c M17 (h17.unread X17) ∗ pt c M18 f18 ∗ pt c M19 f19 ∗ pt c M20 f20 ∗ pt c M21 f21 ∗ pt c M22 f22 ∗ pt c M23 f23 ∗ pt c M24 f24 ∗ pt c M25 f25 ∗ pt c M26 f26 ∗ pt c M27 (h27.unread X27) ∗ pt c M28 (h28.unread X28) ∗ pt c M29 (h29.unread X29) ∗ (∃ f, pt c M30 f) ∗ (∃ f, pt c M31 f) ∗ (∃ f, pt c M32 f) ∗ (∃ f, pt c M33 f) ∗ (∃ f, pt c M34 f) ∗ (iprop(pt c M1 (h1.unread X1) ∗ pt c M2 (h2.unread X2) ∗ pt c M3 (h3.unread X3) ∗ pt c M4 (h4.unread X4) ∗ pt c M5 (h5.unread X5) ∗ pt c M6 (h6.unread X6) ∗ pt c M7 (h7.unread X7) ∗ pt c M8 (h8.unread X8) ∗ pt c M9 (h9.unread X9) ∗ pt c M10 (h10.unread X10) ∗ pt c M11 (h11.unread X11) ∗ pt c M12 (h12.unread X12) ∗ pt c M13 (h13.unread X13) ∗ pt c M14 (h14.unread X14) ∗ pt c M15 (h15.unread X15) ∗ pt c M16 (h16.unread X16) ∗ pt c M17 (h17.unread X17) ∗ pt c M18 R.1 ∗ pt c M19 (R.2.2.2.2.2.1 f19) ∗ pt c M20 R.2.1 ∗ pt c M21 R.2.2.1 ∗ pt c M22 (R.2.2.2.2.2.2.1 f22) ∗ pt c M23 R.2.2.2.1 ∗ pt c M24 (R.2.2.2.2.2.2.2.1 f24) ∗ pt c M25 R.2.2.2.2.1 ∗ pt c M26 (R.2.2.2.2.2.2.2.2 f26) ∗ pt c M27 (h27.unread X27) ∗ pt c M28 (h28.unread X28) ∗ pt c M29 (h29.unread X29) ∗ (∃ f, pt c M30 f) ∗ (∃ f, pt c M31 f) ∗ (∃ f, pt c M32 f) ∗ (∃ f, pt c M33 f) ∗ (∃ f, pt c M34 f)) -∗ Q ⟨⟩))
    ⊢ wp frame (wpE (defs₀ (F := F)) Variants.none c none) E (cc0_ffn (F := F) i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34) Q := by
  refine triple_restated ?_ (congrArg (wp frame (wpE (defs₀ (F := F)) Variants.none c none) E) ((rest (F := F) i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34).2.1 hc).symm) .rfl (fun _ => .rfl)
  iintro ⟨H1, H2, H3, H4, H5, H6, H7, H8, H9, H10, H11, H12, H13, H14, H15, H16, H17, H18, H19, H20, H21, H22, H23, H24, H25, H26, H27, H28, H29, ⟨%f30, H30⟩, ⟨%f31, H31⟩, ⟨%f32, H32⟩, ⟨%f33, H33⟩, ⟨%f34, H34⟩, Hk⟩
  subst hR
  iapply ((runRest (F := F) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 (h1.unread X1) (h2.unread X2) (h3.unread X3) (h4.unread X4) (h5.unread X5) (h6.unread X6) (h7.unread X7) (h8.unread X8) (h9.unread X9) (h10.unread X10) (h11.unread X11) (h12.unread X12) (h13.unread X13) (h14.unread X14) (h15.unread X15) (h16.unread X16) (h17.unread X17) (h27.unread X27) (h28.unread X28) (h29.unread X29)).2 f18 f19 f20 f21 f22 f23 f24 f25 f26 f30 f31 f32 f33 f34 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iexact Hk

/-- The body at the first grid point: it fills the scratch copies of the weights first. -/
theorem wp_first (c : Dev nD) (i : grid0.Coords)
  (M1 : Memref sig .tc .vmem S1x1024x256 .f32) (h1 : M1.IsWhole)
  (M2 : Memref sig .tc .vmem S1x256x1024 .bf16) (h2 : M2.IsWhole)
  (M3 : Memref sig .tc .vmem S1024x1024 .i8) (h3 : M3.IsWhole)
  (M4 : Memref sig .tc .vmem S1x1024 .f32) (h4 : M4.IsWhole)
  (M5 : Memref sig .tc .vmem S1x1024 .f32) (h5 : M5.IsWhole)
  (M6 : Memref sig .tc .vmem S1024x4096 .i8) (h6 : M6.IsWhole)
  (M7 : Memref sig .tc .vmem S1x4096 .f32) (h7 : M7.IsWhole)
  (M8 : Memref sig .tc .vmem S1x4096 .f32) (h8 : M8.IsWhole)
  (M9 : Memref sig .tc .vmem S4096x1024 .i8) (h9 : M9.IsWhole)
  (M10 : Memref sig .tc .vmem S1x1024 .f32) (h10 : M10.IsWhole)
  (M11 : Memref sig .tc .vmem S1x1024 .f32) (h11 : M11.IsWhole)
  (M12 : Memref sig .tc .vmem S1x1024 .f32) (h12 : M12.IsWhole)
  (M13 : Memref sig .tc .vmem S1x1024 .f32) (h13 : M13.IsWhole)
  (M14 : Memref sig .tc .vmem S1x1024 .f32) (h14 : M14.IsWhole)
  (M15 : Memref sig .tc .vmem S1x1024 .f32) (h15 : M15.IsWhole)
  (M16 : Memref sig .tc .vmem S1x1024 .f32) (h16 : M16.IsWhole)
  (M17 : Memref sig .tc .vmem S1x1024 .f32) (h17 : M17.IsWhole)
  (M18 : Memref sig .tc .vmem S1x256x1024 .i8) (h18 : M18.IsWhole)
  (M19 : Memref sig .tc .vmem S2x768 .f32) (h19 : M19.IsWhole)
  (M20 : Memref sig .tc .vmem S1x256x1024 .f32) (h20 : M20.IsWhole)
  (M21 : Memref sig .tc .vmem S1x1024x256 .i8) (h21 : M21.IsWhole)
  (M22 : Memref sig .tc .vmem S2x768 .f32) (h22 : M22.IsWhole)
  (M23 : Memref sig .tc .vmem S1x256x1024 .i8) (h23 : M23.IsWhole)
  (M24 : Memref sig .tc .vmem S2x768 .f32) (h24 : M24.IsWhole)
  (M25 : Memref sig .tc .vmem S1x256x4096 .i8) (h25 : M25.IsWhole)
  (M26 : Memref sig .tc .vmem S2x768 .f32) (h26 : M26.IsWhole)
  (M27 : Memref sig .tc .vmem S1024x1024 .bf16) (h27 : M27.IsWhole)
  (M28 : Memref sig .tc .vmem S1024x4096 .bf16) (h28 : M28.IsWhole)
  (M29 : Memref sig .tc .vmem S4096x1024 .bf16) (h29 : M29.IsWhole)
  (M30 : Memref sig .tc .vmem S1024x256 .bf16) (h30 : M30.IsWhole)
  (M31 : Memref sig .tc .vmem S256x4096 .f32) (h31 : M31.IsWhole)
  (M32 : Memref sig .tc .vmem S256x4096 .bf16) (h32 : M32.IsWhole)
  (M33 : Memref sig .tc .vmem S256x1024 .f32) (h33 : M33.IsWhole)
  (M34 : Memref sig .tc .vmem S256x1024 .bf16) (h34 : M34.IsWhole)
 (hc : k0_cond1 i = 1#1) (X1 : Vec F S1x1024x256 .f32) (X2 : Vec F S1x256x1024 .bf16) (X3 : Vec F S1024x1024 .i8) (X4 : Vec F S1x1024 .f32) (X5 : Vec F S1x1024 .f32) (X6 : Vec F S1024x4096 .i8) (X7 : Vec F S1x4096 .f32) (X8 : Vec F S1x4096 .f32) (X9 : Vec F S4096x1024 .i8) (X10 : Vec F S1x1024 .f32) (X11 : Vec F S1x1024 .f32) (X12 : Vec F S1x1024 .f32) (X13 : Vec F S1x1024 .f32) (X14 : Vec F S1x1024 .f32) (X15 : Vec F S1x1024 .f32) (X16 : Vec F S1x1024 .f32) (X17 : Vec F S1x1024 .f32) (f18 : Bf (F := F) c M18) (f19 : Bf (F := F) c M19) (f20 : Bf (F := F) c M20) (f21 : Bf (F := F) c M21) (f22 : Bf (F := F) c M22) (f23 : Bf (F := F) c M23) (f24 : Bf (F := F) c M24) (f25 : Bf (F := F) c M25) (f26 : Bf (F := F) c M26) (f27 : Bf (F := F) c M27) (f28 : Bf (F := F) c M28) (f29 : Bf (F := F) c M29) (R : Bf (F := F) c M18 × Bf (F := F) c M20 × Bf (F := F) c M21 × Bf (F := F) c M23 × Bf (F := F) c M25 × (Bf (F := F) c M19 → Bf (F := F) c M19) × (Bf (F := F) c M22 → Bf (F := F) c M22) × (Bf (F := F) c M24 → Bf (F := F) c M24) × (Bf (F := F) c M26 → Bf (F := F) c M26)) (hR : (runRest (F := F) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 (h1.unread X1) (h2.unread X2) (h3.unread X3) (h4.unread X4) (h5.unread X5) (h6.unread X6) (h7.unread X7) (h8.unread X8) (h9.unread X9) (h10.unread X10) (h11.unread X11) (h12.unread X12) (h13.unread X13) (h14.unread X14) (h15.unread X15) (h16.unread X16) (h17.unread X17) (h27.unread (sitofp .bf16 X3)) (h28.unread (sitofp .bf16 X6)) (h29.unread (sitofp .bf16 X9))).1 = R) (E : Set ℕ) (Q : PUnit → sProp 𝕄) :
    iprop(pt c M1 (h1.unread X1) ∗ pt c M2 (h2.unread X2) ∗ pt c M3 (h3.unread X3) ∗ pt c M4 (h4.unread X4) ∗ pt c M5 (h5.unread X5) ∗ pt c M6 (h6.unread X6) ∗ pt c M7 (h7.unread X7) ∗ pt c M8 (h8.unread X8) ∗ pt c M9 (h9.unread X9) ∗ pt c M10 (h10.unread X10) ∗ pt c M11 (h11.unread X11) ∗ pt c M12 (h12.unread X12) ∗ pt c M13 (h13.unread X13) ∗ pt c M14 (h14.unread X14) ∗ pt c M15 (h15.unread X15) ∗ pt c M16 (h16.unread X16) ∗ pt c M17 (h17.unread X17) ∗ pt c M18 f18 ∗ pt c M19 f19 ∗ pt c M20 f20 ∗ pt c M21 f21 ∗ pt c M22 f22 ∗ pt c M23 f23 ∗ pt c M24 f24 ∗ pt c M25 f25 ∗ pt c M26 f26 ∗ pt c M27 f27 ∗ pt c M28 f28 ∗ pt c M29 f29 ∗ (∃ f, pt c M30 f) ∗ (∃ f, pt c M31 f) ∗ (∃ f, pt c M32 f) ∗ (∃ f, pt c M33 f) ∗ (∃ f, pt c M34 f) ∗ (iprop(pt c M1 (h1.unread X1) ∗ pt c M2 (h2.unread X2) ∗ pt c M3 (h3.unread X3) ∗ pt c M4 (h4.unread X4) ∗ pt c M5 (h5.unread X5) ∗ pt c M6 (h6.unread X6) ∗ pt c M7 (h7.unread X7) ∗ pt c M8 (h8.unread X8) ∗ pt c M9 (h9.unread X9) ∗ pt c M10 (h10.unread X10) ∗ pt c M11 (h11.unread X11) ∗ pt c M12 (h12.unread X12) ∗ pt c M13 (h13.unread X13) ∗ pt c M14 (h14.unread X14) ∗ pt c M15 (h15.unread X15) ∗ pt c M16 (h16.unread X16) ∗ pt c M17 (h17.unread X17) ∗ pt c M18 R.1 ∗ pt c M19 (R.2.2.2.2.2.1 f19) ∗ pt c M20 R.2.1 ∗ pt c M21 R.2.2.1 ∗ pt c M22 (R.2.2.2.2.2.2.1 f22) ∗ pt c M23 R.2.2.2.1 ∗ pt c M24 (R.2.2.2.2.2.2.2.1 f24) ∗ pt c M25 R.2.2.2.2.1 ∗ pt c M26 (R.2.2.2.2.2.2.2.2 f26) ∗ pt c M27 (h27.unread (sitofp .bf16 X3)) ∗ pt c M28 (h28.unread (sitofp .bf16 X6)) ∗ pt c M29 (h29.unread (sitofp .bf16 X9)) ∗ (∃ f, pt c M30 f) ∗ (∃ f, pt c M31 f) ∗ (∃ f, pt c M32 f) ∗ (∃ f, pt c M33 f) ∗ (∃ f, pt c M34 f)) -∗ Q ⟨⟩))
    ⊢ wp frame (wpE (defs₀ (F := F)) Variants.none c none) E (cc0_ffn (F := F) i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34) Q := by
  refine triple_restated ?_ (congrArg (wp frame (wpE (defs₀ (F := F)) Variants.none c none) E) ((rest (F := F) i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34).2.2 hc).symm) .rfl (fun _ => .rfl)
  have e27 : M27.view.writes (Elt F) f27 (runPrologue (F := F) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc (h3.unread X3) (h6.unread X6) (h9.unread X9)).1.1 = h27.unread (sitofp .bf16 X3) :=
    h27.eq_unread (read_pb1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc X3 f27)
  have e28 : M28.view.writes (Elt F) f28 (runPrologue (F := F) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc (h3.unread X3) (h6.unread X6) (h9.unread X9)).1.2.1 = h28.unread (sitofp .bf16 X6) :=
    h28.eq_unread (read_pb2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc X6 f28)
  have e29 : M29.view.writes (Elt F) f29 (runPrologue (F := F) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc (h3.unread X3) (h6.unread X6) (h9.unread X9)).1.2.2 = h29.unread (sitofp .bf16 X9) :=
    h29.eq_unread (read_pb3 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc X9 f29)
  iintro ⟨H1, H2, H3, H4, H5, H6, H7, H8, H9, H10, H11, H12, H13, H14, H15, H16, H17, H18, H19, H20, H21, H22, H23, H24, H25, H26, H27, H28, H29, ⟨%f30, H30⟩, ⟨%f31, H31⟩, ⟨%f32, H32⟩, ⟨%f33, H33⟩, ⟨%f34, H34⟩, Hk⟩
  iapply ((runPrologue (F := F) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc (h3.unread X3) (h6.unread X6) (h9.unread X9)).2 f27 f28 f29 _ E Q)
  isplitl [H3]; · iexact H3
  isplitl [H6]; · iexact H6
  isplitl [H9]; · iexact H9
  isplitl [H27]; · iexact H27
  isplitl [H28]; · iexact H28
  isplitl [H29]; · iexact H29
  rw [e27, e28, e29]
  iintro ⟨H3, H6, H9, H27, H28, H29⟩
  subst hR
  iapply ((runRest (F := F) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 (h1.unread X1) (h2.unread X2) (h3.unread X3) (h4.unread X4) (h5.unread X5) (h6.unread X6) (h7.unread X7) (h8.unread X8) (h9.unread X9) (h10.unread X10) (h11.unread X11) (h12.unread X12) (h13.unread X13) (h14.unread X14) (h15.unread X15) (h16.unread X16) (h17.unread X17) (h27.unread (sitofp .bf16 X3)) (h28.unread (sitofp .bf16 X6)) (h29.unread (sitofp .bf16 X9))).2 f18 f19 f20 f21 f22 f23 f24 f25 f26 f30 f31 f32 f33 f34 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iexact Hk

end Cert.Kernel.Body
-- ==== Proof.Data.lean ====
module

public import proofs.«01_k».proof.Proof.Gen.Kernel.Frame
public import proofs.«01_k».proof.Proof.Gen.Kernel.Skeleton
public import proofs.«01_k».proof.Proof.Gen.Kernel.Loops
public import Idealize.ShloMosaic.Lib.Tactic
public import proofs.«01_k».proof.Proof.Triple

@[expose] public section

set_option maxRecDepth 16384
set_option maxHeartbeats 1000000

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat RDat Cfg Window cellOf ΦA)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point -/

abbrev ms_0 (t : Fin cfg0.N) : Memref sig .tc .vmem S1x1024x256 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x256x1024 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1024x1024 .i8 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x1024 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x1024 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1024x4096 .i8 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x4096 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x4096 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S4096x1024 .i8 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1x1024 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S1x1024 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S1x1024 .f32 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S1x1024 .f32 := win0_12.stage (cfg0.slots t 12)
abbrev hs_12 (t : Fin cfg0.N) : (ms_12 t).IsWhole := hstage0_12 ((cfg0.slots t 12).cast nbuf0_12)
abbrev ms_13 (t : Fin cfg0.N) : Memref sig .tc .vmem S1x1024 .f32 := win0_13.stage (cfg0.slots t 13)
abbrev hs_13 (t : Fin cfg0.N) : (ms_13 t).IsWhole := hstage0_13 ((cfg0.slots t 13).cast nbuf0_13)
abbrev ms_14 (t : Fin cfg0.N) : Memref sig .tc .vmem S1x1024 .f32 := win0_14.stage (cfg0.slots t 14)
abbrev hs_14 (t : Fin cfg0.N) : (ms_14 t).IsWhole := hstage0_14 ((cfg0.slots t 14).cast nbuf0_14)
abbrev ms_15 (t : Fin cfg0.N) : Memref sig .tc .vmem S1x1024 .f32 := win0_15.stage (cfg0.slots t 15)
abbrev hs_15 (t : Fin cfg0.N) : (ms_15 t).IsWhole := hstage0_15 ((cfg0.slots t 15).cast nbuf0_15)
abbrev ms_16 (t : Fin cfg0.N) : Memref sig .tc .vmem S1x1024 .f32 := win0_16.stage (cfg0.slots t 16)
abbrev hs_16 (t : Fin cfg0.N) : (ms_16 t).IsWhole := hstage0_16 ((cfg0.slots t 16).cast nbuf0_16)
abbrev ms_17 (t : Fin cfg0.N) : Memref sig .tc .vmem S1x256x1024 .i8 := win0_17.stage (cfg0.slots t 17)
abbrev hs_17 (t : Fin cfg0.N) : (ms_17 t).IsWhole := hstage0_17 ((cfg0.slots t 17).cast nbuf0_17)
abbrev ms_18 (t : Fin cfg0.N) : Memref sig .tc .vmem S2x768 .f32 := win0_18.stage (cfg0.slots t 18)
abbrev hs_18 (t : Fin cfg0.N) : (ms_18 t).IsWhole := hstage0_18 ((cfg0.slots t 18).cast nbuf0_18)
abbrev ms_19 (t : Fin cfg0.N) : Memref sig .tc .vmem S1x256x1024 .f32 := win0_19.stage (cfg0.slots t 19)
abbrev hs_19 (t : Fin cfg0.N) : (ms_19 t).IsWhole := hstage0_19 ((cfg0.slots t 19).cast nbuf0_19)
abbrev ms_20 (t : Fin cfg0.N) : Memref sig .tc .vmem S1x1024x256 .i8 := win0_20.stage (cfg0.slots t 20)
abbrev hs_20 (t : Fin cfg0.N) : (ms_20 t).IsWhole := hstage0_20 ((cfg0.slots t 20).cast nbuf0_20)
abbrev ms_21 (t : Fin cfg0.N) : Memref sig .tc .vmem S2x768 .f32 := win0_21.stage (cfg0.slots t 21)
abbrev hs_21 (t : Fin cfg0.N) : (ms_21 t).IsWhole := hstage0_21 ((cfg0.slots t 21).cast nbuf0_21)
abbrev ms_22 (t : Fin cfg0.N) : Memref sig .tc .vmem S1x256x1024 .i8 := win0_22.stage (cfg0.slots t 22)
abbrev hs_22 (t : Fin cfg0.N) : (ms_22 t).IsWhole := hstage0_22 ((cfg0.slots t 22).cast nbuf0_22)
abbrev ms_23 (t : Fin cfg0.N) : Memref sig .tc .vmem S2x768 .f32 := win0_23.stage (cfg0.slots t 23)
abbrev hs_23 (t : Fin cfg0.N) : (ms_23 t).IsWhole := hstage0_23 ((cfg0.slots t 23).cast nbuf0_23)
abbrev ms_24 (t : Fin cfg0.N) : Memref sig .tc .vmem S1x256x4096 .i8 := win0_24.stage (cfg0.slots t 24)
abbrev hs_24 (t : Fin cfg0.N) : (ms_24 t).IsWhole := hstage0_24 ((cfg0.slots t 24).cast nbuf0_24)
abbrev ms_25 (t : Fin cfg0.N) : Memref sig .tc .vmem S2x768 .f32 := win0_25.stage (cfg0.slots t 25)
abbrev hs_25 (t : Fin cfg0.N) : (ms_25 t).IsWhole := hstage0_25 ((cfg0.slots t 25).cast nbuf0_25)

/-- The scratch copies of the three weights, from the first grid point on. -/
abbrev W27 (c : Dev nD) : Vec F S1024x1024 .bf16 := sitofp .bf16 (iblk m c 2 t0_0 : Vec F S1024x1024 .i8)
abbrev W28 (c : Dev nD) : Vec F S1024x4096 .bf16 := sitofp .bf16 (iblk m c 5 t0_0 : Vec F S1024x4096 .i8)
abbrev W29 (c : Dev nD) : Vec F S4096x1024 .bf16 := sitofp .bf16 (iblk m c 8 t0_0 : Vec F S4096x1024 .i8)

/-- What the body leaves in the result windows' staging buffers at point `t`: contents, and for a window that
    several points fill, contents as a function of those found. -/
def resAt (c : Dev nD) (t : Fin cfg0.N) : Bf (F := F) c (ms_17 t) × Bf (F := F) c (ms_19 t) × Bf (F := F) c (ms_20 t) × Bf (F := F) c (ms_22 t) × Bf (F := F) c (ms_24 t) × (Bf (F := F) c (ms_18 t) → Bf (F := F) c (ms_18 t)) × (Bf (F := F) c (ms_21 t) → Bf (F := F) c (ms_21 t)) × (Bf (F := F) c (ms_23 t) → Bf (F := F) c (ms_23 t)) × (Bf (F := F) c (ms_25 t) → Bf (F := F) c (ms_25 t)) :=
  (runRest (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) (ms_17 t) (hs_17 t) (ms_18 t) (hs_18 t) (ms_19 t) (hs_19 t) (ms_20 t) (hs_20 t) (ms_21 t) (hs_21 t) (ms_22 t) (hs_22 t) (ms_23 t) (hs_23 t) (ms_24 t) (hs_24 t) (ms_25 t) (hs_25 t) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7)
    ((hs_0 t).unread (iblk m c 0 t)) ((hs_1 t).unread (iblk m c 1 t)) ((hs_2 t).unread (iblk m c 2 t)) ((hs_3 t).unread (iblk m c 3 t)) ((hs_4 t).unread (iblk m c 4 t)) ((hs_5 t).unread (iblk m c 5 t)) ((hs_6 t).unread (iblk m c 6 t)) ((hs_7 t).unread (iblk m c 7 t)) ((hs_8 t).unread (iblk m c 8 t)) ((hs_9 t).unread (iblk m c 9 t)) ((hs_10 t).unread (iblk m c 10 t)) ((hs_11 t).unread (iblk m c 11 t)) ((hs_12 t).unread (iblk m c 12 t)) ((hs_13 t).unread (iblk m c 13 t)) ((hs_14 t).unread (iblk m c 14 t)) ((hs_15 t).unread (iblk m c 15 t)) ((hs_16 t).unread (iblk m c 16 t)) ((Memref.isWhole_whole cc0_scratch0).unread (W27 m c)) ((Memref.isWhole_whole cc0_scratch1).unread (W28 m c)) ((Memref.isWhole_whole cc0_scratch2).unread (W29 m c))).1

/-! ## The invariant over the scratch buffers -/

abbrev anyScr (c : Dev nD) : sProp 𝕄 := iprop(((∃ f, pt (F := F) c (Memref.whole cc0_scratch0) f) ∗ (∃ f, pt (F := F) c (Memref.whole cc0_scratch1) f) ∗ (∃ f, pt (F := F) c (Memref.whole cc0_scratch2) f) ∗ (∃ f, pt (F := F) c (Memref.whole cc0_scratch3) f) ∗ (∃ f, pt (F := F) c (Memref.whole cc0_scratch4) f) ∗ (∃ f, pt (F := F) c (Memref.whole cc0_scratch5) f) ∗ (∃ f, pt (F := F) c (Memref.whole cc0_scratch6) f) ∗ (∃ f, pt (F := F) c (Memref.whole cc0_scratch7) f)) ∗ ∃ r, prngReg c r)
abbrev keptScr (c : Dev nD) : sProp 𝕄 := iprop(pt (F := F) c (Memref.whole cc0_scratch0) ((Memref.isWhole_whole cc0_scratch0).unread (W27 m c)) ∗ pt (F := F) c (Memref.whole cc0_scratch1) ((Memref.isWhole_whole cc0_scratch1).unread (W28 m c)) ∗ pt (F := F) c (Memref.whole cc0_scratch2) ((Memref.isWhole_whole cc0_scratch2).unread (W29 m c)) ∗ (∃ f, pt (F := F) c (Memref.whole cc0_scratch3) f) ∗ (∃ f, pt (F := F) c (Memref.whole cc0_scratch4) f) ∗ (∃ f, pt (F := F) c (Memref.whole cc0_scratch5) f) ∗ (∃ f, pt (F := F) c (Memref.whole cc0_scratch6) f) ∗ (∃ f, pt (F := F) c (Memref.whole cc0_scratch7) f) ∗ ∃ r, prngReg c r)

theorem pt_whole (c : Dev nD) (b : Ref sig .tc) (f : Bf (F := F) c (Memref.whole b)) :
    pt (F := F) c (Memref.whole b) f = ((c : Thread nD τ).loc b ↦{fullShare} f) := by
  show ((c : Thread nD τ).loc b ↦[(View.whole b).set]{fullShare} f) = _
  rw [View.set_whole]

theorem any_whole (c : Dev nD) (b : Ref sig .tc) :
    (iprop(∃ f : Buf (Elt F) ((c : Thread nD τ).loc b), ((c : Thread nD τ).loc b) ↦{fullShare} f) : sProp 𝕄) = iprop(∃ f, pt (F := F) c (Memref.whole b) f) :=
  by congr 1; funext f; exact (pt_whole c b f).symm

theorem anyScr_eq (c : Dev nD) : (ΦA spec0 c : sProp 𝕄) = anyScr (F := F) c := by
  unfold ΦA; rw [scopedRest0_eq]; unfold anyScr
  rw [any_whole, any_whole, any_whole, any_whole, any_whole, any_whole, any_whole, any_whole]

/-! ## The relational proof data -/

/-- What the body may leave at point `t` in window `w`, given what it finds: an input as found, a result window
    that a point fills at the run's contents, one that several points fill at the run's function of what is found. -/
def aft (c : Dev nD) (w : Fin 26) (t : Fin cfg0.N) : (Y X : (cfg0.win w).block.Idx → Elt F (cfg0.win w).elt) → Prop :=
  match w with
  | ⟨0, _⟩ => fun Y X => X = Y
  | ⟨1, _⟩ => fun Y X => X = Y
  | ⟨2, _⟩ => fun Y X => X = Y
  | ⟨3, _⟩ => fun Y X => X = Y
  | ⟨4, _⟩ => fun Y X => X = Y
  | ⟨5, _⟩ => fun Y X => X = Y
  | ⟨6, _⟩ => fun Y X => X = Y
  | ⟨7, _⟩ => fun Y X => X = Y
  | ⟨8, _⟩ => fun Y X => X = Y
  | ⟨9, _⟩ => fun Y X => X = Y
  | ⟨10, _⟩ => fun Y X => X = Y
  | ⟨11, _⟩ => fun Y X => X = Y
  | ⟨12, _⟩ => fun Y X => X = Y
  | ⟨13, _⟩ => fun Y X => X = Y
  | ⟨14, _⟩ => fun Y X => X = Y
  | ⟨15, _⟩ => fun Y X => X = Y
  | ⟨16, _⟩ => fun Y X => X = Y
  | ⟨17, _⟩ => fun _ X => X = (ms_17 t).view.read (Elt F) (resAt m c t).1
  | ⟨18, _⟩ => fun Y X => X = (ms_18 t).view.read (Elt F) ((resAt m c t).2.2.2.2.2.1 ((hs_18 t).unread Y))
  | ⟨19, _⟩ => fun _ X => X = (ms_19 t).view.read (Elt F) (resAt m c t).2.1
  | ⟨20, _⟩ => fun _ X => X = (ms_20 t).view.read (Elt F) (resAt m c t).2.2.1
  | ⟨21, _⟩ => fun Y X => X = (ms_21 t).view.read (Elt F) ((resAt m c t).2.2.2.2.2.2.1 ((hs_21 t).unread Y))
  | ⟨22, _⟩ => fun _ X => X = (ms_22 t).view.read (Elt F) (resAt m c t).2.2.2.1
  | ⟨23, _⟩ => fun Y X => X = (ms_23 t).view.read (Elt F) ((resAt m c t).2.2.2.2.2.2.2.1 ((hs_23 t).unread Y))
  | ⟨24, _⟩ => fun _ X => X = (ms_24 t).view.read (Elt F) (resAt m c t).2.2.2.2.1
  | ⟨25, _⟩ => fun Y X => X = (ms_25 t).view.read (Elt F) ((resAt m c t).2.2.2.2.2.2.2.2 ((hs_25 t).unread Y))
  | ⟨k + 26, h⟩ => (Nat.not_lt_of_le (Nat.le_add_left 26 k) h).elim

def rdat (c : Dev nD) : RDat τ (Elt F) Unit ℕ (UR sig nD τ) ℕ cfg0 c where
  A w := V m c (Pipeline.arrRef spec0 w)
  after w t := aft m c w t
  Φ t := if t.val = 0 then anyScr (F := F) c else keptScr m c
  q _ := fullShare
  owed _ := 0

theorem own_elim {c : Dev nD} {sp : Space} {S : Shape} {e : EltTy} {M : Memref sig .tc sp S e} (h : M.IsWhole) (Y : Vec F S e) :
    (owns c M fullShare Y : sProp 𝕄) ⊢ pt (F := F) c M (h.unread Y) := by
  unfold owns
  iintro ⟨%f, %hf, H⟩
  obtain rfl := h.eq_unread hf
  iexact H

theorem own_intro {c : Dev nD} {sp : Space} {S : Shape} {e : EltTy} {M : Memref sig .tc sp S e} {P : Vec F S e → Prop} {f : Bf (F := F) c M}
    (hP : P (M.view.read (Elt F) f)) : (pt (F := F) c M f : sProp 𝕄) ⊢ iprop(∃ X, ⌜P X⌝ ∗ owns c M fullShare X) := by
  iintro H
  iexists _
  isplitr
  · ipureintro; exact hP
  unfold owns
  iexists _
  isplitr
  · ipureintro; rfl
  iexact H

theorem finds_0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  rfl
theorem finds_1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  rfl
theorem finds_2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  rfl
theorem finds_3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  rfl
theorem finds_4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  rfl
theorem finds_5 (c : Dev nD) (t : Fin cfg0.N) (Y) (h : (rdat m c).Finds 5 t Y) : Y = iblk m c 5 t := by
  obtain ⟨d, rfl⟩ := (rdat m c).finds_in_eq_fetched 5 rfl (fun _ _ _ => rfl) (fun _ _ _ h => h) t Y h
  rfl
theorem finds_6 (c : Dev nD) (t : Fin cfg0.N) (Y) (h : (rdat m c).Finds 6 t Y) : Y = iblk m c 6 t := by
  obtain ⟨d, rfl⟩ := (rdat m c).finds_in_eq_fetched 6 rfl (fun _ _ _ => rfl) (fun _ _ _ h => h) t Y h
  rfl
theorem finds_7 (c : Dev nD) (t : Fin cfg0.N) (Y) (h : (rdat m c).Finds 7 t Y) : Y = iblk m c 7 t := by
  obtain ⟨d, rfl⟩ := (rdat m c).finds_in_eq_fetched 7 rfl (fun _ _ _ => rfl) (fun _ _ _ h => h) t Y h
  rfl
theorem finds_8 (c : Dev nD) (t : Fin cfg0.N) (Y) (h : (rdat m c).Finds 8 t Y) : Y = iblk m c 8 t := by
  obtain ⟨d, rfl⟩ := (rdat m c).finds_in_eq_fetched 8 rfl (fun _ _ _ => rfl) (fun _ _ _ h => h) t Y h
  rfl
theorem finds_9 (c : Dev nD) (t : Fin cfg0.N) (Y) (h : (rdat m c).Finds 9 t Y) : Y = iblk m c 9 t := by
  obtain ⟨d, rfl⟩ := (rdat m c).finds_in_eq_fetched 9 rfl (fun _ _ _ => rfl) (fun _ _ _ h => h) t Y h
  rfl
theorem finds_10 (c : Dev nD) (t : Fin cfg0.N) (Y) (h : (rdat m c).Finds 10 t Y) : Y = iblk m c 10 t := by
  obtain ⟨d, rfl⟩ := (rdat m c).finds_in_eq_fetched 10 rfl (fun _ _ _ => rfl) (fun _ _ _ h => h) t Y h
  rfl
theorem finds_11 (c : Dev nD) (t : Fin cfg0.N) (Y) (h : (rdat m c).Finds 11 t Y) : Y = iblk m c 11 t := by
  obtain ⟨d, rfl⟩ := (rdat m c).finds_in_eq_fetched 11 rfl (fun _ _ _ => rfl) (fun _ _ _ h => h) t Y h
  rfl
theorem finds_12 (c : Dev nD) (t : Fin cfg0.N) (Y) (h : (rdat m c).Finds 12 t Y) : Y = iblk m c 12 t := by
  obtain ⟨d, rfl⟩ := (rdat m c).finds_in_eq_fetched 12 rfl (fun _ _ _ => rfl) (fun _ _ _ h => h) t Y h
  rfl
theorem finds_13 (c : Dev nD) (t : Fin cfg0.N) (Y) (h : (rdat m c).Finds 13 t Y) : Y = iblk m c 13 t := by
  obtain ⟨d, rfl⟩ := (rdat m c).finds_in_eq_fetched 13 rfl (fun _ _ _ => rfl) (fun _ _ _ h => h) t Y h
  rfl
theorem finds_14 (c : Dev nD) (t : Fin cfg0.N) (Y) (h : (rdat m c).Finds 14 t Y) : Y = iblk m c 14 t := by
  obtain ⟨d, rfl⟩ := (rdat m c).finds_in_eq_fetched 14 rfl (fun _ _ _ => rfl) (fun _ _ _ h => h) t Y h
  rfl
theorem finds_15 (c : Dev nD) (t : Fin cfg0.N) (Y) (h : (rdat m c).Finds 15 t Y) : Y = iblk m c 15 t := by
  obtain ⟨d, rfl⟩ := (rdat m c).finds_in_eq_fetched 15 rfl (fun _ _ _ => rfl) (fun _ _ _ h => h) t Y h
  rfl
theorem finds_16 (c : Dev nD) (t : Fin cfg0.N) (Y) (h : (rdat m c).Finds 16 t Y) : Y = iblk m c 16 t := by
  obtain ⟨d, rfl⟩ := (rdat m c).finds_in_eq_fetched 16 rfl (fun _ _ _ => rfl) (fun _ _ _ h => h) t Y h
  rfl

theorem first_iff : ∀ t : Fin cfg0.N, k0_cond1 (grid0.coords t) = 1#1 ↔ t.val = 0 := by decide +kernel

end Cert.Kernel.Body
-- ==== Proof.Oblig.lean ====
module

public import proofs.«01_k».proof.Proof.Gen.Kernel.Frame
public import proofs.«01_k».proof.Proof.Gen.Kernel.Skeleton
public import proofs.«01_k».proof.Proof.Gen.Kernel.Loops
public import Idealize.ShloMosaic.Lib.Tactic
public import proofs.«01_k».proof.Proof.Data

@[expose] public section

set_option maxRecDepth 16384
set_option maxHeartbeats 1000000

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat RDat Cfg Window cellOf ΦA)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem resAt_eq (c : Dev nD) (t : Fin cfg0.N) : (runRest (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) (ms_17 t) (hs_17 t) (ms_18 t) (hs_18 t) (ms_19 t) (hs_19 t) (ms_20 t) (hs_20 t) (ms_21 t) (hs_21 t) (ms_22 t) (hs_22 t) (ms_23 t) (hs_23 t) (ms_24 t) (hs_24 t) (ms_25 t) (hs_25 t) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7)
    ((hs_0 t).unread (iblk m c 0 t)) ((hs_1 t).unread (iblk m c 1 t)) ((hs_2 t).unread (iblk m c 2 t)) ((hs_3 t).unread (iblk m c 3 t)) ((hs_4 t).unread (iblk m c 4 t)) ((hs_5 t).unread (iblk m c 5 t)) ((hs_6 t).unread (iblk m c 6 t)) ((hs_7 t).unread (iblk m c 7 t)) ((hs_8 t).unread (iblk m c 8 t)) ((hs_9 t).unread (iblk m c 9 t)) ((hs_10 t).unread (iblk m c 10 t)) ((hs_11 t).unread (iblk m c 11 t)) ((hs_12 t).unread (iblk m c 12 t)) ((hs_13 t).unread (iblk m c 13 t)) ((hs_14 t).unread (iblk m c 14 t)) ((hs_15 t).unread (iblk m c 15 t)) ((hs_16 t).unread (iblk m c 16 t)) ((Memref.isWhole_whole cc0_scratch0).unread (W27 m c)) ((Memref.isWhole_whole cc0_scratch1).unread (W28 m c)) ((Memref.isWhole_whole cc0_scratch2).unread (W29 m c))).1 = resAt m c t := by unfold resAt; rfl

/-- The body's obligation at a point. -/
theorem body_obligation (c : Dev nD) : (rdat (F := F) m c).BodyObligation defs₀ Variants.none () Set.univ := fun t Y hY => by
  have hΦ0 : (rdat (F := F) m c).Φ t.castSucc = if t.val = 0 then anyScr (F := F) c else keptScr m c := rfl
  have hΦ1 : (rdat (F := F) m c).Φ t.succ = keptScr m c := rfl
  rw [hΦ0, hΦ1]
  rw [bigSep_W0, bigSep_W0]
  rw [finds_0 m c t _ (hY 0), finds_1 m c t _ (hY 1), finds_2 m c t _ (hY 2), finds_3 m c t _ (hY 3), finds_4 m c t _ (hY 4), finds_5 m c t _ (hY 5), finds_6 m c t _ (hY 6), finds_7 m c t _ (hY 7), finds_8 m c t _ (hY 8), finds_9 m c t _ (hY 9), finds_10 m c t _ (hY 10), finds_11 m c t _ (hY 11), finds_12 m c t _ (hY 12), finds_13 m c t _ (hY 13), finds_14 m c t _ (hY 14), finds_15 m c t _ (hY 15), finds_16 m c t _ (hY 16)]
  sl_whnfR [defs₀, Defs.onTc]
  rw [show (rdat (F := F) m c).owesAt () t.succ = (rdat (F := F) m c).owesAt () t.castSucc from rfl]
  by_cases hc : k0_cond1 (grid0.coords t) = 1#1
  · have ht : t.val = 0 := (first_iff t).mp hc
    obtain rfl : t = t0_0 := Fin.ext ht
    rw [if_pos ht]
    iintro ⟨⟨⟨⟨%f27, H27⟩, ⟨%f28, H28⟩, ⟨%f29, H29⟩, H30, H31, H32, H33, H34⟩, Hr⟩, Ho, H1, H2, H3, H4, H5, H6, H7, H8, H9, H10, H11, H12, H13, H14, H15, H16, H17, H18, H19, H20, H21, H22, H23, H24, H25, H26⟩
    iapply (wp_first c (grid0.coords t0_0) (ms_0 t0_0) (hs_0 t0_0) (ms_1 t0_0) (hs_1 t0_0) (ms_2 t0_0) (hs_2 t0_0) (ms_3 t0_0) (hs_3 t0_0) (ms_4 t0_0) (hs_4 t0_0) (ms_5 t0_0) (hs_5 t0_0) (ms_6 t0_0) (hs_6 t0_0) (ms_7 t0_0) (hs_7 t0_0) (ms_8 t0_0) (hs_8 t0_0) (ms_9 t0_0) (hs_9 t0_0) (ms_10 t0_0) (hs_10 t0_0) (ms_11 t0_0) (hs_11 t0_0) (ms_12 t0_0) (hs_12 t0_0) (ms_13 t0_0) (hs_13 t0_0) (ms_14 t0_0) (hs_14 t0_0) (ms_15 t0_0) (hs_15 t0_0) (ms_16 t0_0) (hs_16 t0_0) (ms_17 t0_0) (hs_17 t0_0) (ms_18 t0_0) (hs_18 t0_0) (ms_19 t0_0) (hs_19 t0_0) (ms_20 t0_0) (hs_20 t0_0) (ms_21 t0_0) (hs_21 t0_0) (ms_22 t0_0) (hs_22 t0_0) (ms_23 t0_0) (hs_23 t0_0) (ms_24 t0_0) (hs_24 t0_0) (ms_25 t0_0) (hs_25 t0_0) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) hc (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) ((hs_17 t0_0).unread (Y 17)) ((hs_18 t0_0).unread (Y 18)) ((hs_19 t0_0).unread (Y 19)) ((hs_20 t0_0).unread (Y 20)) ((hs_21 t0_0).unread (Y 21)) ((hs_22 t0_0).unread (Y 22)) ((hs_23 t0_0).unread (Y 23)) ((hs_24 t0_0).unread (Y 24)) ((hs_25 t0_0).unread (Y 25)) f27 f28 f29 (resAt m c t0_0) (resAt_eq m c t0_0) Set.univ _)
    isplitl [H1]; · iapply (own_elim (hs_0 t0_0) (iblk m c 0 t0_0)); iexact H1
    isplitl [H2]; · iapply (own_elim (hs_1 t0_0) (iblk m c 1 t0_0)); iexact H2
    isplitl [H3]; · iapply (own_elim (hs_2 t0_0) (iblk m c 2 t0_0)); iexact H3
    isplitl [H4]; · iapply (own_elim (hs_3 t0_0) (iblk m c 3 t0_0)); iexact H4
    isplitl [H5]; · iapply (own_elim (hs_4 t0_0) (iblk m c 4 t0_0)); iexact H5
    isplitl [H6]; · iapply (own_elim (hs_5 t0_0) (iblk m c 5 t0_0)); iexact H6
    isplitl [H7]; · iapply (own_elim (hs_6 t0_0) (iblk m c 6 t0_0)); iexact H7
    isplitl [H8]; · iapply (own_elim (hs_7 t0_0) (iblk m c 7 t0_0)); iexact H8
    isplitl [H9]; · iapply (own_elim (hs_8 t0_0) (iblk m c 8 t0_0)); iexact H9
    isplitl [H10]; · iapply (own_elim (hs_9 t0_0) (iblk m c 9 t0_0)); iexact H10
    isplitl [H11]; · iapply (own_elim (hs_10 t0_0) (iblk m c 10 t0_0)); iexact H11
    isplitl [H12]; · iapply (own_elim (hs_11 t0_0) (iblk m c 11 t0_0)); iexact H12
    isplitl [H13]; · iapply (own_elim (hs_12 t0_0) (iblk m c 12 t0_0)); iexact H13
    isplitl [H14]; · iapply (own_elim (hs_13 t0_0) (iblk m c 13 t0_0)); iexact H14
    isplitl [H15]; · iapply (own_elim (hs_14 t0_0) (iblk m c 14 t0_0)); iexact H15
    isplitl [H16]; · iapply (own_elim (hs_15 t0_0) (iblk m c 15 t0_0)); iexact H16
    isplitl [H17]; · iapply (own_elim (hs_16 t0_0) (iblk m c 16 t0_0)); iexact H17
    isplitl [H18]; · iapply (own_elim (hs_17 t0_0) (Y 17)); iexact H18
    isplitl [H19]; · iapply (own_elim (hs_18 t0_0) (Y 18)); iexact H19
    isplitl [H20]; · iapply (own_elim (hs_19 t0_0) (Y 19)); iexact H20
    isplitl [H21]; · iapply (own_elim (hs_20 t0_0) (Y 20)); iexact H21
    isplitl [H22]; · iapply (own_elim (hs_21 t0_0) (Y 21)); iexact H22
    isplitl [H23]; · iapply (own_elim (hs_22 t0_0) (Y 22)); iexact H23
    isplitl [H24]; · iapply (own_elim (hs_23 t0_0) (Y 23)); iexact H24
    isplitl [H25]; · iapply (own_elim (hs_24 t0_0) (Y 24)); iexact H25
    isplitl [H26]; · iapply (own_elim (hs_25 t0_0) (Y 25)); iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    iintro ⟨H1, H2, H3, H4, H5, H6, H7, H8, H9, H10, H11, H12, H13, H14, H15, H16, H17, H18, H19, H20, H21, H22, H23, H24, H25, H26, H27, H28, H29, H30, H31, H32, H33, H34⟩
    isplitl [H27 H28 H29 H30 H31 H32 H33 H34 Hr]
    · isplitl [H27]; · iexact H27
      isplitl [H28]; · iexact H28
      isplitl [H29]; · iexact H29
      isplitl [H30]; · iexact H30
      isplitl [H31]; · iexact H31
      isplitl [H32]; · iexact H32
      isplitl [H33]; · iexact H33
      isplitl [H34]; · iexact H34
      iexact Hr
    isplitl [Ho]; · iexact Ho
    isplitl [H1]; · iapply (own_intro (P := aft m c 0 t0_0 (iblk m c 0 t0_0)) ((hs_0 t0_0).read_unread (iblk m c 0 t0_0))); iexact H1
    isplitl [H2]; · iapply (own_intro (P := aft m c 1 t0_0 (iblk m c 1 t0_0)) ((hs_1 t0_0).read_unread (iblk m c 1 t0_0))); iexact H2
    isplitl [H3]; · iapply (own_intro (P := aft m c 2 t0_0 (iblk m c 2 t0_0)) ((hs_2 t0_0).read_unread (iblk m c 2 t0_0))); iexact H3
    isplitl [H4]; · iapply (own_intro (P := aft m c 3 t0_0 (iblk m c 3 t0_0)) ((hs_3 t0_0).read_unread (iblk m c 3 t0_0))); iexact H4
    isplitl [H5]; · iapply (own_intro (P := aft m c 4 t0_0 (iblk m c 4 t0_0)) ((hs_4 t0_0).read_unread (iblk m c 4 t0_0))); iexact H5
    isplitl [H6]; · iapply (own_intro (P := aft m c 5 t0_0 (iblk m c 5 t0_0)) ((hs_5 t0_0).read_unread (iblk m c 5 t0_0))); iexact H6
    isplitl [H7]; · iapply (own_intro (P := aft m c 6 t0_0 (iblk m c 6 t0_0)) ((hs_6 t0_0).read_unread (iblk m c 6 t0_0))); iexact H7
    isplitl [H8]; · iapply (own_intro (P := aft m c 7 t0_0 (iblk m c 7 t0_0)) ((hs_7 t0_0).read_unread (iblk m c 7 t0_0))); iexact H8
    isplitl [H9]; · iapply (own_intro (P := aft m c 8 t0_0 (iblk m c 8 t0_0)) ((hs_8 t0_0).read_unread (iblk m c 8 t0_0))); iexact H9
    isplitl [H10]; · iapply (own_intro (P := aft m c 9 t0_0 (iblk m c 9 t0_0)) ((hs_9 t0_0).read_unread (iblk m c 9 t0_0))); iexact H10
    isplitl [H11]; · iapply (own_intro (P := aft m c 10 t0_0 (iblk m c 10 t0_0)) ((hs_10 t0_0).read_unread (iblk m c 10 t0_0))); iexact H11
    isplitl [H12]; · iapply (own_intro (P := aft m c 11 t0_0 (iblk m c 11 t0_0)) ((hs_11 t0_0).read_unread (iblk m c 11 t0_0))); iexact H12
    isplitl [H13]; · iapply (own_intro (P := aft m c 12 t0_0 (iblk m c 12 t0_0)) ((hs_12 t0_0).read_unread (iblk m c 12 t0_0))); iexact H13
    isplitl [H14]; · iapply (own_intro (P := aft m c 13 t0_0 (iblk m c 13 t0_0)) ((hs_13 t0_0).read_unread (iblk m c 13 t0_0))); iexact H14
    isplitl [H15]; · iapply (own_intro (P := aft m c 14 t0_0 (iblk m c 14 t0_0)) ((hs_14 t0_0).read_unread (iblk m c 14 t0_0))); iexact H15
    isplitl [H16]; · iapply (own_intro (P := aft m c 15 t0_0 (iblk m c 15 t0_0)) ((hs_15 t0_0).read_unread (iblk m c 15 t0_0))); iexact H16
    isplitl [H17]; · iapply (own_intro (P := aft m c 16 t0_0 (iblk m c 16 t0_0)) ((hs_16 t0_0).read_unread (iblk m c 16 t0_0))); iexact H17
    isplitl [H18]; · iapply (own_intro (P := aft m c 17 t0_0 (Y 17)) rfl); iexact H18
    isplitl [H19]; · iapply (own_intro (P := aft m c 18 t0_0 (Y 18)) rfl); iexact H19
    isplitl [H20]; · iapply (own_intro (P := aft m c 19 t0_0 (Y 19)) rfl); iexact H20
    isplitl [H21]; · iapply (own_intro (P := aft m c 20 t0_0 (Y 20)) rfl); iexact H21
    isplitl [H22]; · iapply (own_intro (P := aft m c 21 t0_0 (Y 21)) rfl); iexact H22
    isplitl [H23]; · iapply (own_intro (P := aft m c 22 t0_0 (Y 22)) rfl); iexact H23
    isplitl [H24]; · iapply (own_intro (P := aft m c 23 t0_0 (Y 23)) rfl); iexact H24
    isplitl [H25]; · iapply (own_intro (P := aft m c 24 t0_0 (Y 24)) rfl); iexact H25
    iapply (own_intro (P := aft m c 25 t0_0 (Y 25)) rfl); iexact H26
  · rw [if_neg (fun ht => hc ((first_iff t).mpr ht))]
    iintro ⟨⟨H27, H28, H29, H30, H31, H32, H33, H34, Hr⟩, Ho, H1, H2, H3, H4, H5, H6, H7, H8, H9, H10, H11, H12, H13, H14, H15, H16, H17, H18, H19, H20, H21, H22, H23, H24, H25, H26⟩
    iapply (wp_later c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) (ms_17 t) (hs_17 t) (ms_18 t) (hs_18 t) (ms_19 t) (hs_19 t) (ms_20 t) (hs_20 t) (ms_21 t) (hs_21 t) (ms_22 t) (hs_22 t) (ms_23 t) (hs_23 t) (ms_24 t) (hs_24 t) (ms_25 t) (hs_25 t) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (W27 m c) (W28 m c) (W29 m c) ((hs_17 t).unread (Y 17)) ((hs_18 t).unread (Y 18)) ((hs_19 t).unread (Y 19)) ((hs_20 t).unread (Y 20)) ((hs_21 t).unread (Y 21)) ((hs_22 t).unread (Y 22)) ((hs_23 t).unread (Y 23)) ((hs_24 t).unread (Y 24)) ((hs_25 t).unread (Y 25)) (resAt m c t) (resAt_eq m c t) Set.univ _)
    isplitl [H1]; · iapply (own_elim (hs_0 t) (iblk m c 0 t)); iexact H1
    isplitl [H2]; · iapply (own_elim (hs_1 t) (iblk m c 1 t)); iexact H2
    isplitl [H3]; · iapply (own_elim (hs_2 t) (iblk m c 2 t)); iexact H3
    isplitl [H4]; · iapply (own_elim (hs_3 t) (iblk m c 3 t)); iexact H4
    isplitl [H5]; · iapply (own_elim (hs_4 t) (iblk m c 4 t)); iexact H5
    isplitl [H6]; · iapply (own_elim (hs_5 t) (iblk m c 5 t)); iexact H6
    isplitl [H7]; · iapply (own_elim (hs_6 t) (iblk m c 6 t)); iexact H7
    isplitl [H8]; · iapply (own_elim (hs_7 t) (iblk m c 7 t)); iexact H8
    isplitl [H9]; · iapply (own_elim (hs_8 t) (iblk m c 8 t)); iexact H9
    isplitl [H10]; · iapply (own_elim (hs_9 t) (iblk m c 9 t)); iexact H10
    isplitl [H11]; · iapply (own_elim (hs_10 t) (iblk m c 10 t)); iexact H11
    isplitl [H12]; · iapply (own_elim (hs_11 t) (iblk m c 11 t)); iexact H12
    isplitl [H13]; · iapply (own_elim (hs_12 t) (iblk m c 12 t)); iexact H13
    isplitl [H14]; · iapply (own_elim (hs_13 t) (iblk m c 13 t)); iexact H14
    isplitl [H15]; · iapply (own_elim (hs_14 t) (iblk m c 14 t)); iexact H15
    isplitl [H16]; · iapply (own_elim (hs_15 t) (iblk m c 15 t)); iexact H16
    isplitl [H17]; · iapply (own_elim (hs_16 t) (iblk m c 16 t)); iexact H17
    isplitl [H18]; · iapply (own_elim (hs_17 t) (Y 17)); iexact H18
    isplitl [H19]; · iapply (own_elim (hs_18 t) (Y 18)); iexact H19
    isplitl [H20]; · iapply (own_elim (hs_19 t) (Y 19)); iexact H20
    isplitl [H21]; · iapply (own_elim (hs_20 t) (Y 20)); iexact H21
    isplitl [H22]; · iapply (own_elim (hs_21 t) (Y 21)); iexact H22
    isplitl [H23]; · iapply (own_elim (hs_22 t) (Y 22)); iexact H23
    isplitl [H24]; · iapply (own_elim (hs_23 t) (Y 23)); iexact H24
    isplitl [H25]; · iapply (own_elim (hs_24 t) (Y 24)); iexact H25
    isplitl [H26]; · iapply (own_elim (hs_25 t) (Y 25)); iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    iintro ⟨H1, H2, H3, H4, H5, H6, H7, H8, H9, H10, H11, H12, H13, H14, H15, H16, H17, H18, H19, H20, H21, H22, H23, H24, H25, H26, H27, H28, H29, H30, H31, H32, H33, H34⟩
    isplitl [H27 H28 H29 H30 H31 H32 H33 H34 Hr]
    · isplitl [H27]; · iexact H27
      isplitl [H28]; · iexact H28
      isplitl [H29]; · iexact H29
      isplitl [H30]; · iexact H30
      isplitl [H31]; · iexact H31
      isplitl [H32]; · iexact H32
      isplitl [H33]; · iexact H33
      isplitl [H34]; · iexact H34
      iexact Hr
    isplitl [Ho]; · iexact Ho
    isplitl [H1]; · iapply (own_intro (P := aft m c 0 t (iblk m c 0 t)) ((hs_0 t).read_unread (iblk m c 0 t))); iexact H1
    isplitl [H2]; · iapply (own_intro (P := aft m c 1 t (iblk m c 1 t)) ((hs_1 t).read_unread (iblk m c 1 t))); iexact H2
    isplitl [H3]; · iapply (own_intro (P := aft m c 2 t (iblk m c 2 t)) ((hs_2 t).read_unread (iblk m c 2 t))); iexact H3
    isplitl [H4]; · iapply (own_intro (P := aft m c 3 t (iblk m c 3 t)) ((hs_3 t).read_unread (iblk m c 3 t))); iexact H4
    isplitl [H5]; · iapply (own_intro (P := aft m c 4 t (iblk m c 4 t)) ((hs_4 t).read_unread (iblk m c 4 t))); iexact H5
    isplitl [H6]; · iapply (own_intro (P := aft m c 5 t (iblk m c 5 t)) ((hs_5 t).read_unread (iblk m c 5 t))); iexact H6
    isplitl [H7]; · iapply (own_intro (P := aft m c 6 t (iblk m c 6 t)) ((hs_6 t).read_unread (iblk m c 6 t))); iexact H7
    isplitl [H8]; · iapply (own_intro (P := aft m c 7 t (iblk m c 7 t)) ((hs_7 t).read_unread (iblk m c 7 t))); iexact H8
    isplitl [H9]; · iapply (own_intro (P := aft m c 8 t (iblk m c 8 t)) ((hs_8 t).read_unread (iblk m c 8 t))); iexact H9
    isplitl [H10]; · iapply (own_intro (P := aft m c 9 t (iblk m c 9 t)) ((hs_9 t).read_unread (iblk m c 9 t))); iexact H10
    isplitl [H11]; · iapply (own_intro (P := aft m c 10 t (iblk m c 10 t)) ((hs_10 t).read_unread (iblk m c 10 t))); iexact H11
    isplitl [H12]; · iapply (own_intro (P := aft m c 11 t (iblk m c 11 t)) ((hs_11 t).read_unread (iblk m c 11 t))); iexact H12
    isplitl [H13]; · iapply (own_intro (P := aft m c 12 t (iblk m c 12 t)) ((hs_12 t).read_unread (iblk m c 12 t))); iexact H13
    isplitl [H14]; · iapply (own_intro (P := aft m c 13 t (iblk m c 13 t)) ((hs_13 t).read_unread (iblk m c 13 t))); iexact H14
    isplitl [H15]; · iapply (own_intro (P := aft m c 14 t (iblk m c 14 t)) ((hs_14 t).read_unread (iblk m c 14 t))); iexact H15
    isplitl [H16]; · iapply (own_intro (P := aft m c 15 t (iblk m c 15 t)) ((hs_15 t).read_unread (iblk m c 15 t))); iexact H16
    isplitl [H17]; · iapply (own_intro (P := aft m c 16 t (iblk m c 16 t)) ((hs_16 t).read_unread (iblk m c 16 t))); iexact H17
    isplitl [H18]; · iapply (own_intro (P := aft m c 17 t (Y 17)) rfl); iexact H18
    isplitl [H19]; · iapply (own_intro (P := aft m c 18 t (Y 18)) rfl); iexact H19
    isplitl [H20]; · iapply (own_intro (P := aft m c 19 t (Y 19)) rfl); iexact H20
    isplitl [H21]; · iapply (own_intro (P := aft m c 20 t (Y 20)) rfl); iexact H21
    isplitl [H22]; · iapply (own_intro (P := aft m c 21 t (Y 21)) rfl); iexact H22
    isplitl [H23]; · iapply (own_intro (P := aft m c 22 t (Y 22)) rfl); iexact H23
    isplitl [H24]; · iapply (own_intro (P := aft m c 23 t (Y 23)) rfl); iexact H24
    isplitl [H25]; · iapply (own_intro (P := aft m c 24 t (Y 24)) rfl); iexact H25
    iapply (own_intro (P := aft m c 25 t (Y 25)) rfl); iexact H26
end Cert.Kernel.Body
-- ==== Proof.Run.lean ====
module

public import proofs.«01_k».proof.Proof.Gen.Kernel.Frame
public import proofs.«01_k».proof.Proof.Gen.Kernel.Skeleton
public import proofs.«01_k».proof.Proof.Gen.Kernel.Loops
public import Idealize.ShloMosaic.Lib.Tactic
public import proofs.«01_k».proof.Proof.Oblig

@[expose] public section

set_option maxRecDepth 16384
set_option maxHeartbeats 1000000

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat RDat Cfg Window cellOf ΦA)
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The weights copied to scratch are forgotten. -/
theorem kept_any (c : Dev nD) : keptScr m c ⊢ anyScr (F := F) c := by
  unfold keptScr anyScr
  iintro ⟨H27, H28, H29, H30, H31, H32, H33, H34, Hr⟩
  isplitl [H27 H28 H29 H30 H31 H32 H33 H34]
  · isplitl [H27]; · iexists _; iexact H27
    isplitl [H28]; · iexists _; iexact H28
    isplitl [H29]; · iexists _; iexact H29
    isplitl [H30]; · iexact H30
    isplitl [H31]; · iexact H31
    isplitl [H32]; · iexact H32
    isplitl [H33]; · iexact H33
    iexact H34
  iexact Hr

set_option backward.isDefEq.respectTransparency.types false in
/-- Every execution ends, with each array at contents the data allow and every counter at zero. -/
theorem run_main : θ_run defs (onTc (τ := τ) (main (F := F))) (s₀ m ρ)
    (fun r => Pipeline.RDat.FramePost cfg0 (rdat m) (V m) r ∧ r.2.sem = fun _ => 0) :=
  Pipeline.RDat.θ_run_frame_track (Q' := _) cfgs (0 : Fin 1) launch0 defs₀ Variants.none (rdat m) m ρ main
    (hbody := body_obligation m) (hshare := fun c w => show (if (cfg0.win w).isOut then fullShare else fullShare) = fullShare from ite_self _) (howed := fun _ _ => rfl) (V := V m)
    (hmain := hmain m Variants.none) (hA := fun _ _ => rfl)
    (hin := fun c => by rw [show Pipeline.ΦA (cfgs 0).spec c = anyScr (F := F) c from anyScr_eq c]; exact .rfl)
    (hout := fun c => by rw [show Pipeline.ΦA (cfgs 0).spec c = anyScr (F := F) c from anyScr_eq c]; exact kept_any m c)

/-- The argument arrays end as they began. -/
theorem args_kept {r} (h : Pipeline.RDat.FramePost cfg0 (rdat (F := F) m) (V m) r ∧ r.2.sem = fun _ => 0) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨(h.1.arr_in c 0 rfl).trans (V_main_arg0 m c),
    (h.1.arr_in c 1 rfl).trans (V_main_arg1 m c),
    (h.1.arr_in c 2 rfl).trans (V_main_arg2 m c),
    (h.1.arr_in c 3 rfl).trans (V_main_arg3 m c),
    (h.1.arr_in c 4 rfl).trans (V_main_arg4 m c),
    (h.1.arr_in c 5 rfl).trans (V_main_arg5 m c),
    (h.1.arr_in c 6 rfl).trans (V_main_arg6 m c),
    (h.1.arr_in c 7 rfl).trans (V_main_arg7 m c),
    (h.1.arr_in c 8 rfl).trans (V_main_arg8 m c),
    (h.1.arr_in c 9 rfl).trans (V_main_arg9 m c),
    (h.1.arr_in c 10 rfl).trans (V_main_arg10 m c),
    (h.1.arr_in c 11 rfl).trans (V_main_arg11 m c),
    (h.1.arr_in c 12 rfl).trans (V_main_arg12 m c),
    (h.1.arr_in c 13 rfl).trans (V_main_arg13 m c),
    (h.1.arr_in c 14 rfl).trans (V_main_arg14 m c),
    (h.1.arr_in c 15 rfl).trans (V_main_arg15 m c),
    (h.1.arr_in c 16 rfl).trans (V_main_arg16 m c)⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun _ h => ⟨args_kept m h, h.2⟩) (run_main m ρ)
end Cert.Kernel.Body
-- ==== Proof.Ideal.Weights.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import Idealize.ShloMosaic.Lib.WritesUnit
public import Idealize.ShloMosaic.Lib.Pointwise

@[expose] public section

set_option maxRecDepth 16384
set_option maxHeartbeats 400000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- Rows converted 128 at a time: the first `k` pieces cover the first `128 k` rows, each piece agreeing with `G`. -/
theorem read_rows {sp : Space} {d : Fin 2 → ℕ} {e : EltTy} (M : View sig .tc sp (⟨2, d⟩ : Shape) e) (f : M.ty.Contents (Elt F))
    (G : (⟨2, d⟩ : Shape).Idx → Elt F e) (n : ℕ) (pb : ℕ → List (View.Piece (Elt F) (⟨2, d⟩ : Shape) e)) (size : Fin 2 → ℕ)
    (hW : size (0 : Fin 2) = 128) (hD : size (1 : Fin 2) = d (1 : Fin 2))
    (hs : ∀ k : Fin n, ∃ (off : Fin 2 → ℕ) (inb : ∀ a : Fin 2, off a + size a ≤ d a)
      (w : (Rect.unit (s := ⟨2, d⟩) off size inb).shape.Idx → Elt F e), off = ![128 * k.val, 0]
        ∧ (∀ x, w x = G ((Rect.unit (s := ⟨2, d⟩) off size inb).emb x))
        ∧ pb (k.val + 1) = (⟨Rect.unit (s := ⟨2, d⟩) off size inb, w⟩ : View.Piece (Elt F) (⟨2, d⟩ : Shape) e) :: pb k.val) :
    ∀ (k : ℕ), k ≤ n → ∀ y : (⟨2, d⟩ : Shape).Idx, (y (0 : Fin 2)).val < 128 * k → M.read (Elt F) (M.writes (Elt F) f (pb k)) y = G y
  | 0, _, y, hy => absurd hy (by omega)
  | k + 1, hk, y, hy => by
    obtain ⟨off, inb, w, hoff, hw, hpb⟩ := hs ⟨k, hk⟩
    rw [hpb]
    by_cases h : 128 * k ≤ (y (0 : Fin 2)).val
    · subst hoff
      have hm : y ∈ (Rect.unit (s := ⟨2, d⟩) ![128 * k, 0] size inb).set := by
        rw [Rect.mem_set_unit]
        exact Rect.unit_rows_mem y hW hD ⟨h, by omega⟩
      obtain ⟨x, rfl⟩ := (Rect.unit (s := ⟨2, d⟩) ![128 * k, 0] size inb).exists_idx_of_mem hm
      exact (View.read_writes_cons_emb M f _ w _ x).trans (hw x)
    · rw [View.read_writes_cons_rows_of_not_mem M f inb w _ y hoff hW (.inl (by show (y (0 : Fin 2)).val < 128 * k; omega))]
      exact read_rows M f G n pb size hW hD hs k (by omega) y (by omega)

theorem off1_eq : ∀ k : Fin k0_t1_loop.trips, k0_off1 k = ![128 * k.val, 0] := by decide +kernel
theorem off2_eq : ∀ k : Fin k0_t2_loop.trips, k0_off2 k = ![128 * k.val, 0] := by decide +kernel
theorem off3_eq : ∀ k : Fin k0_t3_loop.trips, k0_off3 k = ![128 * k.val, 0] := by decide +kernel
theorem trips1 : k0_t1_loop.trips = 8 := by decide +kernel
theorem trips2 : k0_t2_loop.trips = 8 := by decide +kernel
theorem trips3 : k0_t3_loop.trips = 32 := by decide +kernel

/-- After its trips the loop has filled the copy with the weights, converted. -/
theorem read_pb1 (c : Dev nD) (i : grid0.Coords)
  (M1 : Memref sig .tc .vmem S1x1024x256 .f32) (h1 : M1.IsWhole)
  (M2 : Memref sig .tc .vmem S1x256x1024 .bf16) (h2 : M2.IsWhole)
  (M3 : Memref sig .tc .vmem S1024x1024 .i8) (h3 : M3.IsWhole)
  (M4 : Memref sig .tc .vmem S1x1024 .f32) (h4 : M4.IsWhole)
  (M5 : Memref sig .tc .vmem S1x1024 .f32) (h5 : M5.IsWhole)
  (M6 : Memref sig .tc .vmem S1024x4096 .i8) (h6 : M6.IsWhole)
  (M7 : Memref sig .tc .vmem S1x4096 .f32) (h7 : M7.IsWhole)
  (M8 : Memref sig .tc .vmem S1x4096 .f32) (h8 : M8.IsWhole)
  (M9 : Memref sig .tc .vmem S4096x1024 .i8) (h9 : M9.IsWhole)
  (M10 : Memref sig .tc .vmem S1x1024 .f32) (h10 : M10.IsWhole)
  (M11 : Memref sig .tc .vmem S1x1024 .f32) (h11 : M11.IsWhole)
  (M12 : Memref sig .tc .vmem S1x1024 .f32) (h12 : M12.IsWhole)
  (M13 : Memref sig .tc .vmem S1x1024 .f32) (h13 : M13.IsWhole)
  (M14 : Memref sig .tc .vmem S1x1024 .f32) (h14 : M14.IsWhole)
  (M15 : Memref sig .tc .vmem S1x1024 .f32) (h15 : M15.IsWhole)
  (M16 : Memref sig .tc .vmem S1x1024 .f32) (h16 : M16.IsWhole)
  (M17 : Memref sig .tc .vmem S1x1024 .f32) (h17 : M17.IsWhole)
  (M18 : Memref sig .tc .vmem S1x256x1024 .i8) (h18 : M18.IsWhole)
  (M19 : Memref sig .tc .vmem S2x768 .f32) (h19 : M19.IsWhole)
  (M20 : Memref sig .tc .vmem S1x256x1024 .f32) (h20 : M20.IsWhole)
  (M21 : Memref sig .tc .vmem S1x1024x256 .i8) (h21 : M21.IsWhole)
  (M22 : Memref sig .tc .vmem S2x768 .f32) (h22 : M22.IsWhole)
  (M23 : Memref sig .tc .vmem S1x256x1024 .i8) (h23 : M23.IsWhole)
  (M24 : Memref sig .tc .vmem S2x768 .f32) (h24 : M24.IsWhole)
  (M25 : Memref sig .tc .vmem S1x256x4096 .i8) (h25 : M25.IsWhole)
  (M26 : Memref sig .tc .vmem S2x768 .f32) (h26 : M26.IsWhole)
  (M27 : Memref sig .tc .vmem S1024x1024 .bf16) (h27 : M27.IsWhole)
  (M28 : Memref sig .tc .vmem S1024x4096 .bf16) (h28 : M28.IsWhole)
  (M29 : Memref sig .tc .vmem S4096x1024 .bf16) (h29 : M29.IsWhole)
  (M30 : Memref sig .tc .vmem S1024x256 .bf16) (h30 : M30.IsWhole)
  (M31 : Memref sig .tc .vmem S256x4096 .f32) (h31 : M31.IsWhole)
  (M32 : Memref sig .tc .vmem S256x4096 .bf16) (h32 : M32.IsWhole)
  (M33 : Memref sig .tc .vmem S256x1024 .f32) (h33 : M33.IsWhole)
  (M34 : Memref sig .tc .vmem S256x1024 .bf16) (h34 : M34.IsWhole)
 (hc : k0_cond1 i = 1#1) (X : Vec F S1024x1024 .i8) (f : Bf (F := F) c M27) :
    M27.view.read (Elt F) (M27.view.writes (Elt F) f (pb_k0_t1 (F := F) Variants.none c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc (h3.unread X) k0_t1_loop.trips))
      = sitofp .bf16 X := by
  funext y
  refine read_rows (d := ![1024, 1024]) M27.view f (sitofp .bf16 X) k0_t1_loop.trips (pb_k0_t1 (F := F) Variants.none c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc (h3.unread X)) ![128, 1024] rfl rfl
    (fun k => ⟨k0_off1 k, k0_off1_inb i k hc, (k0_pay1 (View.readAt (Elt F) M3.view (Rect.unit (s := S1024x1024) (k0_off1 k) S128x1024.size (k0_off1_inb i k hc)).toLoadRect (h3.unread X)) : Vec F S128x1024 .bf16), off1_eq k, fun x => ?_, ?_⟩) _ le_rfl y ?_
  · unfold k0_pay1
    simp only [shapeCast_self]
    show FloatOps.sitofp _ (M3.view.read (Elt F) (h3.unread X) _) = FloatOps.sitofp _ _
    rw [h3.read_unread]; rfl
  · rw [pb_k0_t1_succ]; unfold tripL_k0_t1 trip_k0_t1; rfl
  · rw [trips1]; exact (y (0 : Fin 2)).isLt

/-- After its trips the loop has filled the copy with the weights, converted. -/
theorem read_pb2 (c : Dev nD) (i : grid0.Coords)
  (M1 : Memref sig .tc .vmem S1x1024x256 .f32) (h1 : M1.IsWhole)
  (M2 : Memref sig .tc .vmem S1x256x1024 .bf16) (h2 : M2.IsWhole)
  (M3 : Memref sig .tc .vmem S1024x1024 .i8) (h3 : M3.IsWhole)
  (M4 : Memref sig .tc .vmem S1x1024 .f32) (h4 : M4.IsWhole)
  (M5 : Memref sig .tc .vmem S1x1024 .f32) (h5 : M5.IsWhole)
  (M6 : Memref sig .tc .vmem S1024x4096 .i8) (h6 : M6.IsWhole)
  (M7 : Memref sig .tc .vmem S1x4096 .f32) (h7 : M7.IsWhole)
  (M8 : Memref sig .tc .vmem S1x4096 .f32) (h8 : M8.IsWhole)
  (M9 : Memref sig .tc .vmem S4096x1024 .i8) (h9 : M9.IsWhole)
  (M10 : Memref sig .tc .vmem S1x1024 .f32) (h10 : M10.IsWhole)
  (M11 : Memref sig .tc .vmem S1x1024 .f32) (h11 : M11.IsWhole)
  (M12 : Memref sig .tc .vmem S1x1024 .f32) (h12 : M12.IsWhole)
  (M13 : Memref sig .tc .vmem S1x1024 .f32) (h13 : M13.IsWhole)
  (M14 : Memref sig .tc .vmem S1x1024 .f32) (h14 : M14.IsWhole)
  (M15 : Memref sig .tc .vmem S1x1024 .f32) (h15 : M15.IsWhole)
  (M16 : Memref sig .tc .vmem S1x1024 .f32) (h16 : M16.IsWhole)
  (M17 : Memref sig .tc .vmem S1x1024 .f32) (h17 : M17.IsWhole)
  (M18 : Memref sig .tc .vmem S1x256x1024 .i8) (h18 : M18.IsWhole)
  (M19 : Memref sig .tc .vmem S2x768 .f32) (h19 : M19.IsWhole)
  (M20 : Memref sig .tc .vmem S1x256x1024 .f32) (h20 : M20.IsWhole)
  (M21 : Memref sig .tc .vmem S1x1024x256 .i8) (h21 : M21.IsWhole)
  (M22 : Memref sig .tc .vmem S2x768 .f32) (h22 : M22.IsWhole)
  (M23 : Memref sig .tc .vmem S1x256x1024 .i8) (h23 : M23.IsWhole)
  (M24 : Memref sig .tc .vmem S2x768 .f32) (h24 : M24.IsWhole)
  (M25 : Memref sig .tc .vmem S1x256x4096 .i8) (h25 : M25.IsWhole)
  (M26 : Memref sig .tc .vmem S2x768 .f32) (h26 : M26.IsWhole)
  (M27 : Memref sig .tc .vmem S1024x1024 .bf16) (h27 : M27.IsWhole)
  (M28 : Memref sig .tc .vmem S1024x4096 .bf16) (h28 : M28.IsWhole)
  (M29 : Memref sig .tc .vmem S4096x1024 .bf16) (h29 : M29.IsWhole)
  (M30 : Memref sig .tc .vmem S1024x256 .bf16) (h30 : M30.IsWhole)
  (M31 : Memref sig .tc .vmem S256x4096 .f32) (h31 : M31.IsWhole)
  (M32 : Memref sig .tc .vmem S256x4096 .bf16) (h32 : M32.IsWhole)
  (M33 : Memref sig .tc .vmem S256x1024 .f32) (h33 : M33.IsWhole)
  (M34 : Memref sig .tc .vmem S256x1024 .bf16) (h34 : M34.IsWhole)
 (hc : k0_cond1 i = 1#1) (X : Vec F S1024x4096 .i8) (f : Bf (F := F) c M28) :
    M28.view.read (Elt F) (M28.view.writes (Elt F) f (pb_k0_t2 (F := F) Variants.none c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc (h6.unread X) k0_t2_loop.trips))
      = sitofp .bf16 X := by
  funext y
  refine read_rows (d := ![1024, 4096]) M28.view f (sitofp .bf16 X) k0_t2_loop.trips (pb_k0_t2 (F := F) Variants.none c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc (h6.unread X)) ![128, 4096] rfl rfl
    (fun k => ⟨k0_off2 k, k0_off2_inb i k hc, (k0_pay2 (View.readAt (Elt F) M6.view (Rect.unit (s := S1024x4096) (k0_off2 k) S128x4096.size (k0_off2_inb i k hc)).toLoadRect (h6.unread X)) : Vec F S128x4096 .bf16), off2_eq k, fun x => ?_, ?_⟩) _ le_rfl y ?_
  · unfold k0_pay2
    simp only [shapeCast_self]
    show FloatOps.sitofp _ (M6.view.read (Elt F) (h6.unread X) _) = FloatOps.sitofp _ _
    rw [h6.read_unread]; rfl
  · rw [pb_k0_t2_succ]; unfold tripL_k0_t2 trip_k0_t2; rfl
  · rw [trips2]; exact (y (0 : Fin 2)).isLt

/-- After its trips the loop has filled the copy with the weights, converted. -/
theorem read_pb3 (c : Dev nD) (i : grid0.Coords)
  (M1 : Memref sig .tc .vmem S1x1024x256 .f32) (h1 : M1.IsWhole)
  (M2 : Memref sig .tc .vmem S1x256x1024 .bf16) (h2 : M2.IsWhole)
  (M3 : Memref sig .tc .vmem S1024x1024 .i8) (h3 : M3.IsWhole)
  (M4 : Memref sig .tc .vmem S1x1024 .f32) (h4 : M4.IsWhole)
  (M5 : Memref sig .tc .vmem S1x1024 .f32) (h5 : M5.IsWhole)
  (M6 : Memref sig .tc .vmem S1024x4096 .i8) (h6 : M6.IsWhole)
  (M7 : Memref sig .tc .vmem S1x4096 .f32) (h7 : M7.IsWhole)
  (M8 : Memref sig .tc .vmem S1x4096 .f32) (h8 : M8.IsWhole)
  (M9 : Memref sig .tc .vmem S4096x1024 .i8) (h9 : M9.IsWhole)
  (M10 : Memref sig .tc .vmem S1x1024 .f32) (h10 : M10.IsWhole)
  (M11 : Memref sig .tc .vmem S1x1024 .f32) (h11 : M11.IsWhole)
  (M12 : Memref sig .tc .vmem S1x1024 .f32) (h12 : M12.IsWhole)
  (M13 : Memref sig .tc .vmem S1x1024 .f32) (h13 : M13.IsWhole)
  (M14 : Memref sig .tc .vmem S1x1024 .f32) (h14 : M14.IsWhole)
  (M15 : Memref sig .tc .vmem S1x1024 .f32) (h15 : M15.IsWhole)
  (M16 : Memref sig .tc .vmem S1x1024 .f32) (h16 : M16.IsWhole)
  (M17 : Memref sig .tc .vmem S1x1024 .f32) (h17 : M17.IsWhole)
  (M18 : Memref sig .tc .vmem S1x256x1024 .i8) (h18 : M18.IsWhole)
  (M19 : Memref sig .tc .vmem S2x768 .f32) (h19 : M19.IsWhole)
  (M20 : Memref sig .tc .vmem S1x256x1024 .f32) (h20 : M20.IsWhole)
  (M21 : Memref sig .tc .vmem S1x1024x256 .i8) (h21 : M21.IsWhole)
  (M22 : Memref sig .tc .vmem S2x768 .f32) (h22 : M22.IsWhole)
  (M23 : Memref sig .tc .vmem S1x256x1024 .i8) (h23 : M23.IsWhole)
  (M24 : Memref sig .tc .vmem S2x768 .f32) (h24 : M24.IsWhole)
  (M25 : Memref sig .tc .vmem S1x256x4096 .i8) (h25 : M25.IsWhole)
  (M26 : Memref sig .tc .vmem S2x768 .f32) (h26 : M26.IsWhole)
  (M27 : Memref sig .tc .vmem S1024x1024 .bf16) (h27 : M27.IsWhole)
  (M28 : Memref sig .tc .vmem S1024x4096 .bf16) (h28 : M28.IsWhole)
  (M29 : Memref sig .tc .vmem S4096x1024 .bf16) (h29 : M29.IsWhole)
  (M30 : Memref sig .tc .vmem S1024x256 .bf16) (h30 : M30.IsWhole)
  (M31 : Memref sig .tc .vmem S256x4096 .f32) (h31 : M31.IsWhole)
  (M32 : Memref sig .tc .vmem S256x4096 .bf16) (h32 : M32.IsWhole)
  (M33 : Memref sig .tc .vmem S256x1024 .f32) (h33 : M33.IsWhole)
  (M34 : Memref sig .tc .vmem S256x1024 .bf16) (h34 : M34.IsWhole)
 (hc : k0_cond1 i = 1#1) (X : Vec F S4096x1024 .i8) (f : Bf (F := F) c M29) :
    M29.view.read (Elt F) (M29.view.writes (Elt F) f (pb_k0_t3 (F := F) Variants.none c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc (h9.unread X) k0_t3_loop.trips))
      = sitofp .bf16 X := by
  funext y
  refine read_rows (d := ![4096, 1024]) M29.view f (sitofp .bf16 X) k0_t3_loop.trips (pb_k0_t3 (F := F) Variants.none c none i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc (h9.unread X)) ![128, 1024] rfl rfl
    (fun k => ⟨k0_off3 k, k0_off3_inb i k hc, (k0_pay3 (View.readAt (Elt F) M9.view (Rect.unit (s := S4096x1024) (k0_off3 k) S128x1024.size (k0_off3_inb i k hc)).toLoadRect (h9.unread X)) : Vec F S128x1024 .bf16), off3_eq k, fun x => ?_, ?_⟩) _ le_rfl y ?_
  · unfold k0_pay3
    simp only [shapeCast_self]
    show FloatOps.sitofp _ (M9.view.read (Elt F) (h9.unread X) _) = FloatOps.sitofp _ _
    rw [h9.read_unread]; rfl
  · rw [pb_k0_t3_succ]; unfold tripL_k0_t3 trip_k0_t3; rfl
  · rw [trips3]; exact (y (0 : Fin 2)).isLt

end Cert.KernelIdeal.Body
-- ==== Proof.Ideal.Body.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import proofs.«01_k».proof.Proof.Ideal.Weights

@[expose] public section

set_option maxRecDepth 16384
set_option maxHeartbeats 400000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The program past the conversion of the weights: found by unification against the printed body, which takes the
    conversion only at the first grid point. -/
def rest (i : grid0.Coords)
  (M1 : Memref sig .tc .vmem S1x1024x256 .f32) (h1 : M1.IsWhole)
  (M2 : Memref sig .tc .vmem S1x256x1024 .bf16) (h2 : M2.IsWhole)
  (M3 : Memref sig .tc .vmem S1024x1024 .i8) (h3 : M3.IsWhole)
  (M4 : Memref sig .tc .vmem S1x1024 .f32) (h4 : M4.IsWhole)
  (M5 : Memref sig .tc .vmem S1x1024 .f32) (h5 : M5.IsWhole)
  (M6 : Memref sig .tc .vmem S1024x4096 .i8) (h6 : M6.IsWhole)
  (M7 : Memref sig .tc .vmem S1x4096 .f32) (h7 : M7.IsWhole)
  (M8 : Memref sig .tc .vmem S1x4096 .f32) (h8 : M8.IsWhole)
  (M9 : Memref sig .tc .vmem S4096x1024 .i8) (h9 : M9.IsWhole)
  (M10 : Memref sig .tc .vmem S1x1024 .f32) (h10 : M10.IsWhole)
  (M11 : Memref sig .tc .vmem S1x1024 .f32) (h11 : M11.IsWhole)
  (M12 : Memref sig .tc .vmem S1x1024 .f32) (h12 : M12.IsWhole)
  (M13 : Memref sig .tc .vmem S1x1024 .f32) (h13 : M13.IsWhole)
  (M14 : Memref sig .tc .vmem S1x1024 .f32) (h14 : M14.IsWhole)
  (M15 : Memref sig .tc .vmem S1x1024 .f32) (h15 : M15.IsWhole)
  (M16 : Memref sig .tc .vmem S1x1024 .f32) (h16 : M16.IsWhole)
  (M17 : Memref sig .tc .vmem S1x1024 .f32) (h17 : M17.IsWhole)
  (M18 : Memref sig .tc .vmem S1x256x1024 .i8) (h18 : M18.IsWhole)
  (M19 : Memref sig .tc .vmem S2x768 .f32) (h19 : M19.IsWhole)
  (M20 : Memref sig .tc .vmem S1x256x1024 .f32) (h20 : M20.IsWhole)
  (M21 : Memref sig .tc .vmem S1x1024x256 .i8) (h21 : M21.IsWhole)
  (M22 : Memref sig .tc .vmem S2x768 .f32) (h22 : M22.IsWhole)
  (M23 : Memref sig .tc .vmem S1x256x1024 .i8) (h23 : M23.IsWhole)
  (M24 : Memref sig .tc .vmem S2x768 .f32) (h24 : M24.IsWhole)
  (M25 : Memref sig .tc .vmem S1x256x4096 .i8) (h25 : M25.IsWhole)
  (M26 : Memref sig .tc .vmem S2x768 .f32) (h26 : M26.IsWhole)
  (M27 : Memref sig .tc .vmem S1024x1024 .bf16) (h27 : M27.IsWhole)
  (M28 : Memref sig .tc .vmem S1024x4096 .bf16) (h28 : M28.IsWhole)
  (M29 : Memref sig .tc .vmem S4096x1024 .bf16) (h29 : M29.IsWhole)
  (M30 : Memref sig .tc .vmem S1024x256 .bf16) (h30 : M30.IsWhole)
  (M31 : Memref sig .tc .vmem S256x4096 .f32) (h31 : M31.IsWhole)
  (M32 : Memref sig .tc .vmem S256x4096 .bf16) (h32 : M32.IsWhole)
  (M33 : Memref sig .tc .vmem S256x1024 .f32) (h33 : M33.IsWhole)
  (M34 : Memref sig .tc .vmem S256x1024 .bf16) (h34 : M34.IsWhole)
 :
    { R : Prog (TpuEff nD τ sig (Elt F) Λ₀ .tc) PUnit //
      (¬ k0_cond1 i = 1#1 → cc0_ffn (F := F) i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 = R)
      ∧ ∀ hc : k0_cond1 i = 1#1, cc0_ffn (F := F) i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34
          = (Scf.Loop.for k0_t1_loop (k0_t1_ok i hc) ⟨⟩ (k0_t1_body i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc) >>= fun _ =>
             Scf.Loop.for k0_t2_loop (k0_t2_ok i hc) ⟨⟩ (k0_t2_body i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc) >>= fun _ =>
             Scf.Loop.for k0_t3_loop (k0_t3_ok i hc) ⟨⟩ (k0_t3_body i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc) >>= fun _ => R) } := by
  refine ⟨?_, fun hc => ?neg, fun hc => ?pos⟩
  case pos =>
    rw [cc0_ffn_eq_skeleton]; unfold cc0_ffn_skel
    rw [k0_part1_eq_skeleton]; unfold k0_part1_skel
    simp only [dif_pos hc, Prog.bind_assoc]
    rfl
  case neg =>
    rw [cc0_ffn_eq_skeleton]; unfold cc0_ffn_skel
    rw [k0_part1_eq_skeleton]; unfold k0_part1_skel
    simp only [dif_neg hc, Prog.bind_assoc]
/-- What the rest leaves. -/
noncomputable def runRest (c : Dev nD) (i : grid0.Coords)
  (M1 : Memref sig .tc .vmem S1x1024x256 .f32) (h1 : M1.IsWhole)
  (M2 : Memref sig .tc .vmem S1x256x1024 .bf16) (h2 : M2.IsWhole)
  (M3 : Memref sig .tc .vmem S1024x1024 .i8) (h3 : M3.IsWhole)
  (M4 : Memref sig .tc .vmem S1x1024 .f32) (h4 : M4.IsWhole)
  (M5 : Memref sig .tc .vmem S1x1024 .f32) (h5 : M5.IsWhole)
  (M6 : Memref sig .tc .vmem S1024x4096 .i8) (h6 : M6.IsWhole)
  (M7 : Memref sig .tc .vmem S1x4096 .f32) (h7 : M7.IsWhole)
  (M8 : Memref sig .tc .vmem S1x4096 .f32) (h8 : M8.IsWhole)
  (M9 : Memref sig .tc .vmem S4096x1024 .i8) (h9 : M9.IsWhole)
  (M10 : Memref sig .tc .vmem S1x1024 .f32) (h10 : M10.IsWhole)
  (M11 : Memref sig .tc .vmem S1x1024 .f32) (h11 : M11.IsWhole)
  (M12 : Memref sig .tc .vmem S1x1024 .f32) (h12 : M12.IsWhole)
  (M13 : Memref sig .tc .vmem S1x1024 .f32) (h13 : M13.IsWhole)
  (M14 : Memref sig .tc .vmem S1x1024 .f32) (h14 : M14.IsWhole)
  (M15 : Memref sig .tc .vmem S1x1024 .f32) (h15 : M15.IsWhole)
  (M16 : Memref sig .tc .vmem S1x1024 .f32) (h16 : M16.IsWhole)
  (M17 : Memref sig .tc .vmem S1x1024 .f32) (h17 : M17.IsWhole)
  (M18 : Memref sig .tc .vmem S1x256x1024 .i8) (h18 : M18.IsWhole)
  (M19 : Memref sig .tc .vmem S2x768 .f32) (h19 : M19.IsWhole)
  (M20 : Memref sig .tc .vmem S1x256x1024 .f32) (h20 : M20.IsWhole)
  (M21 : Memref sig .tc .vmem S1x1024x256 .i8) (h21 : M21.IsWhole)
  (M22 : Memref sig .tc .vmem S2x768 .f32) (h22 : M22.IsWhole)
  (M23 : Memref sig .tc .vmem S1x256x1024 .i8) (h23 : M23.IsWhole)
  (M24 : Memref sig .tc .vmem S2x768 .f32) (h24 : M24.IsWhole)
  (M25 : Memref sig .tc .vmem S1x256x4096 .i8) (h25 : M25.IsWhole)
  (M26 : Memref sig .tc .vmem S2x768 .f32) (h26 : M26.IsWhole)
  (M27 : Memref sig .tc .vmem S1024x1024 .bf16) (h27 : M27.IsWhole)
  (M28 : Memref sig .tc .vmem S1024x4096 .bf16) (h28 : M28.IsWhole)
  (M29 : Memref sig .tc .vmem S4096x1024 .bf16) (h29 : M29.IsWhole)
  (M30 : Memref sig .tc .vmem S1024x256 .bf16) (h30 : M30.IsWhole)
  (M31 : Memref sig .tc .vmem S256x4096 .f32) (h31 : M31.IsWhole)
  (M32 : Memref sig .tc .vmem S256x4096 .bf16) (h32 : M32.IsWhole)
  (M33 : Memref sig .tc .vmem S256x1024 .f32) (h33 : M33.IsWhole)
  (M34 : Memref sig .tc .vmem S256x1024 .bf16) (h34 : M34.IsWhole)

    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f27 : Bf (F := F) c M27) (f28 : Bf (F := F) c M28) (f29 : Bf (F := F) c M29) :
    { W : Bf (F := F) c M18 × Bf (F := F) c M20 × Bf (F := F) c M21 × Bf (F := F) c M23 × Bf (F := F) c M25 × (Bf (F := F) c M19 → Bf (F := F) c M19) × (Bf (F := F) c M22 → Bf (F := F) c M22) × (Bf (F := F) c M24 → Bf (F := F) c M24) × (Bf (F := F) c M26 → Bf (F := F) c M26) //
      ∀ (f18 : Bf (F := F) c M18) (f19 : Bf (F := F) c M19) (f20 : Bf (F := F) c M20) (f21 : Bf (F := F) c M21) (f22 : Bf (F := F) c M22) (f23 : Bf (F := F) c M23) (f24 : Bf (F := F) c M24) (f25 : Bf (F := F) c M25) (f26 : Bf (F := F) c M26) (f30 : Bf (F := F) c M30) (f31 : Bf (F := F) c M31) (f32 : Bf (F := F) c M32) (f33 : Bf (F := F) c M33) (f34 : Bf (F := F) c M34) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ pt c M21 f21 ∗ pt c M22 f22 ∗ pt c M23 f23 ∗ pt c M24 f24 ∗ pt c M25 f25 ∗ pt c M26 f26 ∗ pt c M27 f27 ∗ pt c M28 f28 ∗ pt c M29 f29 ∗ pt c M30 f30 ∗ pt c M31 f31 ∗ pt c M32 f32 ∗ pt c M33 f33 ∗ pt c M34 f34
          ∗ (iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 (W.1) ∗ pt c M19 (W.2.2.2.2.2.1 f19) ∗ pt c M20 (W.2.1) ∗ pt c M21 (W.2.2.1) ∗ pt c M22 (W.2.2.2.2.2.2.1 f22) ∗ pt c M23 (W.2.2.2.1) ∗ pt c M24 (W.2.2.2.2.2.2.2.1 f24) ∗ pt c M25 (W.2.2.2.2.1) ∗ pt c M26 (W.2.2.2.2.2.2.2.2 f26) ∗ pt c M27 f27 ∗ pt c M28 f28 ∗ pt c M29 f29 ∗ (∃ f, pt c M30 f) ∗ (∃ f, pt c M31 f) ∗ (∃ f, pt c M32 f) ∗ (∃ f, pt c M33 f) ∗ (∃ f, pt c M34 f)) -∗ Q ⟨⟩))
        ⊢ wp frame (wpE (defs₀ (F := F)) Variants.none c none) E (rest (F := F) i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34).1 Q } := by
  refine ⟨⟨?_, ?_, ?_, ?_, ?_, ?_, ?_, ?_, ?_⟩, fun f18 f19 f20 f21 f22 f23 f24 f25 f26 f30 f31 f32 f33 f34 E Q => ?run⟩
  case run =>
    iintro ⟨H1, H2, H3, H4, H5, H6, H7, H8, H9, H10, H11, H12, H13, H14, H15, H16, H17, H18, H19, H20, H21, H22, H23, H24, H25, H26, H27, H28, H29, H30, H31, H32, H33, H34, Hk⟩
    sl_unfold [rest]
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexists _; iexact H30
    isplitl [H31]; · iexists _; iexact H31
    isplitl [H32]; · iexists _; iexact H32
    isplitl [H33]; · iexists _; iexact H33
    iexists _; iexact H34

/-- The conversion of the weights at the first grid point, before any program `R`. -/
def runPrologue (c : Dev nD) (i : grid0.Coords)
  (M1 : Memref sig .tc .vmem S1x1024x256 .f32) (h1 : M1.IsWhole)
  (M2 : Memref sig .tc .vmem S1x256x1024 .bf16) (h2 : M2.IsWhole)
  (M3 : Memref sig .tc .vmem S1024x1024 .i8) (h3 : M3.IsWhole)
  (M4 : Memref sig .tc .vmem S1x1024 .f32) (h4 : M4.IsWhole)
  (M5 : Memref sig .tc .vmem S1x1024 .f32) (h5 : M5.IsWhole)
  (M6 : Memref sig .tc .vmem S1024x4096 .i8) (h6 : M6.IsWhole)
  (M7 : Memref sig .tc .vmem S1x4096 .f32) (h7 : M7.IsWhole)
  (M8 : Memref sig .tc .vmem S1x4096 .f32) (h8 : M8.IsWhole)
  (M9 : Memref sig .tc .vmem S4096x1024 .i8) (h9 : M9.IsWhole)
  (M10 : Memref sig .tc .vmem S1x1024 .f32) (h10 : M10.IsWhole)
  (M11 : Memref sig .tc .vmem S1x1024 .f32) (h11 : M11.IsWhole)
  (M12 : Memref sig .tc .vmem S1x1024 .f32) (h12 : M12.IsWhole)
  (M13 : Memref sig .tc .vmem S1x1024 .f32) (h13 : M13.IsWhole)
  (M14 : Memref sig .tc .vmem S1x1024 .f32) (h14 : M14.IsWhole)
  (M15 : Memref sig .tc .vmem S1x1024 .f32) (h15 : M15.IsWhole)
  (M16 : Memref sig .tc .vmem S1x1024 .f32) (h16 : M16.IsWhole)
  (M17 : Memref sig .tc .vmem S1x1024 .f32) (h17 : M17.IsWhole)
  (M18 : Memref sig .tc .vmem S1x256x1024 .i8) (h18 : M18.IsWhole)
  (M19 : Memref sig .tc .vmem S2x768 .f32) (h19 : M19.IsWhole)
  (M20 : Memref sig .tc .vmem S1x256x1024 .f32) (h20 : M20.IsWhole)
  (M21 : Memref sig .tc .vmem S1x1024x256 .i8) (h21 : M21.IsWhole)
  (M22 : Memref sig .tc .vmem S2x768 .f32) (h22 : M22.IsWhole)
  (M23 : Memref sig .tc .vmem S1x256x1024 .i8) (h23 : M23.IsWhole)
  (M24 : Memref sig .tc .vmem S2x768 .f32) (h24 : M24.IsWhole)
  (M25 : Memref sig .tc .vmem S1x256x4096 .i8) (h25 : M25.IsWhole)
  (M26 : Memref sig .tc .vmem S2x768 .f32) (h26 : M26.IsWhole)
  (M27 : Memref sig .tc .vmem S1024x1024 .bf16) (h27 : M27.IsWhole)
  (M28 : Memref sig .tc .vmem S1024x4096 .bf16) (h28 : M28.IsWhole)
  (M29 : Memref sig .tc .vmem S4096x1024 .bf16) (h29 : M29.IsWhole)
  (M30 : Memref sig .tc .vmem S1024x256 .bf16) (h30 : M30.IsWhole)
  (M31 : Memref sig .tc .vmem S256x4096 .f32) (h31 : M31.IsWhole)
  (M32 : Memref sig .tc .vmem S256x4096 .bf16) (h32 : M32.IsWhole)
  (M33 : Memref sig .tc .vmem S256x1024 .f32) (h33 : M33.IsWhole)
  (M34 : Memref sig .tc .vmem S256x1024 .bf16) (h34 : M34.IsWhole)
    (hc : k0_cond1 i = 1#1) (f3 : Bf (F := F) c M3) (f6 : Bf (F := F) c M6) (f9 : Bf (F := F) c M9) :
    { L : List (View.Piece (Elt F) S1024x1024 .bf16) × List (View.Piece (Elt F) S1024x4096 .bf16) × List (View.Piece (Elt F) S4096x1024 .bf16) //
      ∀ (f27 : Bf (F := F) c M27) (f28 : Bf (F := F) c M28) (f29 : Bf (F := F) c M29) (R : Prog (TpuEff nD τ sig (Elt F) Λ₀ .tc) PUnit) (E : Set ℕ) (Q : PUnit → sProp 𝕄),
        iprop(pt c M3 f3 ∗ pt c M6 f6 ∗ pt c M9 f9 ∗ pt c M27 f27 ∗ pt c M28 f28 ∗ pt c M29 f29
          ∗ (iprop(pt c M3 f3 ∗ pt c M6 f6 ∗ pt c M9 f9 ∗ pt c M27 (M27.view.writes (Elt F) f27 L.1)
              ∗ pt c M28 (M28.view.writes (Elt F) f28 L.2.1) ∗ pt c M29 (M29.view.writes (Elt F) f29 L.2.2))
              -∗ wp frame (wpE (defs₀ (F := F)) Variants.none c none) E R Q))
        ⊢ wp frame (wpE (defs₀ (F := F)) Variants.none c none) E
            (Scf.Loop.for k0_t1_loop (k0_t1_ok i hc) ⟨⟩ (k0_t1_body i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc) >>= fun _ =>
             Scf.Loop.for k0_t2_loop (k0_t2_ok i hc) ⟨⟩ (k0_t2_body i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc) >>= fun _ =>
             Scf.Loop.for k0_t3_loop (k0_t3_ok i hc) ⟨⟩ (k0_t3_body i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc) >>= fun _ => R) Q } := by
  refine ⟨⟨?_, ?_, ?_⟩, fun f27 f28 f29 R E Q => ?run⟩
  case run =>
    iintro ⟨H3, H6, H9, H27, H28, H29, Hk⟩
    sl_exec
    iapply Hk
    isplitl [H3]; · iexact H3
    isplitl [H6]; · iexact H6
    isplitl [H9]; · iexact H9
    isplitl [H27]; · iexact H27
    isplitl [H28]; · iexact H28
    iexact H29

end Cert.KernelIdeal.Body
-- ==== Proof.Ideal.Triple.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import proofs.«01_k».proof.Proof.Ideal.Body
public import proofs.«01_k».proof.Proof.Ideal.Weights

@[expose] public section

set_option maxRecDepth 16384
set_option maxHeartbeats 400000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat RDat Cfg Window cellOf ΦA)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body at a later grid point, the scratch copies of the weights at `X27`, `X28`, `X29`. -/
theorem wp_later (c : Dev nD) (i : grid0.Coords)
  (M1 : Memref sig .tc .vmem S1x1024x256 .f32) (h1 : M1.IsWhole)
  (M2 : Memref sig .tc .vmem S1x256x1024 .bf16) (h2 : M2.IsWhole)
  (M3 : Memref sig .tc .vmem S1024x1024 .i8) (h3 : M3.IsWhole)
  (M4 : Memref sig .tc .vmem S1x1024 .f32) (h4 : M4.IsWhole)
  (M5 : Memref sig .tc .vmem S1x1024 .f32) (h5 : M5.IsWhole)
  (M6 : Memref sig .tc .vmem S1024x4096 .i8) (h6 : M6.IsWhole)
  (M7 : Memref sig .tc .vmem S1x4096 .f32) (h7 : M7.IsWhole)
  (M8 : Memref sig .tc .vmem S1x4096 .f32) (h8 : M8.IsWhole)
  (M9 : Memref sig .tc .vmem S4096x1024 .i8) (h9 : M9.IsWhole)
  (M10 : Memref sig .tc .vmem S1x1024 .f32) (h10 : M10.IsWhole)
  (M11 : Memref sig .tc .vmem S1x1024 .f32) (h11 : M11.IsWhole)
  (M12 : Memref sig .tc .vmem S1x1024 .f32) (h12 : M12.IsWhole)
  (M13 : Memref sig .tc .vmem S1x1024 .f32) (h13 : M13.IsWhole)
  (M14 : Memref sig .tc .vmem S1x1024 .f32) (h14 : M14.IsWhole)
  (M15 : Memref sig .tc .vmem S1x1024 .f32) (h15 : M15.IsWhole)
  (M16 : Memref sig .tc .vmem S1x1024 .f32) (h16 : M16.IsWhole)
  (M17 : Memref sig .tc .vmem S1x1024 .f32) (h17 : M17.IsWhole)
  (M18 : Memref sig .tc .vmem S1x256x1024 .i8) (h18 : M18.IsWhole)
  (M19 : Memref sig .tc .vmem S2x768 .f32) (h19 : M19.IsWhole)
  (M20 : Memref sig .tc .vmem S1x256x1024 .f32) (h20 : M20.IsWhole)
  (M21 : Memref sig .tc .vmem S1x1024x256 .i8) (h21 : M21.IsWhole)
  (M22 : Memref sig .tc .vmem S2x768 .f32) (h22 : M22.IsWhole)
  (M23 : Memref sig .tc .vmem S1x256x1024 .i8) (h23 : M23.IsWhole)
  (M24 : Memref sig .tc .vmem S2x768 .f32) (h24 : M24.IsWhole)
  (M25 : Memref sig .tc .vmem S1x256x4096 .i8) (h25 : M25.IsWhole)
  (M26 : Memref sig .tc .vmem S2x768 .f32) (h26 : M26.IsWhole)
  (M27 : Memref sig .tc .vmem S1024x1024 .bf16) (h27 : M27.IsWhole)
  (M28 : Memref sig .tc .vmem S1024x4096 .bf16) (h28 : M28.IsWhole)
  (M29 : Memref sig .tc .vmem S4096x1024 .bf16) (h29 : M29.IsWhole)
  (M30 : Memref sig .tc .vmem S1024x256 .bf16) (h30 : M30.IsWhole)
  (M31 : Memref sig .tc .vmem S256x4096 .f32) (h31 : M31.IsWhole)
  (M32 : Memref sig .tc .vmem S256x4096 .bf16) (h32 : M32.IsWhole)
  (M33 : Memref sig .tc .vmem S256x1024 .f32) (h33 : M33.IsWhole)
  (M34 : Memref sig .tc .vmem S256x1024 .bf16) (h34 : M34.IsWhole)
 (hc : ¬ k0_cond1 i = 1#1) (X1 : Vec F S1x1024x256 .f32) (X2 : Vec F S1x256x1024 .bf16) (X3 : Vec F S1024x1024 .i8) (X4 : Vec F S1x1024 .f32) (X5 : Vec F S1x1024 .f32) (X6 : Vec F S1024x4096 .i8) (X7 : Vec F S1x4096 .f32) (X8 : Vec F S1x4096 .f32) (X9 : Vec F S4096x1024 .i8) (X10 : Vec F S1x1024 .f32) (X11 : Vec F S1x1024 .f32) (X12 : Vec F S1x1024 .f32) (X13 : Vec F S1x1024 .f32) (X14 : Vec F S1x1024 .f32) (X15 : Vec F S1x1024 .f32) (X16 : Vec F S1x1024 .f32) (X17 : Vec F S1x1024 .f32) (X27 : Vec F S1024x1024 .bf16) (X28 : Vec F S1024x4096 .bf16) (X29 : Vec F S4096x1024 .bf16) (f18 : Bf (F := F) c M18) (f19 : Bf (F := F) c M19) (f20 : Bf (F := F) c M20) (f21 : Bf (F := F) c M21) (f22 : Bf (F := F) c M22) (f23 : Bf (F := F) c M23) (f24 : Bf (F := F) c M24) (f25 : Bf (F := F) c M25) (f26 : Bf (F := F) c M26) (R : Bf (F := F) c M18 × Bf (F := F) c M20 × Bf (F := F) c M21 × Bf (F := F) c M23 × Bf (F := F) c M25 × (Bf (F := F) c M19 → Bf (F := F) c M19) × (Bf (F := F) c M22 → Bf (F := F) c M22) × (Bf (F := F) c M24 → Bf (F := F) c M24) × (Bf (F := F) c M26 → Bf (F := F) c M26)) (hR : (runRest (F := F) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 (h1.unread X1) (h2.unread X2) (h3.unread X3) (h4.unread X4) (h5.unread X5) (h6.unread X6) (h7.unread X7) (h8.unread X8) (h9.unread X9) (h10.unread X10) (h11.unread X11) (h12.unread X12) (h13.unread X13) (h14.unread X14) (h15.unread X15) (h16.unread X16) (h17.unread X17) (h27.unread X27) (h28.unread X28) (h29.unread X29)).1 = R) (E : Set ℕ) (Q : PUnit → sProp 𝕄) :
    iprop(pt c M1 (h1.unread X1) ∗ pt c M2 (h2.unread X2) ∗ pt c M3 (h3.unread X3) ∗ pt c M4 (h4.unread X4) ∗ pt c M5 (h5.unread X5) ∗ pt c M6 (h6.unread X6) ∗ pt c M7 (h7.unread X7) ∗ pt c M8 (h8.unread X8) ∗ pt c M9 (h9.unread X9) ∗ pt c M10 (h10.unread X10) ∗ pt c M11 (h11.unread X11) ∗ pt c M12 (h12.unread X12) ∗ pt c M13 (h13.unread X13) ∗ pt c M14 (h14.unread X14) ∗ pt c M15 (h15.unread X15) ∗ pt c M16 (h16.unread X16) ∗ pt c M17 (h17.unread X17) ∗ pt c M18 f18 ∗ pt c M19 f19 ∗ pt c M20 f20 ∗ pt c M21 f21 ∗ pt c M22 f22 ∗ pt c M23 f23 ∗ pt c M24 f24 ∗ pt c M25 f25 ∗ pt c M26 f26 ∗ pt c M27 (h27.unread X27) ∗ pt c M28 (h28.unread X28) ∗ pt c M29 (h29.unread X29) ∗ (∃ f, pt c M30 f) ∗ (∃ f, pt c M31 f) ∗ (∃ f, pt c M32 f) ∗ (∃ f, pt c M33 f) ∗ (∃ f, pt c M34 f) ∗ (iprop(pt c M1 (h1.unread X1) ∗ pt c M2 (h2.unread X2) ∗ pt c M3 (h3.unread X3) ∗ pt c M4 (h4.unread X4) ∗ pt c M5 (h5.unread X5) ∗ pt c M6 (h6.unread X6) ∗ pt c M7 (h7.unread X7) ∗ pt c M8 (h8.unread X8) ∗ pt c M9 (h9.unread X9) ∗ pt c M10 (h10.unread X10) ∗ pt c M11 (h11.unread X11) ∗ pt c M12 (h12.unread X12) ∗ pt c M13 (h13.unread X13) ∗ pt c M14 (h14.unread X14) ∗ pt c M15 (h15.unread X15) ∗ pt c M16 (h16.unread X16) ∗ pt c M17 (h17.unread X17) ∗ pt c M18 R.1 ∗ pt c M19 (R.2.2.2.2.2.1 f19) ∗ pt c M20 R.2.1 ∗ pt c M21 R.2.2.1 ∗ pt c M22 (R.2.2.2.2.2.2.1 f22) ∗ pt c M23 R.2.2.2.1 ∗ pt c M24 (R.2.2.2.2.2.2.2.1 f24) ∗ pt c M25 R.2.2.2.2.1 ∗ pt c M26 (R.2.2.2.2.2.2.2.2 f26) ∗ pt c M27 (h27.unread X27) ∗ pt c M28 (h28.unread X28) ∗ pt c M29 (h29.unread X29) ∗ (∃ f, pt c M30 f) ∗ (∃ f, pt c M31 f) ∗ (∃ f, pt c M32 f) ∗ (∃ f, pt c M33 f) ∗ (∃ f, pt c M34 f)) -∗ Q ⟨⟩))
    ⊢ wp frame (wpE (defs₀ (F := F)) Variants.none c none) E (cc0_ffn (F := F) i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34) Q := by
  refine triple_restated ?_ (congrArg (wp frame (wpE (defs₀ (F := F)) Variants.none c none) E) ((rest (F := F) i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34).2.1 hc).symm) .rfl (fun _ => .rfl)
  iintro ⟨H1, H2, H3, H4, H5, H6, H7, H8, H9, H10, H11, H12, H13, H14, H15, H16, H17, H18, H19, H20, H21, H22, H23, H24, H25, H26, H27, H28, H29, ⟨%f30, H30⟩, ⟨%f31, H31⟩, ⟨%f32, H32⟩, ⟨%f33, H33⟩, ⟨%f34, H34⟩, Hk⟩
  subst hR
  iapply ((runRest (F := F) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 (h1.unread X1) (h2.unread X2) (h3.unread X3) (h4.unread X4) (h5.unread X5) (h6.unread X6) (h7.unread X7) (h8.unread X8) (h9.unread X9) (h10.unread X10) (h11.unread X11) (h12.unread X12) (h13.unread X13) (h14.unread X14) (h15.unread X15) (h16.unread X16) (h17.unread X17) (h27.unread X27) (h28.unread X28) (h29.unread X29)).2 f18 f19 f20 f21 f22 f23 f24 f25 f26 f30 f31 f32 f33 f34 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iexact Hk

/-- The body at the first grid point: it fills the scratch copies of the weights first. -/
theorem wp_first (c : Dev nD) (i : grid0.Coords)
  (M1 : Memref sig .tc .vmem S1x1024x256 .f32) (h1 : M1.IsWhole)
  (M2 : Memref sig .tc .vmem S1x256x1024 .bf16) (h2 : M2.IsWhole)
  (M3 : Memref sig .tc .vmem S1024x1024 .i8) (h3 : M3.IsWhole)
  (M4 : Memref sig .tc .vmem S1x1024 .f32) (h4 : M4.IsWhole)
  (M5 : Memref sig .tc .vmem S1x1024 .f32) (h5 : M5.IsWhole)
  (M6 : Memref sig .tc .vmem S1024x4096 .i8) (h6 : M6.IsWhole)
  (M7 : Memref sig .tc .vmem S1x4096 .f32) (h7 : M7.IsWhole)
  (M8 : Memref sig .tc .vmem S1x4096 .f32) (h8 : M8.IsWhole)
  (M9 : Memref sig .tc .vmem S4096x1024 .i8) (h9 : M9.IsWhole)
  (M10 : Memref sig .tc .vmem S1x1024 .f32) (h10 : M10.IsWhole)
  (M11 : Memref sig .tc .vmem S1x1024 .f32) (h11 : M11.IsWhole)
  (M12 : Memref sig .tc .vmem S1x1024 .f32) (h12 : M12.IsWhole)
  (M13 : Memref sig .tc .vmem S1x1024 .f32) (h13 : M13.IsWhole)
  (M14 : Memref sig .tc .vmem S1x1024 .f32) (h14 : M14.IsWhole)
  (M15 : Memref sig .tc .vmem S1x1024 .f32) (h15 : M15.IsWhole)
  (M16 : Memref sig .tc .vmem S1x1024 .f32) (h16 : M16.IsWhole)
  (M17 : Memref sig .tc .vmem S1x1024 .f32) (h17 : M17.IsWhole)
  (M18 : Memref sig .tc .vmem S1x256x1024 .i8) (h18 : M18.IsWhole)
  (M19 : Memref sig .tc .vmem S2x768 .f32) (h19 : M19.IsWhole)
  (M20 : Memref sig .tc .vmem S1x256x1024 .f32) (h20 : M20.IsWhole)
  (M21 : Memref sig .tc .vmem S1x1024x256 .i8) (h21 : M21.IsWhole)
  (M22 : Memref sig .tc .vmem S2x768 .f32) (h22 : M22.IsWhole)
  (M23 : Memref sig .tc .vmem S1x256x1024 .i8) (h23 : M23.IsWhole)
  (M24 : Memref sig .tc .vmem S2x768 .f32) (h24 : M24.IsWhole)
  (M25 : Memref sig .tc .vmem S1x256x4096 .i8) (h25 : M25.IsWhole)
  (M26 : Memref sig .tc .vmem S2x768 .f32) (h26 : M26.IsWhole)
  (M27 : Memref sig .tc .vmem S1024x1024 .bf16) (h27 : M27.IsWhole)
  (M28 : Memref sig .tc .vmem S1024x4096 .bf16) (h28 : M28.IsWhole)
  (M29 : Memref sig .tc .vmem S4096x1024 .bf16) (h29 : M29.IsWhole)
  (M30 : Memref sig .tc .vmem S1024x256 .bf16) (h30 : M30.IsWhole)
  (M31 : Memref sig .tc .vmem S256x4096 .f32) (h31 : M31.IsWhole)
  (M32 : Memref sig .tc .vmem S256x4096 .bf16) (h32 : M32.IsWhole)
  (M33 : Memref sig .tc .vmem S256x1024 .f32) (h33 : M33.IsWhole)
  (M34 : Memref sig .tc .vmem S256x1024 .bf16) (h34 : M34.IsWhole)
 (hc : k0_cond1 i = 1#1) (X1 : Vec F S1x1024x256 .f32) (X2 : Vec F S1x256x1024 .bf16) (X3 : Vec F S1024x1024 .i8) (X4 : Vec F S1x1024 .f32) (X5 : Vec F S1x1024 .f32) (X6 : Vec F S1024x4096 .i8) (X7 : Vec F S1x4096 .f32) (X8 : Vec F S1x4096 .f32) (X9 : Vec F S4096x1024 .i8) (X10 : Vec F S1x1024 .f32) (X11 : Vec F S1x1024 .f32) (X12 : Vec F S1x1024 .f32) (X13 : Vec F S1x1024 .f32) (X14 : Vec F S1x1024 .f32) (X15 : Vec F S1x1024 .f32) (X16 : Vec F S1x1024 .f32) (X17 : Vec F S1x1024 .f32) (f18 : Bf (F := F) c M18) (f19 : Bf (F := F) c M19) (f20 : Bf (F := F) c M20) (f21 : Bf (F := F) c M21) (f22 : Bf (F := F) c M22) (f23 : Bf (F := F) c M23) (f24 : Bf (F := F) c M24) (f25 : Bf (F := F) c M25) (f26 : Bf (F := F) c M26) (f27 : Bf (F := F) c M27) (f28 : Bf (F := F) c M28) (f29 : Bf (F := F) c M29) (R : Bf (F := F) c M18 × Bf (F := F) c M20 × Bf (F := F) c M21 × Bf (F := F) c M23 × Bf (F := F) c M25 × (Bf (F := F) c M19 → Bf (F := F) c M19) × (Bf (F := F) c M22 → Bf (F := F) c M22) × (Bf (F := F) c M24 → Bf (F := F) c M24) × (Bf (F := F) c M26 → Bf (F := F) c M26)) (hR : (runRest (F := F) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 (h1.unread X1) (h2.unread X2) (h3.unread X3) (h4.unread X4) (h5.unread X5) (h6.unread X6) (h7.unread X7) (h8.unread X8) (h9.unread X9) (h10.unread X10) (h11.unread X11) (h12.unread X12) (h13.unread X13) (h14.unread X14) (h15.unread X15) (h16.unread X16) (h17.unread X17) (h27.unread (sitofp .bf16 X3)) (h28.unread (sitofp .bf16 X6)) (h29.unread (sitofp .bf16 X9))).1 = R) (E : Set ℕ) (Q : PUnit → sProp 𝕄) :
    iprop(pt c M1 (h1.unread X1) ∗ pt c M2 (h2.unread X2) ∗ pt c M3 (h3.unread X3) ∗ pt c M4 (h4.unread X4) ∗ pt c M5 (h5.unread X5) ∗ pt c M6 (h6.unread X6) ∗ pt c M7 (h7.unread X7) ∗ pt c M8 (h8.unread X8) ∗ pt c M9 (h9.unread X9) ∗ pt c M10 (h10.unread X10) ∗ pt c M11 (h11.unread X11) ∗ pt c M12 (h12.unread X12) ∗ pt c M13 (h13.unread X13) ∗ pt c M14 (h14.unread X14) ∗ pt c M15 (h15.unread X15) ∗ pt c M16 (h16.unread X16) ∗ pt c M17 (h17.unread X17) ∗ pt c M18 f18 ∗ pt c M19 f19 ∗ pt c M20 f20 ∗ pt c M21 f21 ∗ pt c M22 f22 ∗ pt c M23 f23 ∗ pt c M24 f24 ∗ pt c M25 f25 ∗ pt c M26 f26 ∗ pt c M27 f27 ∗ pt c M28 f28 ∗ pt c M29 f29 ∗ (∃ f, pt c M30 f) ∗ (∃ f, pt c M31 f) ∗ (∃ f, pt c M32 f) ∗ (∃ f, pt c M33 f) ∗ (∃ f, pt c M34 f) ∗ (iprop(pt c M1 (h1.unread X1) ∗ pt c M2 (h2.unread X2) ∗ pt c M3 (h3.unread X3) ∗ pt c M4 (h4.unread X4) ∗ pt c M5 (h5.unread X5) ∗ pt c M6 (h6.unread X6) ∗ pt c M7 (h7.unread X7) ∗ pt c M8 (h8.unread X8) ∗ pt c M9 (h9.unread X9) ∗ pt c M10 (h10.unread X10) ∗ pt c M11 (h11.unread X11) ∗ pt c M12 (h12.unread X12) ∗ pt c M13 (h13.unread X13) ∗ pt c M14 (h14.unread X14) ∗ pt c M15 (h15.unread X15) ∗ pt c M16 (h16.unread X16) ∗ pt c M17 (h17.unread X17) ∗ pt c M18 R.1 ∗ pt c M19 (R.2.2.2.2.2.1 f19) ∗ pt c M20 R.2.1 ∗ pt c M21 R.2.2.1 ∗ pt c M22 (R.2.2.2.2.2.2.1 f22) ∗ pt c M23 R.2.2.2.1 ∗ pt c M24 (R.2.2.2.2.2.2.2.1 f24) ∗ pt c M25 R.2.2.2.2.1 ∗ pt c M26 (R.2.2.2.2.2.2.2.2 f26) ∗ pt c M27 (h27.unread (sitofp .bf16 X3)) ∗ pt c M28 (h28.unread (sitofp .bf16 X6)) ∗ pt c M29 (h29.unread (sitofp .bf16 X9)) ∗ (∃ f, pt c M30 f) ∗ (∃ f, pt c M31 f) ∗ (∃ f, pt c M32 f) ∗ (∃ f, pt c M33 f) ∗ (∃ f, pt c M34 f)) -∗ Q ⟨⟩))
    ⊢ wp frame (wpE (defs₀ (F := F)) Variants.none c none) E (cc0_ffn (F := F) i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34) Q := by
  refine triple_restated ?_ (congrArg (wp frame (wpE (defs₀ (F := F)) Variants.none c none) E) ((rest (F := F) i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34).2.2 hc).symm) .rfl (fun _ => .rfl)
  have e27 : M27.view.writes (Elt F) f27 (runPrologue (F := F) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc (h3.unread X3) (h6.unread X6) (h9.unread X9)).1.1 = h27.unread (sitofp .bf16 X3) :=
    h27.eq_unread (read_pb1 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc X3 f27)
  have e28 : M28.view.writes (Elt F) f28 (runPrologue (F := F) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc (h3.unread X3) (h6.unread X6) (h9.unread X9)).1.2.1 = h28.unread (sitofp .bf16 X6) :=
    h28.eq_unread (read_pb2 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc X6 f28)
  have e29 : M29.view.writes (Elt F) f29 (runPrologue (F := F) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc (h3.unread X3) (h6.unread X6) (h9.unread X9)).1.2.2 = h29.unread (sitofp .bf16 X9) :=
    h29.eq_unread (read_pb3 c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc X9 f29)
  iintro ⟨H1, H2, H3, H4, H5, H6, H7, H8, H9, H10, H11, H12, H13, H14, H15, H16, H17, H18, H19, H20, H21, H22, H23, H24, H25, H26, H27, H28, H29, ⟨%f30, H30⟩, ⟨%f31, H31⟩, ⟨%f32, H32⟩, ⟨%f33, H33⟩, ⟨%f34, H34⟩, Hk⟩
  iapply ((runPrologue (F := F) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 hc (h3.unread X3) (h6.unread X6) (h9.unread X9)).2 f27 f28 f29 _ E Q)
  isplitl [H3]; · iexact H3
  isplitl [H6]; · iexact H6
  isplitl [H9]; · iexact H9
  isplitl [H27]; · iexact H27
  isplitl [H28]; · iexact H28
  isplitl [H29]; · iexact H29
  rw [e27, e28, e29]
  iintro ⟨H3, H6, H9, H27, H28, H29⟩
  subst hR
  iapply ((runRest (F := F) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 (h1.unread X1) (h2.unread X2) (h3.unread X3) (h4.unread X4) (h5.unread X5) (h6.unread X6) (h7.unread X7) (h8.unread X8) (h9.unread X9) (h10.unread X10) (h11.unread X11) (h12.unread X12) (h13.unread X13) (h14.unread X14) (h15.unread X15) (h16.unread X16) (h17.unread X17) (h27.unread (sitofp .bf16 X3)) (h28.unread (sitofp .bf16 X6)) (h29.unread (sitofp .bf16 X9))).2 f18 f19 f20 f21 f22 f23 f24 f25 f26 f30 f31 f32 f33 f34 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iexact Hk

end Cert.KernelIdeal.Body
-- ==== Proof.Ideal.Data.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import proofs.«01_k».proof.Proof.Ideal.Triple

@[expose] public section

set_option maxRecDepth 16384
set_option maxHeartbeats 1000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat RDat Cfg Window cellOf ΦA)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staging memrefs at a point -/

abbrev ms_0 (t : Fin cfg0.N) : Memref sig .tc .vmem S1x1024x256 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x256x1024 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1024x1024 .i8 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x1024 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x1024 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1024x4096 .i8 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x4096 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x4096 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S4096x1024 .i8 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1x1024 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S1x1024 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S1x1024 .f32 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S1x1024 .f32 := win0_12.stage (cfg0.slots t 12)
abbrev hs_12 (t : Fin cfg0.N) : (ms_12 t).IsWhole := hstage0_12 ((cfg0.slots t 12).cast nbuf0_12)
abbrev ms_13 (t : Fin cfg0.N) : Memref sig .tc .vmem S1x1024 .f32 := win0_13.stage (cfg0.slots t 13)
abbrev hs_13 (t : Fin cfg0.N) : (ms_13 t).IsWhole := hstage0_13 ((cfg0.slots t 13).cast nbuf0_13)
abbrev ms_14 (t : Fin cfg0.N) : Memref sig .tc .vmem S1x1024 .f32 := win0_14.stage (cfg0.slots t 14)
abbrev hs_14 (t : Fin cfg0.N) : (ms_14 t).IsWhole := hstage0_14 ((cfg0.slots t 14).cast nbuf0_14)
abbrev ms_15 (t : Fin cfg0.N) : Memref sig .tc .vmem S1x1024 .f32 := win0_15.stage (cfg0.slots t 15)
abbrev hs_15 (t : Fin cfg0.N) : (ms_15 t).IsWhole := hstage0_15 ((cfg0.slots t 15).cast nbuf0_15)
abbrev ms_16 (t : Fin cfg0.N) : Memref sig .tc .vmem S1x1024 .f32 := win0_16.stage (cfg0.slots t 16)
abbrev hs_16 (t : Fin cfg0.N) : (ms_16 t).IsWhole := hstage0_16 ((cfg0.slots t 16).cast nbuf0_16)
abbrev ms_17 (t : Fin cfg0.N) : Memref sig .tc .vmem S1x256x1024 .i8 := win0_17.stage (cfg0.slots t 17)
abbrev hs_17 (t : Fin cfg0.N) : (ms_17 t).IsWhole := hstage0_17 ((cfg0.slots t 17).cast nbuf0_17)
abbrev ms_18 (t : Fin cfg0.N) : Memref sig .tc .vmem S2x768 .f32 := win0_18.stage (cfg0.slots t 18)
abbrev hs_18 (t : Fin cfg0.N) : (ms_18 t).IsWhole := hstage0_18 ((cfg0.slots t 18).cast nbuf0_18)
abbrev ms_19 (t : Fin cfg0.N) : Memref sig .tc .vmem S1x256x1024 .f32 := win0_19.stage (cfg0.slots t 19)
abbrev hs_19 (t : Fin cfg0.N) : (ms_19 t).IsWhole := hstage0_19 ((cfg0.slots t 19).cast nbuf0_19)
abbrev ms_20 (t : Fin cfg0.N) : Memref sig .tc .vmem S1x1024x256 .i8 := win0_20.stage (cfg0.slots t 20)
abbrev hs_20 (t : Fin cfg0.N) : (ms_20 t).IsWhole := hstage0_20 ((cfg0.slots t 20).cast nbuf0_20)
abbrev ms_21 (t : Fin cfg0.N) : Memref sig .tc .vmem S2x768 .f32 := win0_21.stage (cfg0.slots t 21)
abbrev hs_21 (t : Fin cfg0.N) : (ms_21 t).IsWhole := hstage0_21 ((cfg0.slots t 21).cast nbuf0_21)
abbrev ms_22 (t : Fin cfg0.N) : Memref sig .tc .vmem S1x256x1024 .i8 := win0_22.stage (cfg0.slots t 22)
abbrev hs_22 (t : Fin cfg0.N) : (ms_22 t).IsWhole := hstage0_22 ((cfg0.slots t 22).cast nbuf0_22)
abbrev ms_23 (t : Fin cfg0.N) : Memref sig .tc .vmem S2x768 .f32 := win0_23.stage (cfg0.slots t 23)
abbrev hs_23 (t : Fin cfg0.N) : (ms_23 t).IsWhole := hstage0_23 ((cfg0.slots t 23).cast nbuf0_23)
abbrev ms_24 (t : Fin cfg0.N) : Memref sig .tc .vmem S1x256x4096 .i8 := win0_24.stage (cfg0.slots t 24)
abbrev hs_24 (t : Fin cfg0.N) : (ms_24 t).IsWhole := hstage0_24 ((cfg0.slots t 24).cast nbuf0_24)
abbrev ms_25 (t : Fin cfg0.N) : Memref sig .tc .vmem S2x768 .f32 := win0_25.stage (cfg0.slots t 25)
abbrev hs_25 (t : Fin cfg0.N) : (ms_25 t).IsWhole := hstage0_25 ((cfg0.slots t 25).cast nbuf0_25)

/-- The scratch copies of the three weights, from the first grid point on. -/
abbrev W27 (c : Dev nD) : Vec F S1024x1024 .bf16 := sitofp .bf16 (iblk m c 2 t0_0 : Vec F S1024x1024 .i8)
abbrev W28 (c : Dev nD) : Vec F S1024x4096 .bf16 := sitofp .bf16 (iblk m c 5 t0_0 : Vec F S1024x4096 .i8)
abbrev W29 (c : Dev nD) : Vec F S4096x1024 .bf16 := sitofp .bf16 (iblk m c 8 t0_0 : Vec F S4096x1024 .i8)

/-- What the body leaves in the result windows' staging buffers at point `t`: contents, and for a window that
    several points fill, contents as a function of those found. -/
def resAt (c : Dev nD) (t : Fin cfg0.N) : Bf (F := F) c (ms_17 t) × Bf (F := F) c (ms_19 t) × Bf (F := F) c (ms_20 t) × Bf (F := F) c (ms_22 t) × Bf (F := F) c (ms_24 t) × (Bf (F := F) c (ms_18 t) → Bf (F := F) c (ms_18 t)) × (Bf (F := F) c (ms_21 t) → Bf (F := F) c (ms_21 t)) × (Bf (F := F) c (ms_23 t) → Bf (F := F) c (ms_23 t)) × (Bf (F := F) c (ms_25 t) → Bf (F := F) c (ms_25 t)) :=
  (runRest (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) (ms_17 t) (hs_17 t) (ms_18 t) (hs_18 t) (ms_19 t) (hs_19 t) (ms_20 t) (hs_20 t) (ms_21 t) (hs_21 t) (ms_22 t) (hs_22 t) (ms_23 t) (hs_23 t) (ms_24 t) (hs_24 t) (ms_25 t) (hs_25 t) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7)
    ((hs_0 t).unread (iblk m c 0 t)) ((hs_1 t).unread (iblk m c 1 t)) ((hs_2 t).unread (iblk m c 2 t)) ((hs_3 t).unread (iblk m c 3 t)) ((hs_4 t).unread (iblk m c 4 t)) ((hs_5 t).unread (iblk m c 5 t)) ((hs_6 t).unread (iblk m c 6 t)) ((hs_7 t).unread (iblk m c 7 t)) ((hs_8 t).unread (iblk m c 8 t)) ((hs_9 t).unread (iblk m c 9 t)) ((hs_10 t).unread (iblk m c 10 t)) ((hs_11 t).unread (iblk m c 11 t)) ((hs_12 t).unread (iblk m c 12 t)) ((hs_13 t).unread (iblk m c 13 t)) ((hs_14 t).unread (iblk m c 14 t)) ((hs_15 t).unread (iblk m c 15 t)) ((hs_16 t).unread (iblk m c 16 t)) ((Memref.isWhole_whole cc0_scratch0).unread (W27 m c)) ((Memref.isWhole_whole cc0_scratch1).unread (W28 m c)) ((Memref.isWhole_whole cc0_scratch2).unread (W29 m c))).1

/-! ## The invariant over the scratch buffers -/

abbrev anyScr (c : Dev nD) : sProp 𝕄 := iprop(((∃ f, pt (F := F) c (Memref.whole cc0_scratch0) f) ∗ (∃ f, pt (F := F) c (Memref.whole cc0_scratch1) f) ∗ (∃ f, pt (F := F) c (Memref.whole cc0_scratch2) f) ∗ (∃ f, pt (F := F) c (Memref.whole cc0_scratch3) f) ∗ (∃ f, pt (F := F) c (Memref.whole cc0_scratch4) f) ∗ (∃ f, pt (F := F) c (Memref.whole cc0_scratch5) f) ∗ (∃ f, pt (F := F) c (Memref.whole cc0_scratch6) f) ∗ (∃ f, pt (F := F) c (Memref.whole cc0_scratch7) f)) ∗ ∃ r, prngReg c r)
abbrev keptScr (c : Dev nD) : sProp 𝕄 := iprop(pt (F := F) c (Memref.whole cc0_scratch0) ((Memref.isWhole_whole cc0_scratch0).unread (W27 m c)) ∗ pt (F := F) c (Memref.whole cc0_scratch1) ((Memref.isWhole_whole cc0_scratch1).unread (W28 m c)) ∗ pt (F := F) c (Memref.whole cc0_scratch2) ((Memref.isWhole_whole cc0_scratch2).unread (W29 m c)) ∗ (∃ f, pt (F := F) c (Memref.whole cc0_scratch3) f) ∗ (∃ f, pt (F := F) c (Memref.whole cc0_scratch4) f) ∗ (∃ f, pt (F := F) c (Memref.whole cc0_scratch5) f) ∗ (∃ f, pt (F := F) c (Memref.whole cc0_scratch6) f) ∗ (∃ f, pt (F := F) c (Memref.whole cc0_scratch7) f) ∗ ∃ r, prngReg c r)

theorem pt_whole (c : Dev nD) (b : Ref sig .tc) (f : Bf (F := F) c (Memref.whole b)) :
    pt (F := F) c (Memref.whole b) f = ((c : Thread nD τ).loc b ↦{fullShare} f) := by
  show ((c : Thread nD τ).loc b ↦[(View.whole b).set]{fullShare} f) = _
  rw [View.set_whole]

theorem any_whole (c : Dev nD) (b : Ref sig .tc) :
    (iprop(∃ f : Buf (Elt F) ((c : Thread nD τ).loc b), ((c : Thread nD τ).loc b) ↦{fullShare} f) : sProp 𝕄) = iprop(∃ f, pt (F := F) c (Memref.whole b) f) :=
  by congr 1; funext f; exact (pt_whole c b f).symm

theorem anyScr_eq (c : Dev nD) : (ΦA spec0 c : sProp 𝕄) = anyScr (F := F) c := by
  unfold ΦA; rw [scopedRest0_eq]; unfold anyScr
  rw [any_whole, any_whole, any_whole, any_whole, any_whole, any_whole, any_whole, any_whole]

/-! ## The relational proof data -/

/-- What the body may leave at point `t` in window `w`, given what it finds: an input as found, a result window
    that a point fills at the run's contents, one that several points fill at the run's function of what is found. -/
def aft (c : Dev nD) (w : Fin 26) (t : Fin cfg0.N) : (Y X : (cfg0.win w).block.Idx → Elt F (cfg0.win w).elt) → Prop :=
  match w with
  | ⟨0, _⟩ => fun Y X => X = Y
  | ⟨1, _⟩ => fun Y X => X = Y
  | ⟨2, _⟩ => fun Y X => X = Y
  | ⟨3, _⟩ => fun Y X => X = Y
  | ⟨4, _⟩ => fun Y X => X = Y
  | ⟨5, _⟩ => fun Y X => X = Y
  | ⟨6, _⟩ => fun Y X => X = Y
  | ⟨7, _⟩ => fun Y X => X = Y
  | ⟨8, _⟩ => fun Y X => X = Y
  | ⟨9, _⟩ => fun Y X => X = Y
  | ⟨10, _⟩ => fun Y X => X = Y
  | ⟨11, _⟩ => fun Y X => X = Y
  | ⟨12, _⟩ => fun Y X => X = Y
  | ⟨13, _⟩ => fun Y X => X = Y
  | ⟨14, _⟩ => fun Y X => X = Y
  | ⟨15, _⟩ => fun Y X => X = Y
  | ⟨16, _⟩ => fun Y X => X = Y
  | ⟨17, _⟩ => fun _ X => X = (ms_17 t).view.read (Elt F) (resAt m c t).1
  | ⟨18, _⟩ => fun Y X => X = (ms_18 t).view.read (Elt F) ((resAt m c t).2.2.2.2.2.1 ((hs_18 t).unread Y))
  | ⟨19, _⟩ => fun _ X => X = (ms_19 t).view.read (Elt F) (resAt m c t).2.1
  | ⟨20, _⟩ => fun _ X => X = (ms_20 t).view.read (Elt F) (resAt m c t).2.2.1
  | ⟨21, _⟩ => fun Y X => X = (ms_21 t).view.read (Elt F) ((resAt m c t).2.2.2.2.2.2.1 ((hs_21 t).unread Y))
  | ⟨22, _⟩ => fun _ X => X = (ms_22 t).view.read (Elt F) (resAt m c t).2.2.2.1
  | ⟨23, _⟩ => fun Y X => X = (ms_23 t).view.read (Elt F) ((resAt m c t).2.2.2.2.2.2.2.1 ((hs_23 t).unread Y))
  | ⟨24, _⟩ => fun _ X => X = (ms_24 t).view.read (Elt F) (resAt m c t).2.2.2.2.1
  | ⟨25, _⟩ => fun Y X => X = (ms_25 t).view.read (Elt F) ((resAt m c t).2.2.2.2.2.2.2.2 ((hs_25 t).unread Y))
  | ⟨k + 26, h⟩ => (Nat.not_lt_of_le (Nat.le_add_left 26 k) h).elim

def rdat (c : Dev nD) : RDat τ (Elt F) Unit ℕ (UR sig nD τ) ℕ cfg0 c where
  A w := V m c (Pipeline.arrRef spec0 w)
  after w t := aft m c w t
  Φ t := if t.val = 0 then anyScr (F := F) c else keptScr m c
  q _ := fullShare
  owed _ := 0

theorem own_elim {c : Dev nD} {sp : Space} {S : Shape} {e : EltTy} {M : Memref sig .tc sp S e} (h : M.IsWhole) (Y : Vec F S e) :
    (owns c M fullShare Y : sProp 𝕄) ⊢ pt (F := F) c M (h.unread Y) := by
  unfold owns
  iintro ⟨%f, %hf, H⟩
  obtain rfl := h.eq_unread hf
  iexact H

theorem own_intro {c : Dev nD} {sp : Space} {S : Shape} {e : EltTy} {M : Memref sig .tc sp S e} {P : Vec F S e → Prop} {f : Bf (F := F) c M}
    (hP : P (M.view.read (Elt F) f)) : (pt (F := F) c M f : sProp 𝕄) ⊢ iprop(∃ X, ⌜P X⌝ ∗ owns c M fullShare X) := by
  iintro H
  iexists _
  isplitr
  · ipureintro; exact hP
  unfold owns
  iexists _
  isplitr
  · ipureintro; rfl
  iexact H

theorem finds_0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  rfl
theorem finds_1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  rfl
theorem finds_2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  rfl
theorem finds_3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  rfl
theorem finds_4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  rfl
theorem finds_5 (c : Dev nD) (t : Fin cfg0.N) (Y) (h : (rdat m c).Finds 5 t Y) : Y = iblk m c 5 t := by
  obtain ⟨d, rfl⟩ := (rdat m c).finds_in_eq_fetched 5 rfl (fun _ _ _ => rfl) (fun _ _ _ h => h) t Y h
  rfl
theorem finds_6 (c : Dev nD) (t : Fin cfg0.N) (Y) (h : (rdat m c).Finds 6 t Y) : Y = iblk m c 6 t := by
  obtain ⟨d, rfl⟩ := (rdat m c).finds_in_eq_fetched 6 rfl (fun _ _ _ => rfl) (fun _ _ _ h => h) t Y h
  rfl
theorem finds_7 (c : Dev nD) (t : Fin cfg0.N) (Y) (h : (rdat m c).Finds 7 t Y) : Y = iblk m c 7 t := by
  obtain ⟨d, rfl⟩ := (rdat m c).finds_in_eq_fetched 7 rfl (fun _ _ _ => rfl) (fun _ _ _ h => h) t Y h
  rfl
theorem finds_8 (c : Dev nD) (t : Fin cfg0.N) (Y) (h : (rdat m c).Finds 8 t Y) : Y = iblk m c 8 t := by
  obtain ⟨d, rfl⟩ := (rdat m c).finds_in_eq_fetched 8 rfl (fun _ _ _ => rfl) (fun _ _ _ h => h) t Y h
  rfl
theorem finds_9 (c : Dev nD) (t : Fin cfg0.N) (Y) (h : (rdat m c).Finds 9 t Y) : Y = iblk m c 9 t := by
  obtain ⟨d, rfl⟩ := (rdat m c).finds_in_eq_fetched 9 rfl (fun _ _ _ => rfl) (fun _ _ _ h => h) t Y h
  rfl
theorem finds_10 (c : Dev nD) (t : Fin cfg0.N) (Y) (h : (rdat m c).Finds 10 t Y) : Y = iblk m c 10 t := by
  obtain ⟨d, rfl⟩ := (rdat m c).finds_in_eq_fetched 10 rfl (fun _ _ _ => rfl) (fun _ _ _ h => h) t Y h
  rfl
theorem finds_11 (c : Dev nD) (t : Fin cfg0.N) (Y) (h : (rdat m c).Finds 11 t Y) : Y = iblk m c 11 t := by
  obtain ⟨d, rfl⟩ := (rdat m c).finds_in_eq_fetched 11 rfl (fun _ _ _ => rfl) (fun _ _ _ h => h) t Y h
  rfl
theorem finds_12 (c : Dev nD) (t : Fin cfg0.N) (Y) (h : (rdat m c).Finds 12 t Y) : Y = iblk m c 12 t := by
  obtain ⟨d, rfl⟩ := (rdat m c).finds_in_eq_fetched 12 rfl (fun _ _ _ => rfl) (fun _ _ _ h => h) t Y h
  rfl
theorem finds_13 (c : Dev nD) (t : Fin cfg0.N) (Y) (h : (rdat m c).Finds 13 t Y) : Y = iblk m c 13 t := by
  obtain ⟨d, rfl⟩ := (rdat m c).finds_in_eq_fetched 13 rfl (fun _ _ _ => rfl) (fun _ _ _ h => h) t Y h
  rfl
theorem finds_14 (c : Dev nD) (t : Fin cfg0.N) (Y) (h : (rdat m c).Finds 14 t Y) : Y = iblk m c 14 t := by
  obtain ⟨d, rfl⟩ := (rdat m c).finds_in_eq_fetched 14 rfl (fun _ _ _ => rfl) (fun _ _ _ h => h) t Y h
  rfl
theorem finds_15 (c : Dev nD) (t : Fin cfg0.N) (Y) (h : (rdat m c).Finds 15 t Y) : Y = iblk m c 15 t := by
  obtain ⟨d, rfl⟩ := (rdat m c).finds_in_eq_fetched 15 rfl (fun _ _ _ => rfl) (fun _ _ _ h => h) t Y h
  rfl
theorem finds_16 (c : Dev nD) (t : Fin cfg0.N) (Y) (h : (rdat m c).Finds 16 t Y) : Y = iblk m c 16 t := by
  obtain ⟨d, rfl⟩ := (rdat m c).finds_in_eq_fetched 16 rfl (fun _ _ _ => rfl) (fun _ _ _ h => h) t Y h
  rfl

theorem first_iff : ∀ t : Fin cfg0.N, k0_cond1 (grid0.coords t) = 1#1 ↔ t.val = 0 := by decide +kernel

end Cert.KernelIdeal.Body
-- ==== Proof.Ideal.Oblig.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import proofs.«01_k».proof.Proof.Ideal.Data

@[expose] public section

set_option maxRecDepth 16384
set_option maxHeartbeats 1000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat RDat Cfg Window cellOf ΦA)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem resAt_eq (c : Dev nD) (t : Fin cfg0.N) : (runRest (F := F) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) (ms_17 t) (hs_17 t) (ms_18 t) (hs_18 t) (ms_19 t) (hs_19 t) (ms_20 t) (hs_20 t) (ms_21 t) (hs_21 t) (ms_22 t) (hs_22 t) (ms_23 t) (hs_23 t) (ms_24 t) (hs_24 t) (ms_25 t) (hs_25 t) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7)
    ((hs_0 t).unread (iblk m c 0 t)) ((hs_1 t).unread (iblk m c 1 t)) ((hs_2 t).unread (iblk m c 2 t)) ((hs_3 t).unread (iblk m c 3 t)) ((hs_4 t).unread (iblk m c 4 t)) ((hs_5 t).unread (iblk m c 5 t)) ((hs_6 t).unread (iblk m c 6 t)) ((hs_7 t).unread (iblk m c 7 t)) ((hs_8 t).unread (iblk m c 8 t)) ((hs_9 t).unread (iblk m c 9 t)) ((hs_10 t).unread (iblk m c 10 t)) ((hs_11 t).unread (iblk m c 11 t)) ((hs_12 t).unread (iblk m c 12 t)) ((hs_13 t).unread (iblk m c 13 t)) ((hs_14 t).unread (iblk m c 14 t)) ((hs_15 t).unread (iblk m c 15 t)) ((hs_16 t).unread (iblk m c 16 t)) ((Memref.isWhole_whole cc0_scratch0).unread (W27 m c)) ((Memref.isWhole_whole cc0_scratch1).unread (W28 m c)) ((Memref.isWhole_whole cc0_scratch2).unread (W29 m c))).1 = resAt m c t := by unfold resAt; rfl

/-- The body's obligation at a point. -/
theorem body_obligation (c : Dev nD) : (rdat (F := F) m c).BodyObligation defs₀ Variants.none () Set.univ := fun t Y hY => by
  have hΦ0 : (rdat (F := F) m c).Φ t.castSucc = if t.val = 0 then anyScr (F := F) c else keptScr m c := rfl
  have hΦ1 : (rdat (F := F) m c).Φ t.succ = keptScr m c := rfl
  rw [hΦ0, hΦ1]
  rw [bigSep_W0, bigSep_W0]
  rw [finds_0 m c t _ (hY 0), finds_1 m c t _ (hY 1), finds_2 m c t _ (hY 2), finds_3 m c t _ (hY 3), finds_4 m c t _ (hY 4), finds_5 m c t _ (hY 5), finds_6 m c t _ (hY 6), finds_7 m c t _ (hY 7), finds_8 m c t _ (hY 8), finds_9 m c t _ (hY 9), finds_10 m c t _ (hY 10), finds_11 m c t _ (hY 11), finds_12 m c t _ (hY 12), finds_13 m c t _ (hY 13), finds_14 m c t _ (hY 14), finds_15 m c t _ (hY 15), finds_16 m c t _ (hY 16)]
  sl_whnfR [defs₀, Defs.onTc]
  rw [show (rdat (F := F) m c).owesAt () t.succ = (rdat (F := F) m c).owesAt () t.castSucc from rfl]
  by_cases hc : k0_cond1 (grid0.coords t) = 1#1
  · have ht : t.val = 0 := (first_iff t).mp hc
    obtain rfl : t = t0_0 := Fin.ext ht
    rw [if_pos ht]
    iintro ⟨⟨⟨⟨%f27, H27⟩, ⟨%f28, H28⟩, ⟨%f29, H29⟩, H30, H31, H32, H33, H34⟩, Hr⟩, Ho, H1, H2, H3, H4, H5, H6, H7, H8, H9, H10, H11, H12, H13, H14, H15, H16, H17, H18, H19, H20, H21, H22, H23, H24, H25, H26⟩
    iapply (wp_first c (grid0.coords t0_0) (ms_0 t0_0) (hs_0 t0_0) (ms_1 t0_0) (hs_1 t0_0) (ms_2 t0_0) (hs_2 t0_0) (ms_3 t0_0) (hs_3 t0_0) (ms_4 t0_0) (hs_4 t0_0) (ms_5 t0_0) (hs_5 t0_0) (ms_6 t0_0) (hs_6 t0_0) (ms_7 t0_0) (hs_7 t0_0) (ms_8 t0_0) (hs_8 t0_0) (ms_9 t0_0) (hs_9 t0_0) (ms_10 t0_0) (hs_10 t0_0) (ms_11 t0_0) (hs_11 t0_0) (ms_12 t0_0) (hs_12 t0_0) (ms_13 t0_0) (hs_13 t0_0) (ms_14 t0_0) (hs_14 t0_0) (ms_15 t0_0) (hs_15 t0_0) (ms_16 t0_0) (hs_16 t0_0) (ms_17 t0_0) (hs_17 t0_0) (ms_18 t0_0) (hs_18 t0_0) (ms_19 t0_0) (hs_19 t0_0) (ms_20 t0_0) (hs_20 t0_0) (ms_21 t0_0) (hs_21 t0_0) (ms_22 t0_0) (hs_22 t0_0) (ms_23 t0_0) (hs_23 t0_0) (ms_24 t0_0) (hs_24 t0_0) (ms_25 t0_0) (hs_25 t0_0) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) hc (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) ((hs_17 t0_0).unread (Y 17)) ((hs_18 t0_0).unread (Y 18)) ((hs_19 t0_0).unread (Y 19)) ((hs_20 t0_0).unread (Y 20)) ((hs_21 t0_0).unread (Y 21)) ((hs_22 t0_0).unread (Y 22)) ((hs_23 t0_0).unread (Y 23)) ((hs_24 t0_0).unread (Y 24)) ((hs_25 t0_0).unread (Y 25)) f27 f28 f29 (resAt m c t0_0) (resAt_eq m c t0_0) Set.univ _)
    isplitl [H1]; · iapply (own_elim (hs_0 t0_0) (iblk m c 0 t0_0)); iexact H1
    isplitl [H2]; · iapply (own_elim (hs_1 t0_0) (iblk m c 1 t0_0)); iexact H2
    isplitl [H3]; · iapply (own_elim (hs_2 t0_0) (iblk m c 2 t0_0)); iexact H3
    isplitl [H4]; · iapply (own_elim (hs_3 t0_0) (iblk m c 3 t0_0)); iexact H4
    isplitl [H5]; · iapply (own_elim (hs_4 t0_0) (iblk m c 4 t0_0)); iexact H5
    isplitl [H6]; · iapply (own_elim (hs_5 t0_0) (iblk m c 5 t0_0)); iexact H6
    isplitl [H7]; · iapply (own_elim (hs_6 t0_0) (iblk m c 6 t0_0)); iexact H7
    isplitl [H8]; · iapply (own_elim (hs_7 t0_0) (iblk m c 7 t0_0)); iexact H8
    isplitl [H9]; · iapply (own_elim (hs_8 t0_0) (iblk m c 8 t0_0)); iexact H9
    isplitl [H10]; · iapply (own_elim (hs_9 t0_0) (iblk m c 9 t0_0)); iexact H10
    isplitl [H11]; · iapply (own_elim (hs_10 t0_0) (iblk m c 10 t0_0)); iexact H11
    isplitl [H12]; · iapply (own_elim (hs_11 t0_0) (iblk m c 11 t0_0)); iexact H12
    isplitl [H13]; · iapply (own_elim (hs_12 t0_0) (iblk m c 12 t0_0)); iexact H13
    isplitl [H14]; · iapply (own_elim (hs_13 t0_0) (iblk m c 13 t0_0)); iexact H14
    isplitl [H15]; · iapply (own_elim (hs_14 t0_0) (iblk m c 14 t0_0)); iexact H15
    isplitl [H16]; · iapply (own_elim (hs_15 t0_0) (iblk m c 15 t0_0)); iexact H16
    isplitl [H17]; · iapply (own_elim (hs_16 t0_0) (iblk m c 16 t0_0)); iexact H17
    isplitl [H18]; · iapply (own_elim (hs_17 t0_0) (Y 17)); iexact H18
    isplitl [H19]; · iapply (own_elim (hs_18 t0_0) (Y 18)); iexact H19
    isplitl [H20]; · iapply (own_elim (hs_19 t0_0) (Y 19)); iexact H20
    isplitl [H21]; · iapply (own_elim (hs_20 t0_0) (Y 20)); iexact H21
    isplitl [H22]; · iapply (own_elim (hs_21 t0_0) (Y 21)); iexact H22
    isplitl [H23]; · iapply (own_elim (hs_22 t0_0) (Y 22)); iexact H23
    isplitl [H24]; · iapply (own_elim (hs_23 t0_0) (Y 23)); iexact H24
    isplitl [H25]; · iapply (own_elim (hs_24 t0_0) (Y 24)); iexact H25
    isplitl [H26]; · iapply (own_elim (hs_25 t0_0) (Y 25)); iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    iintro ⟨H1, H2, H3, H4, H5, H6, H7, H8, H9, H10, H11, H12, H13, H14, H15, H16, H17, H18, H19, H20, H21, H22, H23, H24, H25, H26, H27, H28, H29, H30, H31, H32, H33, H34⟩
    isplitl [H27 H28 H29 H30 H31 H32 H33 H34 Hr]
    · isplitl [H27]; · iexact H27
      isplitl [H28]; · iexact H28
      isplitl [H29]; · iexact H29
      isplitl [H30]; · iexact H30
      isplitl [H31]; · iexact H31
      isplitl [H32]; · iexact H32
      isplitl [H33]; · iexact H33
      isplitl [H34]; · iexact H34
      iexact Hr
    isplitl [Ho]; · iexact Ho
    isplitl [H1]; · iapply (own_intro (P := aft m c 0 t0_0 (iblk m c 0 t0_0)) ((hs_0 t0_0).read_unread (iblk m c 0 t0_0))); iexact H1
    isplitl [H2]; · iapply (own_intro (P := aft m c 1 t0_0 (iblk m c 1 t0_0)) ((hs_1 t0_0).read_unread (iblk m c 1 t0_0))); iexact H2
    isplitl [H3]; · iapply (own_intro (P := aft m c 2 t0_0 (iblk m c 2 t0_0)) ((hs_2 t0_0).read_unread (iblk m c 2 t0_0))); iexact H3
    isplitl [H4]; · iapply (own_intro (P := aft m c 3 t0_0 (iblk m c 3 t0_0)) ((hs_3 t0_0).read_unread (iblk m c 3 t0_0))); iexact H4
    isplitl [H5]; · iapply (own_intro (P := aft m c 4 t0_0 (iblk m c 4 t0_0)) ((hs_4 t0_0).read_unread (iblk m c 4 t0_0))); iexact H5
    isplitl [H6]; · iapply (own_intro (P := aft m c 5 t0_0 (iblk m c 5 t0_0)) ((hs_5 t0_0).read_unread (iblk m c 5 t0_0))); iexact H6
    isplitl [H7]; · iapply (own_intro (P := aft m c 6 t0_0 (iblk m c 6 t0_0)) ((hs_6 t0_0).read_unread (iblk m c 6 t0_0))); iexact H7
    isplitl [H8]; · iapply (own_intro (P := aft m c 7 t0_0 (iblk m c 7 t0_0)) ((hs_7 t0_0).read_unread (iblk m c 7 t0_0))); iexact H8
    isplitl [H9]; · iapply (own_intro (P := aft m c 8 t0_0 (iblk m c 8 t0_0)) ((hs_8 t0_0).read_unread (iblk m c 8 t0_0))); iexact H9
    isplitl [H10]; · iapply (own_intro (P := aft m c 9 t0_0 (iblk m c 9 t0_0)) ((hs_9 t0_0).read_unread (iblk m c 9 t0_0))); iexact H10
    isplitl [H11]; · iapply (own_intro (P := aft m c 10 t0_0 (iblk m c 10 t0_0)) ((hs_10 t0_0).read_unread (iblk m c 10 t0_0))); iexact H11
    isplitl [H12]; · iapply (own_intro (P := aft m c 11 t0_0 (iblk m c 11 t0_0)) ((hs_11 t0_0).read_unread (iblk m c 11 t0_0))); iexact H12
    isplitl [H13]; · iapply (own_intro (P := aft m c 12 t0_0 (iblk m c 12 t0_0)) ((hs_12 t0_0).read_unread (iblk m c 12 t0_0))); iexact H13
    isplitl [H14]; · iapply (own_intro (P := aft m c 13 t0_0 (iblk m c 13 t0_0)) ((hs_13 t0_0).read_unread (iblk m c 13 t0_0))); iexact H14
    isplitl [H15]; · iapply (own_intro (P := aft m c 14 t0_0 (iblk m c 14 t0_0)) ((hs_14 t0_0).read_unread (iblk m c 14 t0_0))); iexact H15
    isplitl [H16]; · iapply (own_intro (P := aft m c 15 t0_0 (iblk m c 15 t0_0)) ((hs_15 t0_0).read_unread (iblk m c 15 t0_0))); iexact H16
    isplitl [H17]; · iapply (own_intro (P := aft m c 16 t0_0 (iblk m c 16 t0_0)) ((hs_16 t0_0).read_unread (iblk m c 16 t0_0))); iexact H17
    isplitl [H18]; · iapply (own_intro (P := aft m c 17 t0_0 (Y 17)) rfl); iexact H18
    isplitl [H19]; · iapply (own_intro (P := aft m c 18 t0_0 (Y 18)) rfl); iexact H19
    isplitl [H20]; · iapply (own_intro (P := aft m c 19 t0_0 (Y 19)) rfl); iexact H20
    isplitl [H21]; · iapply (own_intro (P := aft m c 20 t0_0 (Y 20)) rfl); iexact H21
    isplitl [H22]; · iapply (own_intro (P := aft m c 21 t0_0 (Y 21)) rfl); iexact H22
    isplitl [H23]; · iapply (own_intro (P := aft m c 22 t0_0 (Y 22)) rfl); iexact H23
    isplitl [H24]; · iapply (own_intro (P := aft m c 23 t0_0 (Y 23)) rfl); iexact H24
    isplitl [H25]; · iapply (own_intro (P := aft m c 24 t0_0 (Y 24)) rfl); iexact H25
    iapply (own_intro (P := aft m c 25 t0_0 (Y 25)) rfl); iexact H26
  · rw [if_neg (fun ht => hc ((first_iff t).mpr ht))]
    iintro ⟨⟨H27, H28, H29, H30, H31, H32, H33, H34, Hr⟩, Ho, H1, H2, H3, H4, H5, H6, H7, H8, H9, H10, H11, H12, H13, H14, H15, H16, H17, H18, H19, H20, H21, H22, H23, H24, H25, H26⟩
    iapply (wp_later c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) (ms_17 t) (hs_17 t) (ms_18 t) (hs_18 t) (ms_19 t) (hs_19 t) (ms_20 t) (hs_20 t) (ms_21 t) (hs_21 t) (ms_22 t) (hs_22 t) (ms_23 t) (hs_23 t) (ms_24 t) (hs_24 t) (ms_25 t) (hs_25 t) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (W27 m c) (W28 m c) (W29 m c) ((hs_17 t).unread (Y 17)) ((hs_18 t).unread (Y 18)) ((hs_19 t).unread (Y 19)) ((hs_20 t).unread (Y 20)) ((hs_21 t).unread (Y 21)) ((hs_22 t).unread (Y 22)) ((hs_23 t).unread (Y 23)) ((hs_24 t).unread (Y 24)) ((hs_25 t).unread (Y 25)) (resAt m c t) (resAt_eq m c t) Set.univ _)
    isplitl [H1]; · iapply (own_elim (hs_0 t) (iblk m c 0 t)); iexact H1
    isplitl [H2]; · iapply (own_elim (hs_1 t) (iblk m c 1 t)); iexact H2
    isplitl [H3]; · iapply (own_elim (hs_2 t) (iblk m c 2 t)); iexact H3
    isplitl [H4]; · iapply (own_elim (hs_3 t) (iblk m c 3 t)); iexact H4
    isplitl [H5]; · iapply (own_elim (hs_4 t) (iblk m c 4 t)); iexact H5
    isplitl [H6]; · iapply (own_elim (hs_5 t) (iblk m c 5 t)); iexact H6
    isplitl [H7]; · iapply (own_elim (hs_6 t) (iblk m c 6 t)); iexact H7
    isplitl [H8]; · iapply (own_elim (hs_7 t) (iblk m c 7 t)); iexact H8
    isplitl [H9]; · iapply (own_elim (hs_8 t) (iblk m c 8 t)); iexact H9
    isplitl [H10]; · iapply (own_elim (hs_9 t) (iblk m c 9 t)); iexact H10
    isplitl [H11]; · iapply (own_elim (hs_10 t) (iblk m c 10 t)); iexact H11
    isplitl [H12]; · iapply (own_elim (hs_11 t) (iblk m c 11 t)); iexact H12
    isplitl [H13]; · iapply (own_elim (hs_12 t) (iblk m c 12 t)); iexact H13
    isplitl [H14]; · iapply (own_elim (hs_13 t) (iblk m c 13 t)); iexact H14
    isplitl [H15]; · iapply (own_elim (hs_14 t) (iblk m c 14 t)); iexact H15
    isplitl [H16]; · iapply (own_elim (hs_15 t) (iblk m c 15 t)); iexact H16
    isplitl [H17]; · iapply (own_elim (hs_16 t) (iblk m c 16 t)); iexact H17
    isplitl [H18]; · iapply (own_elim (hs_17 t) (Y 17)); iexact H18
    isplitl [H19]; · iapply (own_elim (hs_18 t) (Y 18)); iexact H19
    isplitl [H20]; · iapply (own_elim (hs_19 t) (Y 19)); iexact H20
    isplitl [H21]; · iapply (own_elim (hs_20 t) (Y 20)); iexact H21
    isplitl [H22]; · iapply (own_elim (hs_21 t) (Y 21)); iexact H22
    isplitl [H23]; · iapply (own_elim (hs_22 t) (Y 22)); iexact H23
    isplitl [H24]; · iapply (own_elim (hs_23 t) (Y 23)); iexact H24
    isplitl [H25]; · iapply (own_elim (hs_24 t) (Y 24)); iexact H25
    isplitl [H26]; · iapply (own_elim (hs_25 t) (Y 25)); iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    iintro ⟨H1, H2, H3, H4, H5, H6, H7, H8, H9, H10, H11, H12, H13, H14, H15, H16, H17, H18, H19, H20, H21, H22, H23, H24, H25, H26, H27, H28, H29, H30, H31, H32, H33, H34⟩
    isplitl [H27 H28 H29 H30 H31 H32 H33 H34 Hr]
    · isplitl [H27]; · iexact H27
      isplitl [H28]; · iexact H28
      isplitl [H29]; · iexact H29
      isplitl [H30]; · iexact H30
      isplitl [H31]; · iexact H31
      isplitl [H32]; · iexact H32
      isplitl [H33]; · iexact H33
      isplitl [H34]; · iexact H34
      iexact Hr
    isplitl [Ho]; · iexact Ho
    isplitl [H1]; · iapply (own_intro (P := aft m c 0 t (iblk m c 0 t)) ((hs_0 t).read_unread (iblk m c 0 t))); iexact H1
    isplitl [H2]; · iapply (own_intro (P := aft m c 1 t (iblk m c 1 t)) ((hs_1 t).read_unread (iblk m c 1 t))); iexact H2
    isplitl [H3]; · iapply (own_intro (P := aft m c 2 t (iblk m c 2 t)) ((hs_2 t).read_unread (iblk m c 2 t))); iexact H3
    isplitl [H4]; · iapply (own_intro (P := aft m c 3 t (iblk m c 3 t)) ((hs_3 t).read_unread (iblk m c 3 t))); iexact H4
    isplitl [H5]; · iapply (own_intro (P := aft m c 4 t (iblk m c 4 t)) ((hs_4 t).read_unread (iblk m c 4 t))); iexact H5
    isplitl [H6]; · iapply (own_intro (P := aft m c 5 t (iblk m c 5 t)) ((hs_5 t).read_unread (iblk m c 5 t))); iexact H6
    isplitl [H7]; · iapply (own_intro (P := aft m c 6 t (iblk m c 6 t)) ((hs_6 t).read_unread (iblk m c 6 t))); iexact H7
    isplitl [H8]; · iapply (own_intro (P := aft m c 7 t (iblk m c 7 t)) ((hs_7 t).read_unread (iblk m c 7 t))); iexact H8
    isplitl [H9]; · iapply (own_intro (P := aft m c 8 t (iblk m c 8 t)) ((hs_8 t).read_unread (iblk m c 8 t))); iexact H9
    isplitl [H10]; · iapply (own_intro (P := aft m c 9 t (iblk m c 9 t)) ((hs_9 t).read_unread (iblk m c 9 t))); iexact H10
    isplitl [H11]; · iapply (own_intro (P := aft m c 10 t (iblk m c 10 t)) ((hs_10 t).read_unread (iblk m c 10 t))); iexact H11
    isplitl [H12]; · iapply (own_intro (P := aft m c 11 t (iblk m c 11 t)) ((hs_11 t).read_unread (iblk m c 11 t))); iexact H12
    isplitl [H13]; · iapply (own_intro (P := aft m c 12 t (iblk m c 12 t)) ((hs_12 t).read_unread (iblk m c 12 t))); iexact H13
    isplitl [H14]; · iapply (own_intro (P := aft m c 13 t (iblk m c 13 t)) ((hs_13 t).read_unread (iblk m c 13 t))); iexact H14
    isplitl [H15]; · iapply (own_intro (P := aft m c 14 t (iblk m c 14 t)) ((hs_14 t).read_unread (iblk m c 14 t))); iexact H15
    isplitl [H16]; · iapply (own_intro (P := aft m c 15 t (iblk m c 15 t)) ((hs_15 t).read_unread (iblk m c 15 t))); iexact H16
    isplitl [H17]; · iapply (own_intro (P := aft m c 16 t (iblk m c 16 t)) ((hs_16 t).read_unread (iblk m c 16 t))); iexact H17
    isplitl [H18]; · iapply (own_intro (P := aft m c 17 t (Y 17)) rfl); iexact H18
    isplitl [H19]; · iapply (own_intro (P := aft m c 18 t (Y 18)) rfl); iexact H19
    isplitl [H20]; · iapply (own_intro (P := aft m c 19 t (Y 19)) rfl); iexact H20
    isplitl [H21]; · iapply (own_intro (P := aft m c 20 t (Y 20)) rfl); iexact H21
    isplitl [H22]; · iapply (own_intro (P := aft m c 21 t (Y 21)) rfl); iexact H22
    isplitl [H23]; · iapply (own_intro (P := aft m c 22 t (Y 22)) rfl); iexact H23
    isplitl [H24]; · iapply (own_intro (P := aft m c 23 t (Y 23)) rfl); iexact H24
    isplitl [H25]; · iapply (own_intro (P := aft m c 24 t (Y 24)) rfl); iexact H25
    iapply (own_intro (P := aft m c 25 t (Y 25)) rfl); iexact H26
end Cert.KernelIdeal.Body
-- ==== Proof.Ideal.Run.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import proofs.«01_k».proof.Proof.Ideal.Oblig

@[expose] public section

set_option maxRecDepth 16384
set_option maxHeartbeats 1000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat RDat Cfg Window cellOf ΦA)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The weights copied to scratch are forgotten. -/
theorem kept_any (c : Dev nD) : keptScr m c ⊢ anyScr (F := F) c := by
  unfold keptScr anyScr
  iintro ⟨H27, H28, H29, H30, H31, H32, H33, H34, Hr⟩
  isplitl [H27 H28 H29 H30 H31 H32 H33 H34]
  · isplitl [H27]; · iexists _; iexact H27
    isplitl [H28]; · iexists _; iexact H28
    isplitl [H29]; · iexists _; iexact H29
    isplitl [H30]; · iexact H30
    isplitl [H31]; · iexact H31
    isplitl [H32]; · iexact H32
    isplitl [H33]; · iexact H33
    iexact H34
  iexact Hr

set_option backward.isDefEq.respectTransparency.types false in
/-- Every execution ends, with each array at contents the data allow and every counter at zero. -/
theorem run_main : θ_run defs (onTc (τ := τ) (main (F := F))) (s₀ m ρ)
    (fun r => Pipeline.RDat.FramePost cfg0 (rdat m) (V m) r ∧ r.2.sem = fun _ => 0) :=
  Pipeline.RDat.θ_run_frame_track (Q' := _) cfgs (0 : Fin 1) launch0 defs₀ Variants.none (rdat m) m ρ main
    (hbody := body_obligation m) (hshare := fun c w => show (if (cfg0.win w).isOut then fullShare else fullShare) = fullShare from ite_self _) (howed := fun _ _ => rfl) (V := V m)
    (hmain := hmain m Variants.none) (hA := fun _ _ => rfl)
    (hin := fun c => by rw [show Pipeline.ΦA (cfgs 0).spec c = anyScr (F := F) c from anyScr_eq c]; exact .rfl)
    (hout := fun c => by rw [show Pipeline.ΦA (cfgs 0).spec c = anyScr (F := F) c from anyScr_eq c]; exact kept_any m c)

/-- The argument arrays end as they began. -/
theorem args_kept {r} (h : Pipeline.RDat.FramePost cfg0 (rdat (F := F) m) (V m) r ∧ r.2.sem = fun _ => 0) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨(h.1.arr_in c 0 rfl).trans (V_main_arg0 m c),
    (h.1.arr_in c 1 rfl).trans (V_main_arg1 m c),
    (h.1.arr_in c 2 rfl).trans (V_main_arg2 m c),
    (h.1.arr_in c 3 rfl).trans (V_main_arg3 m c),
    (h.1.arr_in c 4 rfl).trans (V_main_arg4 m c),
    (h.1.arr_in c 5 rfl).trans (V_main_arg5 m c),
    (h.1.arr_in c 6 rfl).trans (V_main_arg6 m c),
    (h.1.arr_in c 7 rfl).trans (V_main_arg7 m c),
    (h.1.arr_in c 8 rfl).trans (V_main_arg8 m c),
    (h.1.arr_in c 9 rfl).trans (V_main_arg9 m c),
    (h.1.arr_in c 10 rfl).trans (V_main_arg10 m c),
    (h.1.arr_in c 11 rfl).trans (V_main_arg11 m c),
    (h.1.arr_in c 12 rfl).trans (V_main_arg12 m c),
    (h.1.arr_in c 13 rfl).trans (V_main_arg13 m c),
    (h.1.arr_in c 14 rfl).trans (V_main_arg14 m c),
    (h.1.arr_in c 15 rfl).trans (V_main_arg15 m c),
    (h.1.arr_in c 16 rfl).trans (V_main_arg16 m c)⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun _ h => ⟨args_kept m h, h.2⟩) (run_main m ρ)
end Cert.KernelIdeal.Body
-- ==== Proof.Spec.lean ====
module

public import Idealize.ShloMosaic.Lib.Pointwise
public import Idealize.ShloMosaic.Lib.IdealHost

/-!
# The layer's feed-forward half, token by token

Everything the kernel returns is a function of one token: its attention output `a` (1024 numbers), its residual
row `x` (1024 numbers) and the weights. This module states those functions over the extended reals, in the
reference's own form, and proves the few laws by which the kernel's form differs: multiplying by a reciprocal instead
of dividing, and multiplying by named constants.
-/

@[expose] public section

noncomputable section

namespace Cert.Spec

open Idealize.ShloMosaic
open scoped BigOperators

/-- A row of numbers. -/
abbrev Row (n : Nat) := Fin n → EReal

/-- 1024, the row length, as the f32 literal. -/
abbrev cK : EReal := Ideal.ofBits .f32 1149239296#32
/-- 1/1024, as the f32 literal. -/
abbrev cKinv : EReal := Ideal.ofBits .f32 981467136#32
/-- 127, as the f32 literal. -/
abbrev c127 : EReal := Ideal.ofBits .f32 1123942400#32
/-- The variance's offset. -/
abbrev eps : EReal := Ideal.ofBits .f32 869711765#32
/-- One half. -/
abbrev half : EReal := Ideal.ofBits .f32 1056964608#32
/-- The f32 number nearest the square root of two. -/
abbrev sqrt2 : EReal := Ideal.ofBits .f32 0x3FB504F3#32
/-- Minus infinity, where a maximum starts. -/
abbrev bot : EReal := Ideal.ofBits .f32 4286578688#32

/-- Absolute value. -/
abbrev abs' (x : EReal) : EReal := FloatOps.absf (F := Ideal) (φ := .f32) x

/-- The mean of a row. -/
def mean (v : Row 1024) : EReal := Ideal.div (∑ x, v x) cK

/-- The variance of a row. -/
def var (v : Row 1024) : EReal := Ideal.div (∑ x, (v x - mean v) * (v x - mean v)) cK

/-- Layer normalisation with gain `g` and offset `b`. -/
def norm (v g b : Row 1024) (l : Fin 1024) : EReal :=
  Ideal.div (v l - mean v) (Ideal.sqrt (var v + eps)) * g l + b l

/-- The largest absolute value in a row. -/
def amax {n : Nat} (v : Row n) : EReal := Finset.univ.fold max bot fun x => abs' (v x)

/-- The quantisation scale of a row whose largest absolute value is `a`. -/
def scale (a : EReal) : EReal := if a = 0 then 1 else Ideal.div a c127

/-- The code of `v` at scale `s`, still a number: rounded to even and clipped. -/
def clip (v s : EReal) : EReal :=
  min (((127#32).toInt : ℝ) : EReal) (max (((4294967169#32).toInt : ℝ) : EReal)
    (Ideal.liftRound Ideal.roundHalfEven (Ideal.div v s)))

/-- The 8-bit code of `v` at scale `s`. -/
def code (v s : EReal) : BitVec 8 := FloatOps.fptosi (F := Ideal) (φ := .f32) 8 (clip v s)

/-- A dequantised product: codes `q` of scale `s` with a weight column `w` of scale `ws`, plus a bias. -/
def lin {K : Nat} (q w : Fin K → BitVec 8) (s ws b : EReal) : EReal :=
  (∑ x, FloatOps.sitofp (F := Ideal) .bf16 (q x) * FloatOps.sitofp (F := Ideal) .bf16 (w x)) * s * ws + b

/-- The activation. -/
def gelu (y : EReal) : EReal :=
  half * y * (1 + FloatOps.erf (F := Ideal) (φ := .f32) (Ideal.div y sqrt2))

/-- The weights. -/
structure Wts where
  wo : Fin 1024 → Fin 1024 → BitVec 8
  wos : Row 1024
  wob : Row 1024
  w1 : Fin 1024 → Fin 4096 → BitVec 8
  w1s : Row 4096
  w1b : Row 4096
  w2 : Fin 4096 → Fin 1024 → BitVec 8
  w2s : Row 1024
  w2b : Row 1024
  gx : Row 1024
  bx : Row 1024
  g1 : Row 1024
  b1 : Row 1024
  g2 : Row 1024
  b2 : Row 1024

variable (W : Wts) (a x : Row 1024)

/-- The attention output's scale. -/
def cs : EReal := scale (amax a)
/-- The attention output's codes. -/
def cc (k : Fin 1024) : BitVec 8 := code (a k) (cs a)
/-- The output projection plus the normalised residual. -/
def pre1 (l : Fin 1024) : EReal := lin (cc a) (fun k => W.wo k l) (cs a) (W.wos l) (W.wob l) + norm x W.gx W.bx l
/-- The first normalised hidden row. -/
def h1 : Row 1024 := norm (pre1 W a x) W.g1 W.b1
/-- Its scale. -/
def hs : EReal := scale (amax (h1 W a x))
/-- Its codes. -/
def hc (k : Fin 1024) : BitVec 8 := code (h1 W a x k) (hs W a x)
/-- The activated inner row. -/
def f (l : Fin 4096) : EReal := gelu (lin (hc W a x) (fun k => W.w1 k l) (hs W a x) (W.w1s l) (W.w1b l))
/-- Its scale. -/
def fs : EReal := scale (amax (f W a x))
/-- Its codes. -/
def fc (k : Fin 4096) : BitVec 8 := code (f W a x k) (fs W a x)
/-- The second product plus the hidden row. -/
def pre2 (l : Fin 1024) : EReal := lin (fc W a x) (fun k => W.w2 k l) (fs W a x) (W.w2s l) (W.w2b l) + h1 W a x l
/-- The second normalised hidden row. -/
def h2 : Row 1024 := norm (pre2 W a x) W.g2 W.b2
/-- Its scale. -/
def os : EReal := scale (amax (h2 W a x))
/-- Its codes. -/
def oc (k : Fin 1024) : BitVec 8 := code (h2 W a x k) (os W a x)

/-! ## The laws -/

theorem c127_eq : c127 = ((127 : ℝ) : EReal) := by
  simp [c127, Ideal.ofBits, Ideal.ieee, -EReal.coe_mul]; norm_num

theorem cm127_eq : Ideal.ofBits .f32 3271426048#32 = ((-127 : ℝ) : EReal) := by
  simp [Ideal.ofBits, Ideal.ieee, -EReal.coe_mul, -EReal.coe_neg]; norm_num

theorem cK_eq : cK = ((1024 : ℝ) : EReal) := by
  simp [cK, Ideal.ofBits, Ideal.ieee, -EReal.coe_mul]; norm_num

theorem cKinv_eq : cKinv = ((1 / 1024 : ℝ) : EReal) := by
  simp [cKinv, Ideal.ofBits, Ideal.ieee, -EReal.coe_mul]; norm_num

theorem sqrt2_eq : sqrt2 = ((11863283 / 8388608 : ℝ) : EReal) := by
  simp [sqrt2, Ideal.ofBits, Ideal.ieee, -EReal.coe_mul]; norm_num

theorem eps_pos : 0 < eps := by
  have : eps = ((14073749 / 140737488355328 : ℝ) : EReal) := by
    simp [eps, Ideal.ofBits, Ideal.ieee, -EReal.coe_mul]; norm_num
  rw [this]; exact EReal.coe_pos.2 (by norm_num)

theorem bot_eq : bot = ⊥ := by simp [bot, Ideal.ofBits, Ideal.ieee]

/-- Dividing by a nonzero real is multiplying by its reciprocal. -/
theorem div_real (x : EReal) {r : ℝ} (h : r ≠ 0) : Ideal.div x (r : EReal) = x * ((1 / r : ℝ) : EReal) := by
  rw [Ideal.div, if_neg (by exact_mod_cast h), one_div, EReal.coe_inv]

theorem div_cK (x : EReal) : Ideal.div x cK = x * cKinv := by
  rw [cK_eq, cKinv_eq, div_real x (by norm_num)]

theorem div_c127 (x : EReal) : Ideal.div x c127 = x * ((1 / 127 : ℝ) : EReal) := by
  rw [c127_eq, div_real x (by norm_num)]

theorem div_sqrt2 (x : EReal) : Ideal.div x sqrt2 = x * ((8388608 / 11863283 : ℝ) : EReal) := by
  rw [sqrt2_eq, div_real x (by norm_num)]; norm_num

/-- Multiplying by a reciprocal is dividing, off zero. -/
theorem mul_div_one (x : EReal) {y : EReal} (h : y ≠ 0) : x * Ideal.div 1 y = Ideal.div x y := by
  rw [Ideal.div, Ideal.div, if_neg h, if_neg h, one_mul]

theorem scale_ne_zero (a : EReal) : scale a ≠ 0 := by
  unfold scale
  split
  · exact one_ne_zero
  · rename_i h
    rw [div_c127]
    exact mul_ne_zero h (by norm_num)

theorem mul_self_nonneg' (y : EReal) : 0 ≤ y * y := by
  induction y with
  | bot => simp
  | top => simp
  | coe r => rw [← EReal.coe_mul]; exact EReal.coe_nonneg.2 (mul_self_nonneg r)

theorem var_nonneg (v : Row 1024) : 0 ≤ var v := by
  unfold var
  rw [div_cK, cKinv_eq]
  exact mul_nonneg (Finset.sum_nonneg fun x _ => mul_self_nonneg' _) (EReal.coe_nonneg.2 (by norm_num))

theorem sqrt_ne_zero {y : EReal} (h : 0 < y) : Ideal.sqrt y ≠ 0 := by
  induction y with
  | bot => simp at h
  | top => exact EReal.top_ne_zero
  | coe r =>
    have hr : 0 < r := EReal.coe_pos.1 h
    show (if r < 0 then (⊥ : EReal) else (Real.sqrt r : EReal)) ≠ 0
    rw [if_neg (not_lt.2 hr.le)]
    exact_mod_cast (Real.sqrt_pos.2 hr).ne'

theorem std_ne_zero (v : Row 1024) : Ideal.sqrt (var v + eps) ≠ 0 :=
  sqrt_ne_zero (lt_of_lt_of_le eps_pos (by simpa using add_le_add_left (var_nonneg v) eps))

theorem abs_nonneg' (x : EReal) : 0 ≤ abs' x := by
  show 0 ≤ max x (-x)
  rcases le_total 0 x with h | h
  · exact le_max_of_le_left h
  · exact le_max_of_le_right (by simpa using EReal.neg_le_neg_iff.2 h)

/-- A bound on the largest absolute value is a bound on each. -/
theorem amax_le {n : Nat} (v : Row n) (c : EReal) : amax v ≤ c ↔ ∀ x, abs' (v x) ≤ c := by
  unfold amax
  rw [Finset.fold_max_le, bot_eq]
  simp

/-- A clipped code is an integer between -127 and 127. -/
theorem clip_int (v s : EReal) : ∃ n : ℤ, -127 ≤ n ∧ n ≤ 127 ∧ clip v s = ((n : ℝ) : EReal) := by
  unfold clip
  have e1 : (((127#32).toInt : ℝ) : EReal) = ((127 : ℝ) : EReal) := by
    norm_num [show (127#32).toInt = 127 from by decide]
  have e2 : (((4294967169#32).toInt : ℝ) : EReal) = ((-127 : ℝ) : EReal) := by
    norm_num [show (4294967169#32).toInt = -127 from by decide]
  rw [e1, e2]
  induction Ideal.div v s with
  | bot => exact ⟨-127, le_rfl, by norm_num, by
      rw [show Ideal.liftRound Ideal.roundHalfEven ⊥ = ⊥ from rfl, max_eq_left bot_le, min_eq_right]
      · norm_num
      · exact EReal.coe_le_coe_iff.2 (by norm_num)⟩
  | top => exact ⟨127, by norm_num, le_rfl, by
      rw [show Ideal.liftRound Ideal.roundHalfEven ⊤ = ⊤ from rfl, max_eq_right le_top, min_eq_left le_top]
      norm_num⟩
  | coe r =>
    refine ⟨min 127 (max (-127) (Ideal.roundHalfEven r)), le_min (by norm_num) (le_max_left _ _), min_le_left _ _, ?_⟩
    rw [show Ideal.liftRound Ideal.roundHalfEven (r : EReal) = ((Ideal.roundHalfEven r : ℝ) : EReal) from rfl]
    rw [← EReal.coe_strictMono.monotone.map_max, ← EReal.coe_strictMono.monotone.map_min]
    push_cast
    rfl

/-- Converting the clipped code to 8 bits and back is the identity. -/
theorem sitofp_code (v s : EReal) : FloatOps.sitofp (F := Ideal) .bf16 (code v s) = clip v s := by
  obtain ⟨n, h1, h2, e⟩ := clip_int v s
  unfold code
  rw [e]
  show (((BitVec.ofInt 8 (Ideal.toIntClamped (-(2 ^ (8 - 1) : Nat)) ((2 ^ (8 - 1) : Nat) - 1) ((n : ℝ) : EReal))).toInt : ℝ) : EReal) = _
  have e3 : Ideal.toIntClamped (-(2 ^ (8 - 1) : Nat)) ((2 ^ (8 - 1) : Nat) - 1) ((n : ℝ) : EReal) = n := by
    show max _ (min _ (if 0 ≤ (n : ℝ) then ⌊(n : ℝ)⌋ else ⌈(n : ℝ)⌉)) = n
    rw [Int.floor_intCast, Int.ceil_intCast, ite_self]
    norm_num
    omega
  rw [e3, BitVec.toInt_ofInt]
  congr 2
  simp only [Int.bmod]
  norm_num
  omega

end Cert.Spec

end
-- ==== Proof.Ideal.Vec.lean ====
module

public import proofs.«01_k».proof.Proof.Gen.KernelIdeal.Skeleton
public import proofs.«01_k».proof.Proof.Spec

/-!
# The kernel's vector steps, row by row

The kernel works on 128 tokens at a time. Each step of its body, as one function of vectors, read at one index is the
specification's function of that token's row.
-/

@[expose] public section

noncomputable section

namespace Cert.KernelIdeal.Vec

open Cert.KernelIdeal Cert.KernelIdeal.Gen Idealize.ShloMosaic Cert.Spec
open scoped BigOperators

theorem inv127_eq : (Named.named κ "inv127" 0x3C010204#32 : Ideal .f32) = ((1 / 127 : ℝ) : EReal) := rfl

theorem invSqrt2_eq : (Named.named κ "invSqrt2" 0x3F3504F3#32 : Ideal .f32) = ((8388608 / 11863283 : ℝ) : EReal) := rfl

theorem norm_eq (v g b : Row 1024) (l : Fin 1024) :
    (v l - (∑ x, v x) * cKinv) * Ideal.div 1 (Ideal.sqrt ((∑ x, (v x - (∑ x, v x) * cKinv) * (v x - (∑ x, v x) * cKinv)) * cKinv + eps))
      * g l + b l = Spec.norm v g b l := by
  unfold Spec.norm
  rw [← mul_div_one _ (std_ne_zero v)]
  unfold var mean
  simp only [div_cK]

theorem scale_eq (a : EReal) : (if a = 0 then 1 else a * (Named.named κ "inv127" 0x3C010204#32 : Ideal .f32)) = scale a := by
  unfold scale
  rw [div_c127, inv127_eq]

theorem clip_eq (v s : EReal) (h : s ≠ 0) :
    min (Ideal.ofBits .f32 1123942400#32) (max (Ideal.ofBits .f32 3271426048#32)
      (Ideal.liftRound Ideal.roundHalfEven (v * Ideal.div 1 s))) = clip v s := by
  unfold clip
  rw [mul_div_one _ h, show Ideal.ofBits .f32 1123942400#32 = ((127 : ℝ) : EReal) from c127_eq, cm127_eq]
  norm_num [show (127#32).toInt = 127 from by decide, show (4294967169#32).toInt = -127 from by decide]

theorem gelu_eq (y : EReal) : half * y * (1 + FloatOps.erf (F := Ideal) (φ := .f32)
    (y * (Named.named κ "invSqrt2" 0x3F3504F3#32 : Ideal .f32))) = gelu y := by
  unfold gelu
  rw [div_sqrt2, invSqrt2_eq]

/-- Layer normalisation of 128 rows. -/
theorem ln_at (v : FVec Ideal S128x1024 .f32) (g b : Vec Ideal S1x1024 .f32) (p : Fin 128) (l : Fin 1024) :
    k0_pay11 (F := Ideal) v g b (ix2 p l) = Spec.norm (fun k => v (ix2 p k)) (fun k => g (ix2 0 k)) (fun k => b (ix2 0 k)) l := by
  pointwise [k0_pay11]
  exact norm_eq (fun k => v (ix2 p k)) (fun k => g (ix2 0 k)) (fun k => b (ix2 0 k)) l

/-- The scales of 128 rows. -/
def scaleV (v : FVec Ideal S128x1024 .f32) : FVec Ideal S128x1 .f32 :=
  have v145 : FVec Ideal S128x1 .f32 := shapeCast S128x1 (multiReduction .maximumf [1] S128 (absf v) 0xFF800000#32 reduces_S128x1024_S128 (.inl rfl) rfl) shapeCasts_S128_S128x1
  select (cmpf .oeq v145 (broadcast S128x1 (Scalar.ofBits .f32 0x00000000#32))) (broadcast S128x1 (Scalar.ofBits .f32 0x3F800000#32))
    (mulf v145 (broadcast S128x1 (Named.named κ "inv127" 0x3C010204#32)))

theorem scaleV_at (v : FVec Ideal S128x1024 .f32) (p : Fin 128) :
    scaleV v (ix2 p 0) = scale (amax fun k => v (ix2 p k)) := by
  pointwise [scaleV]
  exact scale_eq _

/-- The clipped codes of 128 rows. -/
def clipV (v : FVec Ideal S128x1024 .f32) (s : FVec Ideal S128x1 .f32) : FVec Ideal S128x1024 .f32 :=
  minimumf (broadcast S128x1024 (Scalar.ofBits .f32 0x42FE0000#32)) (maximumf (broadcast S128x1024 (Scalar.ofBits .f32 0xC2FE0000#32))
    (roundeven (mulf v (broadcastTo S128x1024 (divf (broadcast S128x1 (Scalar.ofBits .f32 0x3F800000#32)) s) broadcasts_S128x1_S128x1024))))

theorem clipV_at (v : FVec Ideal S128x1024 .f32) (p : Fin 128) (l : Fin 1024) :
    clipV v (scaleV v) (ix2 p l) = clip (v (ix2 p l)) (scale (amax fun k => v (ix2 p k))) := by
  pointwise [clipV, scaleV_at]
  exact clip_eq _ _ (scale_ne_zero _)

/-- The scales laid along lanes. -/
def rowV (s : FVec Ideal S128x1 .f32) : FVec Ideal S1x128 .f32 :=
  extractStridedSlice S1x128 ![0, 0] (transpose S128x128 [1, 0] (broadcastTo S128x128 (shapeCast S128x1 s shapeCasts_S128x1_S128x1)
    broadcasts_S128x1_S128x128) transposes_S128x128_p1_0_S128x128) slices_S128x128_o0_0_S1x128

theorem rowV_at (s : FVec Ideal S128x1 .f32) (l : Fin 128) : rowV s (ix2 0 l) = s (ix2 l 0) := by
  pointwise [rowV]

/-- The projection of 128 tokens plus their normalised residuals. -/
def preV (y : FVec Ideal S128x1024 .f32) (s : FVec Ideal S128x1 .f32) (ws wb : Vec Ideal S1x1024 .f32)
    (x : FVec Ideal S128x1024 .f32) (g b : Vec Ideal S1x1024 .f32) : FVec Ideal S128x1024 .f32 :=
  addf (addf (mulf (mulf y (broadcastTo S128x1024 s broadcasts_S128x1_S128x1024)) (broadcastTo S128x1024 ws broadcasts_S1x1024_S128x1024))
    (broadcastTo S128x1024 wb broadcasts_S1x1024_S128x1024)) (k0_pay11 x g b)

theorem preV_at (y : FVec Ideal S128x1024 .f32) (s : FVec Ideal S128x1 .f32) (ws wb : Vec Ideal S1x1024 .f32)
    (x : FVec Ideal S128x1024 .f32) (g b : Vec Ideal S1x1024 .f32) (p : Fin 128) (l : Fin 1024) :
    preV y s ws wb x g b (ix2 p l) = y (ix2 p l) * s (ix2 p 0) * ws (ix2 0 l) + wb (ix2 0 l)
      + Spec.norm (fun k => x (ix2 p k)) (fun k => g (ix2 0 k)) (fun k => b (ix2 0 k)) l := by
  pointwise [preV, ln_at]

/-- One chunk of 512 inner columns. -/
theorem f_at (s : FVec Ideal S128x1 .f32) (q : Vec Ideal S128x1024 .bf16) (w : Vec Ideal S1024x512 .bf16) (ws wb : Vec Ideal S1x512 .f32)
    (p : Fin 128) (l : Fin 512) :
    k0_pay20 (F := Ideal) s q w ws wb (ix2 p l)
      = gelu ((∑ k, q (ix2 p k) * w (ix2 k l)) * s (ix2 p 0) * ws (ix2 0 l) + wb (ix2 0 l)) := by
  pointwise [k0_pay20]
  exact gelu_eq _

/-- Four lane tiles' absolute values folded into a running maximum. -/
def maccV (m : FVec Ideal S128x128 .f32) (u : FVec Ideal S128x512 .f32) : FVec Ideal S128x128 .f32 :=
  maximumf (maximumf (maximumf (maximumf m (absf (extractStridedSlice S128x128 ![0, 0] u slices_S128x512_o0_0_S128x128)))
    (absf (extractStridedSlice S128x128 ![0, 128] u slices_S128x512_o0_128_S128x128)))
    (absf (extractStridedSlice S128x128 ![0, 256] u slices_S128x512_o0_256_S128x128)))
    (absf (extractStridedSlice S128x128 ![0, 384] u slices_S128x512_o0_384_S128x128))

theorem maccV_le (m : FVec Ideal S128x128 .f32) (u : FVec Ideal S128x512 .f32) (p : Fin 128) (z : EReal) :
    (∀ l, maccV m u (ix2 p l) ≤ z) ↔ (∀ l, m (ix2 p l) ≤ z) ∧ ∀ k, abs' (u (ix2 p k)) ≤ z := by
  have e : ∀ l, maccV m u (ix2 p l) = max (max (max (max (m (ix2 p l)) (abs' (u (ix2 p ⟨l.val, by omega⟩))))
      (abs' (u (ix2 p ⟨128 + l.val, by omega⟩)))) (abs' (u (ix2 p ⟨256 + l.val, by omega⟩))))
      (abs' (u (ix2 p ⟨384 + l.val, by omega⟩))) := by
    intro l
    pointwise [maccV]
  simp only [e, max_le_iff]
  constructor
  · intro h
    refine ⟨fun l => (h l).1.1.1.1, fun k => ?_⟩
    rcases Nat.lt_or_ge k.val 128 with h0 | h0
    · exact (h ⟨k.val, h0⟩).1.1.1.2
    rcases Nat.lt_or_ge k.val 256 with h1 | h1
    · have := (h ⟨k.val - 128, by omega⟩).1.1.2
      rwa [show (⟨128 + (k.val - 128), by omega⟩ : Fin 512) = k from Fin.ext (by show 128 + (k.val - 128) = k.val; omega)] at this
    rcases Nat.lt_or_ge k.val 384 with h2 | h2
    · have := (h ⟨k.val - 256, by omega⟩).1.2
      rwa [show (⟨256 + (k.val - 256), by omega⟩ : Fin 512) = k from Fin.ext (by show 256 + (k.val - 256) = k.val; omega)] at this
    · have := (h ⟨k.val - 384, by omega⟩).2
      rwa [show (⟨384 + (k.val - 384), by omega⟩ : Fin 512) = k from Fin.ext (by show 384 + (k.val - 384) = k.val; omega)] at this
  · exact fun h l => ⟨⟨⟨⟨h.1 l, h.2 _⟩, h.2 _⟩, h.2 _⟩, h.2 _⟩

/-- The running maximum folded across its lanes. -/
def amaxV (m : FVec Ideal S128x128 .f32) : FVec Ideal S128x1 .f32 :=
  shapeCast S128x1 (multiReduction .maximumf [1] S128 m 0xFF800000#32 reduces_S128x128_S128 (.inl rfl) rfl) shapeCasts_S128_S128x1

theorem amaxV_le (m : FVec Ideal S128x128 .f32) (p : Fin 128) (z : EReal) : amaxV m (ix2 p 0) ≤ z ↔ ∀ l, m (ix2 p l) ≤ z := by
  have e : amaxV m (ix2 p 0) = Finset.univ.fold max bot fun l => m (ix2 p l) := by
    pointwise [amaxV]
  rw [e, Finset.fold_max_le, bot_eq]
  simp

theorem zero_at (p l : Fin 128) : k0_pay19 (F := Ideal) (ix2 p l) = 0 := by pointwise [k0_pay19]

/-- Eight chunks folded from zero: the largest absolute value of the 4096 columns they hold. -/
theorem amax8 (u : Fin 8 → FVec Ideal S128x512 .f32) (p : Fin 128) (v : Row 4096)
    (hv : ∀ (n : Fin 8) (k : Fin 512), u n (ix2 p k) = v ⟨512 * n.val + k.val, by omega⟩) :
    amaxV (maccV (maccV (maccV (maccV (maccV (maccV (maccV (maccV k0_pay19 (u 0)) (u 1)) (u 2)) (u 3)) (u 4)) (u 5)) (u 6)) (u 7)) (ix2 p 0)
      = amax v := by
  refine eq_of_forall_ge_iff fun z => ?_
  rw [amaxV_le, maccV_le, maccV_le, maccV_le, maccV_le, maccV_le, maccV_le, maccV_le, maccV_le, amax_le]
  simp only [zero_at, hv]
  constructor
  · intro h k
    have hk : ∀ n : Fin 8, ∀ j : Fin 512, abs' (v ⟨512 * n.val + j.val, by omega⟩) ≤ z := by
      intro n
      obtain ⟨⟨⟨⟨⟨⟨⟨⟨_, h0⟩, h1⟩, h2⟩, h3⟩, h4⟩, h5⟩, h6⟩, h7⟩ := h
      match n with
      | 0 => exact h0
      | 1 => exact h1
      | 2 => exact h2
      | 3 => exact h3
      | 4 => exact h4
      | 5 => exact h5
      | 6 => exact h6
      | 7 => exact h7
    have := hk ⟨k.val / 512, by omega⟩ ⟨k.val % 512, by omega⟩
    rwa [show (⟨512 * (k.val / 512) + k.val % 512, by omega⟩ : Fin 4096) = k from Fin.ext (Nat.div_add_mod _ _)] at this
  · intro h
    exact ⟨⟨⟨⟨⟨⟨⟨⟨fun _ => le_trans (abs_nonneg' _) (h 0), fun _ => h _⟩, fun _ => h _⟩, fun _ => h _⟩, fun _ => h _⟩, fun _ => h _⟩, fun _ => h _⟩, fun _ => h _⟩, fun _ => h _⟩

theorem fs_at (a : FVec Ideal S128x1 .f32) (p : Fin 128) : k0_pay49 (F := Ideal) a (ix2 p 0) = scale (a (ix2 p 0)) := by
  pointwise [k0_pay49]
  exact scale_eq _

/-- The clipped codes of a chunk. -/
def fclipV (u : FVec Ideal S128x512 .f32) (inv : FVec Ideal S128x1 .f32) : FVec Ideal S128x512 .f32 :=
  minimumf (broadcast S128x512 (FloatOps.ofBits .f32 1123942400#32)) (maximumf (broadcast S128x512 (FloatOps.ofBits .f32 3271426048#32))
    (roundeven (mulf u (broadcastTo S128x512 inv broadcasts_S128x1_S128x512))))

theorem fclipV_at (u : FVec Ideal S128x512 .f32) (a : FVec Ideal S128x1 .f32) (p : Fin 128) (l : Fin 512) :
    fclipV u (k0_pay50 a) (ix2 p l) = clip (u (ix2 p l)) (scale (a (ix2 p 0))) := by
  pointwise [fclipV, k0_pay50, fs_at]
  exact clip_eq _ _ (scale_ne_zero _)

/-- The second product of 128 tokens plus their hidden rows. -/
def pre2V (q : Vec Ideal S128x4096 .bf16) (w : Vec Ideal S4096x1024 .bf16) (s : FVec Ideal S128x1 .f32) (ws wb : Vec Ideal S1x1024 .f32)
    (h : Vec Ideal S128x1024 .f32) : FVec Ideal S128x1024 .f32 :=
  addf (addf (mulf (mulf (matmul (φ₁ := .bf16) (φ₂ := .bf16) dot_S128x4096_S4096x1024_S128x1024_1_0_0_1_n_n none q w (constant S128x1024 .f32 0#32))
    (broadcastTo S128x1024 s broadcasts_S128x1_S128x1024)) (broadcastTo S128x1024 ws broadcasts_S1x1024_S128x1024))
    (broadcastTo S128x1024 wb broadcasts_S1x1024_S128x1024)) h

theorem pre2V_at (q : Vec Ideal S128x4096 .bf16) (w : Vec Ideal S4096x1024 .bf16) (s : FVec Ideal S128x1 .f32) (ws wb : Vec Ideal S1x1024 .f32)
    (h : Vec Ideal S128x1024 .f32) (p : Fin 128) (l : Fin 1024) :
    pre2V q w s ws wb h (ix2 p l) = (∑ k, q (ix2 p k) * w (ix2 k l)) * s (ix2 p 0) * ws (ix2 0 l) + wb (ix2 0 l) + h (ix2 p l) := by
  pointwise [pre2V]

end Cert.KernelIdeal.Vec

end
-- ==== Proof.Ideal.PointA.lean ====
module

public import proofs.«01_k».proof.Proof.Ideal.Body
public import proofs.«01_k».proof.Proof.Ideal.Vec
public import Idealize.ShloMosaic.Lib.Pipeline.Value
public import Idealize.ShloMosaic.Lib.VecWindow

/-!
# What one grid point of the kernel computes

The names of the kernel's intermediate values at one point, each read at an index as the specification's function of the
token's row.
-/

@[expose] public section

set_option maxRecDepth 16384

noncomputable section

namespace Cert.KernelIdeal.Val

open Cert.KernelIdeal Cert.KernelIdeal.Gen Cert.KernelIdeal.Body Cert.KernelIdeal.Vec Idealize.ShloMosaic Cert.Spec
open scoped BigOperators

/-- What one point of the kernel finds: the blocks it loads and the converted weights. -/
structure Env where
  c : Dev nD
  M1 : Memref sig .tc .vmem S1x1024x256 .f32
  M2 : Memref sig .tc .vmem S1x256x1024 .bf16
  M4 : Memref sig .tc .vmem S1x1024 .f32
  M5 : Memref sig .tc .vmem S1x1024 .f32
  M7 : Memref sig .tc .vmem S1x4096 .f32
  M8 : Memref sig .tc .vmem S1x4096 .f32
  M10 : Memref sig .tc .vmem S1x1024 .f32
  M11 : Memref sig .tc .vmem S1x1024 .f32
  M12 : Memref sig .tc .vmem S1x1024 .f32
  M13 : Memref sig .tc .vmem S1x1024 .f32
  M14 : Memref sig .tc .vmem S1x1024 .f32
  M15 : Memref sig .tc .vmem S1x1024 .f32
  M16 : Memref sig .tc .vmem S1x1024 .f32
  M17 : Memref sig .tc .vmem S1x1024 .f32
  M27 : Memref sig .tc .vmem S1024x1024 .bf16
  M28 : Memref sig .tc .vmem S1024x4096 .bf16
  M29 : Memref sig .tc .vmem S4096x1024 .bf16
  M30 : Memref sig .tc .vmem S1024x256 .bf16
  M31 : Memref sig .tc .vmem S256x4096 .f32
  M32 : Memref sig .tc .vmem S256x4096 .bf16
  M33 : Memref sig .tc .vmem S256x1024 .f32
  M34 : Memref sig .tc .vmem S256x1024 .bf16
  f1 : Bf (F := Ideal) c M1
  f2 : Bf (F := Ideal) c M2
  f4 : Bf (F := Ideal) c M4
  f5 : Bf (F := Ideal) c M5
  f7 : Bf (F := Ideal) c M7
  f8 : Bf (F := Ideal) c M8
  f10 : Bf (F := Ideal) c M10
  f11 : Bf (F := Ideal) c M11
  f12 : Bf (F := Ideal) c M12
  f13 : Bf (F := Ideal) c M13
  f14 : Bf (F := Ideal) c M14
  f15 : Bf (F := Ideal) c M15
  f16 : Bf (F := Ideal) c M16
  f17 : Bf (F := Ideal) c M17
  f27 : Bf (F := Ideal) c M27
  f28 : Bf (F := Ideal) c M28
  f29 : Bf (F := Ideal) c M29
  X1 : Vec Ideal S1x1024x256 .f32
  X2 : Vec Ideal S1x256x1024 .bf16
  X4 : Vec Ideal S1x1024 .f32
  X5 : Vec Ideal S1x1024 .f32
  X7 : Vec Ideal S1x4096 .f32
  X8 : Vec Ideal S1x4096 .f32
  X10 : Vec Ideal S1x1024 .f32
  X11 : Vec Ideal S1x1024 .f32
  X12 : Vec Ideal S1x1024 .f32
  X13 : Vec Ideal S1x1024 .f32
  X14 : Vec Ideal S1x1024 .f32
  X15 : Vec Ideal S1x1024 .f32
  X16 : Vec Ideal S1x1024 .f32
  X17 : Vec Ideal S1x1024 .f32
  X27 : Vec Ideal S1024x1024 .i8
  X28 : Vec Ideal S1024x4096 .i8
  X29 : Vec Ideal S4096x1024 .i8
  h1 : M1.view.read (Elt Ideal) f1 = X1
  h2 : M2.view.read (Elt Ideal) f2 = X2
  h4 : M4.view.read (Elt Ideal) f4 = X4
  h5 : M5.view.read (Elt Ideal) f5 = X5
  h7 : M7.view.read (Elt Ideal) f7 = X7
  h8 : M8.view.read (Elt Ideal) f8 = X8
  h10 : M10.view.read (Elt Ideal) f10 = X10
  h11 : M11.view.read (Elt Ideal) f11 = X11
  h12 : M12.view.read (Elt Ideal) f12 = X12
  h13 : M13.view.read (Elt Ideal) f13 = X13
  h14 : M14.view.read (Elt Ideal) f14 = X14
  h15 : M15.view.read (Elt Ideal) f15 = X15
  h16 : M16.view.read (Elt Ideal) f16 = X16
  h17 : M17.view.read (Elt Ideal) f17 = X17
  h27 : M27.view.read (Elt Ideal) f27 = sitofp (F := Ideal) .bf16 X27
  h28 : M28.view.read (Elt Ideal) f28 = sitofp (F := Ideal) .bf16 X28
  h29 : M29.view.read (Elt Ideal) f29 = sitofp (F := Ideal) .bf16 X29

namespace Env

variable (e : Env)

abbrev v71 := runRest.sl.v71 (F := Ideal) e.c e.M1 e.M30 e.f1
abbrev H30_1 := runRest.sl.H30_1 (F := Ideal) e.c e.M1 e.f1
abbrev v73 := runRest.sl.v73 (F := Ideal) e.c e.M1 e.M27 e.M30 e.f1 e.f27
abbrev v78 := runRest.sl.v78 (F := Ideal) e.c e.M1 e.f1
abbrev v778 := runRest.sl.v778 (F := Ideal) e.c e.M1 e.f1
abbrev v90 := runRest.sl.v90 (F := Ideal) e.c e.M2 e.f2
abbrev v790 := runRest.sl.v790 (F := Ideal) e.c e.M2 e.f2
abbrev v115 := runRest.sl.v115 (F := Ideal) e.c e.M1 e.M2 e.M4 e.M5 e.M12 e.M13 e.M27 e.M30 e.f1 e.f2 e.f4 e.f5 e.f12 e.f13 e.f27
abbrev v79 := runRest.sl.v79 (F := Ideal) e.c e.M1 e.M27 e.M30 e.f1 e.f27
abbrev v815 := runRest.sl.v815 (F := Ideal) e.c e.M1 e.M2 e.M4 e.M5 e.M12 e.M13 e.M27 e.M30 e.f1 e.f2 e.f4 e.f5 e.f12 e.f13 e.f27
abbrev v779 := runRest.sl.v779 (F := Ideal) e.c e.M1 e.M27 e.M30 e.f1 e.f27
abbrev r := runRest.sl.r (F := Ideal) e.c e.M1 e.M2 e.M4 e.M5 e.M12 e.M13 e.M14 e.M15 e.M27 e.M30 e.f1 e.f2 e.f4 e.f5 e.f12 e.f13 e.f14 e.f15 e.f27
abbrev v160 := runRest.sl.v160 (F := Ideal) e.c e.M1 e.M2 e.M4 e.M5 e.M12 e.M13 e.M14 e.M15 e.M27 e.M30 e.f1 e.f2 e.f4 e.f5 e.f12 e.f13 e.f14 e.f15 e.f27
abbrev r_21 := runRest.sl.r_21 (F := Ideal) e.c e.M14 e.f14
abbrev r_22 := runRest.sl.r_22 (F := Ideal) e.c e.M15 e.f15
abbrev v823 := runRest.sl.v823 (F := Ideal) e.c e.M1 e.M2 e.M4 e.M5 e.M12 e.M13 e.M27 e.M30 e.f1 e.f2 e.f4 e.f5 e.f12 e.f13 e.f27
abbrev v831 := runRest.sl.v831 (F := Ideal) e.c e.M1 e.M2 e.M4 e.M5 e.M12 e.M13 e.M27 e.M30 e.f1 e.f2 e.f4 e.f5 e.f12 e.f13 e.f27
abbrev v107 := runRest.sl.v107 (F := Ideal)
abbrev r_23 := runRest.sl.r_23 (F := Ideal) e.c e.M1 e.M2 e.M4 e.M5 e.M12 e.M13 e.M14 e.M15 e.M27 e.M30 e.f1 e.f2 e.f4 e.f5 e.f12 e.f13 e.f14 e.f15 e.f27

/-- The weights. -/
def W : Wts where
  wo k l := e.X27 (ix2 k l)
  wos l := e.X4 (ix2 0 l)
  wob l := e.X5 (ix2 0 l)
  w1 k l := e.X28 (ix2 k l)
  w1s l := e.X7 (ix2 0 l)
  w1b l := e.X8 (ix2 0 l)
  w2 k l := e.X29 (ix2 k l)
  w2s l := e.X10 (ix2 0 l)
  w2b l := e.X11 (ix2 0 l)
  gx l := e.X12 (ix2 0 l)
  bx l := e.X13 (ix2 0 l)
  g1 l := e.X14 (ix2 0 l)
  b1 l := e.X15 (ix2 0 l)
  g2 l := e.X16 (ix2 0 l)
  b2 l := e.X17 (ix2 0 l)

/-- Token `p`'s attention output. -/
def A (p : Fin 256) : Row 1024 := fun k => e.X1 (ix3 0 k p)

/-- Token `p`'s residual row. -/
def R (p : Fin 256) : Row 1024 := fun l => e.X2 (ix3 0 p l)

/-- The token that row `p` of the half starting at `o` is. -/
abbrev tok (o : Nat) (ho : o + 128 ≤ 256) (p : Fin 128) : Fin 256 := ⟨o + p.val, by omega⟩

/-! ### Loads -/

theorem unit2_idx {d0 d1 n0 n1 o0 o1 : Nat} (inb : ∀ a : Fin 2, ![o0, o1] a + ![n0, n1] a ≤ (⟨2, ![d0, d1]⟩ : Shape).size a)
    (i : Fin n0) (j : Fin n1) (h0 : o0 + i.val < d0) (h1 : o1 + j.val < d1) :
    (Rect.unit (s := ⟨2, ![d0, d1]⟩) ![o0, o1] ![n0, n1] inb).toLoadRect.idx (ix2 i j) = ix2 ⟨o0 + i.val, h0⟩ ⟨o1 + j.val, h1⟩ := by
  funext a
  match a with
  | ⟨0, _⟩ => exact Fin.ext (by show o0 + 1 * i.val = o0 + i.val; omega)
  | ⟨1, _⟩ => exact Fin.ext (by show o1 + 1 * j.val = o1 + j.val; omega)

theorem unit3_idx {d0 d1 d2 n0 n1 n2 o0 o1 o2 : Nat}
    (inb : ∀ a : Fin 3, ![o0, o1, o2] a + ![n0, n1, n2] a ≤ (⟨3, ![d0, d1, d2]⟩ : Shape).size a)
    (i : Fin n0) (j : Fin n1) (k : Fin n2) (h0 : o0 + i.val < d0) (h1 : o1 + j.val < d1) (h2 : o2 + k.val < d2) :
    (Rect.unit (s := ⟨3, ![d0, d1, d2]⟩) ![o0, o1, o2] ![n0, n1, n2] inb).toLoadRect.idx (ix3 i j k)
      = ix3 ⟨o0 + i.val, h0⟩ ⟨o1 + j.val, h1⟩ ⟨o2 + k.val, h2⟩ := by
  funext a
  match a with
  | ⟨0, _⟩ => exact Fin.ext (by show o0 + 1 * i.val = o0 + i.val; omega)
  | ⟨1, _⟩ => exact Fin.ext (by show o1 + 1 * j.val = o1 + j.val; omega)
  | ⟨2, _⟩ => exact Fin.ext (by show o2 + 1 * k.val = o2 + k.val; omega)

/-- A load of the whole of a block reads the block. -/
theorem ld_whole {s : Shape} {t : EltTy} {sp : Space} (v : View sig .tc sp s t) (f : v.ty.Contents (Elt Ideal)) (X : s.Idx → Elt Ideal t)
    (h : v.read (Elt Ideal) f = X) {off : Fin s.rank → Nat} (inb : ∀ a, off a + s.size a ≤ s.size a) :
    v.readAt (Elt Ideal) (Rect.unit off s.size inb).toLoadRect f = X := (View.readAt_full v f inb).trans h

theorem ld4 (inb) : View.readAt (Elt Ideal) e.M4.view (Rect.unit ![0, 0] S1x1024.size inb).toLoadRect e.f4 = e.X4 := ld_whole _ _ _ e.h4 inb
theorem ld5 (inb) : View.readAt (Elt Ideal) e.M5.view (Rect.unit ![0, 0] S1x1024.size inb).toLoadRect e.f5 = e.X5 := ld_whole _ _ _ e.h5 inb
theorem ld7 (inb) : View.readAt (Elt Ideal) e.M7.view (Rect.unit ![0, 0] S1x4096.size inb).toLoadRect e.f7 = e.X7 := ld_whole _ _ _ e.h7 inb
theorem ld8 (inb) : View.readAt (Elt Ideal) e.M8.view (Rect.unit ![0, 0] S1x4096.size inb).toLoadRect e.f8 = e.X8 := ld_whole _ _ _ e.h8 inb
theorem ld10 (inb) : View.readAt (Elt Ideal) e.M10.view (Rect.unit ![0, 0] S1x1024.size inb).toLoadRect e.f10 = e.X10 := ld_whole _ _ _ e.h10 inb
theorem ld11 (inb) : View.readAt (Elt Ideal) e.M11.view (Rect.unit ![0, 0] S1x1024.size inb).toLoadRect e.f11 = e.X11 := ld_whole _ _ _ e.h11 inb
theorem ld12 (inb) : View.readAt (Elt Ideal) e.M12.view (Rect.unit ![0, 0] S1x1024.size inb).toLoadRect e.f12 = e.X12 := ld_whole _ _ _ e.h12 inb
theorem ld13 (inb) : View.readAt (Elt Ideal) e.M13.view (Rect.unit ![0, 0] S1x1024.size inb).toLoadRect e.f13 = e.X13 := ld_whole _ _ _ e.h13 inb
theorem ld14 (inb) : View.readAt (Elt Ideal) e.M14.view (Rect.unit ![0, 0] S1x1024.size inb).toLoadRect e.f14 = e.X14 := ld_whole _ _ _ e.h14 inb
theorem ld15 (inb) : View.readAt (Elt Ideal) e.M15.view (Rect.unit ![0, 0] S1x1024.size inb).toLoadRect e.f15 = e.X15 := ld_whole _ _ _ e.h15 inb
theorem ld16 (inb) : View.readAt (Elt Ideal) e.M16.view (Rect.unit ![0, 0] S1x1024.size inb).toLoadRect e.f16 = e.X16 := ld_whole _ _ _ e.h16 inb
theorem ld17 (inb) : View.readAt (Elt Ideal) e.M17.view (Rect.unit ![0, 0] S1x1024.size inb).toLoadRect e.f17 = e.X17 := ld_whole _ _ _ e.h17 inb
theorem ld27 (inb) : View.readAt (Elt Ideal) e.M27.view (Rect.unit ![0, 0] S1024x1024.size inb).toLoadRect e.f27 = sitofp (F := Ideal) .bf16 e.X27 := ld_whole _ _ _ e.h27 inb
theorem ld29 (inb) : View.readAt (Elt Ideal) e.M29.view (Rect.unit ![0, 0] S4096x1024.size inb).toLoadRect e.f29 = sitofp (F := Ideal) .bf16 e.X29 := ld_whole _ _ _ e.h29 inb
theorem ld1 (inb) : View.readAt (Elt Ideal) e.M1.view (Rect.unit ![0, 0, 0] ![1, 1024, 256] inb).toLoadRect e.f1 = e.X1 := ld_whole _ _ _ e.h1 inb
theorem ldc7 (o : Nat) (inb) (l : Fin 512) (h : o + l.val < 4096) :
    View.readAt (Elt Ideal) e.M7.view (Rect.unit (s := S1x4096) ![0, o] S1x512.size inb).toLoadRect e.f7 (ix2 0 l) = e.X7 (ix2 0 ⟨o + l.val, h⟩) :=
  (congrArg (e.M7.view.read (Elt Ideal) e.f7) (unit2_idx inb 0 l (by decide) h)).trans (congrFun e.h7 _)
theorem ldc8 (o : Nat) (inb) (l : Fin 512) (h : o + l.val < 4096) :
    View.readAt (Elt Ideal) e.M8.view (Rect.unit (s := S1x4096) ![0, o] S1x512.size inb).toLoadRect e.f8 (ix2 0 l) = e.X8 (ix2 0 ⟨o + l.val, h⟩) :=
  (congrArg (e.M8.view.read (Elt Ideal) e.f8) (unit2_idx inb 0 l (by decide) h)).trans (congrFun e.h8 _)
theorem ldc28 (o : Nat) (inb) (k : Fin 1024) (l : Fin 512) (h : o + l.val < 4096) :
    View.readAt (Elt Ideal) e.M28.view (Rect.unit (s := S1024x4096) ![0, o] S1024x512.size inb).toLoadRect e.f28 (ix2 k l)
      = FloatOps.sitofp (F := Ideal) .bf16 (e.X28 (ix2 k ⟨o + l.val, h⟩)) :=
  (congrArg (e.M28.view.read (Elt Ideal) e.f28) ((unit2_idx inb k l (by omega) h).trans (by rw [show (⟨0 + k.val, by omega⟩ : Fin 1024) = k from Fin.ext (Nat.zero_add _)]))).trans (congrFun e.h28 _)
theorem ldc2 (o : Nat) (inb) (p : Fin 128) (l : Fin 1024) (h : o + p.val < 256) :
    View.readAt (Elt Ideal) e.M2.view (Rect.unit (s := S1x256x1024) ![0, o, 0] S1x128x1024.size inb).toLoadRect e.f2 (ix3 0 p l)
      = e.X2 (ix3 0 ⟨o + p.val, h⟩ l) :=
  (congrArg (e.M2.view.read (Elt Ideal) e.f2) ((unit3_idx inb 0 p l (by decide) h (by omega)).trans (by rw [show (⟨0 + l.val, by omega⟩ : Fin 1024) = l from Fin.ext (Nat.zero_add _)]; rfl))).trans (congrFun e.h2 _)

/-! ### The attention output's codes and scales -/

theorem cast4_at (X : Vec Ideal S1x1024x256 .f32) (k : Fin 1024) (p : Fin 256) : k0_pay4 X (ix2 k p) = X (ix3 0 k p) := by
  pointwise [k0_pay4]

/-- The attention output's scales, from its two-dimensional form. -/
def csV (v : FVec Ideal S1024x256 .f32) : FVec Ideal S1x256 .f32 :=
  have v7 : FVec Ideal S1x256 .f32 := shapeCast S1x256 (multiReduction .maximumf [0] S256 (absf v) 0xFF800000#32 reduces_S1024x256_S256 (.inl rfl) rfl) shapeCasts_S256_S1x256
  select (cmpf .oeq v7 (broadcast S1x256 (Scalar.ofBits .f32 0x00000000#32))) (broadcast S1x256 (Scalar.ofBits .f32 0x3F800000#32))
    (mulf v7 (broadcast S1x256 (Named.named κ "inv127" 0x3C010204#32)))

theorem csV_at (v : FVec Ideal S1024x256 .f32) (p : Fin 256) : csV v (ix2 0 p) = scale (amax fun k => v (ix2 k p)) := by
  pointwise [csV]
  exact scale_eq _

theorem pay5_eq (X : Vec Ideal S1x1024x256 .f32) : k0_pay5 X = csV (k0_pay4 X) := rfl

/-- The attention output's clipped codes. -/
def ccV (v : FVec Ideal S1024x256 .f32) (s : FVec Ideal S1x256 .f32) : FVec Ideal S1024x256 .f32 :=
  minimumf (broadcast S1024x256 (Scalar.ofBits .f32 0x42FE0000#32)) (maximumf (broadcast S1024x256 (Scalar.ofBits .f32 0xC2FE0000#32))
    (roundeven (mulf v (broadcastTo S1024x256 (divf (broadcast S1x256 (Scalar.ofBits .f32 0x3F800000#32)) s) broadcasts_S1x256_S1024x256))))

theorem ccV_at (v : FVec Ideal S1024x256 .f32) (s : FVec Ideal S1x256 .f32) (k : Fin 1024) (p : Fin 256) (h : s (ix2 0 p) ≠ 0) :
    ccV v s (ix2 k p) = clip (v (ix2 k p)) (s (ix2 0 p)) := by
  pointwise [ccV]
  exact clip_eq _ _ h

theorem pay5_at (p : Fin 256) : k0_pay5 e.X1 (ix2 0 p) = cs (e.A p) := by
  rw [pay5_eq, csV_at, funext fun k => cast4_at e.X1 k p]
  rfl

theorem pay6_at (k : Fin 1024) (p : Fin 256) : k0_pay6 e.X1 (ix2 k p) = clip (e.A p k) (cs (e.A p)) := by
  have h : k0_pay5 e.X1 (ix2 0 p) ≠ 0 := by rw [pay5_at]; exact scale_ne_zero _
  refine (ccV_at (k0_pay4 e.X1) (k0_pay5 e.X1) k p h).trans ?_
  rw [pay5_at, cast4_at]
  rfl

theorem cast_self {α : Type} {s : Shape} (v : s.Idx → α) (h : s.ShapeCasts s) : shapeCast s v h = v :=
  funext fun j => shapeCast_apply v h j j rfl

theorem pay8_at (k : Fin 1024) (p : Fin 256) : k0_pay8 e.X1 (ix2 k p) = clip (e.A p k) (cs (e.A p)) :=
  (congrFun (cast_self (truncf .bf16 (k0_pay6 e.X1) bitsLt_bf16_f32) _) (ix2 k p)).trans (e.pay6_at k p)

theorem pay7_at (k : Fin 1024) (p : Fin 256) : k0_pay7 e.X1 (ix3 0 k p) = cc (e.A p) k := by
  have h : ∀ v : FVec Ideal S1024x256 .f32, shapeCast S1x1024x256 (fptosi (F := Ideal) 8 v) shapeCasts_S1024x256_S1x1024x256 (ix3 0 k p)
      = FloatOps.fptosi (F := Ideal) (φ := .f32) 8 (v (ix2 k p)) := by
    intro v
    pointwise
  exact (h _).trans (by rw [pay6_at]; rfl)

theorem z2 : (![0, 0] : Fin 2 → Nat) = fun _ => 0 := by decide

theorem v71_eq : e.v71 = k0_pay8 e.X1 := by
  refine (View.readCov_eq_canon' _ _ _).trans (funext fun j => ?_)
  obtain ⟨k, p, rfl⟩ : ∃ (k : Fin 1024) (p : Fin 256), j = ix2 k p := ⟨j 0, j 1, eq_ix2 j⟩
  refine (congrArg (View.canon e.H30_1) ((unit2_idx _ k p (by omega) (by omega)).trans (?_ : _ = ix2 k p))).trans ?_
  · rw [show (⟨0 + k.val, by omega⟩ : Fin 1024) = k from Fin.ext (Nat.zero_add _), show (⟨0 + p.val, by omega⟩ : Fin 256) = p from Fin.ext (Nat.zero_add _)]
  · refine (congrFun (View.canon_unit_zero (Val := Elt Ideal) (e := .bf16) (S := S1024x256) z2 _ (k0_pay8 (F := Ideal) _)) _).trans ?_
    rw [ld1]

theorem v73_at (p : Fin 256) (l : Fin 1024) :
    e.v73 (ix2 p l) = ∑ k, clip (e.A p k) (cs (e.A p)) * FloatOps.sitofp (F := Ideal) .bf16 (e.X27 (ix2 k l)) := by
  have h : ∀ (q : Vec Ideal S1024x256 .bf16) (w : Vec Ideal S1024x1024 .bf16),
      matmul (φ₁ := .bf16) (φ₂ := .bf16) dot_S1024x256_S1024x1024_S256x1024_0_0_1_1_n_n none q w (constant (F := Ideal) S256x1024 .f32 0#32) (ix2 p l)
        = ( ∑ k, q (ix2 k p) * w (ix2 k l) : EReal) := by
    intro q w
    pointwise
  refine (h e.v71 _).trans ?_
  rw [v71_eq, ld27]
  exact Finset.sum_congr rfl fun k _ => congrArg (· * _) (e.pay8_at k p)

theorem col0_at (s : FVec Ideal S1x256 .f32) (p : Fin 128) :
    extractStridedSlice S128x1 ![0, 0] (transpose S128x128 [1, 0] (broadcastTo S128x128 (shapeCast S1x128 (extractStridedSlice S1x128 ![0, 0] s
      slices_S1x256_o0_0_S1x128) shapeCasts_S1x128_S1x128) broadcasts_S1x128_S128x128) transposes_S128x128_p1_0_S128x128)
      slices_S128x128_o0_0_S128x1 (ix2 p 0) = s (ix2 0 (tok 0 (by decide) p)) := by
  pointwise
  exact congrArg (fun q => s (ix2 0 q)) (Fin.ext (Nat.zero_add _).symm)

theorem col1_at (s : FVec Ideal S1x256 .f32) (p : Fin 128) :
    extractStridedSlice S128x1 ![0, 0] (transpose S128x128 [1, 0] (broadcastTo S128x128 (shapeCast S1x128 (extractStridedSlice S1x128 ![0, 128] s
      slices_S1x256_o0_128_S1x128) shapeCasts_S1x128_S1x128) broadcasts_S1x128_S128x128) transposes_S128x128_p1_0_S128x128)
      slices_S128x128_o0_0_S128x1 (ix2 p 0) = s (ix2 0 (tok 128 (by decide) p)) := by
  pointwise

theorem v78_at (p : Fin 128) : e.v78 (ix2 p 0) = cs (e.A (tok 0 (by decide) p)) := by
  refine (col0_at _ p).trans ?_
  rw [ld1, pay5_at]

theorem v778_at (p : Fin 128) : e.v778 (ix2 p 0) = cs (e.A (tok 128 (by decide) p)) := by
  refine (col1_at _ p).trans ?_
  rw [ld1, pay5_at]

theorem half0_at (s : FVec Ideal S256x1024 .f32) (p : Fin 128) (l : Fin 1024) :
    extractStridedSlice S128x1024 ![0, 0] s slices_S256x1024_o0_0_S128x1024 (ix2 p l) = s (ix2 (tok 0 (by decide) p) l) := by
  pointwise
  exact congrArg (fun q => s (ix2 q l)) (Fin.ext (Nat.zero_add _).symm)

theorem half1_at (s : FVec Ideal S256x1024 .f32) (p : Fin 128) (l : Fin 1024) :
    extractStridedSlice S128x1024 ![128, 0] s slices_S256x1024_o128_0_S128x1024 (ix2 p l) = s (ix2 (tok 128 (by decide) p) l) := by
  pointwise

theorem res_at (v : Vec Ideal S1x128x1024 .bf16) (p : Fin 128) (l : Fin 1024) :
    (extf .f32 (shapeCast S128x1024 v shapeCasts_S1x128x1024_S128x1024) bitsLt_bf16_f32 : FVec Ideal S128x1024 .f32) (ix2 p l) = (v (ix3 0 p l) : EReal) := by
  pointwise

theorem v90_at (p : Fin 128) (l : Fin 1024) : e.v90 (ix2 p l) = e.R (tok 0 (by decide) p) l :=
  (res_at _ p l).trans (e.ldc2 0 _ p l (by omega))

theorem v790_at (p : Fin 128) (l : Fin 1024) : e.v790 (ix2 p l) = e.R (tok 128 (by decide) p) l :=
  (res_at _ p l).trans (e.ldc2 128 _ p l (by omega))

/-! ### The first hidden rows -/

/-- The projection plus the normalised residual, for the half starting at `o`. -/
theorem pre1_at (o : Nat) (ho : o + 128 ≤ 256) (y x : FVec Ideal S128x1024 .f32) (s : FVec Ideal S128x1 .f32)
    (hy : ∀ p l, y (ix2 p l) = ∑ k, clip (e.A (tok o ho p) k) (cs (e.A (tok o ho p))) * FloatOps.sitofp (F := Ideal) .bf16 (e.X27 (ix2 k l)))
    (hs : ∀ p, s (ix2 p 0) = cs (e.A (tok o ho p))) (hx : ∀ p l, x (ix2 p l) = e.R (tok o ho p) l) (p : Fin 128) (l : Fin 1024) :
    preV y s e.X4 e.X5 x e.X12 e.X13 (ix2 p l) = pre1 e.W (e.A (tok o ho p)) (e.R (tok o ho p)) l := by
  rw [preV_at, hy, hs, funext fun k => hx p k]
  unfold pre1 lin cc
  simp only [sitofp_code]
  rfl

theorem v115_eq : e.v115 = preV e.v79 e.v78 e.X4 e.X5 e.v90 e.X12 e.X13 := by
  have h : ∀ a b c d, a = e.X4 → b = e.X5 → c = e.X12 → d = e.X13 →
      preV e.v79 e.v78 a b e.v90 c d = preV e.v79 e.v78 e.X4 e.X5 e.v90 e.X12 e.X13 := by
    rintro _ _ _ _ rfl rfl rfl rfl
    rfl
  exact h _ _ _ _ (e.ld4 _) (e.ld5 _) (e.ld12 _) (e.ld13 _)

theorem v815_eq : e.v815 = preV e.v779 e.v778 e.X4 e.X5 e.v790 e.X12 e.X13 := by
  have h : ∀ a b c d, a = e.X4 → b = e.X5 → c = e.X12 → d = e.X13 →
      preV e.v779 e.v778 a b e.v790 c d = preV e.v779 e.v778 e.X4 e.X5 e.v790 e.X12 e.X13 := by
    rintro _ _ _ _ rfl rfl rfl rfl
    rfl
  exact h _ _ _ _ (e.ld4 _) (e.ld5 _) (e.ld12 _) (e.ld13 _)

theorem v115_at (p : Fin 128) (l : Fin 1024) :
    e.v115 (ix2 p l) = pre1 e.W (e.A (tok 0 (by decide) p)) (e.R (tok 0 (by decide) p)) l := by
  rw [v115_eq]
  exact e.pre1_at 0 (by decide) _ _ _ (fun p l => (half0_at _ p l).trans (e.v73_at _ l)) e.v78_at e.v90_at p l

theorem v815_at (p : Fin 128) (l : Fin 1024) :
    e.v815 (ix2 p l) = pre1 e.W (e.A (tok 128 (by decide) p)) (e.R (tok 128 (by decide) p)) l := by
  rw [v815_eq]
  exact e.pre1_at 128 (by decide) _ _ _ (fun p l => (half1_at _ p l).trans (e.v73_at _ l)) e.v778_at e.v790_at p l

/-- The first half's hidden rows. -/
def n0 : FVec Ideal S128x1024 .f32 := k0_pay11 e.v115 e.X14 e.X15

/-- The second half's hidden rows. -/
def n1 : FVec Ideal S128x1024 .f32 := k0_pay11 e.v815 e.X14 e.X15

theorem n0_at (p : Fin 128) (l : Fin 1024) : e.n0 (ix2 p l) = Spec.h1 e.W (e.A (tok 0 (by decide) p)) (e.R (tok 0 (by decide) p)) l := by
  unfold n0
  rw [ln_at, funext fun k => e.v115_at p k]
  rfl

theorem n1_at (p : Fin 128) (l : Fin 1024) : e.n1 (ix2 p l) = Spec.h1 e.W (e.A (tok 128 (by decide) p)) (e.R (tok 128 (by decide) p)) l := by
  unfold n1
  rw [ln_at, funext fun k => e.v815_at p k]
  rfl

/-- A value computed from two loads of whole blocks. -/
theorem two {α β γ : Type} (g : α → β → γ) {a a' : α} {b b' : β} (ha : a = a') (hb : b = b') : g a b = g a' b' := by rw [ha, hb]

theorem r_eq : e.r = scaleV e.n0 := two (fun a b => scaleV (k0_pay11 e.v115 a b)) (e.ld14 _) (e.ld15 _)

theorem v160_eq : e.v160 = clipV e.n0 (scaleV e.n0) :=
  two (fun a b => clipV (k0_pay11 e.v115 a b) (scaleV (k0_pay11 e.v115 a b))) (e.ld14 _) (e.ld15 _)

theorem pay12_eq : k0_pay12 e.v115 (View.readAt (Elt Ideal) e.M14.view (Rect.unit ![0, 0] S1x1024.size inb_S1x1024_S1x1024_0_0).toLoadRect e.f14)
    (View.readAt (Elt Ideal) e.M15.view (Rect.unit ![0, 0] S1x1024.size inb_S1x1024_S1x1024_0_0).toLoadRect e.f15) = e.n0 :=
  (cast_self _ _).trans (two (fun a b => k0_pay11 e.v115 a b) (e.ld14 _) (e.ld15 _))

theorem pay90_eq : k0_pay90 e.r_21 e.r_22 e.v823 e.v831 v107 = e.n1 :=
  two (fun a b => k0_pay11 e.v815 a b) (e.ld14 _) (e.ld15 _)

theorem r_23_eq : e.r_23 = scaleV e.n1 := congrArg scaleV e.pay90_eq

theorem pay91_eq : k0_pay91 e.r_21 e.r_22 e.v823 e.v831 v107 = e.n1 := (cast_self _ _).trans e.pay90_eq

theorem pay93_eq : k0_pay93 e.r_21 e.r_22 e.v823 e.v831 v107 = clipV e.n1 (scaleV e.n1) :=
  congrArg (fun v => clipV v (scaleV v)) e.pay90_eq

theorem n0_scale (p : Fin 128) : scaleV e.n0 (ix2 p 0) = Spec.hs e.W (e.A (tok 0 (by decide) p)) (e.R (tok 0 (by decide) p)) := by
  rw [scaleV_at, funext fun k => e.n0_at p k]
  rfl

theorem n1_scale (p : Fin 128) : scaleV e.n1 (ix2 p 0) = Spec.hs e.W (e.A (tok 128 (by decide) p)) (e.R (tok 128 (by decide) p)) := by
  rw [scaleV_at, funext fun k => e.n1_at p k]
  rfl

/-- The clipped first hidden row. -/
def hq (p : Fin 256) (l : Fin 1024) : EReal := clip (Spec.h1 e.W (e.A p) (e.R p) l) (Spec.hs e.W (e.A p) (e.R p))

theorem n0_clip (p : Fin 128) (l : Fin 1024) : clipV e.n0 (scaleV e.n0) (ix2 p l) = e.hq (tok 0 (by decide) p) l := by
  rw [clipV_at, funext fun k => e.n0_at p k, n0_at]
  rfl

theorem n1_clip (p : Fin 128) (l : Fin 1024) : clipV e.n1 (scaleV e.n1) (ix2 p l) = e.hq (tok 128 (by decide) p) l := by
  rw [clipV_at, funext fun k => e.n1_at p k, n1_at]
  rfl

end Env

end Cert.KernelIdeal.Val

end
-- ==== Proof.Ideal.PointB.lean ====
module

public import proofs.«01_k».proof.Proof.Ideal.PointA

/-!
# The inner rows and their codes

The chunks of the activated inner row, the running maximum over them, and the codes written back.
-/

set_option maxRecDepth 16384

open Cert.KernelIdeal Cert.KernelIdeal.Gen Cert.KernelIdeal.Body Cert.KernelIdeal.Vec Idealize.ShloMosaic Cert.Spec
open scoped BigOperators

noncomputable section

@[expose] public section

namespace Cert.KernelIdeal.Val

namespace Env

variable (e : Env)

abbrev v168 := runRest.sl.v168 (F := Ideal) e.c e.M1 e.M2 e.M4 e.M5 e.M12 e.M13 e.M14 e.M15 e.M27 e.M30 e.f1 e.f2 e.f4 e.f5 e.f12 e.f13 e.f14 e.f15 e.f27
abbrev H34_1 := runRest.sl.H34_1 (F := Ideal) e.c e.M1 e.M2 e.M4 e.M5 e.M12 e.M13 e.M14 e.M15 e.M27 e.M30 e.f1 e.f2 e.f4 e.f5 e.f12 e.f13 e.f14 e.f15 e.f27
abbrev H34_2 := runRest.sl.H34_2 (F := Ideal) e.c e.M1 e.M2 e.M4 e.M5 e.M12 e.M13 e.M14 e.M15 e.M27 e.M30 e.f1 e.f2 e.f4 e.f5 e.f12 e.f13 e.f14 e.f15 e.f27
abbrev H33_1 := runRest.sl.H33_1 (F := Ideal) e.c e.M1 e.M2 e.M4 e.M5 e.M12 e.M13 e.M14 e.M15 e.M27 e.M30 e.f1 e.f2 e.f4 e.f5 e.f12 e.f13 e.f14 e.f15 e.f27
abbrev H33_2 := runRest.sl.H33_2 (F := Ideal) e.c e.M1 e.M2 e.M4 e.M5 e.M12 e.M13 e.M14 e.M15 e.M27 e.M30 e.f1 e.f2 e.f4 e.f5 e.f12 e.f13 e.f14 e.f15 e.f27
abbrev v214 := runRest.sl.v214 (F := Ideal) e.c e.M1 e.M2 e.M4 e.M5 e.M12 e.M13 e.M14 e.M15 e.M27 e.M30 e.M34 e.f1 e.f2 e.f4 e.f5 e.f12 e.f13 e.f14 e.f15 e.f27
abbrev v914 := runRest.sl.v914 (F := Ideal) e.c e.M1 e.M2 e.M4 e.M5 e.M12 e.M13 e.M14 e.M15 e.M27 e.M30 e.M34 e.f1 e.f2 e.f4 e.f5 e.f12 e.f13 e.f14 e.f15 e.f27
abbrev v679 := runRest.sl.v679 (F := Ideal) e.c e.M1 e.M2 e.M4 e.M5 e.M12 e.M13 e.M14 e.M15 e.M27 e.M30 e.M33 e.f1 e.f2 e.f4 e.f5 e.f12 e.f13 e.f14 e.f15 e.f27
abbrev v1379 := runRest.sl.v1379 (F := Ideal) e.c e.M1 e.M2 e.M4 e.M5 e.M12 e.M13 e.M14 e.M15 e.M27 e.M30 e.M33 e.f1 e.f2 e.f4 e.f5 e.f12 e.f13 e.f14 e.f15 e.f27
abbrev H31_2 := runRest.sl.H31_2 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev H31_3 := runRest.sl.H31_3 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev H31_4 := runRest.sl.H31_4 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev H31_5 := runRest.sl.H31_5 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev H31_7 := runRest.sl.H31_7 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev H31_8 := runRest.sl.H31_8 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev H31_9 := runRest.sl.H31_9 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev H31_10 := runRest.sl.H31_10 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev H31_11 := runRest.sl.H31_11 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev H31_13 := runRest.sl.H31_13 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev H31_14 := runRest.sl.H31_14 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev H31_15 := runRest.sl.H31_15 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev H31_16 := runRest.sl.H31_16 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev r_37 := runRest.sl.r_37 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev r_5 := runRest.sl.r_5 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev r_7 := runRest.sl.r_7 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev r_10 := runRest.sl.r_10 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev r_16 := runRest.sl.r_16 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev r_17 := runRest.sl.r_17 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev r_18 := runRest.sl.r_18 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev r_19 := runRest.sl.r_19 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev r_40 := runRest.sl.r_40 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev r_41 := runRest.sl.r_41 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev r_42 := runRest.sl.r_42 (F := Ideal) e.c e.M1 e.M2 e.M4 e.M5 e.M7 e.M8 e.M12 e.M13 e.M14 e.M15 e.M27 e.M28 e.M30 e.M34 e.f1 e.f2 e.f4 e.f5 e.f7 e.f8 e.f12 e.f13 e.f14 e.f15 e.f27 e.f28
abbrev v540 := runRest.sl.v540 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev v556 := runRest.sl.v556 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev v572 := runRest.sl.v572 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev v588 := runRest.sl.v588 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev v604 := runRest.sl.v604 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev v620 := runRest.sl.v620 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev v636 := runRest.sl.v636 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev v652 := runRest.sl.v652 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev v1240 := runRest.sl.v1240 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev v1256 := runRest.sl.v1256 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev v1272 := runRest.sl.v1272 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev v1288 := runRest.sl.v1288 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev v1304 := runRest.sl.v1304 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev v1320 := runRest.sl.v1320 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev v1336 := runRest.sl.v1336 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev v1352 := runRest.sl.v1352 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev H32_1 := runRest.sl.H32_1 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev H32_3 := runRest.sl.H32_3 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev H32_6 := runRest.sl.H32_6 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev H32_8 := runRest.sl.H32_8 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev H32_10 := runRest.sl.H32_10 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev H32_12 := runRest.sl.H32_12 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev H32_15 := runRest.sl.H32_15 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev H32_16 := runRest.sl.H32_16 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev H25_1 := runRest.sl.H25_1 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev H25_4 := runRest.sl.H25_4 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev H25_6 := runRest.sl.H25_6 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev H25_8 := runRest.sl.H25_8 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev H25_10 := runRest.sl.H25_10 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev H25_13 := runRest.sl.H25_13 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev H25_15 := runRest.sl.H25_15 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev H25_16 := runRest.sl.H25_16 (F := Ideal) e.c e.M1 e.M2 e.M4 e.M5 e.M7 e.M8 e.M12 e.M13 e.M14 e.M15 e.M27 e.M28 e.M30 e.M31 e.M34 e.f1 e.f2 e.f4 e.f5 e.f7 e.f8 e.f12 e.f13 e.f14 e.f15 e.f27 e.f28
abbrev v668 := runRest.sl.v668 (F := Ideal) e.c e.M1 e.M2 e.M4 e.M5 e.M7 e.M8 e.M12 e.M13 e.M14 e.M15 e.M27 e.M28 e.M30 e.M31 e.M32 e.M34 e.f1 e.f2 e.f4 e.f5 e.f7 e.f8 e.f12 e.f13 e.f14 e.f15 e.f27 e.f28
abbrev v1368 := runRest.sl.v1368 (F := Ideal) e.c e.M1 e.M2 e.M4 e.M5 e.M7 e.M8 e.M12 e.M13 e.M14 e.M15 e.M27 e.M28 e.M30 e.M31 e.M32 e.M34 e.f1 e.f2 e.f4 e.f5 e.f7 e.f8 e.f12 e.f13 e.f14 e.f15 e.f27 e.f28

/-! ### Pieces of a block -/

theorem inb2 {d0 d1 n0 n1 o0 o1 : Nat} (h0 : o0 + n0 ≤ d0) (h1 : o1 + n1 ≤ d1) :
    ∀ a : Fin 2, ![o0, o1] a + ![n0, n1] a ≤ (⟨2, ![d0, d1]⟩ : Shape).size a := by
  intro a
  match a with
  | ⟨0, _⟩ => exact h0
  | ⟨1, _⟩ => exact h1

theorem inb3 {d1 d2 n1 n2 o1 o2 : Nat} (h1 : o1 + n1 ≤ d1) (h2 : o2 + n2 ≤ d2) :
    ∀ a : Fin 3, ![0, o1, o2] a + ![1, n1, n2] a ≤ (⟨3, ![1, d1, d2]⟩ : Shape).size a := by
  intro a
  match a with
  | ⟨0, _⟩ => exact Nat.le_refl 1
  | ⟨1, _⟩ => exact h1
  | ⟨2, _⟩ => exact h2

/-- A piece holding `G`'s values at its place. -/
theorem piece2 {d0 d1 n0 n1 o0 o1 : Nat} {e : EltTy} (G : Shape.Idx ⟨2, ![d0, d1]⟩ → Elt Ideal e)
    (h0 : o0 + n0 ≤ d0) (h1 : o1 + n1 ≤ d1) (w : Shape.Idx ⟨2, ![n0, n1]⟩ → Elt Ideal e)
    (hw : ∀ (i : Fin n0) (j : Fin n1), w (ix2 i j) = G (ix2 ⟨o0 + i.val, by omega⟩ ⟨o1 + j.val, by omega⟩)) :
    ∀ x, w x = G ((Rect.unit (s := ⟨2, ![d0, d1]⟩) ![o0, o1] ![n0, n1] (inb2 h0 h1)).emb x) := by
  intro x
  obtain ⟨i, j, rfl⟩ : ∃ (i : Fin n0) (j : Fin n1), x = ix2 i j := ⟨x 0, x 1, eq_ix2 x⟩
  exact (hw i j).trans (congrArg G (unit2_idx (inb2 h0 h1) i j (by omega) (by omega)).symm)

theorem piece3 {d1 d2 n1 n2 o1 o2 : Nat} {e : EltTy} (G : Shape.Idx ⟨3, ![1, d1, d2]⟩ → Elt Ideal e)
    (h1 : o1 + n1 ≤ d1) (h2 : o2 + n2 ≤ d2) (w : Shape.Idx ⟨3, ![1, n1, n2]⟩ → Elt Ideal e)
    (hw : ∀ (i : Fin n1) (j : Fin n2), w (ix3 0 i j) = G (ix3 0 ⟨o1 + i.val, by omega⟩ ⟨o2 + j.val, by omega⟩)) :
    ∀ x, w x = G ((Rect.unit (s := ⟨3, ![1, d1, d2]⟩) ![0, o1, o2] ![1, n1, n2] (inb3 h1 h2)).emb x) := by
  intro x
  obtain ⟨i, j, rfl⟩ : ∃ (i : Fin n1) (j : Fin n2), x = ix3 0 i j :=
    ⟨x 1, x 2, (eq_ix3 x).trans (by rw [show x 0 = (0 : Fin 1) from Subsingleton.elim (α := Fin 1) _ _])⟩
  refine (hw i j).trans (congrArg G ((unit3_idx (inb3 h1 h2) 0 i j (by decide) (by omega) (by omega)).trans ?_).symm)
  rfl

theorem mem2 {d0 d1 n0 n1 o0 o1 : Nat} (inb : ∀ a : Fin 2, ![o0, o1] a + ![n0, n1] a ≤ (⟨2, ![d0, d1]⟩ : Shape).size a)
    (i : Fin d0) (j : Fin d1) (a : o0 ≤ i.val) (b : i.val < o0 + n0) (c : o1 ≤ j.val) (d : j.val < o1 + n1) :
    ix2 i j ∈ (Rect.unit (s := ⟨2, ![d0, d1]⟩) ![o0, o1] ![n0, n1] inb).set := by
  rw [Rect.mem_set_unit]
  intro k
  match k with
  | ⟨0, _⟩ => exact ⟨a, b⟩
  | ⟨1, _⟩ => exact ⟨c, d⟩

theorem mem3 {d1 d2 n1 n2 o1 o2 : Nat} (inb : ∀ a : Fin 3, ![0, o1, o2] a + ![1, n1, n2] a ≤ (⟨3, ![1, d1, d2]⟩ : Shape).size a)
    (i : Fin d1) (j : Fin d2) (a : o1 ≤ i.val) (b : i.val < o1 + n1) (c : o2 ≤ j.val) (d : j.val < o2 + n2) :
    ix3 0 i j ∈ (Rect.unit (s := ⟨3, ![1, d1, d2]⟩) ![0, o1, o2] ![1, n1, n2] inb).set := by
  rw [Rect.mem_set_unit]
  intro k
  match k with
  | ⟨0, _⟩ => exact ⟨Nat.le_refl 0, Nat.zero_lt_one⟩
  | ⟨1, _⟩ => exact ⟨a, b⟩
  | ⟨2, _⟩ => exact ⟨c, d⟩

/-- What a list of pieces that all hold `G`'s values reads as where one of them lies. -/
theorem readBack {s : Shape} {e : EltTy} {sp : Space} (v : View sig .tc sp s e) (G : s.Idx → Elt Ideal e) (L : List (View.Piece (Elt Ideal) s e))
    (hL : ∀ p ∈ L, ∀ x, p.2 x = G (p.1.emb x)) (B : LoadRect s) (w : B.shape.Idx → Elt Ideal e) (hw : w = v.readCov L B)
    (j : B.shape.Idx) (y : s.Idx) (hy : B.idx j = y) (hm : ∃ p ∈ L, y ∈ p.1.set) : w j = G y := by
  rw [hw, View.readCov_eq_canon']
  show View.canon L (B.idx j) = G y
  rw [hy]
  exact View.canon_apply_of_pieces (Val := Elt Ideal) (e := e) G L hL y hm

/-- Some piece of the list covers the 128 by 512 block at `(o, o1)`. -/
def Cov {e : EltTy} (o o1 : Nat) (L : List (View.Piece (Elt Ideal) S256x4096 e)) : Prop :=
  ∃ p ∈ L, ∀ (i : Fin 256) (j : Fin 4096), o ≤ i.val → i.val < o + 128 → o1 ≤ j.val → j.val < o1 + 512 → ix2 i j ∈ p.1.set

theorem Cov.here {e : EltTy} {o o1 : Nat} {inb} {w} {L : List (View.Piece (Elt Ideal) S256x4096 e)} :
    Cov o o1 (⟨Rect.unit ![o, o1] S128x512.size inb, w⟩ :: L) :=
  ⟨_, List.mem_cons_self, fun i j a b c d => mem2 inb i j a b c d⟩

theorem Cov.there {e : EltTy} {o o1 : Nat} {p} {L : List (View.Piece (Elt Ideal) S256x4096 e)} (h : Cov o o1 L) : Cov o o1 (p :: L) :=
  ⟨h.choose, List.mem_cons_of_mem _ h.choose_spec.1, h.choose_spec.2⟩

/-- Some piece of the list covers the 128 by 512 block at `(0, o, o1)`. -/
def Cov3 {e : EltTy} (o o1 : Nat) (L : List (View.Piece (Elt Ideal) S1x256x4096 e)) : Prop :=
  ∃ p ∈ L, ∀ (i : Fin 256) (j : Fin 4096), o ≤ i.val → i.val < o + 128 → o1 ≤ j.val → j.val < o1 + 512 → ix3 0 i j ∈ p.1.set

theorem Cov3.here {e : EltTy} {o o1 : Nat} {inb} {w} {L : List (View.Piece (Elt Ideal) S1x256x4096 e)} :
    Cov3 o o1 (⟨Rect.unit ![0, o, o1] S1x128x512.size inb, w⟩ :: L) :=
  ⟨_, List.mem_cons_self, fun i j a b c d => mem3 inb i j a b c d⟩

theorem Cov3.there {e : EltTy} {o o1 : Nat} {p} {L : List (View.Piece (Elt Ideal) S1x256x4096 e)} (h : Cov3 o o1 L) : Cov3 o o1 (p :: L) :=
  ⟨h.choose, List.mem_cons_of_mem _ h.choose_spec.1, h.choose_spec.2⟩

/-- Eight blocks side by side cover 128 whole rows. -/
theorem cov8 {P : Nat → Prop} {Q : Fin 4096 → Prop} (h : ∀ o1, P o1 → ∀ j : Fin 4096, o1 ≤ j.val → j.val < o1 + 512 → Q j)
    (c0 : P 0) (c1 : P 512) (c2 : P 1024) (c3 : P 1536) (c4 : P 2048) (c5 : P 2560) (c6 : P 3072) (c7 : P 3584) (j : Fin 4096) : Q j := by
  have := j.isLt
  by_cases h1 : j.val < 512
  · exact h 0 c0 j (by omega) (by omega)
  by_cases h2 : j.val < 1024
  · exact h 512 c1 j (by omega) (by omega)
  by_cases h3 : j.val < 1536
  · exact h 1024 c2 j (by omega) (by omega)
  by_cases h4 : j.val < 2048
  · exact h 1536 c3 j (by omega) (by omega)
  by_cases h5 : j.val < 2560
  · exact h 2048 c4 j (by omega) (by omega)
  by_cases h6 : j.val < 3072
  · exact h 2560 c5 j (by omega) (by omega)
  by_cases h7 : j.val < 3584
  · exact h 3072 c6 j (by omega) (by omega)
  · exact h 3584 c7 j (by omega) (by omega)

/-! ### The hidden rows as the products read them -/

/-- The clipped codes of the hidden rows. -/
def G34 : S256x1024.Idx → Elt Ideal .bf16 := fun j => e.hq (j 0) (j 1)

/-- The hidden rows. -/
def G33 : S256x1024.Idx → Elt Ideal .f32 := fun j => Spec.h1 e.W (e.A (j 0)) (e.R (j 0)) (j 1)

theorem v168_at (p : Fin 128) (l : Fin 1024) : e.v168 (ix2 p l) = e.hq (tok 0 (by decide) p) l := by
  have h : e.v168 = e.v160 := (cast_self _ _).trans rfl
  rw [h, v160_eq]
  exact e.n0_clip p l

theorem pay95_at (p : Fin 128) (l : Fin 1024) :
    k0_pay95 e.r_21 e.r_22 e.v823 e.v831 v107 (ix2 p l) = e.hq (tok 128 (by decide) p) l := by
  have h : k0_pay95 e.r_21 e.r_22 e.v823 e.v831 v107 = k0_pay93 e.r_21 e.r_22 e.v823 e.v831 v107 := (cast_self _ _).trans rfl
  rw [h, pay93_eq]
  exact e.n1_clip p l

theorem fz {n : Nat} (p : Fin n) (h : 0 + p.val < n) : (⟨0 + p.val, h⟩ : Fin n) = p := Fin.ext (Nat.zero_add _)

theorem H34_1_holds : ∀ p ∈ e.H34_1, ∀ x, p.2 x = e.G34 (p.1.emb x) :=
  List.forall_mem_cons.2 ⟨piece2 e.G34 (by decide) (by decide) e.v168 fun p l => (e.v168_at p l).trans (by rw [fz l]; rfl), by simp⟩

theorem H34_2_holds : ∀ p ∈ e.H34_2, ∀ x, p.2 x = e.G34 (p.1.emb x) :=
  List.forall_mem_cons.2 ⟨piece2 e.G34 (by decide) (by decide) _ fun p l => (e.pay95_at p l).trans (by rw [fz l]; rfl), e.H34_1_holds⟩

theorem H33_1_holds : ∀ p ∈ e.H33_1, ∀ x, p.2 x = e.G33 (p.1.emb x) :=
  List.forall_mem_cons.2 ⟨piece2 e.G33 (by decide) (by decide) _
    fun p l => (congrFun e.pay12_eq _).trans ((e.n0_at p l).trans (by rw [fz l]; rfl)), by simp⟩

theorem H33_2_holds : ∀ p ∈ e.H33_2, ∀ x, p.2 x = e.G33 (p.1.emb x) :=
  List.forall_mem_cons.2 ⟨piece2 e.G33 (by decide) (by decide) _
    fun p l => (congrFun e.pay91_eq _).trans ((e.n1_at p l).trans (by rw [fz l]; rfl)), e.H33_1_holds⟩

/-- The row that a load at `(o, 0)` of 128 whole rows reads. -/
theorem rowIdx {d n : Nat} (o : Nat) (ho : o + 128 ≤ d) (inb : ∀ a : Fin 2, ![o, 0] a + ![128, n] a ≤ (⟨2, ![d, n]⟩ : Shape).size a)
    (p : Fin 128) (l : Fin n) :
    (Rect.unit (s := ⟨2, ![d, n]⟩) ![o, 0] ![128, n] inb).toLoadRect.idx (ix2 p l) = ix2 ⟨o + p.val, by omega⟩ l :=
  (unit2_idx inb p l (by omega) (by omega)).trans (by rw [fz l])

theorem q0_at (p : Fin 128) (l : Fin 1024) : e.v214 (ix2 p l) = e.hq (tok 0 (by decide) p) l := by
  have h := readBack e.M34.view e.G34 e.H34_1 e.H34_1_holds (Rect.unit (s := S256x1024) ![0, 0] S128x1024.size (inb2 (o0 := 0) (n0 := 128) (by decide) (by decide))).toLoadRect e.v214 rfl (ix2 p l) (ix2 (tok 0 (by decide) p) l) (rowIdx 0 (by decide) _ p l) (⟨_, List.mem_cons_self, mem2 (inb2 (by decide) (by decide)) _ _ (by first | omega | (simp; done) | (simp; omega)) (by first | omega | (simp; done) | (simp; omega)) (by first | omega | (simp; done) | (simp; omega)) (by first | omega | (simp; done) | (simp; omega))⟩)
  exact h

theorem q1_at (p : Fin 128) (l : Fin 1024) : e.v914 (ix2 p l) = e.hq (tok 128 (by decide) p) l := by
  have h := readBack e.M34.view e.G34 e.H34_2 e.H34_2_holds (Rect.unit (s := S256x1024) ![128, 0] S128x1024.size (inb2 (o0 := 128) (n0 := 128) (by decide) (by decide))).toLoadRect e.v914 rfl (ix2 p l) (ix2 (tok 128 (by decide) p) l) (rowIdx 128 (by decide) _ p l) (⟨_, List.mem_cons_self, mem2 (inb2 (by decide) (by decide)) _ _ (by first | omega | (simp; done) | (simp; omega)) (by first | omega | (simp; done) | (simp; omega)) (by first | omega | (simp; done) | (simp; omega)) (by first | omega | (simp; done) | (simp; omega))⟩)
  exact h

theorem v679_at (p : Fin 128) (l : Fin 1024) : e.v679 (ix2 p l) = Spec.h1 e.W (e.A (tok 0 (by decide) p)) (e.R (tok 0 (by decide) p)) l := by
  have h := readBack e.M33.view e.G33 e.H33_1 e.H33_1_holds (Rect.unit (s := S256x1024) ![0, 0] S128x1024.size (inb2 (o0 := 0) (n0 := 128) (by decide) (by decide))).toLoadRect e.v679 rfl (ix2 p l) (ix2 (tok 0 (by decide) p) l) (rowIdx 0 (by decide) _ p l) (⟨_, List.mem_cons_self, mem2 (inb2 (by decide) (by decide)) _ _ (by first | omega | (simp; done) | (simp; omega)) (by first | omega | (simp; done) | (simp; omega)) (by first | omega | (simp; done) | (simp; omega)) (by first | omega | (simp; done) | (simp; omega))⟩)
  exact h

theorem v1379_at (p : Fin 128) (l : Fin 1024) : e.v1379 (ix2 p l) = Spec.h1 e.W (e.A (tok 128 (by decide) p)) (e.R (tok 128 (by decide) p)) l := by
  have h := readBack e.M33.view e.G33 e.H33_2 e.H33_2_holds (Rect.unit (s := S256x1024) ![128, 0] S128x1024.size (inb2 (o0 := 128) (n0 := 128) (by decide) (by decide))).toLoadRect e.v1379 rfl (ix2 p l) (ix2 (tok 128 (by decide) p) l) (rowIdx 128 (by decide) _ p l) (⟨_, List.mem_cons_self, mem2 (inb2 (by decide) (by decide)) _ _ (by first | omega | (simp; done) | (simp; omega)) (by first | omega | (simp; done) | (simp; omega)) (by first | omega | (simp; done) | (simp; omega)) (by first | omega | (simp; done) | (simp; omega))⟩)
  exact h

theorem hsr0 (p : Fin 128) : e.r (ix2 p 0) = Spec.hs e.W (e.A (tok 0 (by decide) p)) (e.R (tok 0 (by decide) p)) := by
  rw [r_eq, n0_scale]

theorem hsr1 (p : Fin 128) : e.r_23 (ix2 p 0) = Spec.hs e.W (e.A (tok 128 (by decide) p)) (e.R (tok 128 (by decide) p)) := by
  rw [r_23_eq, n1_scale]

/-! ### The inner rows -/

/-- Token `p`'s activated inner row. -/
def F (p : Fin 256) : Row 4096 := Spec.f e.W (e.A p) (e.R p)

theorem in28 (o : Nat) (h : o + 512 ≤ 4096) (a : Fin 2) : ![0, o] a + S1024x512.size a ≤ S1024x4096.size a := by
  match a with
  | ⟨0, _⟩ => exact Nat.le_refl 1024
  | ⟨1, _⟩ => exact h

theorem in7 (o : Nat) (h : o + 512 ≤ 4096) (a : Fin 2) : ![0, o] a + S1x512.size a ≤ S1x4096.size a := by
  match a with
  | ⟨0, _⟩ => exact Nat.le_refl 1
  | ⟨1, _⟩ => exact h

/-- The chunk of 512 inner columns from `o`. -/
def chunk (s : FVec Ideal S128x1 .f32) (q : Vec Ideal S128x1024 .bf16) (o : Nat) (h : o + 512 ≤ 4096) : FVec Ideal S128x512 .f32 :=
  k0_pay20 (F := Ideal) s q (View.readAt (Elt Ideal) e.M28.view (Rect.unit (s := S1024x4096) ![0, o] S1024x512.size (in28 o h)).toLoadRect e.f28)
    (View.readAt (Elt Ideal) e.M7.view (Rect.unit (s := S1x4096) ![0, o] S1x512.size (in7 o h)).toLoadRect e.f7)
    (View.readAt (Elt Ideal) e.M8.view (Rect.unit (s := S1x4096) ![0, o] S1x512.size (in7 o h)).toLoadRect e.f8)

theorem chunk_at (o : Nat) (ho : o + 128 ≤ 256) (s : FVec Ideal S128x1 .f32) (q : Vec Ideal S128x1024 .bf16)
    (hs : ∀ p, s (ix2 p 0) = Spec.hs e.W (e.A (tok o ho p)) (e.R (tok o ho p))) (hq : ∀ p l, q (ix2 p l) = e.hq (tok o ho p) l)
    (o1 : Nat) (h : o1 + 512 ≤ 4096) (p : Fin 128) (l : Fin 512) :
    e.chunk s q o1 h (ix2 p l) = e.F (tok o ho p) ⟨o1 + l.val, by omega⟩ := by
  unfold chunk
  rw [f_at, hs, ldc7 e o1 _ l (by omega), ldc8 e o1 _ l (by omega)]
  unfold F Spec.f lin hc
  simp only [sitofp_code]
  refine congrArg gelu (congrArg (· + _) (congrArg (· * _) (congrArg (· * _) (Finset.sum_congr rfl fun k _ => ?_))))
  rw [hq]
  exact congrArg (_ * ·) (e.ldc28 o1 _ k l (by omega))

/-- A half's chunks. -/
abbrev c0 (o : Nat) (h : o + 512 ≤ 4096) := e.chunk e.r e.v214 o h
abbrev c1 (o : Nat) (h : o + 512 ≤ 4096) := e.chunk e.r_23 e.v914 o h

/-- The inner rows as written, chunk by chunk. -/
def G31 : S256x4096.Idx → Elt Ideal .f32 := fun j => e.F (j 0) (j 1)

theorem p31_0 (o1 : Nat) (h : o1 + 512 ≤ 4096) (w : FVec Ideal S128x512 .f32) (hc) (hw : w = shapeCast S128x512 (e.c0 o1 h) hc) :
    ∀ x, w x = e.G31 ((Rect.unit (s := S256x4096) ![0, o1] S128x512.size (inb2 (o0 := 0) (n0 := 128) (by decide) h)).emb x) :=
  piece2 e.G31 (by decide) h w fun p l => (congrFun (hw.trans (cast_self _ _)) _).trans (e.chunk_at 0 (by decide) _ _ e.hsr0 e.q0_at o1 h p l)

theorem p31_1 (o1 : Nat) (h : o1 + 512 ≤ 4096) (w : FVec Ideal S128x512 .f32) (hc) (hw : w = shapeCast S128x512 (e.c1 o1 h) hc) :
    ∀ x, w x = e.G31 ((Rect.unit (s := S256x4096) ![128, o1] S128x512.size (inb2 (o0 := 128) (n0 := 128) (by decide) h)).emb x) :=
  piece2 e.G31 (by decide) h w fun p l => (congrFun (hw.trans (cast_self _ _)) _).trans (e.chunk_at 128 (by decide) _ _ e.hsr1 e.q1_at o1 h p l)

theorem H31_2_holds : ∀ p ∈ e.H31_2, ∀ x, p.2 x = e.G31 (p.1.emb x) :=
  List.forall_mem_cons.2 ⟨e.p31_0 512 (by decide) _ _ rfl, List.forall_mem_cons.2 ⟨e.p31_0 0 (by decide) _ _ rfl, by simp⟩⟩

theorem H31_3_holds : ∀ p ∈ e.H31_3, ∀ x, p.2 x = e.G31 (p.1.emb x) :=
  List.forall_mem_cons.2 ⟨e.p31_0 1024 (by decide) _ _ rfl, e.H31_2_holds⟩

theorem H31_4_holds : ∀ p ∈ e.H31_4, ∀ x, p.2 x = e.G31 (p.1.emb x) :=
  List.forall_mem_cons.2 ⟨e.p31_0 1536 (by decide) _ _ rfl, e.H31_3_holds⟩

theorem H31_5_holds : ∀ p ∈ e.H31_5, ∀ x, p.2 x = e.G31 (p.1.emb x) :=
  List.forall_mem_cons.2 ⟨e.p31_0 2048 (by decide) _ _ rfl, e.H31_4_holds⟩

theorem H31_7_holds : ∀ p ∈ e.H31_7, ∀ x, p.2 x = e.G31 (p.1.emb x) :=
  List.forall_mem_cons.2 ⟨e.p31_0 3072 (by decide) _ _ rfl, List.forall_mem_cons.2 ⟨e.p31_0 2560 (by decide) _ _ rfl, e.H31_5_holds⟩⟩

theorem H31_8_holds : ∀ p ∈ e.H31_8, ∀ x, p.2 x = e.G31 (p.1.emb x) :=
  List.forall_mem_cons.2 ⟨e.p31_0 3584 (by decide) _ _ rfl, e.H31_7_holds⟩

theorem H31_9_holds : ∀ p ∈ e.H31_9, ∀ x, p.2 x = e.G31 (p.1.emb x) :=
  List.forall_mem_cons.2 ⟨e.p31_1 0 (by decide) _ _ rfl, e.H31_8_holds⟩

theorem H31_10_holds : ∀ p ∈ e.H31_10, ∀ x, p.2 x = e.G31 (p.1.emb x) :=
  List.forall_mem_cons.2 ⟨e.p31_1 512 (by decide) _ _ rfl, e.H31_9_holds⟩

theorem H31_11_holds : ∀ p ∈ e.H31_11, ∀ x, p.2 x = e.G31 (p.1.emb x) :=
  List.forall_mem_cons.2 ⟨e.p31_1 1024 (by decide) _ _ rfl, e.H31_10_holds⟩

theorem H31_13_holds : ∀ p ∈ e.H31_13, ∀ x, p.2 x = e.G31 (p.1.emb x) :=
  List.forall_mem_cons.2 ⟨e.p31_1 2048 (by decide) _ _ rfl, List.forall_mem_cons.2 ⟨e.p31_1 1536 (by decide) _ _ rfl, e.H31_11_holds⟩⟩

theorem H31_14_holds : ∀ p ∈ e.H31_14, ∀ x, p.2 x = e.G31 (p.1.emb x) :=
  List.forall_mem_cons.2 ⟨e.p31_1 2560 (by decide) _ _ rfl, e.H31_13_holds⟩

theorem H31_15_holds : ∀ p ∈ e.H31_15, ∀ x, p.2 x = e.G31 (p.1.emb x) :=
  List.forall_mem_cons.2 ⟨e.p31_1 3072 (by decide) _ _ rfl, e.H31_14_holds⟩

theorem H31_16_holds : ∀ p ∈ e.H31_16, ∀ x, p.2 x = e.G31 (p.1.emb x) :=
  List.forall_mem_cons.2 ⟨e.p31_1 3584 (by decide) _ _ rfl, e.H31_15_holds⟩

/-- The largest absolute values of the first half's rows. -/
def a0 : FVec Ideal S128x1 .f32 := amaxV (maccV (maccV (maccV (maccV (maccV (maccV (maccV (maccV k0_pay19 (e.c0 0 (by decide))) (e.c0 512 (by decide))) (e.c0 1024 (by decide))) (e.c0 1536 (by decide))) (e.c0 2048 (by decide))) (e.c0 2560 (by decide))) (e.c0 3072 (by decide))) (e.c0 3584 (by decide)))

/-- The largest absolute values of the second half's rows. -/
def a1 : FVec Ideal S128x1 .f32 := amaxV (maccV e.r_37 (e.c1 3584 (by decide)))

theorem r_5_eq : e.r_5 = (maccV (maccV (maccV k0_pay19 (e.c0 0 (by decide))) (e.c0 512 (by decide))) (e.c0 1024 (by decide))) := rfl
theorem r_7_eq : e.r_7 = maccV e.r_5 (e.c0 1536 (by decide)) := rfl
theorem r_10_eq : e.r_10 = maccV e.r_7 (e.c0 2048 (by decide)) := rfl
theorem r_16_eq : e.r_16 = e.a0 := by
  have h : e.r_16 = amaxV (maccV (maccV (maccV e.r_10 (e.c0 2560 (by decide))) (e.c0 3072 (by decide))) (e.c0 3584 (by decide))) := rfl
  rw [h, r_10_eq, r_7_eq, r_5_eq]
  rfl

theorem a1_eq : e.a1 = amaxV (maccV (maccV (maccV (maccV (maccV (maccV (maccV (maccV k0_pay19 (e.c1 0 (by decide))) (e.c1 512 (by decide))) (e.c1 1024 (by decide))) (e.c1 1536 (by decide))) (e.c1 2048 (by decide))) (e.c1 2560 (by decide))) (e.c1 3072 (by decide))) (e.c1 3584 (by decide))) := rfl

theorem a0_at (p : Fin 128) : e.a0 (ix2 p 0) = amax (e.F (tok 0 (by decide) p)) :=
  amax8 (fun n => e.c0 (512 * n.val) (by omega)) p _ fun n k => e.chunk_at 0 (by decide) _ _ e.hsr0 e.q0_at _ _ p k

theorem a1_at (p : Fin 128) : e.a1 (ix2 p 0) = amax (e.F (tok 128 (by decide) p)) := by
  rw [a1_eq]
  exact amax8 (fun n => e.c1 (512 * n.val) (by omega)) p _ fun n k => e.chunk_at 128 (by decide) _ _ e.hsr1 e.q1_at _ _ p k

theorem r_17_eq : e.r_17 = k0_pay49 e.a0 := congrArg k0_pay49 e.r_16_eq
theorem r_18_eq : e.r_18 = k0_pay50 e.a0 := congrArg k0_pay50 e.r_16_eq
theorem r_19_eq : e.r_19 = rowV (k0_pay49 e.a0) := congrArg (fun a => rowV (k0_pay49 a)) e.r_16_eq
theorem r_40_eq : e.r_40 = k0_pay49 e.a1 := rfl
theorem r_41_eq : e.r_41 = k0_pay50 e.a1 := rfl
theorem r_42_eq : e.r_42 = rowV (k0_pay49 e.a1) := rfl
theorem m0_eq : e.r_16 = e.a0 := e.r_16_eq
theorem m1_eq : e.a1 = e.a1 := rfl

/-! ### Reading the inner rows back and their codes -/

theorem H31_8_cov0 : Cov 0 0 e.H31_8 := (Cov.here).there.there.there.there.there.there.there
theorem H31_8_cov1 : Cov 0 512 e.H31_8 := (Cov.here).there.there.there.there.there.there
theorem H31_8_cov2 : Cov 0 1024 e.H31_8 := (Cov.here).there.there.there.there.there
theorem H31_8_cov3 : Cov 0 1536 e.H31_8 := (Cov.here).there.there.there.there
theorem H31_8_cov4 : Cov 0 2048 e.H31_8 := (Cov.here).there.there.there
theorem H31_8_cov5 : Cov 0 2560 e.H31_8 := (Cov.here).there.there
theorem H31_8_cov6 : Cov 0 3072 e.H31_8 := (Cov.here).there
theorem H31_8_cov7 : Cov 0 3584 e.H31_8 := Cov.here

theorem H31_16_cov0 : Cov 128 0 e.H31_16 := (Cov.here).there.there.there.there.there.there.there
theorem H31_16_cov1 : Cov 128 512 e.H31_16 := (Cov.here).there.there.there.there.there.there
theorem H31_16_cov2 : Cov 128 1024 e.H31_16 := (Cov.here).there.there.there.there.there
theorem H31_16_cov3 : Cov 128 1536 e.H31_16 := (Cov.here).there.there.there.there
theorem H31_16_cov4 : Cov 128 2048 e.H31_16 := (Cov.here).there.there.there
theorem H31_16_cov5 : Cov 128 2560 e.H31_16 := (Cov.here).there.there
theorem H31_16_cov6 : Cov 128 3072 e.H31_16 := (Cov.here).there
theorem H31_16_cov7 : Cov 128 3584 e.H31_16 := Cov.here

theorem v540_at (p : Fin 128) (l : Fin 512) : e.v540 (ix2 p l) = e.F (tok 0 (by decide) p) ⟨0 + l.val, by omega⟩ := by
  have h := readBack e.M31.view e.G31 e.H31_8 e.H31_8_holds (Rect.unit (s := S256x4096) ![0, 0] S128x512.size (inb2 (o0 := 0) (n0 := 128) (by decide) (by decide))).toLoadRect e.v540 rfl
    (ix2 p l) (ix2 (tok 0 (by decide) p) ⟨0 + l.val, by omega⟩) (unit2_idx _ p l (by omega) (by omega))
    ⟨_, e.H31_8_cov0.choose_spec.1, e.H31_8_cov0.choose_spec.2 _ _ (by first | omega | (simp; done) | (simp; omega)) (by first | omega | (simp; done) | (simp; omega)) (by first | omega | (simp; done) | (simp; omega)) (by first | omega | (simp; done) | (simp; omega))⟩
  exact h

theorem v556_at (p : Fin 128) (l : Fin 512) : e.v556 (ix2 p l) = e.F (tok 0 (by decide) p) ⟨512 + l.val, by omega⟩ := by
  have h := readBack e.M31.view e.G31 e.H31_8 e.H31_8_holds (Rect.unit (s := S256x4096) ![0, 512] S128x512.size (inb2 (o0 := 0) (n0 := 128) (by decide) (by decide))).toLoadRect e.v556 rfl
    (ix2 p l) (ix2 (tok 0 (by decide) p) ⟨512 + l.val, by omega⟩) (unit2_idx _ p l (by omega) (by omega))
    ⟨_, e.H31_8_cov1.choose_spec.1, e.H31_8_cov1.choose_spec.2 _ _ (by first | omega | (simp; done) | (simp; omega)) (by first | omega | (simp; done) | (simp; omega)) (by first | omega | (simp; done) | (simp; omega)) (by first | omega | (simp; done) | (simp; omega))⟩
  exact h

theorem v572_at (p : Fin 128) (l : Fin 512) : e.v572 (ix2 p l) = e.F (tok 0 (by decide) p) ⟨1024 + l.val, by omega⟩ := by
  have h := readBack e.M31.view e.G31 e.H31_8 e.H31_8_holds (Rect.unit (s := S256x4096) ![0, 1024] S128x512.size (inb2 (o0 := 0) (n0 := 128) (by decide) (by decide))).toLoadRect e.v572 rfl
    (ix2 p l) (ix2 (tok 0 (by decide) p) ⟨1024 + l.val, by omega⟩) (unit2_idx _ p l (by omega) (by omega))
    ⟨_, e.H31_8_cov2.choose_spec.1, e.H31_8_cov2.choose_spec.2 _ _ (by first | omega | (simp; done) | (simp; omega)) (by first | omega | (simp; done) | (simp; omega)) (by first | omega | (simp; done) | (simp; omega)) (by first | omega | (simp; done) | (simp; omega))⟩
  exact h

theorem v588_at (p : Fin 128) (l : Fin 512) : e.v588 (ix2 p l) = e.F (tok 0 (by decide) p) ⟨1536 + l.val, by omega⟩ := by
  have h := readBack e.M31.view e.G31 e.H31_8 e.H31_8_holds (Rect.unit (s := S256x4096) ![0, 1536] S128x512.size (inb2 (o0 := 0) (n0 := 128) (by decide) (by decide))).toLoadRect e.v588 rfl
    (ix2 p l) (ix2 (tok 0 (by decide) p) ⟨1536 + l.val, by omega⟩) (unit2_idx _ p l (by omega) (by omega))
    ⟨_, e.H31_8_cov3.choose_spec.1, e.H31_8_cov3.choose_spec.2 _ _ (by first | omega | (simp; done) | (simp; omega)) (by first | omega | (simp; done) | (simp; omega)) (by first | omega | (simp; done) | (simp; omega)) (by first | omega | (simp; done) | (simp; omega))⟩
  exact h

theorem v604_at (p : Fin 128) (l : Fin 512) : e.v604 (ix2 p l) = e.F (tok 0 (by decide) p) ⟨2048 + l.val, by omega⟩ := by
  have h := readBack e.M31.view e.G31 e.H31_8 e.H31_8_holds (Rect.unit (s := S256x4096) ![0, 2048] S128x512.size (inb2 (o0 := 0) (n0 := 128) (by decide) (by decide))).toLoadRect e.v604 rfl
    (ix2 p l) (ix2 (tok 0 (by decide) p) ⟨2048 + l.val, by omega⟩) (unit2_idx _ p l (by omega) (by omega))
    ⟨_, e.H31_8_cov4.choose_spec.1, e.H31_8_cov4.choose_spec.2 _ _ (by first | omega | (simp; done) | (simp; omega)) (by first | omega | (simp; done) | (simp; omega)) (by first | omega | (simp; done) | (simp; omega)) (by first | omega | (simp; done) | (simp; omega))⟩
  exact h

theorem v620_at (p : Fin 128) (l : Fin 512) : e.v620 (ix2 p l) = e.F (tok 0 (by decide) p) ⟨2560 + l.val, by omega⟩ := by
  have h := readBack e.M31.view e.G31 e.H31_8 e.H31_8_holds (Rect.unit (s := S256x4096) ![0, 2560] S128x512.size (inb2 (o0 := 0) (n0 := 128) (by decide) (by decide))).toLoadRect e.v620 rfl
    (ix2 p l) (ix2 (tok 0 (by decide) p) ⟨2560 + l.val, by omega⟩) (unit2_idx _ p l (by omega) (by omega))
    ⟨_, e.H31_8_cov5.choose_spec.1, e.H31_8_cov5.choose_spec.2 _ _ (by first | omega | (simp; done) | (simp; omega)) (by first | omega | (simp; done) | (simp; omega)) (by first | omega | (simp; done) | (simp; omega)) (by first | omega | (simp; done) | (simp; omega))⟩
  exact h

theorem v636_at (p : Fin 128) (l : Fin 512) : e.v636 (ix2 p l) = e.F (tok 0 (by decide) p) ⟨3072 + l.val, by omega⟩ := by
  have h := readBack e.M31.view e.G31 e.H31_8 e.H31_8_holds (Rect.unit (s := S256x4096) ![0, 3072] S128x512.size (inb2 (o0 := 0) (n0 := 128) (by decide) (by decide))).toLoadRect e.v636 rfl
    (ix2 p l) (ix2 (tok 0 (by decide) p) ⟨3072 + l.val, by omega⟩) (unit2_idx _ p l (by omega) (by omega))
    ⟨_, e.H31_8_cov6.choose_spec.1, e.H31_8_cov6.choose_spec.2 _ _ (by first | omega | (simp; done) | (simp; omega)) (by first | omega | (simp; done) | (simp; omega)) (by first | omega | (simp; done) | (simp; omega)) (by first | omega | (simp; done) | (simp; omega))⟩
  exact h

theorem v652_at (p : Fin 128) (l : Fin 512) : e.v652 (ix2 p l) = e.F (tok 0 (by decide) p) ⟨3584 + l.val, by omega⟩ := by
  have h := readBack e.M31.view e.G31 e.H31_8 e.H31_8_holds (Rect.unit (s := S256x4096) ![0, 3584] S128x512.size (inb2 (o0 := 0) (n0 := 128) (by decide) (by decide))).toLoadRect e.v652 rfl
    (ix2 p l) (ix2 (tok 0 (by decide) p) ⟨3584 + l.val, by omega⟩) (unit2_idx _ p l (by omega) (by omega))
    ⟨_, e.H31_8_cov7.choose_spec.1, e.H31_8_cov7.choose_spec.2 _ _ (by first | omega | (simp; done) | (simp; omega)) (by first | omega | (simp; done) | (simp; omega)) (by first | omega | (simp; done) | (simp; omega)) (by first | omega | (simp; done) | (simp; omega))⟩
  exact h

theorem v1240_at (p : Fin 128) (l : Fin 512) : e.v1240 (ix2 p l) = e.F (tok 128 (by decide) p) ⟨0 + l.val, by omega⟩ := by
  have h := readBack e.M31.view e.G31 e.H31_16 e.H31_16_holds (Rect.unit (s := S256x4096) ![128, 0] S128x512.size (inb2 (o0 := 128) (n0 := 128) (by decide) (by decide))).toLoadRect e.v1240 rfl
    (ix2 p l) (ix2 (tok 128 (by decide) p) ⟨0 + l.val, by omega⟩) (unit2_idx _ p l (by omega) (by omega))
    ⟨_, e.H31_16_cov0.choose_spec.1, e.H31_16_cov0.choose_spec.2 _ _ (by first | omega | (simp; done) | (simp; omega)) (by first | omega | (simp; done) | (simp; omega)) (by first | omega | (simp; done) | (simp; omega)) (by first | omega | (simp; done) | (simp; omega))⟩
  exact h

theorem v1256_at (p : Fin 128) (l : Fin 512) : e.v1256 (ix2 p l) = e.F (tok 128 (by decide) p) ⟨512 + l.val, by omega⟩ := by
  have h := readBack e.M31.view e.G31 e.H31_16 e.H31_16_holds (Rect.unit (s := S256x4096) ![128, 512] S128x512.size (inb2 (o0 := 128) (n0 := 128) (by decide) (by decide))).toLoadRect e.v1256 rfl
    (ix2 p l) (ix2 (tok 128 (by decide) p) ⟨512 + l.val, by omega⟩) (unit2_idx _ p l (by omega) (by omega))
    ⟨_, e.H31_16_cov1.choose_spec.1, e.H31_16_cov1.choose_spec.2 _ _ (by first | omega | (simp; done) | (simp; omega)) (by first | omega | (simp; done) | (simp; omega)) (by first | omega | (simp; done) | (simp; omega)) (by first | omega | (simp; done) | (simp; omega))⟩
  exact h

theorem v1272_at (p : Fin 128) (l : Fin 512) : e.v1272 (ix2 p l) = e.F (tok 128 (by decide) p) ⟨1024 + l.val, by omega⟩ := by
  have h := readBack e.M31.view e.G31 e.H31_16 e.H31_16_holds (Rect.unit (s := S256x4096) ![128, 1024] S128x512.size (inb2 (o0 := 128) (n0 := 128) (by decide) (by decide))).toLoadRect e.v1272 rfl
    (ix2 p l) (ix2 (tok 128 (by decide) p) ⟨1024 + l.val, by omega⟩) (unit2_idx _ p l (by omega) (by omega))
    ⟨_, e.H31_16_cov2.choose_spec.1, e.H31_16_cov2.choose_spec.2 _ _ (by first | omega | (simp; done) | (simp; omega)) (by first | omega | (simp; done) | (simp; omega)) (by first | omega | (simp; done) | (simp; omega)) (by first | omega | (simp; done) | (simp; omega))⟩
  exact h

theorem v1288_at (p : Fin 128) (l : Fin 512) : e.v1288 (ix2 p l) = e.F (tok 128 (by decide) p) ⟨1536 + l.val, by omega⟩ := by
  have h := readBack e.M31.view e.G31 e.H31_16 e.H31_16_holds (Rect.unit (s := S256x4096) ![128, 1536] S128x512.size (inb2 (o0 := 128) (n0 := 128) (by decide) (by decide))).toLoadRect e.v1288 rfl
    (ix2 p l) (ix2 (tok 128 (by decide) p) ⟨1536 + l.val, by omega⟩) (unit2_idx _ p l (by omega) (by omega))
    ⟨_, e.H31_16_cov3.choose_spec.1, e.H31_16_cov3.choose_spec.2 _ _ (by first | omega | (simp; done) | (simp; omega)) (by first | omega | (simp; done) | (simp; omega)) (by first | omega | (simp; done) | (simp; omega)) (by first | omega | (simp; done) | (simp; omega))⟩
  exact h

theorem v1304_at (p : Fin 128) (l : Fin 512) : e.v1304 (ix2 p l) = e.F (tok 128 (by decide) p) ⟨2048 + l.val, by omega⟩ := by
  have h := readBack e.M31.view e.G31 e.H31_16 e.H31_16_holds (Rect.unit (s := S256x4096) ![128, 2048] S128x512.size (inb2 (o0 := 128) (n0 := 128) (by decide) (by decide))).toLoadRect e.v1304 rfl
    (ix2 p l) (ix2 (tok 128 (by decide) p) ⟨2048 + l.val, by omega⟩) (unit2_idx _ p l (by omega) (by omega))
    ⟨_, e.H31_16_cov4.choose_spec.1, e.H31_16_cov4.choose_spec.2 _ _ (by first | omega | (simp; done) | (simp; omega)) (by first | omega | (simp; done) | (simp; omega)) (by first | omega | (simp; done) | (simp; omega)) (by first | omega | (simp; done) | (simp; omega))⟩
  exact h

theorem v1320_at (p : Fin 128) (l : Fin 512) : e.v1320 (ix2 p l) = e.F (tok 128 (by decide) p) ⟨2560 + l.val, by omega⟩ := by
  have h := readBack e.M31.view e.G31 e.H31_16 e.H31_16_holds (Rect.unit (s := S256x4096) ![128, 2560] S128x512.size (inb2 (o0 := 128) (n0 := 128) (by decide) (by decide))).toLoadRect e.v1320 rfl
    (ix2 p l) (ix2 (tok 128 (by decide) p) ⟨2560 + l.val, by omega⟩) (unit2_idx _ p l (by omega) (by omega))
    ⟨_, e.H31_16_cov5.choose_spec.1, e.H31_16_cov5.choose_spec.2 _ _ (by first | omega | (simp; done) | (simp; omega)) (by first | omega | (simp; done) | (simp; omega)) (by first | omega | (simp; done) | (simp; omega)) (by first | omega | (simp; done) | (simp; omega))⟩
  exact h

theorem v1336_at (p : Fin 128) (l : Fin 512) : e.v1336 (ix2 p l) = e.F (tok 128 (by decide) p) ⟨3072 + l.val, by omega⟩ := by
  have h := readBack e.M31.view e.G31 e.H31_16 e.H31_16_holds (Rect.unit (s := S256x4096) ![128, 3072] S128x512.size (inb2 (o0 := 128) (n0 := 128) (by decide) (by decide))).toLoadRect e.v1336 rfl
    (ix2 p l) (ix2 (tok 128 (by decide) p) ⟨3072 + l.val, by omega⟩) (unit2_idx _ p l (by omega) (by omega))
    ⟨_, e.H31_16_cov6.choose_spec.1, e.H31_16_cov6.choose_spec.2 _ _ (by first | omega | (simp; done) | (simp; omega)) (by first | omega | (simp; done) | (simp; omega)) (by first | omega | (simp; done) | (simp; omega)) (by first | omega | (simp; done) | (simp; omega))⟩
  exact h

theorem v1352_at (p : Fin 128) (l : Fin 512) : e.v1352 (ix2 p l) = e.F (tok 128 (by decide) p) ⟨3584 + l.val, by omega⟩ := by
  have h := readBack e.M31.view e.G31 e.H31_16 e.H31_16_holds (Rect.unit (s := S256x4096) ![128, 3584] S128x512.size (inb2 (o0 := 128) (n0 := 128) (by decide) (by decide))).toLoadRect e.v1352 rfl
    (ix2 p l) (ix2 (tok 128 (by decide) p) ⟨3584 + l.val, by omega⟩) (unit2_idx _ p l (by omega) (by omega))
    ⟨_, e.H31_16_cov7.choose_spec.1, e.H31_16_cov7.choose_spec.2 _ _ (by first | omega | (simp; done) | (simp; omega)) (by first | omega | (simp; done) | (simp; omega)) (by first | omega | (simp; done) | (simp; omega)) (by first | omega | (simp; done) | (simp; omega))⟩
  exact h

/-- The clipped codes of the inner rows. -/
def fq (p : Fin 256) (l : Fin 4096) : EReal := clip (e.F p l) (Spec.fs e.W (e.A p) (e.R p))

def G32 : S256x4096.Idx → Elt Ideal .bf16 := fun j => e.fq (j 0) (j 1)

def G25 : S1x256x4096.Idx → Elt Ideal .i8 := fun j => Spec.fc e.W (e.A (j 1)) (e.R (j 1)) (j 2)

theorem codes_at (o : Nat) (ho : o + 128 ≤ 256) (a : FVec Ideal S128x1 .f32) (ha : ∀ p, a (ix2 p 0) = amax (e.F (tok o ho p)))
    (o1 : Nat) (h : o1 + 512 ≤ 4096) (v : FVec Ideal S128x512 .f32)
    (hv : ∀ p l, v (ix2 p l) = e.F (tok o ho p) ⟨o1 + l.val, by omega⟩) (p : Fin 128) (l : Fin 512) :
    fclipV v (k0_pay50 a) (ix2 p l) = e.fq (tok o ho p) ⟨o1 + l.val, by omega⟩ := by
  rw [fclipV_at, hv, ha]
  rfl

theorem cast3_at (x : IVec S128x512 8) (p : Fin 128) (l : Fin 512) (h) : shapeCast S1x128x512 x h (ix3 0 p l) = x (ix2 p l) := by
  pointwise

/-- A piece of the codes as the second product reads them. -/
theorem p32 (o : Nat) (ho : o + 128 ≤ 256) (a' a : FVec Ideal S128x1 .f32) (h' : a' = a) (ha : ∀ p, a (ix2 p 0) = amax (e.F (tok o ho p)))
    (o1 : Nat) (h : o1 + 512 ≤ 4096) (v : FVec Ideal S128x512 .f32)
    (hv : ∀ p l, v (ix2 p l) = e.F (tok o ho p) ⟨o1 + l.val, by omega⟩) (w : FVec Ideal S128x512 .bf16)
    (hc) (hw : w = shapeCast S128x512 (truncf (F := Ideal) .bf16 (fclipV v (k0_pay50 a')) bitsLt_bf16_f32) hc) :
    ∀ x, w x = e.G32 ((Rect.unit (s := S256x4096) ![o, o1] S128x512.size (inb2 (n0 := 128) ho h)).emb x) :=
  piece2 e.G32 ho h w fun p l => (congrFun (hw.trans (cast_self _ _)) _).trans (h' ▸ e.codes_at o ho a ha o1 h v hv p l)

/-- A piece of the codes as stored. -/
theorem p25 (o : Nat) (ho : o + 128 ≤ 256) (a' a : FVec Ideal S128x1 .f32) (h' : a' = a) (ha : ∀ p, a (ix2 p 0) = amax (e.F (tok o ho p)))
    (o1 : Nat) (h : o1 + 512 ≤ 4096) (v : FVec Ideal S128x512 .f32)
    (hv : ∀ p l, v (ix2 p l) = e.F (tok o ho p) ⟨o1 + l.val, by omega⟩) (w : IVec S1x128x512 8) (hc)
    (hw : w = shapeCast S1x128x512 (fptosi (F := Ideal) 8 (fclipV v (k0_pay50 a'))) hc) :
    ∀ x, w x = e.G25 ((Rect.unit (s := S1x256x4096) ![0, o, o1] S1x128x512.size (inb3 (n1 := 128) ho h)).emb x) :=
  piece3 e.G25 ho h w fun p l => (congrFun hw _).trans ((cast3_at _ p l hc).trans
    (congrArg (FloatOps.fptosi (F := Ideal) (φ := .f32) 8) (h' ▸ e.codes_at o ho a ha o1 h v hv p l)))

theorem H32_1_holds : ∀ p ∈ e.H32_1, ∀ x, p.2 x = e.G32 (p.1.emb x) :=
  List.forall_mem_cons.2 ⟨e.p32 0 (by decide) e.r_16 e.a0 e.m0_eq e.a0_at 0 (by decide) e.v540 e.v540_at _ _ rfl,
    by simp⟩

theorem H32_3_holds : ∀ p ∈ e.H32_3, ∀ x, p.2 x = e.G32 (p.1.emb x) :=
  List.forall_mem_cons.2 ⟨e.p32 0 (by decide) e.r_16 e.a0 e.m0_eq e.a0_at 1024 (by decide) e.v572 e.v572_at _ _ rfl,
    List.forall_mem_cons.2 ⟨e.p32 0 (by decide) e.r_16 e.a0 e.m0_eq e.a0_at 512 (by decide) e.v556 e.v556_at _ _ rfl,
    e.H32_1_holds⟩⟩

theorem H32_6_holds : ∀ p ∈ e.H32_6, ∀ x, p.2 x = e.G32 (p.1.emb x) :=
  List.forall_mem_cons.2 ⟨e.p32 0 (by decide) e.r_16 e.a0 e.m0_eq e.a0_at 2560 (by decide) e.v620 e.v620_at _ _ rfl,
    List.forall_mem_cons.2 ⟨e.p32 0 (by decide) e.r_16 e.a0 e.m0_eq e.a0_at 2048 (by decide) e.v604 e.v604_at _ _ rfl,
    List.forall_mem_cons.2 ⟨e.p32 0 (by decide) e.r_16 e.a0 e.m0_eq e.a0_at 1536 (by decide) e.v588 e.v588_at _ _ rfl,
    e.H32_3_holds⟩⟩⟩

theorem H32_8_holds : ∀ p ∈ e.H32_8, ∀ x, p.2 x = e.G32 (p.1.emb x) :=
  List.forall_mem_cons.2 ⟨e.p32 0 (by decide) e.r_16 e.a0 e.m0_eq e.a0_at 3584 (by decide) e.v652 e.v652_at _ _ rfl,
    List.forall_mem_cons.2 ⟨e.p32 0 (by decide) e.r_16 e.a0 e.m0_eq e.a0_at 3072 (by decide) e.v636 e.v636_at _ _ rfl,
    e.H32_6_holds⟩⟩

theorem H32_10_holds : ∀ p ∈ e.H32_10, ∀ x, p.2 x = e.G32 (p.1.emb x) :=
  List.forall_mem_cons.2 ⟨e.p32 128 (by decide) e.a1 e.a1 e.m1_eq e.a1_at 512 (by decide) e.v1256 e.v1256_at _ _ rfl,
    List.forall_mem_cons.2 ⟨e.p32 128 (by decide) e.a1 e.a1 e.m1_eq e.a1_at 0 (by decide) e.v1240 e.v1240_at _ _ rfl,
    e.H32_8_holds⟩⟩

theorem H32_12_holds : ∀ p ∈ e.H32_12, ∀ x, p.2 x = e.G32 (p.1.emb x) :=
  List.forall_mem_cons.2 ⟨e.p32 128 (by decide) e.a1 e.a1 e.m1_eq e.a1_at 1536 (by decide) e.v1288 e.v1288_at _ _ rfl,
    List.forall_mem_cons.2 ⟨e.p32 128 (by decide) e.a1 e.a1 e.m1_eq e.a1_at 1024 (by decide) e.v1272 e.v1272_at _ _ rfl,
    e.H32_10_holds⟩⟩

theorem H32_15_holds : ∀ p ∈ e.H32_15, ∀ x, p.2 x = e.G32 (p.1.emb x) :=
  List.forall_mem_cons.2 ⟨e.p32 128 (by decide) e.a1 e.a1 e.m1_eq e.a1_at 3072 (by decide) e.v1336 e.v1336_at _ _ rfl,
    List.forall_mem_cons.2 ⟨e.p32 128 (by decide) e.a1 e.a1 e.m1_eq e.a1_at 2560 (by decide) e.v1320 e.v1320_at _ _ rfl,
    List.forall_mem_cons.2 ⟨e.p32 128 (by decide) e.a1 e.a1 e.m1_eq e.a1_at 2048 (by decide) e.v1304 e.v1304_at _ _ rfl,
    e.H32_12_holds⟩⟩⟩

theorem H32_16_holds : ∀ p ∈ e.H32_16, ∀ x, p.2 x = e.G32 (p.1.emb x) :=
  List.forall_mem_cons.2 ⟨e.p32 128 (by decide) e.a1 e.a1 e.m1_eq e.a1_at 3584 (by decide) e.v1352 e.v1352_at _ _ rfl,
    e.H32_15_holds⟩

theorem H25_1_holds : ∀ p ∈ e.H25_1, ∀ x, p.2 x = e.G25 (p.1.emb x) :=
  List.forall_mem_cons.2 ⟨e.p25 0 (by decide) e.r_16 e.a0 e.m0_eq e.a0_at 0 (by decide) e.v540 e.v540_at _ _ rfl,
    by simp⟩

theorem H25_4_holds : ∀ p ∈ e.H25_4, ∀ x, p.2 x = e.G25 (p.1.emb x) :=
  List.forall_mem_cons.2 ⟨e.p25 0 (by decide) e.r_16 e.a0 e.m0_eq e.a0_at 1536 (by decide) e.v588 e.v588_at _ _ rfl,
    List.forall_mem_cons.2 ⟨e.p25 0 (by decide) e.r_16 e.a0 e.m0_eq e.a0_at 1024 (by decide) e.v572 e.v572_at _ _ rfl,
    List.forall_mem_cons.2 ⟨e.p25 0 (by decide) e.r_16 e.a0 e.m0_eq e.a0_at 512 (by decide) e.v556 e.v556_at _ _ rfl,
    e.H25_1_holds⟩⟩⟩

theorem H25_6_holds : ∀ p ∈ e.H25_6, ∀ x, p.2 x = e.G25 (p.1.emb x) :=
  List.forall_mem_cons.2 ⟨e.p25 0 (by decide) e.r_16 e.a0 e.m0_eq e.a0_at 2560 (by decide) e.v620 e.v620_at _ _ rfl,
    List.forall_mem_cons.2 ⟨e.p25 0 (by decide) e.r_16 e.a0 e.m0_eq e.a0_at 2048 (by decide) e.v604 e.v604_at _ _ rfl,
    e.H25_4_holds⟩⟩

theorem H25_8_holds : ∀ p ∈ e.H25_8, ∀ x, p.2 x = e.G25 (p.1.emb x) :=
  List.forall_mem_cons.2 ⟨e.p25 0 (by decide) e.r_16 e.a0 e.m0_eq e.a0_at 3584 (by decide) e.v652 e.v652_at _ _ rfl,
    List.forall_mem_cons.2 ⟨e.p25 0 (by decide) e.r_16 e.a0 e.m0_eq e.a0_at 3072 (by decide) e.v636 e.v636_at _ _ rfl,
    e.H25_6_holds⟩⟩

theorem H25_10_holds : ∀ p ∈ e.H25_10, ∀ x, p.2 x = e.G25 (p.1.emb x) :=
  List.forall_mem_cons.2 ⟨e.p25 128 (by decide) e.a1 e.a1 e.m1_eq e.a1_at 512 (by decide) e.v1256 e.v1256_at _ _ rfl,
    List.forall_mem_cons.2 ⟨e.p25 128 (by decide) e.a1 e.a1 e.m1_eq e.a1_at 0 (by decide) e.v1240 e.v1240_at _ _ rfl,
    e.H25_8_holds⟩⟩

theorem H25_13_holds : ∀ p ∈ e.H25_13, ∀ x, p.2 x = e.G25 (p.1.emb x) :=
  List.forall_mem_cons.2 ⟨e.p25 128 (by decide) e.a1 e.a1 e.m1_eq e.a1_at 2048 (by decide) e.v1304 e.v1304_at _ _ rfl,
    List.forall_mem_cons.2 ⟨e.p25 128 (by decide) e.a1 e.a1 e.m1_eq e.a1_at 1536 (by decide) e.v1288 e.v1288_at _ _ rfl,
    List.forall_mem_cons.2 ⟨e.p25 128 (by decide) e.a1 e.a1 e.m1_eq e.a1_at 1024 (by decide) e.v1272 e.v1272_at _ _ rfl,
    e.H25_10_holds⟩⟩⟩

theorem H25_15_holds : ∀ p ∈ e.H25_15, ∀ x, p.2 x = e.G25 (p.1.emb x) :=
  List.forall_mem_cons.2 ⟨e.p25 128 (by decide) e.a1 e.a1 e.m1_eq e.a1_at 3072 (by decide) e.v1336 e.v1336_at _ _ rfl,
    List.forall_mem_cons.2 ⟨e.p25 128 (by decide) e.a1 e.a1 e.m1_eq e.a1_at 2560 (by decide) e.v1320 e.v1320_at _ _ rfl,
    e.H25_13_holds⟩⟩

theorem H25_16_holds : ∀ p ∈ e.H25_16, ∀ x, p.2 x = e.G25 (p.1.emb x) :=
  List.forall_mem_cons.2 ⟨e.p25 128 (by decide) e.a1 e.a1 e.m1_eq e.a1_at 3584 (by decide) e.v1352 e.v1352_at _ _ rfl,
    e.H25_15_holds⟩

theorem H32_8_cov0 : Cov 0 0 e.H32_8 := (Cov.here).there.there.there.there.there.there.there
theorem H32_8_cov1 : Cov 0 512 e.H32_8 := (Cov.here).there.there.there.there.there.there
theorem H32_8_cov2 : Cov 0 1024 e.H32_8 := (Cov.here).there.there.there.there.there
theorem H32_8_cov3 : Cov 0 1536 e.H32_8 := (Cov.here).there.there.there.there
theorem H32_8_cov4 : Cov 0 2048 e.H32_8 := (Cov.here).there.there.there
theorem H32_8_cov5 : Cov 0 2560 e.H32_8 := (Cov.here).there.there
theorem H32_8_cov6 : Cov 0 3072 e.H32_8 := (Cov.here).there
theorem H32_8_cov7 : Cov 0 3584 e.H32_8 := Cov.here

theorem v668_at (p : Fin 128) (l : Fin 4096) : e.v668 (ix2 p l) = e.fq (tok 0 (by decide) p) l := by
  have h := readBack e.M32.view e.G32 e.H32_8 e.H32_8_holds (Rect.unit (s := S256x4096) ![0, 0] S128x4096.size (inb2 (o0 := 0) (n0 := 128) (by decide) (by decide))).toLoadRect e.v668 rfl
    (ix2 p l) (ix2 (tok 0 (by decide) p) l) (rowIdx 0 (by decide) (inb2 (by decide) (by decide)) p l)
    (cov8 (P := fun o1 => Cov 0 o1 e.H32_8) (Q := fun l => ∃ q ∈ e.H32_8, ix2 (⟨0 + p.val, by omega⟩ : Fin 256) l ∈ q.1.set)
      (fun o1 c j a b => ⟨_, c.choose_spec.1, c.choose_spec.2 _ _ (by first | omega | (simp; done) | (simp; omega)) (by first | omega | (simp; done) | (simp; omega)) a b⟩) e.H32_8_cov0 e.H32_8_cov1 e.H32_8_cov2 e.H32_8_cov3 e.H32_8_cov4 e.H32_8_cov5 e.H32_8_cov6 e.H32_8_cov7 l)
  exact h

theorem H32_16_cov0 : Cov 128 0 e.H32_16 := (Cov.here).there.there.there.there.there.there.there
theorem H32_16_cov1 : Cov 128 512 e.H32_16 := (Cov.here).there.there.there.there.there.there
theorem H32_16_cov2 : Cov 128 1024 e.H32_16 := (Cov.here).there.there.there.there.there
theorem H32_16_cov3 : Cov 128 1536 e.H32_16 := (Cov.here).there.there.there.there
theorem H32_16_cov4 : Cov 128 2048 e.H32_16 := (Cov.here).there.there.there
theorem H32_16_cov5 : Cov 128 2560 e.H32_16 := (Cov.here).there.there
theorem H32_16_cov6 : Cov 128 3072 e.H32_16 := (Cov.here).there
theorem H32_16_cov7 : Cov 128 3584 e.H32_16 := Cov.here

theorem v1368_at (p : Fin 128) (l : Fin 4096) : e.v1368 (ix2 p l) = e.fq (tok 128 (by decide) p) l := by
  have h := readBack e.M32.view e.G32 e.H32_16 e.H32_16_holds (Rect.unit (s := S256x4096) ![128, 0] S128x4096.size (inb2 (o0 := 128) (n0 := 128) (by decide) (by decide))).toLoadRect e.v1368 rfl
    (ix2 p l) (ix2 (tok 128 (by decide) p) l) (rowIdx 128 (by decide) (inb2 (by decide) (by decide)) p l)
    (cov8 (P := fun o1 => Cov 128 o1 e.H32_16) (Q := fun l => ∃ q ∈ e.H32_16, ix2 (⟨128 + p.val, by omega⟩ : Fin 256) l ∈ q.1.set)
      (fun o1 c j a b => ⟨_, c.choose_spec.1, c.choose_spec.2 _ _ (by first | omega | (simp; done) | (simp; omega)) (by first | omega | (simp; done) | (simp; omega)) a b⟩) e.H32_16_cov0 e.H32_16_cov1 e.H32_16_cov2 e.H32_16_cov3 e.H32_16_cov4 e.H32_16_cov5 e.H32_16_cov6 e.H32_16_cov7 l)
  exact h

theorem H25_8_cov0 : Cov3 0 0 e.H25_8 := (Cov3.here).there.there.there.there.there.there.there
theorem H25_8_cov1 : Cov3 0 512 e.H25_8 := (Cov3.here).there.there.there.there.there.there
theorem H25_8_cov2 : Cov3 0 1024 e.H25_8 := (Cov3.here).there.there.there.there.there
theorem H25_8_cov3 : Cov3 0 1536 e.H25_8 := (Cov3.here).there.there.there.there
theorem H25_8_cov4 : Cov3 0 2048 e.H25_8 := (Cov3.here).there.there.there
theorem H25_8_cov5 : Cov3 0 2560 e.H25_8 := (Cov3.here).there.there
theorem H25_8_cov6 : Cov3 0 3072 e.H25_8 := (Cov3.here).there
theorem H25_8_cov7 : Cov3 0 3584 e.H25_8 := Cov3.here
theorem H25_16_cov0 : Cov3 128 0 e.H25_16 := (Cov3.here).there.there.there.there.there.there.there
theorem H25_16_cov1 : Cov3 128 512 e.H25_16 := (Cov3.here).there.there.there.there.there.there
theorem H25_16_cov2 : Cov3 128 1024 e.H25_16 := (Cov3.here).there.there.there.there.there
theorem H25_16_cov3 : Cov3 128 1536 e.H25_16 := (Cov3.here).there.there.there.there
theorem H25_16_cov4 : Cov3 128 2048 e.H25_16 := (Cov3.here).there.there.there
theorem H25_16_cov5 : Cov3 128 2560 e.H25_16 := (Cov3.here).there.there
theorem H25_16_cov6 : Cov3 128 3072 e.H25_16 := (Cov3.here).there
theorem H25_16_cov7 : Cov3 128 3584 e.H25_16 := Cov3.here
theorem H25_16_old {o o1 : Nat} (h : Cov3 o o1 e.H25_8) : Cov3 o o1 e.H25_16 := h.there.there.there.there.there.there.there.there

theorem H25_cov (p : Fin 256) (l : Fin 4096) : ∃ q ∈ e.H25_16, ix3 0 p l ∈ q.1.set := by
  have := p.isLt
  by_cases h : p.val < 128
  · exact cov8 (P := fun o1 => Cov3 0 o1 e.H25_16) (Q := fun l => ∃ q ∈ e.H25_16, ix3 0 p l ∈ q.1.set)
      (fun o1 c j a b => ⟨_, c.choose_spec.1, c.choose_spec.2 _ _ (by omega) (by omega) a b⟩) (e.H25_16_old e.H25_8_cov0) (e.H25_16_old e.H25_8_cov1) (e.H25_16_old e.H25_8_cov2) (e.H25_16_old e.H25_8_cov3) (e.H25_16_old e.H25_8_cov4) (e.H25_16_old e.H25_8_cov5) (e.H25_16_old e.H25_8_cov6) (e.H25_16_old e.H25_8_cov7) l
  · exact cov8 (P := fun o1 => Cov3 128 o1 e.H25_16) (Q := fun l => ∃ q ∈ e.H25_16, ix3 0 p l ∈ q.1.set)
      (fun o1 c j a b => ⟨_, c.choose_spec.1, c.choose_spec.2 _ _ (by omega) (by omega) a b⟩) e.H25_16_cov0 e.H25_16_cov1 e.H25_16_cov2 e.H25_16_cov3 e.H25_16_cov4 e.H25_16_cov5 e.H25_16_cov6 e.H25_16_cov7 l

/-- The stored codes of the inner rows. -/
theorem fc_canon (p : Fin 256) (l : Fin 4096) : View.canon e.H25_16 (ix3 0 p l) = Spec.fc e.W (e.A p) (e.R p) l :=
  View.canon_apply_of_pieces (Val := Elt Ideal) (e := .i8) e.G25 _ e.H25_16_holds _ (e.H25_cov p l)

end Env

end Cert.KernelIdeal.Val

end
-- ==== Proof.Ideal.PointC.lean ====
module

public import proofs.«01_k».proof.Proof.Ideal.PointB

/-!
# The values a point leaves

What one grid point stores in each result window, read at an index as the specification's function of the token's row.
-/

@[expose] public section

set_option maxRecDepth 16384

noncomputable section

namespace Cert.KernelIdeal.Val

open Cert.KernelIdeal Cert.KernelIdeal.Gen Cert.KernelIdeal.Body Cert.KernelIdeal.Vec Idealize.ShloMosaic Cert.Spec

namespace Env

variable (e : Env)

abbrev v680 := runRest.sl.v680 (F := Ideal) e.c e.M1 e.M2 e.M4 e.M5 e.M7 e.M8 e.M10 e.M11 e.M12 e.M13 e.M14 e.M15 e.M27 e.M28 e.M29 e.M30 e.M31 e.M32 e.M33 e.M34 e.f1 e.f2 e.f4 e.f5 e.f7 e.f8 e.f10 e.f11 e.f12 e.f13 e.f14 e.f15 e.f27 e.f28 e.f29
abbrev v1380 := runRest.sl.v1380 (F := Ideal) e.c e.M1 e.M2 e.M4 e.M5 e.M7 e.M8 e.M10 e.M11 e.M12 e.M13 e.M14 e.M15 e.M27 e.M28 e.M29 e.M30 e.M31 e.M32 e.M33 e.M34 e.f1 e.f2 e.f4 e.f5 e.f7 e.f8 e.f10 e.f11 e.f12 e.f13 e.f14 e.f15 e.f27 e.f28 e.f29
abbrev v704 := runRest.sl.v704 (F := Ideal) e.c e.M1 e.M2 e.M4 e.M5 e.M7 e.M8 e.M10 e.M11 e.M12 e.M13 e.M14 e.M15 e.M16 e.M17 e.M27 e.M28 e.M29 e.M30 e.M31 e.M32 e.M33 e.M34 e.f1 e.f2 e.f4 e.f5 e.f7 e.f8 e.f10 e.f11 e.f12 e.f13 e.f14 e.f15 e.f16 e.f17 e.f27 e.f28 e.f29
abbrev r_43 := runRest.sl.r_43 (F := Ideal) e.c e.M16 e.f16
abbrev r_44 := runRest.sl.r_44 (F := Ideal) e.c e.M17 e.f17
abbrev v1384 := runRest.sl.v1384 (F := Ideal) e.c e.M1 e.M2 e.M4 e.M5 e.M7 e.M8 e.M10 e.M11 e.M12 e.M13 e.M14 e.M15 e.M27 e.M28 e.M29 e.M30 e.M31 e.M32 e.M33 e.M34 e.f1 e.f2 e.f4 e.f5 e.f7 e.f8 e.f10 e.f11 e.f12 e.f13 e.f14 e.f15 e.f27 e.f28 e.f29
abbrev cst_47 := runRest.sl.cst_47 (F := Ideal)
abbrev v164 := runRest.sl.v164 (F := Ideal) e.c e.M1 e.M2 e.M4 e.M5 e.M12 e.M13 e.M14 e.M15 e.M27 e.M30 e.f1 e.f2 e.f4 e.f5 e.f12 e.f13 e.f14 e.f15 e.f27
abbrev H23_2 := runRest.sl.H23_2 (F := Ideal) e.c e.M1 e.M2 e.M4 e.M5 e.M12 e.M13 e.M14 e.M15 e.M27 e.M30 e.f1 e.f2 e.f4 e.f5 e.f12 e.f13 e.f14 e.f15 e.f27
abbrev v707 := runRest.sl.v707 (F := Ideal) e.c e.M1 e.M2 e.M4 e.M5 e.M7 e.M8 e.M10 e.M11 e.M12 e.M13 e.M14 e.M15 e.M16 e.M17 e.M27 e.M28 e.M29 e.M30 e.M31 e.M32 e.M33 e.M34 e.f1 e.f2 e.f4 e.f5 e.f7 e.f8 e.f10 e.f11 e.f12 e.f13 e.f14 e.f15 e.f16 e.f17 e.f27 e.f28 e.f29
abbrev H20_2 := runRest.sl.H20_2 (F := Ideal) e.c e.M1 e.M2 e.M4 e.M5 e.M7 e.M8 e.M10 e.M11 e.M12 e.M13 e.M14 e.M15 e.M16 e.M17 e.M27 e.M28 e.M29 e.M30 e.M31 e.M32 e.M33 e.M34 e.f1 e.f2 e.f4 e.f5 e.f7 e.f8 e.f10 e.f11 e.f12 e.f13 e.f14 e.f15 e.f16 e.f17 e.f27 e.f28 e.f29
abbrev v709 := runRest.sl.v709 (F := Ideal) e.c e.M1 e.M2 e.M4 e.M5 e.M7 e.M8 e.M10 e.M11 e.M12 e.M13 e.M14 e.M15 e.M16 e.M17 e.M27 e.M28 e.M29 e.M30 e.M31 e.M32 e.M33 e.M34 e.f1 e.f2 e.f4 e.f5 e.f7 e.f8 e.f10 e.f11 e.f12 e.f13 e.f14 e.f15 e.f16 e.f17 e.f27 e.f28 e.f29
abbrev v1429 := runRest.sl.v1429 (F := Ideal) e.c e.M1 e.M2 e.M4 e.M5 e.M7 e.M8 e.M10 e.M11 e.M12 e.M13 e.M14 e.M15 e.M16 e.M17 e.M27 e.M28 e.M29 e.M30 e.M31 e.M32 e.M33 e.M34 e.f1 e.f2 e.f4 e.f5 e.f7 e.f8 e.f10 e.f11 e.f12 e.f13 e.f14 e.f15 e.f16 e.f17 e.f27 e.f28 e.f29
abbrev H18_2 := runRest.sl.H18_2 (F := Ideal) e.c e.M1 e.M2 e.M4 e.M5 e.M7 e.M8 e.M10 e.M11 e.M12 e.M13 e.M14 e.M15 e.M16 e.M17 e.M27 e.M28 e.M29 e.M30 e.M31 e.M32 e.M33 e.M34 e.f1 e.f2 e.f4 e.f5 e.f7 e.f8 e.f10 e.f11 e.f12 e.f13 e.f14 e.f15 e.f16 e.f17 e.f27 e.f28 e.f29
abbrev H21_1 := runRest.sl.H21_1 (F := Ideal) e.c e.M1 e.f1
abbrev v172 := runRest.sl.v172 (F := Ideal) e.c e.M1 e.M2 e.M4 e.M5 e.M12 e.M13 e.M14 e.M15 e.M27 e.M30 e.f1 e.f2 e.f4 e.f5 e.f12 e.f13 e.f14 e.f15 e.f27
abbrev r_24 := runRest.sl.r_24 (F := Ideal) e.c e.M1 e.M2 e.M4 e.M5 e.M12 e.M13 e.M14 e.M15 e.M27 e.M30 e.f1 e.f2 e.f4 e.f5 e.f12 e.f13 e.f14 e.f15 e.f27
abbrev r_20 := runRest.sl.r_20 (F := Ideal) e.c e.M1 e.M2 e.M4 e.M5 e.M7 e.M8 e.M10 e.M11 e.M12 e.M13 e.M14 e.M15 e.M16 e.M17 e.M27 e.M28 e.M29 e.M30 e.M31 e.M32 e.M33 e.M34 e.f1 e.f2 e.f4 e.f5 e.f7 e.f8 e.f10 e.f11 e.f12 e.f13 e.f14 e.f15 e.f16 e.f17 e.f27 e.f28 e.f29
abbrev v1433 := runRest.sl.v1433 (F := Ideal) e.c e.M1 e.M2 e.M4 e.M5 e.M7 e.M8 e.M10 e.M11 e.M12 e.M13 e.M14 e.M15 e.M16 e.M17 e.M27 e.M28 e.M29 e.M30 e.M31 e.M32 e.M33 e.M34 e.f1 e.f2 e.f4 e.f5 e.f7 e.f8 e.f10 e.f11 e.f12 e.f13 e.f14 e.f15 e.f16 e.f17 e.f27 e.f28 e.f29

theorem five {α β γ δ ε ζ : Type} (g : α → β → γ → δ → ε → ζ) {a a' : α} {b b' : β} {c c' : γ} {d d' : δ} {k k' : ε}
    (ha : a = a') (hb : b = b') (hc : c = c') (hd : d = d') (hk : k = k') : g a b c d k = g a' b' c' d' k' := by
  rw [ha, hb, hc, hd, hk]

/-- The second product plus the hidden rows, for the half starting at `o`. -/
theorem pre2_at (o : Nat) (ho : o + 128 ≤ 256) (q : Vec Ideal S128x4096 .bf16) (s : FVec Ideal S128x1 .f32) (h : Vec Ideal S128x1024 .f32)
    (hq : ∀ p l, q (ix2 p l) = e.fq (tok o ho p) l) (hs : ∀ p, s (ix2 p 0) = Spec.fs e.W (e.A (tok o ho p)) (e.R (tok o ho p)))
    (hh : ∀ p l, h (ix2 p l) = Spec.h1 e.W (e.A (tok o ho p)) (e.R (tok o ho p)) l) (p : Fin 128) (l : Fin 1024) :
    pre2V q (sitofp (F := Ideal) .bf16 e.X29) s e.X10 e.X11 h (ix2 p l) = pre2 e.W (e.A (tok o ho p)) (e.R (tok o ho p)) l := by
  rw [pre2V_at, hs, hh]
  unfold pre2 lin fc
  simp only [sitofp_code]
  refine congrArg (· + _) (congrArg (· + _) (congrArg (· * _) (congrArg (· * _) (Finset.sum_congr rfl fun k _ => ?_))))
  rw [hq]
  rfl

theorem a0_scale (p : Fin 128) : k0_pay49 e.a0 (ix2 p 0) = Spec.fs e.W (e.A (tok 0 (by decide) p)) (e.R (tok 0 (by decide) p)) := by
  rw [fs_at, a0_at]
  rfl

theorem a1_scale (p : Fin 128) : k0_pay49 e.a1 (ix2 p 0) = Spec.fs e.W (e.A (tok 128 (by decide) p)) (e.R (tok 128 (by decide) p)) := by
  rw [fs_at, a1_at]
  rfl

theorem v680_eq : e.v680 = pre2V e.v668 (sitofp (F := Ideal) .bf16 e.X29) (k0_pay49 e.a0) e.X10 e.X11 e.v679 :=
  five (fun w s a b (_ : Unit) => pre2V e.v668 w s a b e.v679) (e.ld29 _) e.r_17_eq (e.ld10 _) (e.ld11 _) (rfl : () = ())

theorem v1380_eq : e.v1380 = pre2V e.v1368 (sitofp (F := Ideal) .bf16 e.X29) (k0_pay49 e.a1) e.X10 e.X11 e.v1379 :=
  five (fun w s a b (_ : Unit) => pre2V e.v1368 w s a b e.v1379) (e.ld29 _) e.r_40_eq (e.ld10 _) (e.ld11 _) (rfl : () = ())

/-- The last rows of each half. -/
def z0 : FVec Ideal S128x1024 .f32 := k0_pay11 e.v680 e.X16 e.X17

def z1 : FVec Ideal S128x1024 .f32 := k0_pay11 e.v1380 e.X16 e.X17

theorem v704_eq : e.v704 = e.z0 := two (fun a b => k0_pay11 e.v680 a b) (e.ld16 _) (e.ld17 _)

theorem pay157_eq : k0_pay157 e.v1380 e.r_43 e.r_44 e.v1384 cst_47 = e.z1 :=
  two (fun a b => k0_pay11 e.v1380 a b) (e.ld16 _) (e.ld17 _)

theorem z0_at (p : Fin 128) (l : Fin 1024) : e.z0 (ix2 p l) = Spec.h2 e.W (e.A (tok 0 (by decide) p)) (e.R (tok 0 (by decide) p)) l := by
  have h : ∀ p l, e.v680 (ix2 p l) = pre2 e.W (e.A (tok 0 (by decide) p)) (e.R (tok 0 (by decide) p)) l := fun p l => by
    rw [v680_eq]
    exact e.pre2_at 0 (by decide) _ _ _ e.v668_at e.a0_scale e.v679_at p l
  unfold z0
  rw [ln_at, funext fun k => h p k]
  rfl

theorem z0_scale (p : Fin 128) : scaleV e.z0 (ix2 p 0) = Spec.os e.W (e.A (tok 0 (by decide) p)) (e.R (tok 0 (by decide) p)) := by
  rw [scaleV_at, funext fun k => e.z0_at p k]
  rfl

theorem z0_code (p : Fin 128) (l : Fin 1024) : fptosi (F := Ideal) 8 (clipV e.z0 (scaleV e.z0)) (ix2 p l)
    = Spec.oc e.W (e.A (tok 0 (by decide) p)) (e.R (tok 0 (by decide) p)) l := by
  refine congrArg (FloatOps.fptosi (F := Ideal) (φ := .f32) 8) (?_ : clipV e.z0 (scaleV e.z0) (ix2 p l) = _)
  rw [clipV_at, funext fun k => e.z0_at p k, z0_at]
  rfl

theorem n0_code (p : Fin 128) (l : Fin 1024) : fptosi (F := Ideal) 8 (clipV e.n0 (scaleV e.n0)) (ix2 p l)
    = Spec.hc e.W (e.A (tok 0 (by decide) p)) (e.R (tok 0 (by decide) p)) l :=
  congrArg (FloatOps.fptosi (F := Ideal) (φ := .f32) 8) (e.n0_clip p l)

theorem z1_at (p : Fin 128) (l : Fin 1024) : e.z1 (ix2 p l) = Spec.h2 e.W (e.A (tok 128 (by decide) p)) (e.R (tok 128 (by decide) p)) l := by
  have h : ∀ p l, e.v1380 (ix2 p l) = pre2 e.W (e.A (tok 128 (by decide) p)) (e.R (tok 128 (by decide) p)) l := fun p l => by
    rw [v1380_eq]
    exact e.pre2_at 128 (by decide) _ _ _ e.v1368_at e.a1_scale e.v1379_at p l
  unfold z1
  rw [ln_at, funext fun k => h p k]
  rfl

theorem z1_scale (p : Fin 128) : scaleV e.z1 (ix2 p 0) = Spec.os e.W (e.A (tok 128 (by decide) p)) (e.R (tok 128 (by decide) p)) := by
  rw [scaleV_at, funext fun k => e.z1_at p k]
  rfl

theorem z1_code (p : Fin 128) (l : Fin 1024) : fptosi (F := Ideal) 8 (clipV e.z1 (scaleV e.z1)) (ix2 p l)
    = Spec.oc e.W (e.A (tok 128 (by decide) p)) (e.R (tok 128 (by decide) p)) l := by
  refine congrArg (FloatOps.fptosi (F := Ideal) (φ := .f32) 8) (?_ : clipV e.z1 (scaleV e.z1) (ix2 p l) = _)
  rw [clipV_at, funext fun k => e.z1_at p k, z1_at]
  rfl

theorem n1_code (p : Fin 128) (l : Fin 1024) : fptosi (F := Ideal) 8 (clipV e.n1 (scaleV e.n1)) (ix2 p l)
    = Spec.hc e.W (e.A (tok 128 (by decide) p)) (e.R (tok 128 (by decide) p)) l :=
  congrArg (FloatOps.fptosi (F := Ideal) (φ := .f32) 8) (e.n1_clip p l)

/-! ### The stored blocks -/

theorem castF_at {α : Type} (x : S128x1024.Idx → α) (p : Fin 128) (l : Fin 1024) (h) : shapeCast S1x128x1024 x h (ix3 0 p l) = x (ix2 p l) := by
  pointwise

def G18 : S1x256x1024.Idx → Elt Ideal .i8 := fun j => Spec.oc e.W (e.A (j 1)) (e.R (j 1)) (j 2)
def G20 : S1x256x1024.Idx → Elt Ideal .f32 := fun j => Spec.h2 e.W (e.A (j 1)) (e.R (j 1)) (j 2)
def G23 : S1x256x1024.Idx → Elt Ideal .i8 := fun j => Spec.hc e.W (e.A (j 1)) (e.R (j 1)) (j 2)

/-- A piece of 128 whole rows. -/
theorem rows {t : EltTy} (G : S1x256x1024.Idx → Elt Ideal t) (o : Nat) (ho : o + 128 ≤ 256) (x : S128x1024.Idx → Elt Ideal t)
    (hx : ∀ p l, x (ix2 p l) = G (ix3 0 (tok o ho p) l)) (w : S1x128x1024.Idx → Elt Ideal t) (hc) (hw : w = shapeCast S1x128x1024 x hc) :
    ∀ y, w y = G ((Rect.unit (s := S1x256x1024) ![0, o, 0] S1x128x1024.size (inb3 (n1 := 128) (o2 := 0) (n2 := 1024) ho (by decide))).emb y) :=
  piece3 G ho (by decide) w fun p l => by
    rw [hw, fz l]
    exact (castF_at x p l hc).trans (hx p l)

theorem v164_eq : ∃ hc, e.v164 = shapeCast S1x128x1024 (fptosi (F := Ideal) 8 (clipV e.n0 (scaleV e.n0))) hc :=
  ⟨_, congrArg (fun v => shapeCast S1x128x1024 (fptosi (F := Ideal) 8 v) _) e.v160_eq⟩

theorem pay94_eq : ∃ hc, k0_pay94 e.r_21 e.r_22 e.v823 e.v831 v107 = shapeCast S1x128x1024 (fptosi (F := Ideal) 8 (clipV e.n1 (scaleV e.n1))) hc :=
  ⟨_, congrArg (fun v => shapeCast S1x128x1024 (fptosi (F := Ideal) 8 v) _) e.pay93_eq⟩

theorem H23_2_holds : ∀ p ∈ e.H23_2, ∀ x, p.2 x = e.G23 (p.1.emb x) :=
  List.forall_mem_cons.2 ⟨rows e.G23 128 (by decide) _ (fun p l => e.n1_code p l) _ e.pay94_eq.choose e.pay94_eq.choose_spec,
    List.forall_mem_cons.2 ⟨rows e.G23 0 (by decide) _ (fun p l => e.n0_code p l) _ e.v164_eq.choose e.v164_eq.choose_spec, by simp⟩⟩

theorem v707_eq : ∃ hc, e.v707 = shapeCast S1x128x1024 e.z0 hc :=
  ⟨_, congrArg (fun v => shapeCast S1x128x1024 v _) e.v704_eq⟩

theorem pay158_eq : ∃ hc, k0_pay158 e.v1380 e.r_43 e.r_44 e.v1384 cst_47 = shapeCast S1x128x1024 e.z1 hc :=
  ⟨_, congrArg (fun v => shapeCast S1x128x1024 v _) e.pay157_eq⟩

theorem H20_2_holds : ∀ p ∈ e.H20_2, ∀ x, p.2 x = e.G20 (p.1.emb x) :=
  List.forall_mem_cons.2 ⟨rows e.G20 128 (by decide) e.z1 (fun p l => e.z1_at p l) _ e.pay158_eq.choose e.pay158_eq.choose_spec,
    List.forall_mem_cons.2 ⟨rows e.G20 0 (by decide) e.z0 (fun p l => e.z0_at p l) _ e.v707_eq.choose e.v707_eq.choose_spec, by simp⟩⟩

theorem pay83_eq : ∃ hc, k0_pay83 e.v704 e.v709 = shapeCast S1x128x1024 (fptosi (F := Ideal) 8 (clipV e.z0 (scaleV e.z0))) hc :=
  ⟨_, congrArg (fun v => shapeCast S1x128x1024 (fptosi (F := Ideal) 8 (clipV v (scaleV v))) _) e.v704_eq⟩

theorem v1429_eq : ∃ hc, e.v1429 = shapeCast S1x128x1024 (fptosi (F := Ideal) 8 (clipV e.z1 (scaleV e.z1))) hc :=
  ⟨_, congrArg (fun v => shapeCast S1x128x1024 (fptosi (F := Ideal) 8 (clipV v (scaleV v))) _) e.pay157_eq⟩

theorem H18_2_holds : ∀ p ∈ e.H18_2, ∀ x, p.2 x = e.G18 (p.1.emb x) :=
  List.forall_mem_cons.2 ⟨rows e.G18 128 (by decide) _ (fun p l => e.z1_code p l) _ e.v1429_eq.choose e.v1429_eq.choose_spec,
    List.forall_mem_cons.2 ⟨rows e.G18 0 (by decide) _ (fun p l => e.z0_code p l) _ e.pay83_eq.choose e.pay83_eq.choose_spec, by simp⟩⟩

/-- Two halves cover a block of 256 rows. -/
theorem two_cov {t : EltTy} {i0 i1 w0 w1} (p : Fin 256) (l : Fin 1024) :
    ∃ q ∈ ([⟨Rect.unit (s := S1x256x1024) ![0, 128, 0] S1x128x1024.size i1, w1⟩, ⟨Rect.unit (s := S1x256x1024) ![0, 0, 0] S1x128x1024.size i0, w0⟩] : List (View.Piece (Elt Ideal) S1x256x1024 t)),
      ix3 0 p l ∈ q.1.set := by
  have := p.isLt
  have := l.isLt
  by_cases h : p.val < 128
  · exact ⟨_, List.mem_cons_of_mem _ List.mem_cons_self, mem3 i0 p l (by omega) (by omega) (by omega) (by omega)⟩
  · exact ⟨_, List.mem_cons_self, mem3 i1 p l (by omega) (by omega) (by omega) (by omega)⟩

theorem oc_canon (p : Fin 256) (l : Fin 1024) : View.canon e.H18_2 (ix3 0 p l) = Spec.oc e.W (e.A p) (e.R p) l :=
  View.canon_apply_of_pieces (Val := Elt Ideal) (e := .i8) e.G18 _ e.H18_2_holds _ (two_cov p l)

theorem h2_canon (p : Fin 256) (l : Fin 1024) : View.canon e.H20_2 (ix3 0 p l) = Spec.h2 e.W (e.A p) (e.R p) l :=
  View.canon_apply_of_pieces (Val := Elt Ideal) (e := .f32) e.G20 _ e.H20_2_holds _ (two_cov p l)

theorem hc_canon (p : Fin 256) (l : Fin 1024) : View.canon e.H23_2 (ix3 0 p l) = Spec.hc e.W (e.A p) (e.R p) l :=
  View.canon_apply_of_pieces (Val := Elt Ideal) (e := .i8) e.G23 _ e.H23_2_holds _ (two_cov p l)

theorem z3 : (![0, 0, 0] : Fin 3 → Nat) = fun _ => 0 := by decide

theorem castC_at (x : IVec S1024x256 8) (k : Fin 1024) (p : Fin 256) (h) : shapeCast S1x1024x256 x h (ix3 0 k p) = x (ix2 k p) := by
  pointwise

theorem pay7c_at (k : Fin 1024) (p : Fin 256) : k0_pay7 e.X1 (ix3 0 k p) = Spec.cc (e.A p) k :=
  (castC_at (fptosi (F := Ideal) 8 (k0_pay6 e.X1)) k p _).trans (congrArg (FloatOps.fptosi (F := Ideal) (φ := .f32) 8) (e.pay6_at k p))

theorem cc_canon (k : Fin 1024) (p : Fin 256) : View.canon e.H21_1 (ix3 0 k p) = Spec.cc (e.A p) k := by
  refine (congrFun (View.canon_unit_zero (Val := Elt Ideal) (e := .i8) (S := S1x1024x256) z3 _ (k0_pay7 (F := Ideal) _)) _).trans ?_
  rw [ld1]
  exact e.pay7c_at k p

/-! ### The rows of scales -/

theorem csRow_at (inb) (p : Fin 256) : k0_pay5 (View.readAt (Elt Ideal) e.M1.view (Rect.unit ![0, 0, 0] ![1, 1024, 256] inb).toLoadRect e.f1) (ix2 0 p) = Spec.cs (e.A p) := by
  rw [ld1, pay5_at]

theorem v172_at (p : Fin 128) : e.v172 (ix2 0 p) = Spec.hs e.W (e.A (tok 0 (by decide) p)) (e.R (tok 0 (by decide) p)) :=
  (congrFun (congrArg rowV e.r_eq) _).trans ((rowV_at _ p).trans (e.n0_scale p))

theorem r_24_at (p : Fin 128) : e.r_24 (ix2 0 p) = Spec.hs e.W (e.A (tok 128 (by decide) p)) (e.R (tok 128 (by decide) p)) :=
  (congrFun (congrArg rowV e.r_23_eq) _).trans ((rowV_at _ p).trans (e.n1_scale p))

theorem r_19_at (p : Fin 128) : e.r_19 (ix2 0 p) = Spec.fs e.W (e.A (tok 0 (by decide) p)) (e.R (tok 0 (by decide) p)) :=
  (congrFun e.r_19_eq _).trans ((rowV_at _ p).trans (e.a0_scale p))

theorem r_42_at (p : Fin 128) : e.r_42 (ix2 0 p) = Spec.fs e.W (e.A (tok 128 (by decide) p)) (e.R (tok 128 (by decide) p)) :=
  (congrFun e.r_42_eq _).trans ((rowV_at _ p).trans (e.a1_scale p))

theorem r_20_at (p : Fin 128) : e.r_20 (ix2 0 p) = Spec.os e.W (e.A (tok 0 (by decide) p)) (e.R (tok 0 (by decide) p)) :=
  (congrFun (congrArg (fun v => rowV (scaleV v)) e.v704_eq) _).trans ((rowV_at _ p).trans (e.z0_scale p))

theorem v1433_at (p : Fin 128) : e.v1433 (ix2 0 p) = Spec.os e.W (e.A (tok 128 (by decide) p)) (e.R (tok 128 (by decide) p)) :=
  (congrFun (congrArg (fun v => rowV (scaleV v)) e.pay157_eq) _).trans ((rowV_at _ p).trans (e.z1_scale p))

end Env

end Cert.KernelIdeal.Val

end
-- ==== Proof.RefRun.lean ====
module

public import proofs.«01_k».proof.Proof.Gen.ReferenceIdeal.Frame
public import Idealize.ShloMosaic.Lib.Pipeline.Value

/-!
# The reference's run, with each result named

The reference has one grid point and every window's block is its whole array. So each output array after the run is one
function `G_w` of the argument arrays, and the arguments are unchanged.
-/

@[expose] public section

noncomputable section

namespace Cert.ReferenceIdeal.Res

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v0_0) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v0_1) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v0_2) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v0_3) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v0_4) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v0_5) = (dats m 0 c).arrAt 22 cfg0.N :=
  (h c).1 22

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v0_6) = (dats m 0 c).arrAt 23 cfg0.N :=
  (h c).1 23

/-- After the frame run, output window 24's array is `(dats m 0 c).arrAt 24 N`. -/
theorem post24 (r : PUnit × MemSt nD τ sig (Elt F)) (h : Pipeline.FramePost cfgs (dats m) 0 (V m) r) (c : Dev nD) :
    r.2.mem ((c : Thread nD τ).loc main_v0_7) = (dats m 0 c).arrAt 24 cfg0.N :=
  (h c).1 24

/-- After the frame run, output window 25's array is `(dats m 0 c).arrAt 25 N`. -/
theorem post25 (r : PUnit × MemSt nD τ sig (Elt F)) (h : Pipeline.FramePost cfgs (dats m) 0 (V m) r) (c : Dev nD) :
    r.2.mem ((c : Thread nD τ).loc main_v0_8) = (dats m 0 c).arrAt 25 cfg0.N :=
  (h c).1 25

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: input window 9 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- After the frame run, argument `main_arg10` is as launched: input window 10 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

/-- After the frame run, argument `main_arg11` is as launched: input window 11 stages it and never writes it back. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))

/-- After the frame run, argument `main_arg12` is as launched: input window 12 stages it and never writes it back. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))

/-- After the frame run, argument `main_arg13` is as launched: input window 13 stages it and never writes it back. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).1 13).trans (((dats m 0 c).arrAt_in 13 rfl _).trans ((A_eq m c 13).trans (V_main_arg13 m c)))

/-- After the frame run, argument `main_arg14` is as launched: input window 14 stages it and never writes it back. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).1 14).trans (((dats m 0 c).arrAt_in 14 rfl _).trans ((A_eq m c 14).trans (V_main_arg14 m c)))

/-- After the frame run, argument `main_arg15` is as launched: input window 15 stages it and never writes it back. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).1 15).trans (((dats m 0 c).arrAt_in 15 rfl _).trans ((A_eq m c 15).trans (V_main_arg15 m c)))

/-- After the frame run, argument `main_arg16` is as launched: input window 16 stages it and never writes it back. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).1 16).trans (((dats m 0 c).arrAt_in 16 rfl _).trans ((A_eq m c 16).trans (V_main_arg16 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S2x1024x768.Idx) : ((cfg0.win 0).blk t).view.emb j = j := by
  obtain ⟨e0, e1, e2⟩ := idx_zero0 t
  funext a; apply Fin.ext
  match a with
  | ⟨0, _⟩ => show win0_0.index t (0 : Fin 3) * 2 + 1 * (j 0).val = (j 0).val; omega
  | ⟨1, _⟩ => show win0_0.index t (1 : Fin 3) * 1024 + 1 * (j 1).val = (j 1).val; omega
  | ⟨2, _⟩ => show win0_0.index t (2 : Fin 3) * 768 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S2x768x1024.Idx) : ((cfg0.win 1).blk t).view.emb j = j := by
  obtain ⟨e0, e1, e2⟩ := idx_zero1 t
  funext a; apply Fin.ext
  match a with
  | ⟨0, _⟩ => show win0_1.index t (0 : Fin 3) * 2 + 1 * (j 0).val = (j 0).val; omega
  | ⟨1, _⟩ => show win0_1.index t (1 : Fin 3) * 768 + 1 * (j 1).val = (j 1).val; omega
  | ⟨2, _⟩ => show win0_1.index t (2 : Fin 3) * 1024 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S1024x1024.Idx) : ((cfg0.win 2).blk t).view.emb j = j := by
  obtain ⟨e0, e1⟩ := idx_zero2 t
  funext a; apply Fin.ext
  match a with
  | ⟨0, _⟩ => show win0_2.index t (0 : Fin 2) * 1024 + 1 * (j 0).val = (j 0).val; omega
  | ⟨1, _⟩ => show win0_2.index t (1 : Fin 2) * 1024 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1x1024.Idx) : ((cfg0.win 3).blk t).view.emb j = j := by
  obtain ⟨e0, e1⟩ := idx_zero3 t
  funext a; apply Fin.ext
  match a with
  | ⟨0, _⟩ => show win0_3.index t (0 : Fin 2) * 1 + 1 * (j 0).val = (j 0).val; omega
  | ⟨1, _⟩ => show win0_3.index t (1 : Fin 2) * 1024 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S1x1024.Idx) : ((cfg0.win 4).blk t).view.emb j = j := by
  obtain ⟨e0, e1⟩ := idx_zero4 t
  funext a; apply Fin.ext
  match a with
  | ⟨0, _⟩ => show win0_4.index t (0 : Fin 2) * 1 + 1 * (j 0).val = (j 0).val; omega
  | ⟨1, _⟩ => show win0_4.index t (1 : Fin 2) * 1024 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S1024x4096.Idx) : ((cfg0.win 5).blk t).view.emb j = j := by
  obtain ⟨e0, e1⟩ := idx_zero5 t
  funext a; apply Fin.ext
  match a with
  | ⟨0, _⟩ => show win0_5.index t (0 : Fin 2) * 1024 + 1 * (j 0).val = (j 0).val; omega
  | ⟨1, _⟩ => show win0_5.index t (1 : Fin 2) * 4096 + 1 * (j 1).val = (j 1).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S1x4096.Idx) : ((cfg0.win 6).blk t).view.emb j = j := by
  obtain ⟨e0, e1⟩ := idx_zero6 t
  funext a; apply Fin.ext
  match a with
  | ⟨0, _⟩ => show win0_6.index t (0 : Fin 2) * 1 + 1 * (j 0).val = (j 0).val; omega
  | ⟨1, _⟩ => show win0_6.index t (1 : Fin 2) * 4096 + 1 * (j 1).val = (j 1).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S1x4096.Idx) : ((cfg0.win 7).blk t).view.emb j = j := by
  obtain ⟨e0, e1⟩ := idx_zero7 t
  funext a; apply Fin.ext
  match a with
  | ⟨0, _⟩ => show win0_7.index t (0 : Fin 2) * 1 + 1 * (j 0).val = (j 0).val; omega
  | ⟨1, _⟩ => show win0_7.index t (1 : Fin 2) * 4096 + 1 * (j 1).val = (j 1).val; omega

/-- Input window 7's block at the point is its array as the region finds it. -/
theorem iblk7_eq (c : Dev nD) (t : Fin cfg0.N) : iblk m c 7 t = V m c main_arg7 := by
  funext j; show V m c main_arg7 (((cfg0.win 7).blk t).view.emb j) = V m c main_arg7 j; rw [emb7]

theorem hz8 : (![0, 0] : Fin 2 → Nat) = fun _ => 0 := funext fun a => by fin_cases a <;> rfl

/-- Window 8's block index at the one point is zero on every axis. -/
theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S4096x1024.Idx) : ((cfg0.win 8).blk t).view.emb j = j := by
  obtain ⟨e0, e1⟩ := idx_zero8 t
  funext a; apply Fin.ext
  match a with
  | ⟨0, _⟩ => show win0_8.index t (0 : Fin 2) * 4096 + 1 * (j 0).val = (j 0).val; omega
  | ⟨1, _⟩ => show win0_8.index t (1 : Fin 2) * 1024 + 1 * (j 1).val = (j 1).val; omega

/-- Input window 8's block at the point is its array as the region finds it. -/
theorem iblk8_eq (c : Dev nD) (t : Fin cfg0.N) : iblk m c 8 t = V m c main_arg8 := by
  funext j; show V m c main_arg8 (((cfg0.win 8).blk t).view.emb j) = V m c main_arg8 j; rw [emb8]

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S1x1024.Idx) : ((cfg0.win 9).blk t).view.emb j = j := by
  obtain ⟨e0, e1⟩ := idx_zero9 t
  funext a; apply Fin.ext
  match a with
  | ⟨0, _⟩ => show win0_9.index t (0 : Fin 2) * 1 + 1 * (j 0).val = (j 0).val; omega
  | ⟨1, _⟩ => show win0_9.index t (1 : Fin 2) * 1024 + 1 * (j 1).val = (j 1).val; omega

/-- Input window 9's block at the point is its array as the region finds it. -/
theorem iblk9_eq (c : Dev nD) (t : Fin cfg0.N) : iblk m c 9 t = V m c main_arg9 := by
  funext j; show V m c main_arg9 (((cfg0.win 9).blk t).view.emb j) = V m c main_arg9 j; rw [emb9]

theorem hz10 : (![0, 0] : Fin 2 → Nat) = fun _ => 0 := funext fun a => by fin_cases a <;> rfl

/-- Window 10's block index at the one point is zero on every axis. -/
theorem idx_zero10 : ∀ t : Fin cfg0.N, win0_10.index t (0 : Fin 2) = 0 ∧ win0_10.index t (1 : Fin 2) = 0 :=
  (by decide +kernel : ∀ t : Fin grid0.N, _)

/-- An index of window 10's block is the same index of its array. -/
theorem emb10 (t : Fin cfg0.N) (j : S1x1024.Idx) : ((cfg0.win 10).blk t).view.emb j = j := by
  obtain ⟨e0, e1⟩ := idx_zero10 t
  funext a; apply Fin.ext
  match a with
  | ⟨0, _⟩ => show win0_10.index t (0 : Fin 2) * 1 + 1 * (j 0).val = (j 0).val; omega
  | ⟨1, _⟩ => show win0_10.index t (1 : Fin 2) * 1024 + 1 * (j 1).val = (j 1).val; omega

/-- Input window 10's block at the point is its array as the region finds it. -/
theorem iblk10_eq (c : Dev nD) (t : Fin cfg0.N) : iblk m c 10 t = V m c main_arg10 := by
  funext j; show V m c main_arg10 (((cfg0.win 10).blk t).view.emb j) = V m c main_arg10 j; rw [emb10]

theorem hz11 : (![0, 0] : Fin 2 → Nat) = fun _ => 0 := funext fun a => by fin_cases a <;> rfl

/-- Window 11's block index at the one point is zero on every axis. -/
theorem idx_zero11 : ∀ t : Fin cfg0.N, win0_11.index t (0 : Fin 2) = 0 ∧ win0_11.index t (1 : Fin 2) = 0 :=
  (by decide +kernel : ∀ t : Fin grid0.N, _)

/-- An index of window 11's block is the same index of its array. -/
theorem emb11 (t : Fin cfg0.N) (j : S1x1024.Idx) : ((cfg0.win 11).blk t).view.emb j = j := by
  obtain ⟨e0, e1⟩ := idx_zero11 t
  funext a; apply Fin.ext
  match a with
  | ⟨0, _⟩ => show win0_11.index t (0 : Fin 2) * 1 + 1 * (j 0).val = (j 0).val; omega
  | ⟨1, _⟩ => show win0_11.index t (1 : Fin 2) * 1024 + 1 * (j 1).val = (j 1).val; omega

/-- Input window 11's block at the point is its array as the region finds it. -/
theorem iblk11_eq (c : Dev nD) (t : Fin cfg0.N) : iblk m c 11 t = V m c main_arg11 := by
  funext j; show V m c main_arg11 (((cfg0.win 11).blk t).view.emb j) = V m c main_arg11 j; rw [emb11]

theorem hz12 : (![0, 0] : Fin 2 → Nat) = fun _ => 0 := funext fun a => by fin_cases a <;> rfl

/-- Window 12's block index at the one point is zero on every axis. -/
theorem idx_zero12 : ∀ t : Fin cfg0.N, win0_12.index t (0 : Fin 2) = 0 ∧ win0_12.index t (1 : Fin 2) = 0 :=
  (by decide +kernel : ∀ t : Fin grid0.N, _)

/-- An index of window 12's block is the same index of its array. -/
theorem emb12 (t : Fin cfg0.N) (j : S1x1024.Idx) : ((cfg0.win 12).blk t).view.emb j = j := by
  obtain ⟨e0, e1⟩ := idx_zero12 t
  funext a; apply Fin.ext
  match a with
  | ⟨0, _⟩ => show win0_12.index t (0 : Fin 2) * 1 + 1 * (j 0).val = (j 0).val; omega
  | ⟨1, _⟩ => show win0_12.index t (1 : Fin 2) * 1024 + 1 * (j 1).val = (j 1).val; omega

/-- Input window 12's block at the point is its array as the region finds it. -/
theorem iblk12_eq (c : Dev nD) (t : Fin cfg0.N) : iblk m c 12 t = V m c main_arg12 := by
  funext j; show V m c main_arg12 (((cfg0.win 12).blk t).view.emb j) = V m c main_arg12 j; rw [emb12]

theorem hz13 : (![0, 0] : Fin 2 → Nat) = fun _ => 0 := funext fun a => by fin_cases a <;> rfl

/-- Window 13's block index at the one point is zero on every axis. -/
theorem idx_zero13 : ∀ t : Fin cfg0.N, win0_13.index t (0 : Fin 2) = 0 ∧ win0_13.index t (1 : Fin 2) = 0 :=
  (by decide +kernel : ∀ t : Fin grid0.N, _)

/-- An index of window 13's block is the same index of its array. -/
theorem emb13 (t : Fin cfg0.N) (j : S1x1024.Idx) : ((cfg0.win 13).blk t).view.emb j = j := by
  obtain ⟨e0, e1⟩ := idx_zero13 t
  funext a; apply Fin.ext
  match a with
  | ⟨0, _⟩ => show win0_13.index t (0 : Fin 2) * 1 + 1 * (j 0).val = (j 0).val; omega
  | ⟨1, _⟩ => show win0_13.index t (1 : Fin 2) * 1024 + 1 * (j 1).val = (j 1).val; omega

/-- Input window 13's block at the point is its array as the region finds it. -/
theorem iblk13_eq (c : Dev nD) (t : Fin cfg0.N) : iblk m c 13 t = V m c main_arg13 := by
  funext j; show V m c main_arg13 (((cfg0.win 13).blk t).view.emb j) = V m c main_arg13 j; rw [emb13]

theorem hz14 : (![0, 0] : Fin 2 → Nat) = fun _ => 0 := funext fun a => by fin_cases a <;> rfl

/-- Window 14's block index at the one point is zero on every axis. -/
theorem idx_zero14 : ∀ t : Fin cfg0.N, win0_14.index t (0 : Fin 2) = 0 ∧ win0_14.index t (1 : Fin 2) = 0 :=
  (by decide +kernel : ∀ t : Fin grid0.N, _)

/-- An index of window 14's block is the same index of its array. -/
theorem emb14 (t : Fin cfg0.N) (j : S1x1024.Idx) : ((cfg0.win 14).blk t).view.emb j = j := by
  obtain ⟨e0, e1⟩ := idx_zero14 t
  funext a; apply Fin.ext
  match a with
  | ⟨0, _⟩ => show win0_14.index t (0 : Fin 2) * 1 + 1 * (j 0).val = (j 0).val; omega
  | ⟨1, _⟩ => show win0_14.index t (1 : Fin 2) * 1024 + 1 * (j 1).val = (j 1).val; omega

/-- Input window 14's block at the point is its array as the region finds it. -/
theorem iblk14_eq (c : Dev nD) (t : Fin cfg0.N) : iblk m c 14 t = V m c main_arg14 := by
  funext j; show V m c main_arg14 (((cfg0.win 14).blk t).view.emb j) = V m c main_arg14 j; rw [emb14]

theorem hz15 : (![0, 0] : Fin 2 → Nat) = fun _ => 0 := funext fun a => by fin_cases a <;> rfl

/-- Window 15's block index at the one point is zero on every axis. -/
theorem idx_zero15 : ∀ t : Fin cfg0.N, win0_15.index t (0 : Fin 2) = 0 ∧ win0_15.index t (1 : Fin 2) = 0 :=
  (by decide +kernel : ∀ t : Fin grid0.N, _)

/-- An index of window 15's block is the same index of its array. -/
theorem emb15 (t : Fin cfg0.N) (j : S1x1024.Idx) : ((cfg0.win 15).blk t).view.emb j = j := by
  obtain ⟨e0, e1⟩ := idx_zero15 t
  funext a; apply Fin.ext
  match a with
  | ⟨0, _⟩ => show win0_15.index t (0 : Fin 2) * 1 + 1 * (j 0).val = (j 0).val; omega
  | ⟨1, _⟩ => show win0_15.index t (1 : Fin 2) * 1024 + 1 * (j 1).val = (j 1).val; omega

/-- Input window 15's block at the point is its array as the region finds it. -/
theorem iblk15_eq (c : Dev nD) (t : Fin cfg0.N) : iblk m c 15 t = V m c main_arg15 := by
  funext j; show V m c main_arg15 (((cfg0.win 15).blk t).view.emb j) = V m c main_arg15 j; rw [emb15]

theorem hz16 : (![0, 0] : Fin 2 → Nat) = fun _ => 0 := funext fun a => by fin_cases a <;> rfl

/-- Window 16's block index at the one point is zero on every axis. -/
theorem idx_zero16 : ∀ t : Fin cfg0.N, win0_16.index t (0 : Fin 2) = 0 ∧ win0_16.index t (1 : Fin 2) = 0 :=
  (by decide +kernel : ∀ t : Fin grid0.N, _)

/-- An index of window 16's block is the same index of its array. -/
theorem emb16 (t : Fin cfg0.N) (j : S1x1024.Idx) : ((cfg0.win 16).blk t).view.emb j = j := by
  obtain ⟨e0, e1⟩ := idx_zero16 t
  funext a; apply Fin.ext
  match a with
  | ⟨0, _⟩ => show win0_16.index t (0 : Fin 2) * 1 + 1 * (j 0).val = (j 0).val; omega
  | ⟨1, _⟩ => show win0_16.index t (1 : Fin 2) * 1024 + 1 * (j 1).val = (j 1).val; omega

/-- Input window 16's block at the point is its array as the region finds it. -/
theorem iblk16_eq (c : Dev nD) (t : Fin cfg0.N) : iblk m c 16 t = V m c main_arg16 := by
  funext j; show V m c main_arg16 (((cfg0.win 16).blk t).view.emb j) = V m c main_arg16 j; rw [emb16]

theorem hz17 : (![0, 0, 0] : Fin 3 → Nat) = fun _ => 0 := funext fun a => by fin_cases a <;> rfl

/-- Window 17's block index at the one point is zero on every axis. -/
theorem idx_zero17 : ∀ t : Fin cfg0.N, win0_17.index t (0 : Fin 3) = 0 ∧ win0_17.index t (1 : Fin 3) = 0 ∧ win0_17.index t (2 : Fin 3) = 0 :=
  (by decide +kernel : ∀ t : Fin grid0.N, _)

/-- An index of window 17's block is the same index of its array. -/
theorem emb17 (t : Fin cfg0.N) (j : S2x768x1024.Idx) : ((cfg0.win 17).blk t).view.emb j = j := by
  obtain ⟨e0, e1, e2⟩ := idx_zero17 t
  funext a; apply Fin.ext
  match a with
  | ⟨0, _⟩ => show win0_17.index t (0 : Fin 3) * 2 + 1 * (j 0).val = (j 0).val; omega
  | ⟨1, _⟩ => show win0_17.index t (1 : Fin 3) * 768 + 1 * (j 1).val = (j 1).val; omega
  | ⟨2, _⟩ => show win0_17.index t (2 : Fin 3) * 1024 + 1 * (j 2).val = (j 2).val; omega

theorem hz18 : (![0, 0] : Fin 2 → Nat) = fun _ => 0 := funext fun a => by fin_cases a <;> rfl

/-- Window 18's block index at the one point is zero on every axis. -/
theorem idx_zero18 : ∀ t : Fin cfg0.N, win0_18.index t (0 : Fin 2) = 0 ∧ win0_18.index t (1 : Fin 2) = 0 :=
  (by decide +kernel : ∀ t : Fin grid0.N, _)

/-- An index of window 18's block is the same index of its array. -/
theorem emb18 (t : Fin cfg0.N) (j : S2x768.Idx) : ((cfg0.win 18).blk t).view.emb j = j := by
  obtain ⟨e0, e1⟩ := idx_zero18 t
  funext a; apply Fin.ext
  match a with
  | ⟨0, _⟩ => show win0_18.index t (0 : Fin 2) * 2 + 1 * (j 0).val = (j 0).val; omega
  | ⟨1, _⟩ => show win0_18.index t (1 : Fin 2) * 768 + 1 * (j 1).val = (j 1).val; omega

theorem hz19 : (![0, 0, 0] : Fin 3 → Nat) = fun _ => 0 := funext fun a => by fin_cases a <;> rfl

/-- Window 19's block index at the one point is zero on every axis. -/
theorem idx_zero19 : ∀ t : Fin cfg0.N, win0_19.index t (0 : Fin 3) = 0 ∧ win0_19.index t (1 : Fin 3) = 0 ∧ win0_19.index t (2 : Fin 3) = 0 :=
  (by decide +kernel : ∀ t : Fin grid0.N, _)

/-- An index of window 19's block is the same index of its array. -/
theorem emb19 (t : Fin cfg0.N) (j : S2x768x1024.Idx) : ((cfg0.win 19).blk t).view.emb j = j := by
  obtain ⟨e0, e1, e2⟩ := idx_zero19 t
  funext a; apply Fin.ext
  match a with
  | ⟨0, _⟩ => show win0_19.index t (0 : Fin 3) * 2 + 1 * (j 0).val = (j 0).val; omega
  | ⟨1, _⟩ => show win0_19.index t (1 : Fin 3) * 768 + 1 * (j 1).val = (j 1).val; omega
  | ⟨2, _⟩ => show win0_19.index t (2 : Fin 3) * 1024 + 1 * (j 2).val = (j 2).val; omega

theorem hz20 : (![0, 0, 0] : Fin 3 → Nat) = fun _ => 0 := funext fun a => by fin_cases a <;> rfl

/-- Window 20's block index at the one point is zero on every axis. -/
theorem idx_zero20 : ∀ t : Fin cfg0.N, win0_20.index t (0 : Fin 3) = 0 ∧ win0_20.index t (1 : Fin 3) = 0 ∧ win0_20.index t (2 : Fin 3) = 0 :=
  (by decide +kernel : ∀ t : Fin grid0.N, _)

/-- An index of window 20's block is the same index of its array. -/
theorem emb20 (t : Fin cfg0.N) (j : S2x1024x768.Idx) : ((cfg0.win 20).blk t).view.emb j = j := by
  obtain ⟨e0, e1, e2⟩ := idx_zero20 t
  funext a; apply Fin.ext
  match a with
  | ⟨0, _⟩ => show win0_20.index t (0 : Fin 3) * 2 + 1 * (j 0).val = (j 0).val; omega
  | ⟨1, _⟩ => show win0_20.index t (1 : Fin 3) * 1024 + 1 * (j 1).val = (j 1).val; omega
  | ⟨2, _⟩ => show win0_20.index t (2 : Fin 3) * 768 + 1 * (j 2).val = (j 2).val; omega

theorem hz21 : (![0, 0] : Fin 2 → Nat) = fun _ => 0 := funext fun a => by fin_cases a <;> rfl

/-- Window 21's block index at the one point is zero on every axis. -/
theorem idx_zero21 : ∀ t : Fin cfg0.N, win0_21.index t (0 : Fin 2) = 0 ∧ win0_21.index t (1 : Fin 2) = 0 :=
  (by decide +kernel : ∀ t : Fin grid0.N, _)

/-- An index of window 21's block is the same index of its array. -/
theorem emb21 (t : Fin cfg0.N) (j : S2x768.Idx) : ((cfg0.win 21).blk t).view.emb j = j := by
  obtain ⟨e0, e1⟩ := idx_zero21 t
  funext a; apply Fin.ext
  match a with
  | ⟨0, _⟩ => show win0_21.index t (0 : Fin 2) * 2 + 1 * (j 0).val = (j 0).val; omega
  | ⟨1, _⟩ => show win0_21.index t (1 : Fin 2) * 768 + 1 * (j 1).val = (j 1).val; omega

theorem hz22 : (![0, 0, 0] : Fin 3 → Nat) = fun _ => 0 := funext fun a => by fin_cases a <;> rfl

/-- Window 22's block index at the one point is zero on every axis. -/
theorem idx_zero22 : ∀ t : Fin cfg0.N, win0_22.index t (0 : Fin 3) = 0 ∧ win0_22.index t (1 : Fin 3) = 0 ∧ win0_22.index t (2 : Fin 3) = 0 :=
  (by decide +kernel : ∀ t : Fin grid0.N, _)

/-- An index of window 22's block is the same index of its array. -/
theorem emb22 (t : Fin cfg0.N) (j : S2x768x1024.Idx) : ((cfg0.win 22).blk t).view.emb j = j := by
  obtain ⟨e0, e1, e2⟩ := idx_zero22 t
  funext a; apply Fin.ext
  match a with
  | ⟨0, _⟩ => show win0_22.index t (0 : Fin 3) * 2 + 1 * (j 0).val = (j 0).val; omega
  | ⟨1, _⟩ => show win0_22.index t (1 : Fin 3) * 768 + 1 * (j 1).val = (j 1).val; omega
  | ⟨2, _⟩ => show win0_22.index t (2 : Fin 3) * 1024 + 1 * (j 2).val = (j 2).val; omega

theorem hz23 : (![0, 0] : Fin 2 → Nat) = fun _ => 0 := funext fun a => by fin_cases a <;> rfl

/-- Window 23's block index at the one point is zero on every axis. -/
theorem idx_zero23 : ∀ t : Fin cfg0.N, win0_23.index t (0 : Fin 2) = 0 ∧ win0_23.index t (1 : Fin 2) = 0 :=
  (by decide +kernel : ∀ t : Fin grid0.N, _)

/-- An index of window 23's block is the same index of its array. -/
theorem emb23 (t : Fin cfg0.N) (j : S2x768.Idx) : ((cfg0.win 23).blk t).view.emb j = j := by
  obtain ⟨e0, e1⟩ := idx_zero23 t
  funext a; apply Fin.ext
  match a with
  | ⟨0, _⟩ => show win0_23.index t (0 : Fin 2) * 2 + 1 * (j 0).val = (j 0).val; omega
  | ⟨1, _⟩ => show win0_23.index t (1 : Fin 2) * 768 + 1 * (j 1).val = (j 1).val; omega

theorem hz24 : (![0, 0, 0] : Fin 3 → Nat) = fun _ => 0 := funext fun a => by fin_cases a <;> rfl

/-- Window 24's block index at the one point is zero on every axis. -/
theorem idx_zero24 : ∀ t : Fin cfg0.N, win0_24.index t (0 : Fin 3) = 0 ∧ win0_24.index t (1 : Fin 3) = 0 ∧ win0_24.index t (2 : Fin 3) = 0 :=
  (by decide +kernel : ∀ t : Fin grid0.N, _)

/-- An index of window 24's block is the same index of its array. -/
theorem emb24 (t : Fin cfg0.N) (j : S2x768x4096.Idx) : ((cfg0.win 24).blk t).view.emb j = j := by
  obtain ⟨e0, e1, e2⟩ := idx_zero24 t
  funext a; apply Fin.ext
  match a with
  | ⟨0, _⟩ => show win0_24.index t (0 : Fin 3) * 2 + 1 * (j 0).val = (j 0).val; omega
  | ⟨1, _⟩ => show win0_24.index t (1 : Fin 3) * 768 + 1 * (j 1).val = (j 1).val; omega
  | ⟨2, _⟩ => show win0_24.index t (2 : Fin 3) * 4096 + 1 * (j 2).val = (j 2).val; omega

theorem hz25 : (![0, 0] : Fin 2 → Nat) = fun _ => 0 := funext fun a => by fin_cases a <;> rfl

/-- Window 25's block index at the one point is zero on every axis. -/
theorem idx_zero25 : ∀ t : Fin cfg0.N, win0_25.index t (0 : Fin 2) = 0 ∧ win0_25.index t (1 : Fin 2) = 0 :=
  (by decide +kernel : ∀ t : Fin grid0.N, _)

/-- An index of window 25's block is the same index of its array. -/
theorem emb25 (t : Fin cfg0.N) (j : S2x768.Idx) : ((cfg0.win 25).blk t).view.emb j = j := by
  obtain ⟨e0, e1⟩ := idx_zero25 t
  funext a; apply Fin.ext
  match a with
  | ⟨0, _⟩ => show win0_25.index t (0 : Fin 2) * 2 + 1 * (j 0).val = (j 0).val; omega
  | ⟨1, _⟩ => show win0_25.index t (1 : Fin 2) * 768 + 1 * (j 1).val = (j 1).val; omega

/-! ### Output window 17: the array after the run -/

/-- What the window's array ends holding: `out0_17` applied to the argument arrays in place of the input blocks (a value that the
    frame states apart, `kK_payN a…`, keeps its loads inside its own definition). -/
abbrev G17 (a0 : Vec F S2x1024x768 .f32) (a1 : Vec F S2x768x1024 .bf16) (a2 : Vec F S1024x1024 .i8) (a3 : Vec F S1x1024 .f32) (a4 : Vec F S1x1024 .f32) (a5 : Vec F S1024x4096 .i8) (a6 : Vec F S1x4096 .f32) (a7 : Vec F S1x4096 .f32) (a8 : Vec F S4096x1024 .i8) (a9 : Vec F S1x1024 .f32) (a10 : Vec F S1x1024 .f32) (a11 : Vec F S1x1024 .f32) (a12 : Vec F S1x1024 .f32) (a13 : Vec F S1x1024 .f32) (a14 : Vec F S1x1024 .f32) (a15 : Vec F S1x1024 .f32) (a16 : Vec F S1x1024 .f32) : Vec F S2x768x1024 .i8 :=
  k0_pay23 a15 a16 (k0_pay36 a0 a1 a2 a3 a4 a5 a6 a7 a8 a9 a10 a11 a12 a13 a14 a15 a16) (k0_pay37 a0 a1 a2 a3 a4 a5 a6 a7 a8 a9 a10 a11 a12 a13 a14 a15 a16)

/-- A load of the whole of a block reads the block, and the one store through the whole rectangle leaves its payload. -/
theorem out17_eq (a0 : Vec F S2x1024x768 .f32) (a1 : Vec F S2x768x1024 .bf16) (a2 : Vec F S1024x1024 .i8) (a3 : Vec F S1x1024 .f32) (a4 : Vec F S1x1024 .f32) (a5 : Vec F S1024x4096 .i8) (a6 : Vec F S1x4096 .f32) (a7 : Vec F S1x4096 .f32) (a8 : Vec F S4096x1024 .i8) (a9 : Vec F S1x1024 .f32) (a10 : Vec F S1x1024 .f32) (a11 : Vec F S1x1024 .f32) (a12 : Vec F S1x1024 .f32) (a13 : Vec F S1x1024 .f32) (a14 : Vec F S1x1024 .f32) (a15 : Vec F S1x1024 .f32) (a16 : Vec F S1x1024 .f32) : out0_17 (F := F) a0 a1 a2 a3 a4 a5 a6 a7 a8 a9 a10 a11 a12 a13 a14 a15 a16 = G17 a0 a1 a2 a3 a4 a5 a6 a7 a8 a9 a10 a11 a12 a13 a14 a15 a16 := by
  unfold out0_17
  rw [View.canon_unit_zero hz17, View.ld_unit_zero (S := S1x1024) hz15 _ a15, View.ld_unit_zero (S := S1x1024) hz16 _ a16]

/-- Cutting the point's block out of `X` and reading `X` through the block's view give the same. -/
theorem cut17_eq (t : Fin cfg0.N) (X : Vec F S2x768x1024 .i8) :
    (cfg0.win 17).cut (grid0.coords t) X = ((cfg0.win 17).blk t).view.read (Elt F) X := by
  funext j
  show X j = X (((cfg0.win 17).blk t).view.emb j)
  rw [emb17]

/-- What the point writes back is its block of `G17` of the argument arrays as the region finds them. -/
theorem flushed17_eq (c : Dev nD) (t : Fin cfg0.N) :
    (dats m 0 c).flushed 17 t = ((cfg0.win 17).blk t).view.read (Elt F) (G17 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16)) := by
  show (cfg0.win 17).cut (grid0.coords t) ((dats m 0 c).after 17 t) = _
  rw [after0_17, out17_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq]
  exact cut17_eq t _

/-- Every index of the array is in the point's block. -/
theorem covered17 (i : S2x768x1024.Idx) :
    ∃ t : Fin cfg0.N, (cfg0.win 17).flush t = true ∧ i ∈ ((cfg0.win 17).blk t).view.set :=
  ⟨(⟨0, by decide⟩ : Fin cfg0.N), flush0_17 _, by have h := ((cfg0.win 17).blk (⟨0, by decide⟩ : Fin cfg0.N)).view.emb_mem_set i; rwa [emb17] at h⟩

/-- The array after the run: `G17` of the argument arrays as launched. -/
theorem final17 (c : Dev nD) : (dats m 0 c).arrAt 17 cfg0.N = G17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  ((dats m 0 c).arrAt_eq_of_cover 17 (G17 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16)) (fun t _ => flushed17_eq m c t) covered17).trans (by rw [V_main_arg0, V_main_arg1, V_main_arg2, V_main_arg3, V_main_arg4, V_main_arg5, V_main_arg6, V_main_arg7, V_main_arg8, V_main_arg9, V_main_arg10, V_main_arg11, V_main_arg12, V_main_arg13, V_main_arg14, V_main_arg15, V_main_arg16])

/-! ### Output window 18: the array after the run -/

/-- What the window's array ends holding: `out0_18` applied to the argument arrays in place of the input blocks (a value that the
    frame states apart, `kK_payN a…`, keeps its loads inside its own definition). -/
abbrev G18 (a0 : Vec F S2x1024x768 .f32) (a1 : Vec F S2x768x1024 .bf16) (a2 : Vec F S1024x1024 .i8) (a3 : Vec F S1x1024 .f32) (a4 : Vec F S1x1024 .f32) (a5 : Vec F S1024x4096 .i8) (a6 : Vec F S1x4096 .f32) (a7 : Vec F S1x4096 .f32) (a8 : Vec F S4096x1024 .i8) (a9 : Vec F S1x1024 .f32) (a10 : Vec F S1x1024 .f32) (a11 : Vec F S1x1024 .f32) (a12 : Vec F S1x1024 .f32) (a13 : Vec F S1x1024 .f32) (a14 : Vec F S1x1024 .f32) (a15 : Vec F S1x1024 .f32) (a16 : Vec F S1x1024 .f32) : Vec F S2x768 .f32 :=
  k0_pay24 a15 a16 (k0_pay36 a0 a1 a2 a3 a4 a5 a6 a7 a8 a9 a10 a11 a12 a13 a14 a15 a16) (k0_pay37 a0 a1 a2 a3 a4 a5 a6 a7 a8 a9 a10 a11 a12 a13 a14 a15 a16)

/-- A load of the whole of a block reads the block, and the one store through the whole rectangle leaves its payload. -/
theorem out18_eq (a0 : Vec F S2x1024x768 .f32) (a1 : Vec F S2x768x1024 .bf16) (a2 : Vec F S1024x1024 .i8) (a3 : Vec F S1x1024 .f32) (a4 : Vec F S1x1024 .f32) (a5 : Vec F S1024x4096 .i8) (a6 : Vec F S1x4096 .f32) (a7 : Vec F S1x4096 .f32) (a8 : Vec F S4096x1024 .i8) (a9 : Vec F S1x1024 .f32) (a10 : Vec F S1x1024 .f32) (a11 : Vec F S1x1024 .f32) (a12 : Vec F S1x1024 .f32) (a13 : Vec F S1x1024 .f32) (a14 : Vec F S1x1024 .f32) (a15 : Vec F S1x1024 .f32) (a16 : Vec F S1x1024 .f32) : out0_18 (F := F) a0 a1 a2 a3 a4 a5 a6 a7 a8 a9 a10 a11 a12 a13 a14 a15 a16 = G18 a0 a1 a2 a3 a4 a5 a6 a7 a8 a9 a10 a11 a12 a13 a14 a15 a16 := by
  unfold out0_18
  rw [View.canon_unit_zero hz18, View.ld_unit_zero (S := S1x1024) hz15 _ a15, View.ld_unit_zero (S := S1x1024) hz16 _ a16]

/-- Cutting the point's block out of `X` and reading `X` through the block's view give the same. -/
theorem cut18_eq (t : Fin cfg0.N) (X : Vec F S2x768 .f32) :
    (cfg0.win 18).cut (grid0.coords t) X = ((cfg0.win 18).blk t).view.read (Elt F) X := by
  funext j
  show X j = X (((cfg0.win 18).blk t).view.emb j)
  rw [emb18]

/-- What the point writes back is its block of `G18` of the argument arrays as the region finds them. -/
theorem flushed18_eq (c : Dev nD) (t : Fin cfg0.N) :
    (dats m 0 c).flushed 18 t = ((cfg0.win 18).blk t).view.read (Elt F) (G18 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16)) := by
  show (cfg0.win 18).cut (grid0.coords t) ((dats m 0 c).after 18 t) = _
  rw [after0_18, out18_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq]
  exact cut18_eq t _

/-- Every index of the array is in the point's block. -/
theorem covered18 (i : S2x768.Idx) :
    ∃ t : Fin cfg0.N, (cfg0.win 18).flush t = true ∧ i ∈ ((cfg0.win 18).blk t).view.set :=
  ⟨(⟨0, by decide⟩ : Fin cfg0.N), flush0_18 _, by have h := ((cfg0.win 18).blk (⟨0, by decide⟩ : Fin cfg0.N)).view.emb_mem_set i; rwa [emb18] at h⟩

/-- The array after the run: `G18` of the argument arrays as launched. -/
theorem final18 (c : Dev nD) : (dats m 0 c).arrAt 18 cfg0.N = G18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  ((dats m 0 c).arrAt_eq_of_cover 18 (G18 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16)) (fun t _ => flushed18_eq m c t) covered18).trans (by rw [V_main_arg0, V_main_arg1, V_main_arg2, V_main_arg3, V_main_arg4, V_main_arg5, V_main_arg6, V_main_arg7, V_main_arg8, V_main_arg9, V_main_arg10, V_main_arg11, V_main_arg12, V_main_arg13, V_main_arg14, V_main_arg15, V_main_arg16])

/-! ### Output window 19: the array after the run -/

/-- What the window's array ends holding: `out0_19` applied to the argument arrays in place of the input blocks (a value that the
    frame states apart, `kK_payN a…`, keeps its loads inside its own definition). -/
abbrev G19 (a0 : Vec F S2x1024x768 .f32) (a1 : Vec F S2x768x1024 .bf16) (a2 : Vec F S1024x1024 .i8) (a3 : Vec F S1x1024 .f32) (a4 : Vec F S1x1024 .f32) (a5 : Vec F S1024x4096 .i8) (a6 : Vec F S1x4096 .f32) (a7 : Vec F S1x4096 .f32) (a8 : Vec F S4096x1024 .i8) (a9 : Vec F S1x1024 .f32) (a10 : Vec F S1x1024 .f32) (a11 : Vec F S1x1024 .f32) (a12 : Vec F S1x1024 .f32) (a13 : Vec F S1x1024 .f32) (a14 : Vec F S1x1024 .f32) (a15 : Vec F S1x1024 .f32) (a16 : Vec F S1x1024 .f32) : Vec F S2x768x1024 .f32 :=
  k0_pay25 a15 a16 (k0_pay36 a0 a1 a2 a3 a4 a5 a6 a7 a8 a9 a10 a11 a12 a13 a14 a15 a16) (k0_pay37 a0 a1 a2 a3 a4 a5 a6 a7 a8 a9 a10 a11 a12 a13 a14 a15 a16)

/-- A load of the whole of a block reads the block, and the one store through the whole rectangle leaves its payload. -/
theorem out19_eq (a0 : Vec F S2x1024x768 .f32) (a1 : Vec F S2x768x1024 .bf16) (a2 : Vec F S1024x1024 .i8) (a3 : Vec F S1x1024 .f32) (a4 : Vec F S1x1024 .f32) (a5 : Vec F S1024x4096 .i8) (a6 : Vec F S1x4096 .f32) (a7 : Vec F S1x4096 .f32) (a8 : Vec F S4096x1024 .i8) (a9 : Vec F S1x1024 .f32) (a10 : Vec F S1x1024 .f32) (a11 : Vec F S1x1024 .f32) (a12 : Vec F S1x1024 .f32) (a13 : Vec F S1x1024 .f32) (a14 : Vec F S1x1024 .f32) (a15 : Vec F S1x1024 .f32) (a16 : Vec F S1x1024 .f32) : out0_19 (F := F) a0 a1 a2 a3 a4 a5 a6 a7 a8 a9 a10 a11 a12 a13 a14 a15 a16 = G19 a0 a1 a2 a3 a4 a5 a6 a7 a8 a9 a10 a11 a12 a13 a14 a15 a16 := by
  unfold out0_19
  rw [View.canon_unit_zero hz19, View.ld_unit_zero (S := S1x1024) hz15 _ a15, View.ld_unit_zero (S := S1x1024) hz16 _ a16]

/-- Cutting the point's block out of `X` and reading `X` through the block's view give the same. -/
theorem cut19_eq (t : Fin cfg0.N) (X : Vec F S2x768x1024 .f32) :
    (cfg0.win 19).cut (grid0.coords t) X = ((cfg0.win 19).blk t).view.read (Elt F) X := by
  funext j
  show X j = X (((cfg0.win 19).blk t).view.emb j)
  rw [emb19]

/-- What the point writes back is its block of `G19` of the argument arrays as the region finds them. -/
theorem flushed19_eq (c : Dev nD) (t : Fin cfg0.N) :
    (dats m 0 c).flushed 19 t = ((cfg0.win 19).blk t).view.read (Elt F) (G19 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16)) := by
  show (cfg0.win 19).cut (grid0.coords t) ((dats m 0 c).after 19 t) = _
  rw [after0_19, out19_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq]
  exact cut19_eq t _

/-- Every index of the array is in the point's block. -/
theorem covered19 (i : S2x768x1024.Idx) :
    ∃ t : Fin cfg0.N, (cfg0.win 19).flush t = true ∧ i ∈ ((cfg0.win 19).blk t).view.set :=
  ⟨(⟨0, by decide⟩ : Fin cfg0.N), flush0_19 _, by have h := ((cfg0.win 19).blk (⟨0, by decide⟩ : Fin cfg0.N)).view.emb_mem_set i; rwa [emb19] at h⟩

/-- The array after the run: `G19` of the argument arrays as launched. -/
theorem final19 (c : Dev nD) : (dats m 0 c).arrAt 19 cfg0.N = G19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  ((dats m 0 c).arrAt_eq_of_cover 19 (G19 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16)) (fun t _ => flushed19_eq m c t) covered19).trans (by rw [V_main_arg0, V_main_arg1, V_main_arg2, V_main_arg3, V_main_arg4, V_main_arg5, V_main_arg6, V_main_arg7, V_main_arg8, V_main_arg9, V_main_arg10, V_main_arg11, V_main_arg12, V_main_arg13, V_main_arg14, V_main_arg15, V_main_arg16])

/-! ### Output window 20: the array after the run -/

/-- What the window's array ends holding: `out0_20` applied to the argument arrays in place of the input blocks (a value that the
    frame states apart, `kK_payN a…`, keeps its loads inside its own definition). -/
abbrev G20 (a0 : Vec F S2x1024x768 .f32) (a1 : Vec F S2x768x1024 .bf16) (a2 : Vec F S1024x1024 .i8) (a3 : Vec F S1x1024 .f32) (a4 : Vec F S1x1024 .f32) (a5 : Vec F S1024x4096 .i8) (a6 : Vec F S1x4096 .f32) (a7 : Vec F S1x4096 .f32) (a8 : Vec F S4096x1024 .i8) (a9 : Vec F S1x1024 .f32) (a10 : Vec F S1x1024 .f32) (a11 : Vec F S1x1024 .f32) (a12 : Vec F S1x1024 .f32) (a13 : Vec F S1x1024 .f32) (a14 : Vec F S1x1024 .f32) (a15 : Vec F S1x1024 .f32) (a16 : Vec F S1x1024 .f32) : Vec F S2x1024x768 .i8 :=
  k0_pay26 (k0_pay9 (k0_pay30 a0 a1 a2 a3 a4 a5 a6 a7 a8 a9 a10 a11 a12 a13 a14 a15 a16) 4294967169#32)

/-- The one store through the whole rectangle leaves its payload. -/
theorem out20_eq (a0 : Vec F S2x1024x768 .f32) (a1 : Vec F S2x768x1024 .bf16) (a2 : Vec F S1024x1024 .i8) (a3 : Vec F S1x1024 .f32) (a4 : Vec F S1x1024 .f32) (a5 : Vec F S1024x4096 .i8) (a6 : Vec F S1x4096 .f32) (a7 : Vec F S1x4096 .f32) (a8 : Vec F S4096x1024 .i8) (a9 : Vec F S1x1024 .f32) (a10 : Vec F S1x1024 .f32) (a11 : Vec F S1x1024 .f32) (a12 : Vec F S1x1024 .f32) (a13 : Vec F S1x1024 .f32) (a14 : Vec F S1x1024 .f32) (a15 : Vec F S1x1024 .f32) (a16 : Vec F S1x1024 .f32) : out0_20 (F := F) a0 a1 a2 a3 a4 a5 a6 a7 a8 a9 a10 a11 a12 a13 a14 a15 a16 = G20 a0 a1 a2 a3 a4 a5 a6 a7 a8 a9 a10 a11 a12 a13 a14 a15 a16 := by
  unfold out0_20
  rw [View.canon_unit_zero hz20]

/-- Cutting the point's block out of `X` and reading `X` through the block's view give the same. -/
theorem cut20_eq (t : Fin cfg0.N) (X : Vec F S2x1024x768 .i8) :
    (cfg0.win 20).cut (grid0.coords t) X = ((cfg0.win 20).blk t).view.read (Elt F) X := by
  funext j
  show X j = X (((cfg0.win 20).blk t).view.emb j)
  rw [emb20]

/-- What the point writes back is its block of `G20` of the argument arrays as the region finds them. -/
theorem flushed20_eq (c : Dev nD) (t : Fin cfg0.N) :
    (dats m 0 c).flushed 20 t = ((cfg0.win 20).blk t).view.read (Elt F) (G20 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16)) := by
  show (cfg0.win 20).cut (grid0.coords t) ((dats m 0 c).after 20 t) = _
  rw [after0_20, out20_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq]
  exact cut20_eq t _

/-- Every index of the array is in the point's block. -/
theorem covered20 (i : S2x1024x768.Idx) :
    ∃ t : Fin cfg0.N, (cfg0.win 20).flush t = true ∧ i ∈ ((cfg0.win 20).blk t).view.set :=
  ⟨(⟨0, by decide⟩ : Fin cfg0.N), flush0_20 _, by have h := ((cfg0.win 20).blk (⟨0, by decide⟩ : Fin cfg0.N)).view.emb_mem_set i; rwa [emb20] at h⟩

/-- The array after the run: `G20` of the argument arrays as launched. -/
theorem final20 (c : Dev nD) : (dats m 0 c).arrAt 20 cfg0.N = G20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  ((dats m 0 c).arrAt_eq_of_cover 20 (G20 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16)) (fun t _ => flushed20_eq m c t) covered20).trans (by rw [V_main_arg0, V_main_arg1, V_main_arg2, V_main_arg3, V_main_arg4, V_main_arg5, V_main_arg6, V_main_arg7, V_main_arg8, V_main_arg9, V_main_arg10, V_main_arg11, V_main_arg12, V_main_arg13, V_main_arg14, V_main_arg15, V_main_arg16])

/-! ### Output window 21: the array after the run -/

/-- What the window's array ends holding: `out0_21` applied to the argument arrays in place of the input blocks (a value that the
    frame states apart, `kK_payN a…`, keeps its loads inside its own definition). -/
abbrev G21 (a0 : Vec F S2x1024x768 .f32) (a1 : Vec F S2x768x1024 .bf16) (a2 : Vec F S1024x1024 .i8) (a3 : Vec F S1x1024 .f32) (a4 : Vec F S1x1024 .f32) (a5 : Vec F S1024x4096 .i8) (a6 : Vec F S1x4096 .f32) (a7 : Vec F S1x4096 .f32) (a8 : Vec F S4096x1024 .i8) (a9 : Vec F S1x1024 .f32) (a10 : Vec F S1x1024 .f32) (a11 : Vec F S1x1024 .f32) (a12 : Vec F S1x1024 .f32) (a13 : Vec F S1x1024 .f32) (a14 : Vec F S1x1024 .f32) (a15 : Vec F S1x1024 .f32) (a16 : Vec F S1x1024 .f32) : Vec F S2x768 .f32 :=
  k0_pay27 (k0_pay29 a0 a1 a2 a3 a4 a5 a6 a7 a8 a9 a10 a11 a12 a13 a14 a15 a16)

/-- The one store through the whole rectangle leaves its payload. -/
theorem out21_eq (a0 : Vec F S2x1024x768 .f32) (a1 : Vec F S2x768x1024 .bf16) (a2 : Vec F S1024x1024 .i8) (a3 : Vec F S1x1024 .f32) (a4 : Vec F S1x1024 .f32) (a5 : Vec F S1024x4096 .i8) (a6 : Vec F S1x4096 .f32) (a7 : Vec F S1x4096 .f32) (a8 : Vec F S4096x1024 .i8) (a9 : Vec F S1x1024 .f32) (a10 : Vec F S1x1024 .f32) (a11 : Vec F S1x1024 .f32) (a12 : Vec F S1x1024 .f32) (a13 : Vec F S1x1024 .f32) (a14 : Vec F S1x1024 .f32) (a15 : Vec F S1x1024 .f32) (a16 : Vec F S1x1024 .f32) : out0_21 (F := F) a0 a1 a2 a3 a4 a5 a6 a7 a8 a9 a10 a11 a12 a13 a14 a15 a16 = G21 a0 a1 a2 a3 a4 a5 a6 a7 a8 a9 a10 a11 a12 a13 a14 a15 a16 := by
  unfold out0_21
  rw [View.canon_unit_zero hz21]

/-- Cutting the point's block out of `X` and reading `X` through the block's view give the same. -/
theorem cut21_eq (t : Fin cfg0.N) (X : Vec F S2x768 .f32) :
    (cfg0.win 21).cut (grid0.coords t) X = ((cfg0.win 21).blk t).view.read (Elt F) X := by
  funext j
  show X j = X (((cfg0.win 21).blk t).view.emb j)
  rw [emb21]

/-- What the point writes back is its block of `G21` of the argument arrays as the region finds them. -/
theorem flushed21_eq (c : Dev nD) (t : Fin cfg0.N) :
    (dats m 0 c).flushed 21 t = ((cfg0.win 21).blk t).view.read (Elt F) (G21 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16)) := by
  show (cfg0.win 21).cut (grid0.coords t) ((dats m 0 c).after 21 t) = _
  rw [after0_21, out21_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq]
  exact cut21_eq t _

/-- Every index of the array is in the point's block. -/
theorem covered21 (i : S2x768.Idx) :
    ∃ t : Fin cfg0.N, (cfg0.win 21).flush t = true ∧ i ∈ ((cfg0.win 21).blk t).view.set :=
  ⟨(⟨0, by decide⟩ : Fin cfg0.N), flush0_21 _, by have h := ((cfg0.win 21).blk (⟨0, by decide⟩ : Fin cfg0.N)).view.emb_mem_set i; rwa [emb21] at h⟩

/-- The array after the run: `G21` of the argument arrays as launched. -/
theorem final21 (c : Dev nD) : (dats m 0 c).arrAt 21 cfg0.N = G21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  ((dats m 0 c).arrAt_eq_of_cover 21 (G21 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16)) (fun t _ => flushed21_eq m c t) covered21).trans (by rw [V_main_arg0, V_main_arg1, V_main_arg2, V_main_arg3, V_main_arg4, V_main_arg5, V_main_arg6, V_main_arg7, V_main_arg8, V_main_arg9, V_main_arg10, V_main_arg11, V_main_arg12, V_main_arg13, V_main_arg14, V_main_arg15, V_main_arg16])

/-! ### Output window 22: the array after the run -/

/-- What the window's array ends holding: `out0_22` applied to the argument arrays in place of the input blocks (a value that the
    frame states apart, `kK_payN a…`, keeps its loads inside its own definition). -/
abbrev G22 (a0 : Vec F S2x1024x768 .f32) (a1 : Vec F S2x768x1024 .bf16) (a2 : Vec F S1024x1024 .i8) (a3 : Vec F S1x1024 .f32) (a4 : Vec F S1x1024 .f32) (a5 : Vec F S1024x4096 .i8) (a6 : Vec F S1x4096 .f32) (a7 : Vec F S1x4096 .f32) (a8 : Vec F S4096x1024 .i8) (a9 : Vec F S1x1024 .f32) (a10 : Vec F S1x1024 .f32) (a11 : Vec F S1x1024 .f32) (a12 : Vec F S1x1024 .f32) (a13 : Vec F S1x1024 .f32) (a14 : Vec F S1x1024 .f32) (a15 : Vec F S1x1024 .f32) (a16 : Vec F S1x1024 .f32) : Vec F S2x768x1024 .i8 :=
  k0_pay1 (k0_pay13 (k0_pay31 a0 a1 a2 a3 a4 a5 a6 a7 a8 a9 a10 a11 a12 a13 a14 a15 a16) (k0_pay32 a0 a1 a2 a3 a4 a5 a6 a7 a8 a9 a10 a11 a12 a13 a14 a15 a16))

/-- The one store through the whole rectangle leaves its payload. -/
theorem out22_eq (a0 : Vec F S2x1024x768 .f32) (a1 : Vec F S2x768x1024 .bf16) (a2 : Vec F S1024x1024 .i8) (a3 : Vec F S1x1024 .f32) (a4 : Vec F S1x1024 .f32) (a5 : Vec F S1024x4096 .i8) (a6 : Vec F S1x4096 .f32) (a7 : Vec F S1x4096 .f32) (a8 : Vec F S4096x1024 .i8) (a9 : Vec F S1x1024 .f32) (a10 : Vec F S1x1024 .f32) (a11 : Vec F S1x1024 .f32) (a12 : Vec F S1x1024 .f32) (a13 : Vec F S1x1024 .f32) (a14 : Vec F S1x1024 .f32) (a15 : Vec F S1x1024 .f32) (a16 : Vec F S1x1024 .f32) : out0_22 (F := F) a0 a1 a2 a3 a4 a5 a6 a7 a8 a9 a10 a11 a12 a13 a14 a15 a16 = G22 a0 a1 a2 a3 a4 a5 a6 a7 a8 a9 a10 a11 a12 a13 a14 a15 a16 := by
  unfold out0_22
  rw [View.canon_unit_zero hz22]

/-- Cutting the point's block out of `X` and reading `X` through the block's view give the same. -/
theorem cut22_eq (t : Fin cfg0.N) (X : Vec F S2x768x1024 .i8) :
    (cfg0.win 22).cut (grid0.coords t) X = ((cfg0.win 22).blk t).view.read (Elt F) X := by
  funext j
  show X j = X (((cfg0.win 22).blk t).view.emb j)
  rw [emb22]

/-- What the point writes back is its block of `G22` of the argument arrays as the region finds them. -/
theorem flushed22_eq (c : Dev nD) (t : Fin cfg0.N) :
    (dats m 0 c).flushed 22 t = ((cfg0.win 22).blk t).view.read (Elt F) (G22 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16)) := by
  show (cfg0.win 22).cut (grid0.coords t) ((dats m 0 c).after 22 t) = _
  rw [after0_22, out22_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq]
  exact cut22_eq t _

/-- Every index of the array is in the point's block. -/
theorem covered22 (i : S2x768x1024.Idx) :
    ∃ t : Fin cfg0.N, (cfg0.win 22).flush t = true ∧ i ∈ ((cfg0.win 22).blk t).view.set :=
  ⟨(⟨0, by decide⟩ : Fin cfg0.N), flush0_22 _, by have h := ((cfg0.win 22).blk (⟨0, by decide⟩ : Fin cfg0.N)).view.emb_mem_set i; rwa [emb22] at h⟩

/-- The array after the run: `G22` of the argument arrays as launched. -/
theorem final22 (c : Dev nD) : (dats m 0 c).arrAt 22 cfg0.N = G22 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  ((dats m 0 c).arrAt_eq_of_cover 22 (G22 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16)) (fun t _ => flushed22_eq m c t) covered22).trans (by rw [V_main_arg0, V_main_arg1, V_main_arg2, V_main_arg3, V_main_arg4, V_main_arg5, V_main_arg6, V_main_arg7, V_main_arg8, V_main_arg9, V_main_arg10, V_main_arg11, V_main_arg12, V_main_arg13, V_main_arg14, V_main_arg15, V_main_arg16])

/-! ### Output window 23: the array after the run -/

/-- What the window's array ends holding: `out0_23` applied to the argument arrays in place of the input blocks (a value that the
    frame states apart, `kK_payN a…`, keeps its loads inside its own definition). -/
abbrev G23 (a0 : Vec F S2x1024x768 .f32) (a1 : Vec F S2x768x1024 .bf16) (a2 : Vec F S1024x1024 .i8) (a3 : Vec F S1x1024 .f32) (a4 : Vec F S1x1024 .f32) (a5 : Vec F S1024x4096 .i8) (a6 : Vec F S1x4096 .f32) (a7 : Vec F S1x4096 .f32) (a8 : Vec F S4096x1024 .i8) (a9 : Vec F S1x1024 .f32) (a10 : Vec F S1x1024 .f32) (a11 : Vec F S1x1024 .f32) (a12 : Vec F S1x1024 .f32) (a13 : Vec F S1x1024 .f32) (a14 : Vec F S1x1024 .f32) (a15 : Vec F S1x1024 .f32) (a16 : Vec F S1x1024 .f32) : Vec F S2x768 .f32 :=
  k0_pay2 (k0_pay12 (k0_pay32 a0 a1 a2 a3 a4 a5 a6 a7 a8 a9 a10 a11 a12 a13 a14 a15 a16))

/-- The one store through the whole rectangle leaves its payload. -/
theorem out23_eq (a0 : Vec F S2x1024x768 .f32) (a1 : Vec F S2x768x1024 .bf16) (a2 : Vec F S1024x1024 .i8) (a3 : Vec F S1x1024 .f32) (a4 : Vec F S1x1024 .f32) (a5 : Vec F S1024x4096 .i8) (a6 : Vec F S1x4096 .f32) (a7 : Vec F S1x4096 .f32) (a8 : Vec F S4096x1024 .i8) (a9 : Vec F S1x1024 .f32) (a10 : Vec F S1x1024 .f32) (a11 : Vec F S1x1024 .f32) (a12 : Vec F S1x1024 .f32) (a13 : Vec F S1x1024 .f32) (a14 : Vec F S1x1024 .f32) (a15 : Vec F S1x1024 .f32) (a16 : Vec F S1x1024 .f32) : out0_23 (F := F) a0 a1 a2 a3 a4 a5 a6 a7 a8 a9 a10 a11 a12 a13 a14 a15 a16 = G23 a0 a1 a2 a3 a4 a5 a6 a7 a8 a9 a10 a11 a12 a13 a14 a15 a16 := by
  unfold out0_23
  rw [View.canon_unit_zero hz23]

/-- Cutting the point's block out of `X` and reading `X` through the block's view give the same. -/
theorem cut23_eq (t : Fin cfg0.N) (X : Vec F S2x768 .f32) :
    (cfg0.win 23).cut (grid0.coords t) X = ((cfg0.win 23).blk t).view.read (Elt F) X := by
  funext j
  show X j = X (((cfg0.win 23).blk t).view.emb j)
  rw [emb23]

/-- What the point writes back is its block of `G23` of the argument arrays as the region finds them. -/
theorem flushed23_eq (c : Dev nD) (t : Fin cfg0.N) :
    (dats m 0 c).flushed 23 t = ((cfg0.win 23).blk t).view.read (Elt F) (G23 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16)) := by
  show (cfg0.win 23).cut (grid0.coords t) ((dats m 0 c).after 23 t) = _
  rw [after0_23, out23_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq]
  exact cut23_eq t _

/-- Every index of the array is in the point's block. -/
theorem covered23 (i : S2x768.Idx) :
    ∃ t : Fin cfg0.N, (cfg0.win 23).flush t = true ∧ i ∈ ((cfg0.win 23).blk t).view.set :=
  ⟨(⟨0, by decide⟩ : Fin cfg0.N), flush0_23 _, by have h := ((cfg0.win 23).blk (⟨0, by decide⟩ : Fin cfg0.N)).view.emb_mem_set i; rwa [emb23] at h⟩

/-- The array after the run: `G23` of the argument arrays as launched. -/
theorem final23 (c : Dev nD) : (dats m 0 c).arrAt 23 cfg0.N = G23 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  ((dats m 0 c).arrAt_eq_of_cover 23 (G23 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16)) (fun t _ => flushed23_eq m c t) covered23).trans (by rw [V_main_arg0, V_main_arg1, V_main_arg2, V_main_arg3, V_main_arg4, V_main_arg5, V_main_arg6, V_main_arg7, V_main_arg8, V_main_arg9, V_main_arg10, V_main_arg11, V_main_arg12, V_main_arg13, V_main_arg14, V_main_arg15, V_main_arg16])

/-! ### Output window 24: the array after the run -/

/-- What the window's array ends holding: `out0_24` applied to the argument arrays in place of the input blocks (a value that the
    frame states apart, `kK_payN a…`, keeps its loads inside its own definition). -/
abbrev G24 (a0 : Vec F S2x1024x768 .f32) (a1 : Vec F S2x768x1024 .bf16) (a2 : Vec F S1024x1024 .i8) (a3 : Vec F S1x1024 .f32) (a4 : Vec F S1x1024 .f32) (a5 : Vec F S1024x4096 .i8) (a6 : Vec F S1x4096 .f32) (a7 : Vec F S1x4096 .f32) (a8 : Vec F S4096x1024 .i8) (a9 : Vec F S1x1024 .f32) (a10 : Vec F S1x1024 .f32) (a11 : Vec F S1x1024 .f32) (a12 : Vec F S1x1024 .f32) (a13 : Vec F S1x1024 .f32) (a14 : Vec F S1x1024 .f32) (a15 : Vec F S1x1024 .f32) (a16 : Vec F S1x1024 .f32) : Vec F S2x768x4096 .i8 :=
  k0_pay3 (k0_pay18 (k0_pay33 a0 a1 a2 a3 a4 a5 a6 a7 a8 a9 a10 a11 a12 a13 a14 a15 a16) (k0_pay34 a0 a1 a2 a3 a4 a5 a6 a7 a8 a9 a10 a11 a12 a13 a14 a15 a16) (k0_pay35 a0 a1 a2 a3 a4 a5 a6 a7 a8 a9 a10 a11 a12 a13 a14 a15 a16))

/-- The one store through the whole rectangle leaves its payload. -/
theorem out24_eq (a0 : Vec F S2x1024x768 .f32) (a1 : Vec F S2x768x1024 .bf16) (a2 : Vec F S1024x1024 .i8) (a3 : Vec F S1x1024 .f32) (a4 : Vec F S1x1024 .f32) (a5 : Vec F S1024x4096 .i8) (a6 : Vec F S1x4096 .f32) (a7 : Vec F S1x4096 .f32) (a8 : Vec F S4096x1024 .i8) (a9 : Vec F S1x1024 .f32) (a10 : Vec F S1x1024 .f32) (a11 : Vec F S1x1024 .f32) (a12 : Vec F S1x1024 .f32) (a13 : Vec F S1x1024 .f32) (a14 : Vec F S1x1024 .f32) (a15 : Vec F S1x1024 .f32) (a16 : Vec F S1x1024 .f32) : out0_24 (F := F) a0 a1 a2 a3 a4 a5 a6 a7 a8 a9 a10 a11 a12 a13 a14 a15 a16 = G24 a0 a1 a2 a3 a4 a5 a6 a7 a8 a9 a10 a11 a12 a13 a14 a15 a16 := by
  unfold out0_24
  rw [View.canon_unit_zero hz24]

/-- Cutting the point's block out of `X` and reading `X` through the block's view give the same. -/
theorem cut24_eq (t : Fin cfg0.N) (X : Vec F S2x768x4096 .i8) :
    (cfg0.win 24).cut (grid0.coords t) X = ((cfg0.win 24).blk t).view.read (Elt F) X := by
  funext j
  show X j = X (((cfg0.win 24).blk t).view.emb j)
  rw [emb24]

/-- What the point writes back is its block of `G24` of the argument arrays as the region finds them. -/
theorem flushed24_eq (c : Dev nD) (t : Fin cfg0.N) :
    (dats m 0 c).flushed 24 t = ((cfg0.win 24).blk t).view.read (Elt F) (G24 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16)) := by
  show (cfg0.win 24).cut (grid0.coords t) ((dats m 0 c).after 24 t) = _
  rw [after0_24, out24_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq]
  exact cut24_eq t _

/-- Every index of the array is in the point's block. -/
theorem covered24 (i : S2x768x4096.Idx) :
    ∃ t : Fin cfg0.N, (cfg0.win 24).flush t = true ∧ i ∈ ((cfg0.win 24).blk t).view.set :=
  ⟨(⟨0, by decide⟩ : Fin cfg0.N), flush0_24 _, by have h := ((cfg0.win 24).blk (⟨0, by decide⟩ : Fin cfg0.N)).view.emb_mem_set i; rwa [emb24] at h⟩

/-- The array after the run: `G24` of the argument arrays as launched. -/
theorem final24 (c : Dev nD) : (dats m 0 c).arrAt 24 cfg0.N = G24 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  ((dats m 0 c).arrAt_eq_of_cover 24 (G24 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16)) (fun t _ => flushed24_eq m c t) covered24).trans (by rw [V_main_arg0, V_main_arg1, V_main_arg2, V_main_arg3, V_main_arg4, V_main_arg5, V_main_arg6, V_main_arg7, V_main_arg8, V_main_arg9, V_main_arg10, V_main_arg11, V_main_arg12, V_main_arg13, V_main_arg14, V_main_arg15, V_main_arg16])

/-! ### Output window 25: the array after the run -/

/-- What the window's array ends holding: `out0_25` applied to the argument arrays in place of the input blocks (a value that the
    frame states apart, `kK_payN a…`, keeps its loads inside its own definition). -/
abbrev G25 (a0 : Vec F S2x1024x768 .f32) (a1 : Vec F S2x768x1024 .bf16) (a2 : Vec F S1024x1024 .i8) (a3 : Vec F S1x1024 .f32) (a4 : Vec F S1x1024 .f32) (a5 : Vec F S1024x4096 .i8) (a6 : Vec F S1x4096 .f32) (a7 : Vec F S1x4096 .f32) (a8 : Vec F S4096x1024 .i8) (a9 : Vec F S1x1024 .f32) (a10 : Vec F S1x1024 .f32) (a11 : Vec F S1x1024 .f32) (a12 : Vec F S1x1024 .f32) (a13 : Vec F S1x1024 .f32) (a14 : Vec F S1x1024 .f32) (a15 : Vec F S1x1024 .f32) (a16 : Vec F S1x1024 .f32) : Vec F S2x768 .f32 :=
  k0_pay4 (k0_pay17 (k0_pay34 a0 a1 a2 a3 a4 a5 a6 a7 a8 a9 a10 a11 a12 a13 a14 a15 a16) (k0_pay35 a0 a1 a2 a3 a4 a5 a6 a7 a8 a9 a10 a11 a12 a13 a14 a15 a16))

/-- The one store through the whole rectangle leaves its payload. -/
theorem out25_eq (a0 : Vec F S2x1024x768 .f32) (a1 : Vec F S2x768x1024 .bf16) (a2 : Vec F S1024x1024 .i8) (a3 : Vec F S1x1024 .f32) (a4 : Vec F S1x1024 .f32) (a5 : Vec F S1024x4096 .i8) (a6 : Vec F S1x4096 .f32) (a7 : Vec F S1x4096 .f32) (a8 : Vec F S4096x1024 .i8) (a9 : Vec F S1x1024 .f32) (a10 : Vec F S1x1024 .f32) (a11 : Vec F S1x1024 .f32) (a12 : Vec F S1x1024 .f32) (a13 : Vec F S1x1024 .f32) (a14 : Vec F S1x1024 .f32) (a15 : Vec F S1x1024 .f32) (a16 : Vec F S1x1024 .f32) : out0_25 (F := F) a0 a1 a2 a3 a4 a5 a6 a7 a8 a9 a10 a11 a12 a13 a14 a15 a16 = G25 a0 a1 a2 a3 a4 a5 a6 a7 a8 a9 a10 a11 a12 a13 a14 a15 a16 := by
  unfold out0_25
  rw [View.canon_unit_zero hz25]

/-- Cutting the point's block out of `X` and reading `X` through the block's view give the same. -/
theorem cut25_eq (t : Fin cfg0.N) (X : Vec F S2x768 .f32) :
    (cfg0.win 25).cut (grid0.coords t) X = ((cfg0.win 25).blk t).view.read (Elt F) X := by
  funext j
  show X j = X (((cfg0.win 25).blk t).view.emb j)
  rw [emb25]

/-- What the point writes back is its block of `G25` of the argument arrays as the region finds them. -/
theorem flushed25_eq (c : Dev nD) (t : Fin cfg0.N) :
    (dats m 0 c).flushed 25 t = ((cfg0.win 25).blk t).view.read (Elt F) (G25 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16)) := by
  show (cfg0.win 25).cut (grid0.coords t) ((dats m 0 c).after 25 t) = _
  rw [after0_25, out25_eq, iblk0_eq, iblk1_eq, iblk2_eq, iblk3_eq, iblk4_eq, iblk5_eq, iblk6_eq, iblk7_eq, iblk8_eq, iblk9_eq, iblk10_eq, iblk11_eq, iblk12_eq, iblk13_eq, iblk14_eq, iblk15_eq, iblk16_eq]
  exact cut25_eq t _

/-- Every index of the array is in the point's block. -/
theorem covered25 (i : S2x768.Idx) :
    ∃ t : Fin cfg0.N, (cfg0.win 25).flush t = true ∧ i ∈ ((cfg0.win 25).blk t).view.set :=
  ⟨(⟨0, by decide⟩ : Fin cfg0.N), flush0_25 _, by have h := ((cfg0.win 25).blk (⟨0, by decide⟩ : Fin cfg0.N)).view.emb_mem_set i; rwa [emb25] at h⟩

/-- The array after the run: `G25` of the argument arrays as launched. -/
theorem final25 (c : Dev nD) : (dats m 0 c).arrAt 25 cfg0.N = G25 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  ((dats m 0 c).arrAt_eq_of_cover 25 (G25 (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16)) (fun t _ => flushed25_eq m c t) covered25).trans (by rw [V_main_arg0, V_main_arg1, V_main_arg2, V_main_arg3, V_main_arg4, V_main_arg5, V_main_arg6, V_main_arg7, V_main_arg8, V_main_arg9, V_main_arg10, V_main_arg11, V_main_arg12, V_main_arg13, V_main_arg14, V_main_arg15, V_main_arg16])

/-! ## The run, read -/

set_option maxHeartbeats 1000000 in
/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c : Thread nD τ).loc main_v0_1) = G18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c : Thread nD τ).loc main_v0_2) = G19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c : Thread nD τ).loc main_v0_3) = G20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c : Thread nD τ).loc main_v0_4) = G21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c : Thread nD τ).loc main_v0_5) = G22 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c : Thread nD τ).loc main_v0_6) = G23 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c : Thread nD τ).loc main_v0_7) = G24 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c : Thread nD τ).loc main_v0_8) = G25 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(post17 m r h c).trans (final17 m c),
      (post18 m r h c).trans (final18 m c),
      (post19 m r h c).trans (final19 m c),
      (post20 m r h c).trans (final20 m c),
      (post21 m r h c).trans (final21 m c),
      (post22 m r h c).trans (final22 m c),
      (post23 m r h c).trans (final23 m c),
      (post24 m r h c).trans (final24 m c),
      (post25 m r h c).trans (final25 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c⟩)
    (run_main m ρ)

end Cert.ReferenceIdeal.Res

end
-- ==== Proof.RefValue.lean ====
module

public import proofs.«01_k».proof.Proof.RefRun
public import proofs.«01_k».proof.Proof.Spec

/-!
# The reference's results, token by token

Each of the reference's nine results at one index is the specification's function of that token's attention output
and residual row.
-/

@[expose] public section

noncomputable section

namespace Cert.ReferenceIdeal.Res

open Cert.ReferenceIdeal Cert.ReferenceIdeal.Gen Idealize.ShloMosaic Cert.Spec
open scoped BigOperators

variable (a0 : Vec Ideal S2x1024x768 .f32) (a1 : Vec Ideal S2x768x1024 .bf16) (a2 : Vec Ideal S1024x1024 .i8) (a3 : Vec Ideal S1x1024 .f32) (a4 : Vec Ideal S1x1024 .f32) (a5 : Vec Ideal S1024x4096 .i8) (a6 : Vec Ideal S1x4096 .f32) (a7 : Vec Ideal S1x4096 .f32) (a8 : Vec Ideal S4096x1024 .i8) (a9 : Vec Ideal S1x1024 .f32) (a10 : Vec Ideal S1x1024 .f32) (a11 : Vec Ideal S1x1024 .f32) (a12 : Vec Ideal S1x1024 .f32) (a13 : Vec Ideal S1x1024 .f32) (a14 : Vec Ideal S1x1024 .f32) (a15 : Vec Ideal S1x1024 .f32) (a16 : Vec Ideal S1x1024 .f32)

/-- The weights the arguments hold. -/
def wts : Wts where
  wo k l := a2 (ix2 k l)
  wos l := a3 (ix2 0 l)
  wob l := a4 (ix2 0 l)
  w1 k l := a5 (ix2 k l)
  w1s l := a6 (ix2 0 l)
  w1b l := a7 (ix2 0 l)
  w2 k l := a8 (ix2 k l)
  w2s l := a9 (ix2 0 l)
  w2b l := a10 (ix2 0 l)
  gx l := a11 (ix2 0 l)
  bx l := a12 (ix2 0 l)
  g1 l := a13 (ix2 0 l)
  b1 l := a14 (ix2 0 l)
  g2 l := a15 (ix2 0 l)
  b2 l := a16 (ix2 0 l)

/-- The attention output, one token per row. -/
def rows0 : FVec Ideal S1536x1024 .f32 := k0_pay5 a0

/-- The residual, one token per row. -/
def rows1 : FVec Ideal S1536x1024 .bf16 := shapeCast S1536x1024 a1 shapeCasts_S2x768x1024_S1536x1024

/-- Token `r`'s attention output. -/
def ta (r : Fin 1536) : Row 1024 := fun k => rows0 a0 (ix2 r k)

/-- Token `r`'s residual row. -/
def tx (r : Fin 1536) : Row 1024 := fun l => rows1 a1 (ix2 r l)

/-- The largest absolute values of 1536 rows. -/
def amRef (v : FVec Ideal S1536x1024 .f32) : FVec Ideal S1536x1 .f32 :=
  shapeCast S1536x1 (multiReduction .maximumf [1] S1536 v 0xFF800000#32 reduces_S1536x1024_S1536 (.inl rfl) rfl) shapeCasts_S1536_S1536x1

theorem amRef_at (v : FVec Ideal S1536x1024 .f32) (r : Fin 1536) : amRef (absf v) (ix2 r 0) = amax fun k => v (ix2 r k) := by
  pointwise [amRef]
  rfl

theorem pay17_at (v : FVec Ideal S1536x1 .f32) (r : Fin 1536) :
    k0_pay17 (F := Ideal) v k0_pay16 (ix2 r 0) = scale (v (ix2 r 0)) := by
  pointwise [k0_pay17, k0_pay16]
  rfl

/-- The scales of 1536 rows. -/
def scRef (v : FVec Ideal S1536x1024 .f32) : FVec Ideal S1536x1 .f32 := k0_pay17 (amRef (absf v)) k0_pay16

theorem scRef_at (v : FVec Ideal S1536x1024 .f32) (r : Fin 1536) :
    scRef v (ix2 r 0) = scale (amax fun k => v (ix2 r k)) :=
  (pay17_at _ r).trans (congrArg scale (amRef_at v r))

theorem pay12_eq (v : FVec Ideal S1536x1024 .f32) : k0_pay12 (F := Ideal) (absf v) = scRef v := rfl

/-- The codes of 1536 rows. -/
def ccRef (v : FVec Ideal S1536x1024 .f32) (s : FVec Ideal S1536x1 .f32) : IVec S1536x1024 8 :=
  k0_pay9 (roundeven (divf v (broadcastTo S1536x1024 s broadcasts_S1536x1_S1536x1024))) 4294967169#32

theorem ccRef_at (v : FVec Ideal S1536x1024 .f32) (s : FVec Ideal S1536x1 .f32) (r : Fin 1536) (k : Fin 1024) :
    ccRef v s (ix2 r k) = code (v (ix2 r k)) (s (ix2 r 0)) := by
  pointwise [ccRef, k0_pay9]
  rfl

theorem pay7_eq : k0_pay7 (F := Ideal) a0 = scRef (rows0 a0) := rfl

theorem pay9_eq : k0_pay9 (F := Ideal) (k0_pay8 a0) 4294967169#32 = ccRef (rows0 a0) (scRef (rows0 a0)) := rfl

theorem pay7_at (r : Fin 1536) : k0_pay7 (F := Ideal) a0 (ix2 r 0) = cs (ta a0 r) := by
  rw [pay7_eq, scRef_at]
  rfl

theorem pay9_at (r : Fin 1536) (k : Fin 1024) :
    k0_pay9 (F := Ideal) (k0_pay8 a0) 4294967169#32 (ix2 r k) = cc (ta a0 r) k := by
  rw [pay9_eq, ccRef_at, scRef_at]
  rfl

/-- Layer normalisation of 1536 rows, as the reference computes it. -/
def lnRef (v5 : FVec Ideal S1536x1024 .f32) (v6 v7 : Vec Ideal S1x1024 .f32) : FVec Ideal S1536x1024 .f32 :=
  have v8 : FVec Ideal S1536 .f32 := multiReduction .add [1] S1536 v5 0x00000000#32 reduces_S1536x1024_S1536 (.inl rfl) rfl
  have v9 : FVec Ideal S1536x1 .f32 := shapeCast S1536x1 v8 shapeCasts_S1536_S1536x1
  have v10 : FVec Ideal S1536x1 .f32 := broadcast S1536x1 (Scalar.ofBits .f32 0x44800000#32)
  have v11 : FVec Ideal S1536x1 .f32 := divf v9 v10
  have v12 : FVec Ideal S1536x1024 .f32 := broadcastTo S1536x1024 v11 broadcasts_S1536x1_S1536x1024
  have v13 : FVec Ideal S1536x1024 .f32 := subf v5 v12
  have v14 : FVec Ideal S1536x1024 .f32 := mulf v13 v13
  have v15 : FVec Ideal S1536 .f32 := multiReduction .add [1] S1536 v14 0x00000000#32 reduces_S1536x1024_S1536 (.inl rfl) rfl
  have v16 : FVec Ideal S1536x1 .f32 := shapeCast S1536x1 v15 shapeCasts_S1536_S1536x1
  have v18 : FVec Ideal S1536x1 .f32 := divf v16 v10
  have v19 : FVec Ideal S1536x1 .f32 := broadcast S1536x1 (Scalar.ofBits .f32 0x33D6BF95#32)
  have v20 : FVec Ideal S1536x1 .f32 := addf v18 v19
  have v21 : FVec Ideal S1536x1 .f32 := sqrt v20
  have v22 : FVec Ideal S1536x1024 .f32 := broadcastTo S1536x1024 v21 broadcasts_S1536x1_S1536x1024
  have v23 : FVec Ideal S1536x1024 .f32 := divf v13 v22
  have v24 : FVec Ideal S1536x1024 .f32 := broadcastTo S1536x1024 v6 broadcasts_S1x1024_S1536x1024
  have v25 : FVec Ideal S1536x1024 .f32 := mulf v23 v24
  have v26 : FVec Ideal S1536x1024 .f32 := broadcastTo S1536x1024 v7 broadcasts_S1x1024_S1536x1024
  addf v25 v26

theorem lnRef_at (v : FVec Ideal S1536x1024 .f32) (g b : Vec Ideal S1x1024 .f32) (r : Fin 1536) (l : Fin 1024) :
    lnRef v g b (ix2 r l) = Spec.norm (fun k => v (ix2 r k)) (fun k => g (ix2 0 k)) (fun k => b (ix2 0 k)) l := by
  pointwise [lnRef]
  rfl

theorem pay6_eq : k0_pay6 (F := Ideal) a1 a11 a12 = lnRef (rows1 a1) a11 a12 := rfl

/-- The value the first hidden normalisation is taken of. -/
def preRef (v27 : FVec Ideal S1536x1024 .f32) (v36 : FVec Ideal S1536x1 .f32) (v46 : IVec S1536x1024 8) :
    FVec Ideal S1536x1024 .f32 :=
  addf (addf (mulf (mulf (matmul dot_S1536x1024_S1024x1024_S1536x1024_1_0_0_1_n_n none (sitofp (F := Ideal) .bf16 v46) (sitofp .bf16 a2)
      (constant S1536x1024 .f32 0x00000000#32)) (broadcastTo S1536x1024 v36 broadcasts_S1536x1_S1536x1024))
      (broadcastTo S1536x1024 a3 broadcasts_S1x1024_S1536x1024)) (broadcastTo S1536x1024 a4 broadcasts_S1x1024_S1536x1024)) v27

theorem preRef_at (v27 : FVec Ideal S1536x1024 .f32) (v36 : FVec Ideal S1536x1 .f32) (v46 : IVec S1536x1024 8) (r : Fin 1536) (l : Fin 1024) :
    preRef a2 a3 a4 v27 v36 v46 (ix2 r l) = lin (fun k => v46 (ix2 r k)) (fun k => a2 (ix2 k l)) (v36 (ix2 r 0)) (a3 (ix2 0 l)) (a4 (ix2 0 l))
      + v27 (ix2 r l) := by
  pointwise [preRef]
  rfl

theorem pay31_eq : k0_pay31 (F := Ideal) a0 a1 a2 a3 a4 a5 a6 a7 a8 a9 a10 a11 a12 a13 a14 a15 a16 = lnRef (preRef a2 a3 a4 (lnRef (rows1 a1) a11 a12) (k0_pay7 a0)
      (k0_pay9 (k0_pay8 a0) 4294967169#32)) a13 a14 := by
  unfold k0_pay31 k0_pay28 k0_pay29 k0_pay30
  rw [View.ld_unit_zero (S := S2x1024x768) hz0 _ a0, View.ld_unit_zero (S := S2x768x1024) hz1 _ a1,
    View.ld_unit_zero (S := S1024x1024) hz2 _ a2, View.ld_unit_zero (S := S1x1024) hz3 _ a3,
    View.ld_unit_zero (S := S1x1024) hz3 _ a4, View.ld_unit_zero (S := S1x1024) hz3 _ a11,
    View.ld_unit_zero (S := S1x1024) hz3 _ a12, View.ld_unit_zero (S := S1x1024) hz3 _ a13,
    View.ld_unit_zero (S := S1x1024) hz3 _ a14]
  rfl

theorem pay31_at (r : Fin 1536) (l : Fin 1024) :
    k0_pay31 (F := Ideal) a0 a1 a2 a3 a4 a5 a6 a7 a8 a9 a10 a11 a12 a13 a14 a15 a16 (ix2 r l) = h1 (wts a2 a3 a4 a5 a6 a7 a8 a9 a10 a11 a12 a13 a14 a15 a16) (ta a0 r) (tx a1 r) l := by
  rw [pay31_eq, lnRef_at]
  refine congrArg (fun v => Spec.norm v _ _ l) (funext fun k => ?_)
  rw [preRef_at, pay7_at, lnRef_at, funext fun k => pay9_at a0 r k]
  rfl

theorem pay32_eq : k0_pay32 (F := Ideal) a0 a1 a2 a3 a4 a5 a6 a7 a8 a9 a10 a11 a12 a13 a14 a15 a16 = absf (k0_pay31 a0 a1 a2 a3 a4 a5 a6 a7 a8 a9 a10 a11 a12 a13 a14 a15 a16) := rfl

theorem pay12_at (v : FVec Ideal S1536x1024 .f32) (r : Fin 1536) :
    k0_pay12 (F := Ideal) (absf v) (ix2 r 0) = scale (amax fun k => v (ix2 r k)) := by
  rw [pay12_eq, scRef_at]

theorem pay13_eq (v : FVec Ideal S1536x1024 .f32) : k0_pay13 (F := Ideal) v (absf v) = ccRef v (scRef v) := rfl

theorem pay13_at (v : FVec Ideal S1536x1024 .f32) (r : Fin 1536) (k : Fin 1024) :
    k0_pay13 (F := Ideal) v (absf v) (ix2 r k) = code (v (ix2 r k)) (scale (amax fun k => v (ix2 r k))) := by
  rw [pay13_eq, ccRef_at, scRef_at]

theorem hs_at (r : Fin 1536) : k0_pay12 (F := Ideal) (k0_pay32 a0 a1 a2 a3 a4 a5 a6 a7 a8 a9 a10 a11 a12 a13 a14 a15 a16) (ix2 r 0) = hs (wts a2 a3 a4 a5 a6 a7 a8 a9 a10 a11 a12 a13 a14 a15 a16) (ta a0 r) (tx a1 r) := by
  rw [pay32_eq, pay12_at]
  exact congrArg (fun v => scale (amax v)) (funext fun k => pay31_at a0 a1 a2 a3 a4 a5 a6 a7 a8 a9 a10 a11 a12 a13 a14 a15 a16 r k)

theorem hc_at (r : Fin 1536) (k : Fin 1024) :
    k0_pay13 (F := Ideal) (k0_pay31 a0 a1 a2 a3 a4 a5 a6 a7 a8 a9 a10 a11 a12 a13 a14 a15 a16) (k0_pay32 a0 a1 a2 a3 a4 a5 a6 a7 a8 a9 a10 a11 a12 a13 a14 a15 a16) (ix2 r k) = hc (wts a2 a3 a4 a5 a6 a7 a8 a9 a10 a11 a12 a13 a14 a15 a16) (ta a0 r) (tx a1 r) k := by
  rw [pay32_eq, pay13_at, funext fun k => pay31_at a0 a1 a2 a3 a4 a5 a6 a7 a8 a9 a10 a11 a12 a13 a14 a15 a16 r k, pay31_at]
  rfl

/-- The inner product of 1536 tokens, before the activation. -/
def inRef (q : IVec S1536x1024 8) (s : FVec Ideal S1536x1 .f32) : FVec Ideal S1536x4096 .f32 :=
  addf (mulf (mulf (matmul dot_S1536x1024_S1024x4096_S1536x4096_1_0_0_1_n_n none (sitofp (F := Ideal) .bf16 q) (sitofp .bf16 a5)
      (constant S1536x4096 .f32 0x00000000#32)) (broadcastTo S1536x4096 s broadcasts_S1536x1_S1536x4096))
      (broadcastTo S1536x4096 a6 broadcasts_S1x4096_S1536x4096)) (broadcastTo S1536x4096 a7 broadcasts_S1x4096_S1536x4096)

theorem inRef_at (q : IVec S1536x1024 8) (s : FVec Ideal S1536x1 .f32) (r : Fin 1536) (l : Fin 4096) :
    inRef a5 a6 a7 q s (ix2 r l) = lin (fun k => q (ix2 r k)) (fun k => a5 (ix2 k l)) (s (ix2 r 0)) (a6 (ix2 0 l)) (a7 (ix2 0 l)) := by
  pointwise [inRef]
  rfl

/-- The activation of 1536 tokens. -/
def geRef (y : FVec Ideal S1536x4096 .f32) : FVec Ideal S1536x4096 .f32 :=
  mulf (mulf (broadcast S1536x4096 (Scalar.ofBits .f32 0x3F000000#32)) y)
    (addf (broadcast S1536x4096 (Scalar.ofBits .f32 0x3F800000#32)) (erf (divf y (broadcast S1536x4096 (Scalar.ofBits .f32 0x3FB504F3#32)))))

theorem geRef_at (y : FVec Ideal S1536x4096 .f32) (r : Fin 1536) (l : Fin 4096) : geRef y (ix2 r l) = gelu (y (ix2 r l)) := by
  pointwise [geRef]
  rfl

theorem pay14_eq (v w : FVec Ideal S1536x1024 .f32) :
    k0_pay14 (F := Ideal) v w a5 a6 a7 = geRef (inRef a5 a6 a7 (k0_pay13 v w) (k0_pay12 w)) := rfl

theorem pay14_at (v w : FVec Ideal S1536x1024 .f32) (r : Fin 1536) (l : Fin 4096) :
    k0_pay14 (F := Ideal) v w a5 a6 a7 (ix2 r l) = gelu (lin (fun k => k0_pay13 v w (ix2 r k)) (fun k => a5 (ix2 k l))
      (k0_pay12 w (ix2 r 0)) (a6 (ix2 0 l)) (a7 (ix2 0 l))) := by
  rw [pay14_eq, geRef_at, inRef_at]

theorem pay33_eq : k0_pay33 (F := Ideal) a0 a1 a2 a3 a4 a5 a6 a7 a8 a9 a10 a11 a12 a13 a14 a15 a16 = k0_pay14 (k0_pay31 a0 a1 a2 a3 a4 a5 a6 a7 a8 a9 a10 a11 a12 a13 a14 a15 a16) (k0_pay32 a0 a1 a2 a3 a4 a5 a6 a7 a8 a9 a10 a11 a12 a13 a14 a15 a16) a5 a6 a7 := by
  unfold k0_pay33
  rw [View.ld_unit_zero (S := S1024x4096) hz5 _ a5, View.ld_unit_zero (S := S1x4096) hz6 _ a6,
    View.ld_unit_zero (S := S1x4096) hz6 _ a7]

theorem pay33_at (r : Fin 1536) (l : Fin 4096) :
    k0_pay33 (F := Ideal) a0 a1 a2 a3 a4 a5 a6 a7 a8 a9 a10 a11 a12 a13 a14 a15 a16 (ix2 r l) = f (wts a2 a3 a4 a5 a6 a7 a8 a9 a10 a11 a12 a13 a14 a15 a16) (ta a0 r) (tx a1 r) l := by
  rw [pay33_eq, pay14_at, hs_at, funext fun k => hc_at a0 a1 a2 a3 a4 a5 a6 a7 a8 a9 a10 a11 a12 a13 a14 a15 a16 r k]
  rfl

/-- The largest absolute values of 1536 inner rows. -/
def am4Ref (v : FVec Ideal S1536x4096 .f32) : FVec Ideal S1536x1 .f32 :=
  shapeCast S1536x1 (multiReduction .maximumf [1] S1536 v 0xFF800000#32 reduces_S1536x4096_S1536 (.inl rfl) rfl) shapeCasts_S1536_S1536x1

theorem am4Ref_at (v : FVec Ideal S1536x4096 .f32) (r : Fin 1536) : am4Ref (absf v) (ix2 r 0) = amax fun k => v (ix2 r k) := by
  pointwise [am4Ref]
  rfl

theorem pay34_eq : k0_pay34 (F := Ideal) a0 a1 a2 a3 a4 a5 a6 a7 a8 a9 a10 a11 a12 a13 a14 a15 a16 = am4Ref (absf (k0_pay33 a0 a1 a2 a3 a4 a5 a6 a7 a8 a9 a10 a11 a12 a13 a14 a15 a16)) := rfl

theorem pay34_at (r : Fin 1536) : k0_pay34 (F := Ideal) a0 a1 a2 a3 a4 a5 a6 a7 a8 a9 a10 a11 a12 a13 a14 a15 a16 (ix2 r 0) = amax (f (wts a2 a3 a4 a5 a6 a7 a8 a9 a10 a11 a12 a13 a14 a15 a16) (ta a0 r) (tx a1 r)) := by
  rw [pay34_eq, am4Ref_at]
  exact congrArg amax (funext fun k => pay33_at a0 a1 a2 a3 a4 a5 a6 a7 a8 a9 a10 a11 a12 a13 a14 a15 a16 r k)

theorem pay35_eq : k0_pay35 (F := Ideal) a0 a1 a2 a3 a4 a5 a6 a7 a8 a9 a10 a11 a12 a13 a14 a15 a16 = k0_pay16 := rfl

theorem fs_at (r : Fin 1536) :
    k0_pay17 (F := Ideal) (k0_pay34 a0 a1 a2 a3 a4 a5 a6 a7 a8 a9 a10 a11 a12 a13 a14 a15 a16) (k0_pay35 a0 a1 a2 a3 a4 a5 a6 a7 a8 a9 a10 a11 a12 a13 a14 a15 a16) (ix2 r 0) = fs (wts a2 a3 a4 a5 a6 a7 a8 a9 a10 a11 a12 a13 a14 a15 a16) (ta a0 r) (tx a1 r) := by
  rw [pay35_eq, pay17_at, pay34_at]
  rfl

/-- The codes of 1536 inner rows. -/
def fcRef (v : FVec Ideal S1536x4096 .f32) (s : FVec Ideal S1536x1 .f32) : IVec S1536x4096 8 :=
  fptosi (F := Ideal) 8 (minimumf (broadcast S1536x4096 (Scalar.sitofp .f32 127#32))
    (maximumf (broadcast S1536x4096 (Scalar.sitofp .f32 4294967169#32))
      (roundeven (divf v (broadcastTo S1536x4096 s broadcasts_S1536x1_S1536x4096)))))

theorem fcRef_at (v : FVec Ideal S1536x4096 .f32) (s : FVec Ideal S1536x1 .f32) (r : Fin 1536) (k : Fin 4096) :
    fcRef v s (ix2 r k) = code (v (ix2 r k)) (s (ix2 r 0)) := by
  pointwise [fcRef]
  rfl

theorem pay18_at (u : FVec Ideal S1536x4096 .f32) (v w : FVec Ideal S1536x1 .f32) (r : Fin 1536) (k : Fin 4096) :
    k0_pay18 (F := Ideal) u v w (ix2 r k) = code (u (ix2 r k)) (k0_pay17 v w (ix2 r 0)) :=
  fcRef_at u (k0_pay17 v w) r k

theorem fc_at (r : Fin 1536) (k : Fin 4096) :
    k0_pay18 (F := Ideal) (k0_pay33 a0 a1 a2 a3 a4 a5 a6 a7 a8 a9 a10 a11 a12 a13 a14 a15 a16) (k0_pay34 a0 a1 a2 a3 a4 a5 a6 a7 a8 a9 a10 a11 a12 a13 a14 a15 a16) (k0_pay35 a0 a1 a2 a3 a4 a5 a6 a7 a8 a9 a10 a11 a12 a13 a14 a15 a16) (ix2 r k) = fc (wts a2 a3 a4 a5 a6 a7 a8 a9 a10 a11 a12 a13 a14 a15 a16) (ta a0 r) (tx a1 r) k := by
  rw [pay18_at, fs_at, pay33_at]
  rfl

/-- The value the second hidden normalisation is taken of. -/
def pre2Ref (v81 : FVec Ideal S1536x1024 .f32) (v129 : FVec Ideal S1536x1 .f32) (v139 : IVec S1536x4096 8) :
    FVec Ideal S1536x1024 .f32 :=
  addf (addf (mulf (mulf (matmul dot_S1536x4096_S4096x1024_S1536x1024_1_0_0_1_n_n none (sitofp (F := Ideal) .bf16 v139) (sitofp .bf16 a8)
      (constant S1536x1024 .f32 0x00000000#32)) (broadcastTo S1536x1024 v129 broadcasts_S1536x1_S1536x1024))
      (broadcastTo S1536x1024 a9 broadcasts_S1x1024_S1536x1024)) (broadcastTo S1536x1024 a10 broadcasts_S1x1024_S1536x1024)) v81

theorem pre2Ref_at (v81 : FVec Ideal S1536x1024 .f32) (v129 : FVec Ideal S1536x1 .f32) (v139 : IVec S1536x4096 8) (r : Fin 1536) (l : Fin 1024) :
    pre2Ref a8 a9 a10 v81 v129 v139 (ix2 r l) = lin (fun k => v139 (ix2 r k)) (fun k => a8 (ix2 k l)) (v129 (ix2 r 0)) (a9 (ix2 0 l)) (a10 (ix2 0 l))
      + v81 (ix2 r l) := by
  pointwise [pre2Ref]
  rfl

theorem pay21_eq : k0_pay21 (F := Ideal) a15 a16 (k0_pay36 a0 a1 a2 a3 a4 a5 a6 a7 a8 a9 a10 a11 a12 a13 a14 a15 a16) (k0_pay37 a0 a1 a2 a3 a4 a5 a6 a7 a8 a9 a10 a11 a12 a13 a14 a15 a16)
    = lnRef (pre2Ref a8 a9 a10 (k0_pay31 a0 a1 a2 a3 a4 a5 a6 a7 a8 a9 a10 a11 a12 a13 a14 a15 a16) (k0_pay17 (k0_pay34 a0 a1 a2 a3 a4 a5 a6 a7 a8 a9 a10 a11 a12 a13 a14 a15 a16) (k0_pay35 a0 a1 a2 a3 a4 a5 a6 a7 a8 a9 a10 a11 a12 a13 a14 a15 a16))
        (k0_pay18 (k0_pay33 a0 a1 a2 a3 a4 a5 a6 a7 a8 a9 a10 a11 a12 a13 a14 a15 a16) (k0_pay34 a0 a1 a2 a3 a4 a5 a6 a7 a8 a9 a10 a11 a12 a13 a14 a15 a16) (k0_pay35 a0 a1 a2 a3 a4 a5 a6 a7 a8 a9 a10 a11 a12 a13 a14 a15 a16))) a15 a16 := by
  unfold k0_pay36 k0_pay37
  rw [View.ld_unit_zero (S := S4096x1024) hz8 _ a8, View.ld_unit_zero (S := S1x1024) hz3 _ a9,
    View.ld_unit_zero (S := S1x1024) hz3 _ a10]
  rfl

theorem h2_at (r : Fin 1536) (l : Fin 1024) :
    k0_pay21 (F := Ideal) a15 a16 (k0_pay36 a0 a1 a2 a3 a4 a5 a6 a7 a8 a9 a10 a11 a12 a13 a14 a15 a16) (k0_pay37 a0 a1 a2 a3 a4 a5 a6 a7 a8 a9 a10 a11 a12 a13 a14 a15 a16) (ix2 r l) = h2 (wts a2 a3 a4 a5 a6 a7 a8 a9 a10 a11 a12 a13 a14 a15 a16) (ta a0 r) (tx a1 r) l := by
  rw [pay21_eq, lnRef_at]
  refine congrArg (fun v => Spec.norm v _ _ l) (funext fun k => ?_)
  rw [pre2Ref_at, fs_at, pay31_at, funext fun k => fc_at a0 a1 a2 a3 a4 a5 a6 a7 a8 a9 a10 a11 a12 a13 a14 a15 a16 r k]
  rfl

theorem os_at (r : Fin 1536) :
    k0_pay22 (F := Ideal) a15 a16 (k0_pay36 a0 a1 a2 a3 a4 a5 a6 a7 a8 a9 a10 a11 a12 a13 a14 a15 a16) (k0_pay37 a0 a1 a2 a3 a4 a5 a6 a7 a8 a9 a10 a11 a12 a13 a14 a15 a16) (ix2 r 0) = os (wts a2 a3 a4 a5 a6 a7 a8 a9 a10 a11 a12 a13 a14 a15 a16) (ta a0 r) (tx a1 r) := by
  have e : k0_pay22 (F := Ideal) a15 a16 (k0_pay36 a0 a1 a2 a3 a4 a5 a6 a7 a8 a9 a10 a11 a12 a13 a14 a15 a16) (k0_pay37 a0 a1 a2 a3 a4 a5 a6 a7 a8 a9 a10 a11 a12 a13 a14 a15 a16) = scRef (k0_pay21 a15 a16 (k0_pay36 a0 a1 a2 a3 a4 a5 a6 a7 a8 a9 a10 a11 a12 a13 a14 a15 a16) (k0_pay37 a0 a1 a2 a3 a4 a5 a6 a7 a8 a9 a10 a11 a12 a13 a14 a15 a16)) := rfl
  rw [e, scRef_at, funext fun k => h2_at a0 a1 a2 a3 a4 a5 a6 a7 a8 a9 a10 a11 a12 a13 a14 a15 a16 r k]
  rfl

/-- The last codes, one token per row. -/
def ocRef (v21 : FVec Ideal S1536x1024 .f32) (v22 : FVec Ideal S1536x1 .f32) : IVec S1536x1024 8 :=
  fptosi (F := Ideal) 8 (minimumf (broadcast S1536x1024 (Scalar.sitofp .f32 127#32))
    (maximumf (broadcast S1536x1024 (Scalar.sitofp .f32 4294967169#32))
      (roundeven (divf v21 (broadcastTo S1536x1024 v22 broadcasts_S1536x1_S1536x1024)))))

theorem ocRef_at (u : FVec Ideal S1536x1024 .f32) (v : FVec Ideal S1536x1 .f32) (r : Fin 1536) (l : Fin 1024) :
    ocRef u v (ix2 r l) = code (u (ix2 r l)) (v (ix2 r 0)) := by
  pointwise [ocRef]
  rfl

/-! ## From rows to (sequence, position) -/

/-- Row of token (`b`, `s`). -/
def row (b : Fin 2) (s : Fin 768) : Fin 1536 := ⟨b.val * 768 + s.val, by omega⟩

theorem sc3 {α : Type} {n : Nat} (v : (⟨2, ![1536, n]⟩ : Shape).Idx → α)
    (h : (⟨2, ![1536, n]⟩ : Shape).ShapeCasts ⟨3, ![2, 768, n]⟩) (b : Fin 2) (s : Fin 768) (l : Fin n) :
    shapeCast ⟨3, ![2, 768, n]⟩ v h (ix3 b s l) = v (ix2 (row b s) l) :=
  shapeCast_apply v h _ _ (by
    rw [Shape.rowMajor_val_three, Shape.rowMajor_val_two]
    rfl)

theorem sc3' {α : Type} {n : Nat} (v : (⟨3, ![2, 768, n]⟩ : Shape).Idx → α)
    (h : (⟨3, ![2, 768, n]⟩ : Shape).ShapeCasts ⟨2, ![1536, n]⟩) (b : Fin 2) (s : Fin 768) (l : Fin n) :
    shapeCast ⟨2, ![1536, n]⟩ v h (ix2 (row b s) l) = v (ix3 b s l) :=
  shapeCast_apply v h _ _ (by
    rw [Shape.rowMajor_val_three, Shape.rowMajor_val_two]
    rfl)

theorem sc2 {α : Type} (v : (⟨2, ![1536, 1]⟩ : Shape).Idx → α)
    (h : (⟨2, ![1536, 1]⟩ : Shape).ShapeCasts ⟨2, ![2, 768]⟩) (b : Fin 2) (s : Fin 768) :
    shapeCast ⟨2, ![2, 768]⟩ v h (ix2 b s) = v (ix2 (row b s) 0) :=
  shapeCast_apply v h _ _ (by
    rw [Shape.rowMajor_val_two, Shape.rowMajor_val_two]
    show (b.val * 768 + s.val) * 1 + 0 = b.val * 768 + s.val
    omega)

theorem ta_row (b : Fin 2) (s : Fin 768) : ta a0 (row b s) = fun k => a0 (ix3 b k s) := by
  funext k
  refine (sc3' (n := 1024) (transpose S2x768x1024 [0, 2, 1] a0 transposes_S2x1024x768_p0_2_1_S2x768x1024) _ b s k).trans ?_
  pointwise

theorem tx_row (b : Fin 2) (s : Fin 768) : tx a1 (row b s) = fun k => a1 (ix3 b s k) :=
  funext fun k => sc3' _ _ b s k

/-! ## The nine results -/

theorem cast1024 {α : Type} (v : S1536x1024.Idx → α) (b : Fin 2) (s : Fin 768) (l : Fin 1024) :
    shapeCast S2x768x1024 v shapeCasts_S1536x1024_S2x768x1024 (ix3 b s l) = v (ix2 (row b s) l) := sc3 v _ b s l

theorem cast4096 {α : Type} (v : S1536x4096.Idx → α) (b : Fin 2) (s : Fin 768) (l : Fin 4096) :
    shapeCast S2x768x4096 v shapeCasts_S1536x4096_S2x768x4096 (ix3 b s l) = v (ix2 (row b s) l) := sc3 v _ b s l

theorem cast1 {α : Type} (v : S1536x1.Idx → α) (b : Fin 2) (s : Fin 768) :
    shapeCast S2x768 v shapeCasts_S1536x1_S2x768 (ix2 b s) = v (ix2 (row b s) 0) := sc2 v _ b s

theorem pay1_at (v : IVec S1536x1024 8) (b : Fin 2) (s : Fin 768) (l : Fin 1024) :
    k0_pay1 v (ix3 b s l) = v (ix2 (row b s) l) := cast1024 v b s l

theorem pay2_at (v : FVec Ideal S1536x1 .f32) (b : Fin 2) (s : Fin 768) :
    k0_pay2 v (ix2 b s) = v (ix2 (row b s) 0) := cast1 v b s

theorem pay3_at (v : IVec S1536x4096 8) (b : Fin 2) (s : Fin 768) (l : Fin 4096) :
    k0_pay3 v (ix3 b s l) = v (ix2 (row b s) l) := cast4096 v b s l

theorem pay4_at (v : FVec Ideal S1536x1 .f32) (b : Fin 2) (s : Fin 768) :
    k0_pay4 v (ix2 b s) = v (ix2 (row b s) 0) := cast1 v b s

theorem pay27_at (v : FVec Ideal S1536x1 .f32) (b : Fin 2) (s : Fin 768) :
    k0_pay27 v (ix2 b s) = v (ix2 (row b s) 0) := cast1 v b s

theorem pay23_at (v153 v154 : Vec Ideal S1x1024 .f32) (v160 : FVec Ideal S1536x1024 .f32) (v165 : FVec Ideal S1536x1 .f32) (b : Fin 2) (s : Fin 768) (l : Fin 1024) : k0_pay23 v153 v154 v160 v165 (ix3 b s l)
    = code (k0_pay21 v153 v154 v160 v165 (ix2 (row b s) l)) (k0_pay22 v153 v154 v160 v165 (ix2 (row b s) 0)) :=
  (cast1024 (ocRef (k0_pay21 v153 v154 v160 v165) (k0_pay22 v153 v154 v160 v165)) b s l).trans (ocRef_at _ _ _ l)

theorem pay24_at (v153 v154 : Vec Ideal S1x1024 .f32) (v160 : FVec Ideal S1536x1024 .f32) (v165 : FVec Ideal S1536x1 .f32) (b : Fin 2) (s : Fin 768) :
    k0_pay24 v153 v154 v160 v165 (ix2 b s) = k0_pay22 v153 v154 v160 v165 (ix2 (row b s) 0) :=
  cast1 (k0_pay22 v153 v154 v160 v165) b s

theorem pay25_at (v153 v154 : Vec Ideal S1x1024 .f32) (v160 : FVec Ideal S1536x1024 .f32) (v165 : FVec Ideal S1536x1 .f32) (b : Fin 2) (s : Fin 768) (l : Fin 1024) :
    k0_pay25 v153 v154 v160 v165 (ix3 b s l) = k0_pay21 v153 v154 v160 v165 (ix2 (row b s) l) :=
  cast1024 (k0_pay21 v153 v154 v160 v165) b s l

theorem pay26_at (v : IVec S1536x1024 8) (b : Fin 2) (s : Fin 768) (k : Fin 1024) :
    k0_pay26 v (ix3 b k s) = v (ix2 (row b s) k) := by
  show transpose S2x1024x768 [0, 2, 1] (shapeCast S2x768x1024 v shapeCasts_S1536x1024_S2x768x1024)
    transposes_S2x768x1024_p0_2_1_S2x1024x768 (ix3 b k s) = _
  rw [← cast1024 v b s k]
  generalize shapeCast S2x768x1024 v shapeCasts_S1536x1024_S2x768x1024 = w
  pointwise

theorem G17_at (b : Fin 2) (s : Fin 768) (l : Fin 1024) :
    G17 (F := Ideal) a0 a1 a2 a3 a4 a5 a6 a7 a8 a9 a10 a11 a12 a13 a14 a15 a16 (ix3 b s l) = oc (wts a2 a3 a4 a5 a6 a7 a8 a9 a10 a11 a12 a13 a14 a15 a16) (fun k => a0 (ix3 b k s)) (fun l => a1 (ix3 b s l)) l := by
  rw [← ta_row, ← tx_row]
  unfold G17
  rw [pay23_at, h2_at, os_at]
  rfl

theorem G18_at (b : Fin 2) (s : Fin 768) :
    G18 (F := Ideal) a0 a1 a2 a3 a4 a5 a6 a7 a8 a9 a10 a11 a12 a13 a14 a15 a16 (ix2 b s) = os (wts a2 a3 a4 a5 a6 a7 a8 a9 a10 a11 a12 a13 a14 a15 a16) (fun k => a0 (ix3 b k s)) (fun l => a1 (ix3 b s l)) := by
  rw [← ta_row, ← tx_row]
  unfold G18
  rw [pay24_at, os_at]

theorem G19_at (b : Fin 2) (s : Fin 768) (l : Fin 1024) :
    G19 (F := Ideal) a0 a1 a2 a3 a4 a5 a6 a7 a8 a9 a10 a11 a12 a13 a14 a15 a16 (ix3 b s l) = h2 (wts a2 a3 a4 a5 a6 a7 a8 a9 a10 a11 a12 a13 a14 a15 a16) (fun k => a0 (ix3 b k s)) (fun l => a1 (ix3 b s l)) l := by
  rw [← ta_row, ← tx_row]
  unfold G19
  rw [pay25_at, h2_at]

theorem G20_at (b : Fin 2) (s : Fin 768) (k : Fin 1024) :
    G20 (F := Ideal) a0 a1 a2 a3 a4 a5 a6 a7 a8 a9 a10 a11 a12 a13 a14 a15 a16 (ix3 b k s) = cc (fun k => a0 (ix3 b k s)) k := by
  rw [← ta_row]
  unfold G20 k0_pay30
  rw [View.ld_unit_zero (S := S2x1024x768) hz0 _ a0, pay26_at, pay9_at]

theorem G21_at (b : Fin 2) (s : Fin 768) :
    G21 (F := Ideal) a0 a1 a2 a3 a4 a5 a6 a7 a8 a9 a10 a11 a12 a13 a14 a15 a16 (ix2 b s) = cs (fun k => a0 (ix3 b k s)) := by
  rw [← ta_row]
  unfold G21 k0_pay29
  rw [View.ld_unit_zero (S := S2x1024x768) hz0 _ a0, pay27_at, pay7_at]

theorem G22_at (b : Fin 2) (s : Fin 768) (l : Fin 1024) :
    G22 (F := Ideal) a0 a1 a2 a3 a4 a5 a6 a7 a8 a9 a10 a11 a12 a13 a14 a15 a16 (ix3 b s l) = hc (wts a2 a3 a4 a5 a6 a7 a8 a9 a10 a11 a12 a13 a14 a15 a16) (fun k => a0 (ix3 b k s)) (fun l => a1 (ix3 b s l)) l := by
  rw [← ta_row, ← tx_row]
  unfold G22
  rw [pay1_at, hc_at]

theorem G23_at (b : Fin 2) (s : Fin 768) :
    G23 (F := Ideal) a0 a1 a2 a3 a4 a5 a6 a7 a8 a9 a10 a11 a12 a13 a14 a15 a16 (ix2 b s) = hs (wts a2 a3 a4 a5 a6 a7 a8 a9 a10 a11 a12 a13 a14 a15 a16) (fun k => a0 (ix3 b k s)) (fun l => a1 (ix3 b s l)) := by
  rw [← ta_row, ← tx_row]
  unfold G23
  rw [pay2_at, hs_at]

theorem G24_at (b : Fin 2) (s : Fin 768) (l : Fin 4096) :
    G24 (F := Ideal) a0 a1 a2 a3 a4 a5 a6 a7 a8 a9 a10 a11 a12 a13 a14 a15 a16 (ix3 b s l) = fc (wts a2 a3 a4 a5 a6 a7 a8 a9 a10 a11 a12 a13 a14 a15 a16) (fun k => a0 (ix3 b k s)) (fun l => a1 (ix3 b s l)) l := by
  rw [← ta_row, ← tx_row]
  unfold G24
  rw [pay3_at, fc_at]

theorem G25_at (b : Fin 2) (s : Fin 768) :
    G25 (F := Ideal) a0 a1 a2 a3 a4 a5 a6 a7 a8 a9 a10 a11 a12 a13 a14 a15 a16 (ix2 b s) = fs (wts a2 a3 a4 a5 a6 a7 a8 a9 a10 a11 a12 a13 a14 a15 a16) (fun k => a0 (ix3 b k s)) (fun l => a1 (ix3 b s l)) := by
  rw [← ta_row, ← tx_row]
  unfold G25
  rw [pay4_at, fs_at]

end Cert.ReferenceIdeal.Res

end
-- ==== Proof.Ideal.Blocks.lean ====
module

public import proofs.«01_k».proof.Proof.Ideal.PointC
public import proofs.«01_k».proof.Proof.Ideal.Run
public import proofs.«01_k».proof.Proof.RefValue
public import Idealize.ShloMosaic.Lib.Pipeline.ValueKit

/-!
# The windows' contents at a point, as functions of the arguments

A grid point's blocks read off the argument arrays, and what the point leaves in each result window read at an index
as the specification's function of the token the index belongs to.
-/

@[expose] public section

set_option maxRecDepth 16384

noncomputable section

namespace Cert.KernelIdeal.Val

open Cert.KernelIdeal Cert.KernelIdeal.Gen Cert.KernelIdeal.Body Cert.KernelIdeal.Vec Idealize.ShloMosaic Idealize.ShloMosaic.TcCoe
open Idealize.ShloMosaic.Pipeline (Dat RDat Cfg Window)

variable (m : (ℓ : Loc nD τ sig) → Buf (Elt Ideal) ℓ)

/-- What point `t` finds. -/
def env (c : Dev nD) (t : Fin cfg0.N) : Env where
  c := c
  M1 := ms_0 t
  f1 := (hs_0 t).unread (iblk m c 0 t)
  X1 := iblk m c 0 t
  h1 := (hs_0 t).read_unread _
  M2 := ms_1 t
  f2 := (hs_1 t).unread (iblk m c 1 t)
  X2 := iblk m c 1 t
  h2 := (hs_1 t).read_unread _
  M4 := ms_3 t
  f4 := (hs_3 t).unread (iblk m c 3 t)
  X4 := iblk m c 3 t
  h4 := (hs_3 t).read_unread _
  M5 := ms_4 t
  f5 := (hs_4 t).unread (iblk m c 4 t)
  X5 := iblk m c 4 t
  h5 := (hs_4 t).read_unread _
  M7 := ms_6 t
  f7 := (hs_6 t).unread (iblk m c 6 t)
  X7 := iblk m c 6 t
  h7 := (hs_6 t).read_unread _
  M8 := ms_7 t
  f8 := (hs_7 t).unread (iblk m c 7 t)
  X8 := iblk m c 7 t
  h8 := (hs_7 t).read_unread _
  M10 := ms_9 t
  f10 := (hs_9 t).unread (iblk m c 9 t)
  X10 := iblk m c 9 t
  h10 := (hs_9 t).read_unread _
  M11 := ms_10 t
  f11 := (hs_10 t).unread (iblk m c 10 t)
  X11 := iblk m c 10 t
  h11 := (hs_10 t).read_unread _
  M12 := ms_11 t
  f12 := (hs_11 t).unread (iblk m c 11 t)
  X12 := iblk m c 11 t
  h12 := (hs_11 t).read_unread _
  M13 := ms_12 t
  f13 := (hs_12 t).unread (iblk m c 12 t)
  X13 := iblk m c 12 t
  h13 := (hs_12 t).read_unread _
  M14 := ms_13 t
  f14 := (hs_13 t).unread (iblk m c 13 t)
  X14 := iblk m c 13 t
  h14 := (hs_13 t).read_unread _
  M15 := ms_14 t
  f15 := (hs_14 t).unread (iblk m c 14 t)
  X15 := iblk m c 14 t
  h15 := (hs_14 t).read_unread _
  M16 := ms_15 t
  f16 := (hs_15 t).unread (iblk m c 15 t)
  X16 := iblk m c 15 t
  h16 := (hs_15 t).read_unread _
  M17 := ms_16 t
  f17 := (hs_16 t).unread (iblk m c 16 t)
  X17 := iblk m c 16 t
  h17 := (hs_16 t).read_unread _
  M27 := Memref.whole cc0_scratch0
  f27 := (Memref.isWhole_whole cc0_scratch0).unread (W27 m c)
  X27 := iblk m c 2 t0_0
  h27 := (Memref.isWhole_whole cc0_scratch0).read_unread _
  M28 := Memref.whole cc0_scratch1
  f28 := (Memref.isWhole_whole cc0_scratch1).unread (W28 m c)
  X28 := iblk m c 5 t0_0
  h28 := (Memref.isWhole_whole cc0_scratch1).read_unread _
  M29 := Memref.whole cc0_scratch2
  f29 := (Memref.isWhole_whole cc0_scratch2).unread (W29 m c)
  X29 := iblk m c 8 t0_0
  h29 := (Memref.isWhole_whole cc0_scratch2).read_unread _
  M30 := Memref.whole cc0_scratch3
  M31 := Memref.whole cc0_scratch4
  M32 := Memref.whole cc0_scratch5
  M33 := Memref.whole cc0_scratch6
  M34 := Memref.whole cc0_scratch7

/-! ## The blocks -/

/-- The batch of point `t`'s tokens. -/
def tb (t : Fin cfg0.N) : Fin 2 := ⟨t.val / 3, by have : t.val < 6 := t.isLt; omega⟩

/-- The position of row `p` of point `t`'s tokens. -/
def ts (t : Fin cfg0.N) (p : Fin 256) : Fin 768 := ⟨256 * (t.val % 3) + p.val, by omega⟩

theorem index_0 : ∀ t : Fin cfg0.N, win0_0.index t = ![t.val / 3, 0, t.val % 3] := (by decide +kernel : ∀ t : Fin grid0.N, _)
theorem index_1 : ∀ t : Fin cfg0.N, win0_1.index t = ![t.val / 3, t.val % 3, 0] := (by decide +kernel : ∀ t : Fin grid0.N, _)

theorem iblk_0 (c : Dev nD) (t : Fin cfg0.N) (k : Fin 1024) (p : Fin 256) :
    (iblk m c 0 t : Vec Ideal S1x1024x256 .f32) (ix3 0 k p) = (m ((c : Thread nD τ).loc main_arg0) : Vec Ideal S2x1024x768 .f32) (ix3 (tb t) k (ts t p)) := by
  have h := index_0 t
  blk_ext! [iblk, V, h, tb, ts]

theorem iblk_1 (c : Dev nD) (t : Fin cfg0.N) (p : Fin 256) (l : Fin 1024) :
    (iblk m c 1 t : Vec Ideal S1x256x1024 .bf16) (ix3 0 p l) = (m ((c : Thread nD τ).loc main_arg1) : Vec Ideal S2x768x1024 .bf16) (ix3 (tb t) (ts t p) l) := by
  have h := index_1 t
  blk_ext! [iblk, V, h, tb, ts]

theorem iblk_2 (c : Dev nD) (t : Fin cfg0.N) : iblk m c 2 t = m ((c : Thread nD τ).loc main_arg2) := by
  have h : win0_2.index t = ![0, 0] := (by decide +kernel : ∀ t : Fin grid0.N, win0_2.index t = ![0, 0]) t
  blk_ext! [iblk, V, h]

theorem iblk_3 (c : Dev nD) (t : Fin cfg0.N) : iblk m c 3 t = m ((c : Thread nD τ).loc main_arg3) := by
  have h : win0_3.index t = ![0, 0] := (by decide +kernel : ∀ t : Fin grid0.N, win0_3.index t = ![0, 0]) t
  blk_ext! [iblk, V, h]

theorem iblk_4 (c : Dev nD) (t : Fin cfg0.N) : iblk m c 4 t = m ((c : Thread nD τ).loc main_arg4) := by
  have h : win0_4.index t = ![0, 0] := (by decide +kernel : ∀ t : Fin grid0.N, win0_4.index t = ![0, 0]) t
  blk_ext! [iblk, V, h]

theorem iblk_5 (c : Dev nD) (t : Fin cfg0.N) : iblk m c 5 t = m ((c : Thread nD τ).loc main_arg5) := by
  have h : win0_5.index t = ![0, 0] := (by decide +kernel : ∀ t : Fin grid0.N, win0_5.index t = ![0, 0]) t
  blk_ext! [iblk, V, h]

theorem iblk_6 (c : Dev nD) (t : Fin cfg0.N) : iblk m c 6 t = m ((c : Thread nD τ).loc main_arg6) := by
  have h : win0_6.index t = ![0, 0] := (by decide +kernel : ∀ t : Fin grid0.N, win0_6.index t = ![0, 0]) t
  blk_ext! [iblk, V, h]

theorem iblk_7 (c : Dev nD) (t : Fin cfg0.N) : iblk m c 7 t = m ((c : Thread nD τ).loc main_arg7) := by
  have h : win0_7.index t = ![0, 0] := (by decide +kernel : ∀ t : Fin grid0.N, win0_7.index t = ![0, 0]) t
  blk_ext! [iblk, V, h]

theorem iblk_8 (c : Dev nD) (t : Fin cfg0.N) : iblk m c 8 t = m ((c : Thread nD τ).loc main_arg8) := by
  have h : win0_8.index t = ![0, 0] := (by decide +kernel : ∀ t : Fin grid0.N, win0_8.index t = ![0, 0]) t
  blk_ext! [iblk, V, h]

theorem iblk_9 (c : Dev nD) (t : Fin cfg0.N) : iblk m c 9 t = m ((c : Thread nD τ).loc main_arg9) := by
  have h : win0_9.index t = ![0, 0] := (by decide +kernel : ∀ t : Fin grid0.N, win0_9.index t = ![0, 0]) t
  blk_ext! [iblk, V, h]

theorem iblk_10 (c : Dev nD) (t : Fin cfg0.N) : iblk m c 10 t = m ((c : Thread nD τ).loc main_arg10) := by
  have h : win0_10.index t = ![0, 0] := (by decide +kernel : ∀ t : Fin grid0.N, win0_10.index t = ![0, 0]) t
  blk_ext! [iblk, V, h]

theorem iblk_11 (c : Dev nD) (t : Fin cfg0.N) : iblk m c 11 t = m ((c : Thread nD τ).loc main_arg11) := by
  have h : win0_11.index t = ![0, 0] := (by decide +kernel : ∀ t : Fin grid0.N, win0_11.index t = ![0, 0]) t
  blk_ext! [iblk, V, h]

theorem iblk_12 (c : Dev nD) (t : Fin cfg0.N) : iblk m c 12 t = m ((c : Thread nD τ).loc main_arg12) := by
  have h : win0_12.index t = ![0, 0] := (by decide +kernel : ∀ t : Fin grid0.N, win0_12.index t = ![0, 0]) t
  blk_ext! [iblk, V, h]

theorem iblk_13 (c : Dev nD) (t : Fin cfg0.N) : iblk m c 13 t = m ((c : Thread nD τ).loc main_arg13) := by
  have h : win0_13.index t = ![0, 0] := (by decide +kernel : ∀ t : Fin grid0.N, win0_13.index t = ![0, 0]) t
  blk_ext! [iblk, V, h]

theorem iblk_14 (c : Dev nD) (t : Fin cfg0.N) : iblk m c 14 t = m ((c : Thread nD τ).loc main_arg14) := by
  have h : win0_14.index t = ![0, 0] := (by decide +kernel : ∀ t : Fin grid0.N, win0_14.index t = ![0, 0]) t
  blk_ext! [iblk, V, h]

theorem iblk_15 (c : Dev nD) (t : Fin cfg0.N) : iblk m c 15 t = m ((c : Thread nD τ).loc main_arg15) := by
  have h : win0_15.index t = ![0, 0] := (by decide +kernel : ∀ t : Fin grid0.N, win0_15.index t = ![0, 0]) t
  blk_ext! [iblk, V, h]

theorem iblk_16 (c : Dev nD) (t : Fin cfg0.N) : iblk m c 16 t = m ((c : Thread nD τ).loc main_arg16) := by
  have h : win0_16.index t = ![0, 0] := (by decide +kernel : ∀ t : Fin grid0.N, win0_16.index t = ![0, 0]) t
  blk_ext! [iblk, V, h]

end Cert.KernelIdeal.Val

end
-- ==== Proof.Ideal.Left.lean ====
module

public import proofs.«01_k».proof.Proof.Ideal.Blocks

/-!
# What a point leaves in the result windows
-/

@[expose] public section

set_option maxRecDepth 16384

noncomputable section

namespace Cert.KernelIdeal.Val

open Cert.KernelIdeal Cert.KernelIdeal.Gen Cert.KernelIdeal.Body Cert.KernelIdeal.Vec Idealize.ShloMosaic Idealize.ShloMosaic.TcCoe
open Idealize.ShloMosaic.Pipeline (Dat RDat Cfg Window)

variable (m : (ℓ : Loc nD τ sig) → Buf (Elt Ideal) ℓ)

/-- The weights the argument arrays hold. -/
def mW (c : Dev nD) : Spec.Wts := Cert.ReferenceIdeal.Res.wts (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- A token's attention output in the argument arrays. -/
def mA (c : Dev nD) (b : Fin 2) (s : Fin 768) : Spec.Row 1024 := fun k => (m ((c : Thread nD τ).loc main_arg0) : Vec Ideal S2x1024x768 .f32) (ix3 b k s)

/-- A token's residual row in the argument arrays. -/
def mR (c : Dev nD) (b : Fin 2) (s : Fin 768) : Spec.Row 1024 := fun l => (m ((c : Thread nD τ).loc main_arg1) : Vec Ideal S2x768x1024 .bf16) (ix3 b s l)

theorem env_W (c : Dev nD) (t : Fin cfg0.N) : (env m c t).W = mW m c := by
  unfold Env.W mW Cert.ReferenceIdeal.Res.wts env
  dsimp only
  rw [iblk_2 m c, iblk_3 m c, iblk_4 m c, iblk_5 m c, iblk_6 m c, iblk_7 m c, iblk_8 m c, iblk_9 m c, iblk_10 m c, iblk_11 m c, iblk_12 m c, iblk_13 m c, iblk_14 m c, iblk_15 m c, iblk_16 m c]

theorem env_A (c : Dev nD) (t : Fin cfg0.N) (p : Fin 256) : (env m c t).A p = mA m c (tb t) (ts t p) :=
  funext fun k => iblk_0 m c t k p

theorem env_R (c : Dev nD) (t : Fin cfg0.N) (p : Fin 256) : (env m c t).R p = mR m c (tb t) (ts t p) :=
  funext fun l => iblk_1 m c t p l

/-! ## The windows one point fills -/

theorem left_17 (c : Dev nD) (t : Fin cfg0.N) (p : Fin 256) (l : Fin 1024) :
    (ms_17 t).view.read (Elt Ideal) (resAt m c t).1 (ix3 0 p l) = Spec.oc (mW m c) (mA m c (tb t) (ts t p)) (mR m c (tb t) (ts t p)) l := by
  unfold resAt runRest
  dsimp only
  rw [View.read_writes_junk_eq_canon]
  refine ((env m c t).oc_canon p l).trans ?_
  rw [env_W, env_A, env_R]

theorem left_19 (c : Dev nD) (t : Fin cfg0.N) (p : Fin 256) (l : Fin 1024) :
    (ms_19 t).view.read (Elt Ideal) (resAt m c t).2.1 (ix3 0 p l) = Spec.h2 (mW m c) (mA m c (tb t) (ts t p)) (mR m c (tb t) (ts t p)) l := by
  unfold resAt runRest
  dsimp only
  rw [View.read_writes_junk_eq_canon]
  refine ((env m c t).h2_canon p l).trans ?_
  rw [env_W, env_A, env_R]

theorem left_20 (c : Dev nD) (t : Fin cfg0.N) (k : Fin 1024) (p : Fin 256) :
    (ms_20 t).view.read (Elt Ideal) (resAt m c t).2.2.1 (ix3 0 k p) = Spec.cc (mA m c (tb t) (ts t p)) k := by
  unfold resAt runRest
  dsimp only
  rw [View.read_writes_junk_eq_canon]
  refine ((env m c t).cc_canon k p).trans ?_
  rw [env_A]

theorem left_22 (c : Dev nD) (t : Fin cfg0.N) (p : Fin 256) (l : Fin 1024) :
    (ms_22 t).view.read (Elt Ideal) (resAt m c t).2.2.2.1 (ix3 0 p l) = Spec.hc (mW m c) (mA m c (tb t) (ts t p)) (mR m c (tb t) (ts t p)) l := by
  unfold resAt runRest
  dsimp only
  rw [View.read_writes_junk_eq_canon]
  refine ((env m c t).hc_canon p l).trans ?_
  rw [env_W, env_A, env_R]

theorem left_24 (c : Dev nD) (t : Fin cfg0.N) (p : Fin 256) (l : Fin 4096) :
    (ms_24 t).view.read (Elt Ideal) (resAt m c t).2.2.2.2.1 (ix3 0 p l) = Spec.fc (mW m c) (mA m c (tb t) (ts t p)) (mR m c (tb t) (ts t p)) l := by
  unfold resAt runRest
  dsimp only
  rw [View.read_writes_junk_eq_canon]
  refine ((env m c t).fc_canon p l).trans ?_
  rw [env_W, env_A, env_R]

/-! ## The windows filled row by row -/

/-- The entries of a `2` by `768` array before flat position `n` are right. -/
def Done {α : Type} (G : Fin 2 → Fin 768 → α) (n : Nat) (X : S2x768.Idx → α) : Prop :=
  ∀ (b : Fin 2) (s : Fin 768), 768 * b.val + s.val < n → X (ix2 b s) = G b s

/-- Storing a row of right entries at the flat position reached extends what is right by the row. -/
theorem Done.row {c : Dev nD} {M : Memref sig .tc .vmem S2x768 .f32} {f : Bf (F := Ideal) c M} {G : Fin 2 → Fin 768 → Elt Ideal .f32}
    {n N k o0 o1 : Nat} {off : Fin 2 → Nat} {inb} {w : (⟨2, ![1, n]⟩ : Shape).Idx → Elt Ideal .f32}
    (hf : Done G N (M.view.read (Elt Ideal) f)) (ho : off = ![o0, o1]) (hN : N = 768 * o0 + o1) (hn : o1 + n ≤ 768) (hk : k = N + n)
    (hw : ∀ (p : Fin n) (b : Fin 2) (s : Fin 768), b.val = o0 → s.val = o1 + p.val → w (ix2 0 p) = G b s) :
    Done G k (M.view.read (Elt Ideal) (M.view.writes (Elt Ideal) f [⟨Rect.unit off ![1, n] inb, w⟩])) := by
  subst hN hk ho
  intro b s h
  by_cases hb : 768 * b.val + s.val < 768 * o0 + o1
  · refine (View.read_writes_cons_unit_of_not_mem M.view f inb w [] (ix2 b s) rfl ?_ ?_).trans (hf b s hb)
    · exact if b.val < o0 then 0 else 1
    · by_cases hb' : b.val < o0
      · rw [if_pos hb']; exact Or.inl hb'
      · rw [if_neg hb']; exact Or.inl (show s.val < o1 by omega)
  · have hb0 : b.val = o0 := by omega
    have hs : s.val < o1 + n := by omega
    refine (View.read_writes_cons_unit_of_mem M.view f inb w [] (ix2 b s) (ix2 0 ⟨s.val - o1, by omega⟩) rfl ?_).trans
      (hw ⟨s.val - o1, by omega⟩ b s hb0 (by show s.val = o1 + (s.val - o1); omega))
    intro a
    match a with
    | ⟨0, _⟩ => exact hb0
    | ⟨1, _⟩ => show s.val = o1 + (s.val - o1); omega

theorem first : ∀ t : Fin cfg0.N, t.val < 3 → k0_cond14 (grid0.coords t) = 1#1 ∧ ¬ k0_cond15 (grid0.coords t) = 1#1 := (by decide +kernel : ∀ t : Fin grid0.N, _)
theorem second : ∀ t : Fin cfg0.N, ¬ t.val < 3 → ¬ k0_cond14 (grid0.coords t) = 1#1 ∧ k0_cond15 (grid0.coords t) = 1#1 := (by decide +kernel : ∀ t : Fin grid0.N, _)
theorem off_4 : ∀ t : Fin cfg0.N, t.val < 3 → k0_off4 (grid0.coords t) = ![0, 256 * t.val + 0] := (by decide +kernel : ∀ t : Fin grid0.N, _)
theorem off_5 : ∀ t : Fin cfg0.N, ¬ t.val < 3 → k0_off5 (grid0.coords t) = ![1, 256 * (t.val - 3) + 0] := (by decide +kernel : ∀ t : Fin grid0.N, _)
theorem off_6 : ∀ t : Fin cfg0.N, t.val < 3 → k0_off6 (grid0.coords t) = ![0, 256 * t.val + 0] := (by decide +kernel : ∀ t : Fin grid0.N, _)
theorem off_7 : ∀ t : Fin cfg0.N, ¬ t.val < 3 → k0_off7 (grid0.coords t) = ![1, 256 * (t.val - 3) + 0] := (by decide +kernel : ∀ t : Fin grid0.N, _)
theorem off_12 : ∀ t : Fin cfg0.N, t.val < 3 → k0_off12 (grid0.coords t) = ![0, 256 * t.val + 128] := (by decide +kernel : ∀ t : Fin grid0.N, _)
theorem off_13 : ∀ t : Fin cfg0.N, ¬ t.val < 3 → k0_off13 (grid0.coords t) = ![1, 256 * (t.val - 3) + 128] := (by decide +kernel : ∀ t : Fin grid0.N, _)
theorem off_8 : ∀ t : Fin cfg0.N, t.val < 3 → k0_off8 (grid0.coords t) = ![0, 256 * t.val + 0] := (by decide +kernel : ∀ t : Fin grid0.N, _)
theorem off_9 : ∀ t : Fin cfg0.N, ¬ t.val < 3 → k0_off9 (grid0.coords t) = ![1, 256 * (t.val - 3) + 0] := (by decide +kernel : ∀ t : Fin grid0.N, _)
theorem off_14 : ∀ t : Fin cfg0.N, t.val < 3 → k0_off14 (grid0.coords t) = ![0, 256 * t.val + 128] := (by decide +kernel : ∀ t : Fin grid0.N, _)
theorem off_15 : ∀ t : Fin cfg0.N, ¬ t.val < 3 → k0_off15 (grid0.coords t) = ![1, 256 * (t.val - 3) + 128] := (by decide +kernel : ∀ t : Fin grid0.N, _)
theorem off_10 : ∀ t : Fin cfg0.N, t.val < 3 → k0_off10 (grid0.coords t) = ![0, 256 * t.val + 0] := (by decide +kernel : ∀ t : Fin grid0.N, _)
theorem off_11 : ∀ t : Fin cfg0.N, ¬ t.val < 3 → k0_off11 (grid0.coords t) = ![1, 256 * (t.val - 3) + 0] := (by decide +kernel : ∀ t : Fin grid0.N, _)
theorem off_16 : ∀ t : Fin cfg0.N, t.val < 3 → k0_off16 (grid0.coords t) = ![0, 256 * t.val + 128] := (by decide +kernel : ∀ t : Fin grid0.N, _)
theorem off_17 : ∀ t : Fin cfg0.N, ¬ t.val < 3 → k0_off17 (grid0.coords t) = ![1, 256 * (t.val - 3) + 128] := (by decide +kernel : ∀ t : Fin grid0.N, _)

/-- Point `t` extends what is right in window 18 by its tokens. -/
theorem left_18 (c : Dev nD) (t : Fin cfg0.N) (f) (hf : Done (fun b s => Spec.os (mW m c) (mA m c b s) (mR m c b s)) (256 * t.val) ((ms_18 t).view.read (Elt Ideal) f)) :
    Done (fun b s => Spec.os (mW m c) (mA m c b s) (mR m c b s)) (256 * (t.val + 1)) ((ms_18 t).view.read (Elt Ideal) ((resAt m c t).2.2.2.2.2.1 f)) := by
  have lt : t.val < 6 := t.isLt
  have w0 : ∀ (p : Fin 128) (b : Fin 2) (s : Fin 768), b.val = t.val / 3 → s.val = 256 * (t.val % 3) + p.val →
      (env m c t).r_20 (ix2 0 p) = Spec.os (mW m c) (mA m c b s) (mR m c b s) := fun p b s hb hs => by
    refine ((env m c t).r_20_at p).trans ?_
    obtain rfl : tb t = b := Fin.ext hb.symm
    obtain rfl : ts t (Env.tok 0 (by decide) p) = s := Fin.ext (by show 256 * (t.val % 3) + (0 + p.val) = s.val; omega)
    rw [env_W, env_A, env_R]
  have w1 : ∀ (p : Fin 128) (b : Fin 2) (s : Fin 768), b.val = t.val / 3 → s.val = 256 * (t.val % 3) + 128 + p.val →
      (env m c t).v1433 (ix2 0 p) = Spec.os (mW m c) (mA m c b s) (mR m c b s) := fun p b s hb hs => by
    refine ((env m c t).v1433_at p).trans ?_
    obtain rfl : tb t = b := Fin.ext hb.symm
    obtain rfl : ts t (Env.tok 128 (by decide) p) = s := Fin.ext (by show 256 * (t.val % 3) + (128 + p.val) = s.val; omega)
    rw [env_W, env_A, env_R]
  unfold resAt runRest
  dsimp only
  by_cases h3 : t.val < 3
  · rw [dif_neg (first t h3).2, dif_pos (first t h3).1]
    exact Done.row (c := c) (Done.row (c := c) hf (off_10 t h3) (by omega) (by omega) rfl fun p b s hb hs => w0 p b s (by omega) (by omega))
      (off_16 t h3) (by omega) (by omega) (by omega) fun p b s hb hs => w1 p b s (by omega) (by omega)
  · rw [dif_pos (second t h3).2, dif_neg (second t h3).1]
    exact Done.row (c := c) (Done.row (c := c) hf (off_11 t h3) (by omega) (by omega) rfl fun p b s hb hs => w0 p b s (by omega) (by omega))
      (off_17 t h3) (by omega) (by omega) (by omega) fun p b s hb hs => w1 p b s (by omega) (by omega)

/-- Point `t` extends what is right in window 23 by its tokens. -/
theorem left_23 (c : Dev nD) (t : Fin cfg0.N) (f) (hf : Done (fun b s => Spec.hs (mW m c) (mA m c b s) (mR m c b s)) (256 * t.val) ((ms_23 t).view.read (Elt Ideal) f)) :
    Done (fun b s => Spec.hs (mW m c) (mA m c b s) (mR m c b s)) (256 * (t.val + 1)) ((ms_23 t).view.read (Elt Ideal) ((resAt m c t).2.2.2.2.2.2.2.1 f)) := by
  have lt : t.val < 6 := t.isLt
  have w0 : ∀ (p : Fin 128) (b : Fin 2) (s : Fin 768), b.val = t.val / 3 → s.val = 256 * (t.val % 3) + p.val →
      (env m c t).v172 (ix2 0 p) = Spec.hs (mW m c) (mA m c b s) (mR m c b s) := fun p b s hb hs => by
    refine ((env m c t).v172_at p).trans ?_
    obtain rfl : tb t = b := Fin.ext hb.symm
    obtain rfl : ts t (Env.tok 0 (by decide) p) = s := Fin.ext (by show 256 * (t.val % 3) + (0 + p.val) = s.val; omega)
    rw [env_W, env_A, env_R]
  have w1 : ∀ (p : Fin 128) (b : Fin 2) (s : Fin 768), b.val = t.val / 3 → s.val = 256 * (t.val % 3) + 128 + p.val →
      (env m c t).r_24 (ix2 0 p) = Spec.hs (mW m c) (mA m c b s) (mR m c b s) := fun p b s hb hs => by
    refine ((env m c t).r_24_at p).trans ?_
    obtain rfl : tb t = b := Fin.ext hb.symm
    obtain rfl : ts t (Env.tok 128 (by decide) p) = s := Fin.ext (by show 256 * (t.val % 3) + (128 + p.val) = s.val; omega)
    rw [env_W, env_A, env_R]
  unfold resAt runRest
  dsimp only
  by_cases h3 : t.val < 3
  · rw [dif_neg (first t h3).2, dif_pos (first t h3).1]
    exact Done.row (c := c) (Done.row (c := c) hf (off_6 t h3) (by omega) (by omega) rfl fun p b s hb hs => w0 p b s (by omega) (by omega))
      (off_12 t h3) (by omega) (by omega) (by omega) fun p b s hb hs => w1 p b s (by omega) (by omega)
  · rw [dif_pos (second t h3).2, dif_neg (second t h3).1]
    exact Done.row (c := c) (Done.row (c := c) hf (off_7 t h3) (by omega) (by omega) rfl fun p b s hb hs => w0 p b s (by omega) (by omega))
      (off_13 t h3) (by omega) (by omega) (by omega) fun p b s hb hs => w1 p b s (by omega) (by omega)

/-- Point `t` extends what is right in window 25 by its tokens. -/
theorem left_25 (c : Dev nD) (t : Fin cfg0.N) (f) (hf : Done (fun b s => Spec.fs (mW m c) (mA m c b s) (mR m c b s)) (256 * t.val) ((ms_25 t).view.read (Elt Ideal) f)) :
    Done (fun b s => Spec.fs (mW m c) (mA m c b s) (mR m c b s)) (256 * (t.val + 1)) ((ms_25 t).view.read (Elt Ideal) ((resAt m c t).2.2.2.2.2.2.2.2 f)) := by
  have lt : t.val < 6 := t.isLt
  have w0 : ∀ (p : Fin 128) (b : Fin 2) (s : Fin 768), b.val = t.val / 3 → s.val = 256 * (t.val % 3) + p.val →
      (env m c t).r_19 (ix2 0 p) = Spec.fs (mW m c) (mA m c b s) (mR m c b s) := fun p b s hb hs => by
    refine ((env m c t).r_19_at p).trans ?_
    obtain rfl : tb t = b := Fin.ext hb.symm
    obtain rfl : ts t (Env.tok 0 (by decide) p) = s := Fin.ext (by show 256 * (t.val % 3) + (0 + p.val) = s.val; omega)
    rw [env_W, env_A, env_R]
  have w1 : ∀ (p : Fin 128) (b : Fin 2) (s : Fin 768), b.val = t.val / 3 → s.val = 256 * (t.val % 3) + 128 + p.val →
      (env m c t).r_42 (ix2 0 p) = Spec.fs (mW m c) (mA m c b s) (mR m c b s) := fun p b s hb hs => by
    refine ((env m c t).r_42_at p).trans ?_
    obtain rfl : tb t = b := Fin.ext hb.symm
    obtain rfl : ts t (Env.tok 128 (by decide) p) = s := Fin.ext (by show 256 * (t.val % 3) + (128 + p.val) = s.val; omega)
    rw [env_W, env_A, env_R]
  unfold resAt runRest
  dsimp only
  by_cases h3 : t.val < 3
  · rw [dif_neg (first t h3).2, dif_pos (first t h3).1]
    exact Done.row (c := c) (Done.row (c := c) hf (off_8 t h3) (by omega) (by omega) rfl fun p b s hb hs => w0 p b s (by omega) (by omega))
      (off_14 t h3) (by omega) (by omega) (by omega) fun p b s hb hs => w1 p b s (by omega) (by omega)
  · rw [dif_pos (second t h3).2, dif_neg (second t h3).1]
    exact Done.row (c := c) (Done.row (c := c) hf (off_9 t h3) (by omega) (by omega) rfl fun p b s hb hs => w0 p b s (by omega) (by omega))
      (off_15 t h3) (by omega) (by omega) (by omega) fun p b s hb hs => w1 p b s (by omega) (by omega)

/-- Point `t` extends what is right in window 21 by its tokens. -/
theorem left_21 (c : Dev nD) (t : Fin cfg0.N) (f) (hf : Done (fun b s => Spec.cs (mA m c b s)) (256 * t.val) ((ms_21 t).view.read (Elt Ideal) f)) :
    Done (fun b s => Spec.cs (mA m c b s)) (256 * (t.val + 1)) ((ms_21 t).view.read (Elt Ideal) ((resAt m c t).2.2.2.2.2.2.1 f)) := by
  have lt : t.val < 6 := t.isLt
  have w0 : ∀ (inb) (p : Fin 256) (b : Fin 2) (s : Fin 768), b.val = t.val / 3 → s.val = 256 * (t.val % 3) + p.val →
      k0_pay5 (View.readAt (Elt Ideal) (ms_0 t).view (Rect.unit ![0, 0, 0] ![1, 1024, 256] inb).toLoadRect ((hs_0 t).unread (iblk m c 0 t))) (ix2 0 p)
        = Spec.cs (mA m c b s) := fun inb p b s hb hs => by
    refine ((env m c t).csRow_at inb p).trans ?_
    obtain rfl : tb t = b := Fin.ext hb.symm
    obtain rfl : ts t p = s := Fin.ext (by show 256 * (t.val % 3) + p.val = s.val; omega)
    rw [env_A]
  unfold resAt runRest
  dsimp only
  by_cases h3 : t.val < 3
  · rw [dif_neg (first t h3).2, dif_pos (first t h3).1]
    exact Done.row (c := c) hf (off_4 t h3) (by omega) (by omega) (by omega) fun p b s hb hs => w0 _ p b s (by omega) (by omega)
  · rw [dif_pos (second t h3).2, dif_neg (second t h3).1]
    exact Done.row (c := c) hf (off_5 t h3) (by omega) (by omega) (by omega) fun p b s hb hs => w0 _ p b s (by omega) (by omega)

end Cert.KernelIdeal.Val

end
-- ==== Proof.Ideal.Arrays.lean ====
module

public import proofs.«01_k».proof.Proof.Ideal.Left
public import Idealize.ShloMosaic.Lib.Pipeline.ArrRel

/-!
# The result arrays after the run

Each result array of the kernel's run over the extended reals is the reference's array of the same arguments.
-/

@[expose] public section

set_option maxRecDepth 16384

noncomputable section

namespace Cert.KernelIdeal.Val

open Cert.KernelIdeal Cert.KernelIdeal.Gen Cert.KernelIdeal.Body Cert.KernelIdeal.Vec Idealize.ShloMosaic Idealize.ShloMosaic.TcCoe
open Idealize.ShloMosaic.Pipeline (Dat RDat Cfg Window)
open Cert.ReferenceIdeal.Res (G17 G18 G19 G20 G21 G22 G23 G24 G25)

variable (m : (ℓ : Loc nD τ sig) → Buf (Elt Ideal) ℓ)

theorem cov3 {n k : Nat} (y : (⟨3, ![1, n, k]⟩ : Shape).Idx) : ∃ (p : Fin n) (l : Fin k), y = ix3 0 p l :=
  ⟨y 1, y 2, (eq_ix3 y).trans (congrArg (fun a : Fin 1 => ix3 a (y 1) (y 2)) (Subsingleton.elim _ _))⟩

theorem cov2 {n k : Nat} (y : (⟨2, ![n, k]⟩ : Shape).Idx) : ∃ (p : Fin n) (l : Fin k), y = ix2 p l := ⟨y 0, y 1, eq_ix2 y⟩

/-- What every point extends by one step holds, after each point, of whatever the point may leave. -/
theorem leaves_of_step {c : Dev nD} {w : Fin 26} (P : Nat → ((cfg0.win w).block.Idx → Elt Ideal (cfg0.win w).elt) → Prop)
    (hfetch : ∀ t, (cfg0.win w).fetch t = false) (hflush : ∀ t : Fin cfg0.N, t.val < 5 → (cfg0.win w).flush t = false)
    (h0 : ∀ Y, P 0 Y) (hs : ∀ (t : Fin cfg0.N) Y X, P t.val Y → aft m c w t Y X → P (t.val + 1) X) :
    ∀ (n : Nat) (t : Fin cfg0.N) X, t.val = n → (rdat m c).Leaves w t X → P (n + 1) X := by
  intro n
  induction n with
  | zero =>
    rintro t X ht ⟨Y, -, hX⟩
    have := hs t Y X (by rw [ht]; exact h0 Y) hX
    rwa [ht] at this
  | succ n ih =>
    rintro t X ht ⟨Y, hY, hX⟩
    have lt : t.val < 6 := t.isLt
    rw [(rdat m c).finds_of_pos (hfetch t) (by omega)] at hY
    have hY' := hY.resolve_left (by rw [hflush _ (by show t.val - 1 < 5; omega)]; exact Bool.false_ne_true)
    have := hs t Y X (by rw [ht]; exact ih _ Y (by show t.val - 1 = n; omega) hY') hX
    rwa [ht] at this

theorem index_17 : ∀ t : Fin cfg0.N, win0_17.index t = ![t.val / 3, t.val % 3, 0] := (by decide +kernel : ∀ t : Fin grid0.N, _)

theorem final_17 (c : Dev nD) (after : (w : Fin cfg0.W) → Fin cfg0.N → (cfg0.win w).block.Idx → Elt Ideal (cfg0.win w).elt) (hl : ∀ u, (cfg0.win 17).flush u = true → (rdat m c).Leaves 17 u (after 17 u)) :
    ((rdat m c).withAfter after).arrAt 17 cfg0.N = G17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine Dat.arrAt_eq_of_covers _ 17 _ (by decide +kernel) fun t hf y => ?_
  obtain ⟨Y, -, hX⟩ := hl t hf
  obtain ⟨p, l, rfl⟩ := cov3 y
  have he : ((cfg0.win 17).blk t).view.emb (ix3 0 p l) = ix3 (tb t) (ts t p) l := by
    have h := index_17 t
    blk_ext [h, tb, ts]
  rw [he]
  refine (congrFun hX (ix3 0 p l)).trans ((left_17 m c t p l).trans ?_)
  exact (Cert.ReferenceIdeal.Res.G17_at _ _ _ _ _ _ _ _ _ _ _ _ _ _ _ _ _ (tb t) (ts t p) l).symm

theorem index_19 : ∀ t : Fin cfg0.N, win0_19.index t = ![t.val / 3, t.val % 3, 0] := (by decide +kernel : ∀ t : Fin grid0.N, _)

theorem final_19 (c : Dev nD) (after : (w : Fin cfg0.W) → Fin cfg0.N → (cfg0.win w).block.Idx → Elt Ideal (cfg0.win w).elt) (hl : ∀ u, (cfg0.win 19).flush u = true → (rdat m c).Leaves 19 u (after 19 u)) :
    ((rdat m c).withAfter after).arrAt 19 cfg0.N = G19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine Dat.arrAt_eq_of_covers _ 19 _ (by decide +kernel) fun t hf y => ?_
  obtain ⟨Y, -, hX⟩ := hl t hf
  obtain ⟨p, l, rfl⟩ := cov3 y
  have he : ((cfg0.win 19).blk t).view.emb (ix3 0 p l) = ix3 (tb t) (ts t p) l := by
    have h := index_19 t
    blk_ext [h, tb, ts]
  rw [he]
  refine (congrFun hX (ix3 0 p l)).trans ((left_19 m c t p l).trans ?_)
  exact (Cert.ReferenceIdeal.Res.G19_at _ _ _ _ _ _ _ _ _ _ _ _ _ _ _ _ _ (tb t) (ts t p) l).symm

theorem index_20 : ∀ t : Fin cfg0.N, win0_20.index t = ![t.val / 3, 0, t.val % 3] := (by decide +kernel : ∀ t : Fin grid0.N, _)

theorem final_20 (c : Dev nD) (after : (w : Fin cfg0.W) → Fin cfg0.N → (cfg0.win w).block.Idx → Elt Ideal (cfg0.win w).elt) (hl : ∀ u, (cfg0.win 20).flush u = true → (rdat m c).Leaves 20 u (after 20 u)) :
    ((rdat m c).withAfter after).arrAt 20 cfg0.N = G20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine Dat.arrAt_eq_of_covers _ 20 _ (by decide +kernel) fun t hf y => ?_
  obtain ⟨Y, -, hX⟩ := hl t hf
  obtain ⟨p, l, rfl⟩ := cov3 y
  have he : ((cfg0.win 20).blk t).view.emb (ix3 0 p l) = ix3 (tb t) p (ts t l) := by
    have h := index_20 t
    blk_ext [h, tb, ts]
  rw [he]
  refine (congrFun hX (ix3 0 p l)).trans ((left_20 m c t p l).trans ?_)
  exact (Cert.ReferenceIdeal.Res.G20_at _ _ _ _ _ _ _ _ _ _ _ _ _ _ _ _ _ (tb t) (ts t l) p).symm

theorem index_22 : ∀ t : Fin cfg0.N, win0_22.index t = ![t.val / 3, t.val % 3, 0] := (by decide +kernel : ∀ t : Fin grid0.N, _)

theorem final_22 (c : Dev nD) (after : (w : Fin cfg0.W) → Fin cfg0.N → (cfg0.win w).block.Idx → Elt Ideal (cfg0.win w).elt) (hl : ∀ u, (cfg0.win 22).flush u = true → (rdat m c).Leaves 22 u (after 22 u)) :
    ((rdat m c).withAfter after).arrAt 22 cfg0.N = G22 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine Dat.arrAt_eq_of_covers _ 22 _ (by decide +kernel) fun t hf y => ?_
  obtain ⟨Y, -, hX⟩ := hl t hf
  obtain ⟨p, l, rfl⟩ := cov3 y
  have he : ((cfg0.win 22).blk t).view.emb (ix3 0 p l) = ix3 (tb t) (ts t p) l := by
    have h := index_22 t
    blk_ext [h, tb, ts]
  rw [he]
  refine (congrFun hX (ix3 0 p l)).trans ((left_22 m c t p l).trans ?_)
  exact (Cert.ReferenceIdeal.Res.G22_at _ _ _ _ _ _ _ _ _ _ _ _ _ _ _ _ _ (tb t) (ts t p) l).symm

theorem index_24 : ∀ t : Fin cfg0.N, win0_24.index t = ![t.val / 3, t.val % 3, 0] := (by decide +kernel : ∀ t : Fin grid0.N, _)

theorem final_24 (c : Dev nD) (after : (w : Fin cfg0.W) → Fin cfg0.N → (cfg0.win w).block.Idx → Elt Ideal (cfg0.win w).elt) (hl : ∀ u, (cfg0.win 24).flush u = true → (rdat m c).Leaves 24 u (after 24 u)) :
    ((rdat m c).withAfter after).arrAt 24 cfg0.N = G24 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine Dat.arrAt_eq_of_covers _ 24 _ (by decide +kernel) fun t hf y => ?_
  obtain ⟨Y, -, hX⟩ := hl t hf
  obtain ⟨p, l, rfl⟩ := cov3 y
  have he : ((cfg0.win 24).blk t).view.emb (ix3 0 p l) = ix3 (tb t) (ts t p) l := by
    have h := index_24 t
    blk_ext [h, tb, ts]
  rw [he]
  refine (congrFun hX (ix3 0 p l)).trans ((left_24 m c t p l).trans ?_)
  exact (Cert.ReferenceIdeal.Res.G24_at _ _ _ _ _ _ _ _ _ _ _ _ _ _ _ _ _ (tb t) (ts t p) l).symm

theorem flush_18 : ∀ t : Fin cfg0.N, (cfg0.win 18).flush t = true → t.val = 5 := (by decide +kernel : ∀ t : Fin grid0.N, _)
theorem index_18 : ∀ t : Fin cfg0.N, win0_18.index t = ![0, 0] := (by decide +kernel : ∀ t : Fin grid0.N, _)

theorem leaves_18 (c : Dev nD) (t : Fin cfg0.N) (ht : t.val = 5) (X) (h : (rdat m c).Leaves 18 t X) :
    Done (fun b s => Spec.os (mW m c) (mA m c b s) (mR m c b s)) 1536 X :=
  leaves_of_step m (c := c) (w := 18) (fun n X => Done (fun b s => Spec.os (mW m c) (mA m c b s) (mR m c b s)) (256 * n) X)
    (by decide +kernel) (by decide +kernel) (fun Y b s h => absurd h (by omega))
    (fun t Y X hY hX => by
      have hX' : X = (ms_18 t).view.read (Elt Ideal) _ := hX
      rw [hX']
      exact left_18 m c t _ (by rw [(hs_18 t).read_unread]; exact hY)) 5 t X ht h

theorem final_18 (c : Dev nD) (after : (w : Fin cfg0.W) → Fin cfg0.N → (cfg0.win w).block.Idx → Elt Ideal (cfg0.win w).elt) (hl : ∀ u, (cfg0.win 18).flush u = true → (rdat m c).Leaves 18 u (after 18 u)) :
    ((rdat m c).withAfter after).arrAt 18 cfg0.N = G18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine Dat.arrAt_eq_of_covers _ 18 _ (by decide +kernel) fun t hf y => ?_
  have hX := leaves_18 m c t (flush_18 t hf) _ (hl t hf)
  obtain ⟨b, s, rfl⟩ := cov2 y
  have he : ((cfg0.win 18).blk t).view.emb (ix2 b s) = ix2 b s := by
    have h := index_18 t
    blk_ext [h]
  rw [he]
  refine (hX b s (by omega)).trans ?_
  exact (Cert.ReferenceIdeal.Res.G18_at _ _ _ _ _ _ _ _ _ _ _ _ _ _ _ _ _ b s).symm

theorem flush_21 : ∀ t : Fin cfg0.N, (cfg0.win 21).flush t = true → t.val = 5 := (by decide +kernel : ∀ t : Fin grid0.N, _)
theorem index_21 : ∀ t : Fin cfg0.N, win0_21.index t = ![0, 0] := (by decide +kernel : ∀ t : Fin grid0.N, _)

theorem leaves_21 (c : Dev nD) (t : Fin cfg0.N) (ht : t.val = 5) (X) (h : (rdat m c).Leaves 21 t X) :
    Done (fun b s => Spec.cs (mA m c b s)) 1536 X :=
  leaves_of_step m (c := c) (w := 21) (fun n X => Done (fun b s => Spec.cs (mA m c b s)) (256 * n) X)
    (by decide +kernel) (by decide +kernel) (fun Y b s h => absurd h (by omega))
    (fun t Y X hY hX => by
      have hX' : X = (ms_21 t).view.read (Elt Ideal) _ := hX
      rw [hX']
      exact left_21 m c t _ (by rw [(hs_21 t).read_unread]; exact hY)) 5 t X ht h

theorem final_21 (c : Dev nD) (after : (w : Fin cfg0.W) → Fin cfg0.N → (cfg0.win w).block.Idx → Elt Ideal (cfg0.win w).elt) (hl : ∀ u, (cfg0.win 21).flush u = true → (rdat m c).Leaves 21 u (after 21 u)) :
    ((rdat m c).withAfter after).arrAt 21 cfg0.N = G21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine Dat.arrAt_eq_of_covers _ 21 _ (by decide +kernel) fun t hf y => ?_
  have hX := leaves_21 m c t (flush_21 t hf) _ (hl t hf)
  obtain ⟨b, s, rfl⟩ := cov2 y
  have he : ((cfg0.win 21).blk t).view.emb (ix2 b s) = ix2 b s := by
    have h := index_21 t
    blk_ext [h]
  rw [he]
  refine (hX b s (by omega)).trans ?_
  exact (Cert.ReferenceIdeal.Res.G21_at _ _ _ _ _ _ _ _ _ _ _ _ _ _ _ _ _ b s).symm

theorem flush_23 : ∀ t : Fin cfg0.N, (cfg0.win 23).flush t = true → t.val = 5 := (by decide +kernel : ∀ t : Fin grid0.N, _)
theorem index_23 : ∀ t : Fin cfg0.N, win0_23.index t = ![0, 0] := (by decide +kernel : ∀ t : Fin grid0.N, _)

theorem leaves_23 (c : Dev nD) (t : Fin cfg0.N) (ht : t.val = 5) (X) (h : (rdat m c).Leaves 23 t X) :
    Done (fun b s => Spec.hs (mW m c) (mA m c b s) (mR m c b s)) 1536 X :=
  leaves_of_step m (c := c) (w := 23) (fun n X => Done (fun b s => Spec.hs (mW m c) (mA m c b s) (mR m c b s)) (256 * n) X)
    (by decide +kernel) (by decide +kernel) (fun Y b s h => absurd h (by omega))
    (fun t Y X hY hX => by
      have hX' : X = (ms_23 t).view.read (Elt Ideal) _ := hX
      rw [hX']
      exact left_23 m c t _ (by rw [(hs_23 t).read_unread]; exact hY)) 5 t X ht h

theorem final_23 (c : Dev nD) (after : (w : Fin cfg0.W) → Fin cfg0.N → (cfg0.win w).block.Idx → Elt Ideal (cfg0.win w).elt) (hl : ∀ u, (cfg0.win 23).flush u = true → (rdat m c).Leaves 23 u (after 23 u)) :
    ((rdat m c).withAfter after).arrAt 23 cfg0.N = G23 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine Dat.arrAt_eq_of_covers _ 23 _ (by decide +kernel) fun t hf y => ?_
  have hX := leaves_23 m c t (flush_23 t hf) _ (hl t hf)
  obtain ⟨b, s, rfl⟩ := cov2 y
  have he : ((cfg0.win 23).blk t).view.emb (ix2 b s) = ix2 b s := by
    have h := index_23 t
    blk_ext [h]
  rw [he]
  refine (hX b s (by omega)).trans ?_
  exact (Cert.ReferenceIdeal.Res.G23_at _ _ _ _ _ _ _ _ _ _ _ _ _ _ _ _ _ b s).symm

theorem flush_25 : ∀ t : Fin cfg0.N, (cfg0.win 25).flush t = true → t.val = 5 := (by decide +kernel : ∀ t : Fin grid0.N, _)
theorem index_25 : ∀ t : Fin cfg0.N, win0_25.index t = ![0, 0] := (by decide +kernel : ∀ t : Fin grid0.N, _)

theorem leaves_25 (c : Dev nD) (t : Fin cfg0.N) (ht : t.val = 5) (X) (h : (rdat m c).Leaves 25 t X) :
    Done (fun b s => Spec.fs (mW m c) (mA m c b s) (mR m c b s)) 1536 X :=
  leaves_of_step m (c := c) (w := 25) (fun n X => Done (fun b s => Spec.fs (mW m c) (mA m c b s) (mR m c b s)) (256 * n) X)
    (by decide +kernel) (by decide +kernel) (fun Y b s h => absurd h (by omega))
    (fun t Y X hY hX => by
      have hX' : X = (ms_25 t).view.read (Elt Ideal) _ := hX
      rw [hX']
      exact left_25 m c t _ (by rw [(hs_25 t).read_unread]; exact hY)) 5 t X ht h

theorem final_25 (c : Dev nD) (after : (w : Fin cfg0.W) → Fin cfg0.N → (cfg0.win w).block.Idx → Elt Ideal (cfg0.win w).elt) (hl : ∀ u, (cfg0.win 25).flush u = true → (rdat m c).Leaves 25 u (after 25 u)) :
    ((rdat m c).withAfter after).arrAt 25 cfg0.N = G25 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine Dat.arrAt_eq_of_covers _ 25 _ (by decide +kernel) fun t hf y => ?_
  have hX := leaves_25 m c t (flush_25 t hf) _ (hl t hf)
  obtain ⟨b, s, rfl⟩ := cov2 y
  have he : ((cfg0.win 25).blk t).view.emb (ix2 b s) = ix2 b s := by
    have h := index_25 t
    blk_ext [h]
  rw [he]
  refine (hX b s (by omega)).trans ?_
  exact (Cert.ReferenceIdeal.Res.G25_at _ _ _ _ _ _ _ _ _ _ _ _ _ _ _ _ _ b s).symm

end Cert.KernelIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Run
public import proofs.«01_k».proof.Proof.Ideal.Run
public import proofs.«01_k».proof.Proof.Ideal.Arrays
public import Idealize.ShloMosaic.Adequacy
public import Idealize.ShloMosaic.Init

@[expose] public section

noncomputable section

namespace Cert.Proof

open Idealize.ShloMosaic Idealize.SL.Sem Cert.Kernel

/-- The two constants the idealization names have the values its table gives them. -/
theorem preserves : Cert.preserves_Kernel_KernelIdeal :=
  ⟨IdealRules.named_const.statement _ _ _ _ _ rfl, IdealRules.named_const.statement _ _ _ _ _ rfl⟩

/-- Equal arguments give equal results. -/
theorem congr17 {A0 A1 A2 A3 A4 A5 A6 A7 A8 A9 A10 A11 A12 A13 A14 A15 A16 B : Type} (f : A0 → A1 → A2 → A3 → A4 → A5 → A6 → A7 → A8 → A9 → A10 → A11 → A12 → A13 → A14 → A15 → A16 → B)
    {x0 y0 : A0} (h0 : x0 = y0) {x1 y1 : A1} (h1 : x1 = y1) {x2 y2 : A2} (h2 : x2 = y2) {x3 y3 : A3} (h3 : x3 = y3) {x4 y4 : A4} (h4 : x4 = y4) {x5 y5 : A5} (h5 : x5 = y5) {x6 y6 : A6} (h6 : x6 = y6) {x7 y7 : A7} (h7 : x7 = y7) {x8 y8 : A8} (h8 : x8 = y8) {x9 y9 : A9} (h9 : x9 = y9) {x10 y10 : A10} (h10 : x10 = y10) {x11 y11 : A11} (h11 : x11 = y11) {x12 y12 : A12} (h12 : x12 = y12) {x13 y13 : A13} (h13 : x13 = y13) {x14 y14 : A14} (h14 : x14 = y14) {x15 y15 : A15} (h15 : x15 = y15) {x16 y16 : A16} (h16 : x16 = y16) :
    f x0 x1 x2 x3 x4 x5 x6 x7 x8 x9 x10 x11 x12 x13 x14 x15 x16 = f y0 y1 y2 y3 y4 y5 y6 y7 y8 y9 y10 y11 y12 y13 y14 y15 y16 := by
  subst h0 h1 h2 h3 h4 h5 h6 h7 h8 h9 h10 h11 h12 h13 h14 h15 h16; rfl

set_option maxHeartbeats 1000000 in
open Cert.ReferenceIdeal.Res (G17 G18 G19 G20 G21 G22 G23 G24 G25) in
/-- Over the extended reals the kernel's nine results are the reference's. -/
theorem algebraic : Cert.algebraic_KernelIdeal_ReferenceIdeal := by
  intro m g m' g' _ hag
  refine ⟨fun c => G17 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
      fun c => G18 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
      fun c => G19 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
      fun c => G20 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
      fun c => G21 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
      fun c => G22 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
      fun c => G23 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
      fun c => G24 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
      fun c => G25 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · refine (θ_run _ _ _).mono (fun r h c => ?_) (Cert.KernelIdeal.Body.run_main m g)
    obtain ⟨after, hl, hm⟩ := Pipeline.RDat.FramePost.exists_exact h.1 c
    exact ⟨(hm 17).trans (Cert.KernelIdeal.Val.final_17 m c after (hl 17)),
      (hm 18).trans (Cert.KernelIdeal.Val.final_18 m c after (hl 18)),
      (hm 19).trans (Cert.KernelIdeal.Val.final_19 m c after (hl 19)),
      (hm 20).trans (Cert.KernelIdeal.Val.final_20 m c after (hl 20)),
      (hm 21).trans (Cert.KernelIdeal.Val.final_21 m c after (hl 21)),
      (hm 22).trans (Cert.KernelIdeal.Val.final_22 m c after (hl 22)),
      (hm 23).trans (Cert.KernelIdeal.Val.final_23 m c after (hl 23)),
      (hm 24).trans (Cert.KernelIdeal.Val.final_24 m c after (hl 24)),
      (hm 25).trans (Cert.KernelIdeal.Val.final_25 m c after (hl 25)),
      Cert.KernelIdeal.Body.args_kept m h c⟩
  · refine (θ_run _ _ _).mono (fun r h c => ?_) (Cert.ReferenceIdeal.Res.run m' g')
    obtain ⟨h0, h1, h2, h3, h4, h5, h6, h7, h8, h9, h10, h11, h12, h13, h14, h15, h16⟩ := hag c
    exact ⟨(h c).1.trans (congr17 (G17 (F := Ideal)) h0 h1 h2 h3 h4 h5 h6 h7 h8 h9 h10 h11 h12 h13 h14 h15 h16),
      (h c).2.1.trans (congr17 (G18 (F := Ideal)) h0 h1 h2 h3 h4 h5 h6 h7 h8 h9 h10 h11 h12 h13 h14 h15 h16),
      (h c).2.2.1.trans (congr17 (G19 (F := Ideal)) h0 h1 h2 h3 h4 h5 h6 h7 h8 h9 h10 h11 h12 h13 h14 h15 h16),
      (h c).2.2.2.1.trans (congr17 (G20 (F := Ideal)) h0 h1 h2 h3 h4 h5 h6 h7 h8 h9 h10 h11 h12 h13 h14 h15 h16),
      (h c).2.2.2.2.1.trans (congr17 (G21 (F := Ideal)) h0 h1 h2 h3 h4 h5 h6 h7 h8 h9 h10 h11 h12 h13 h14 h15 h16),
      (h c).2.2.2.2.2.1.trans (congr17 (G22 (F := Ideal)) h0 h1 h2 h3 h4 h5 h6 h7 h8 h9 h10 h11 h12 h13 h14 h15 h16),
      (h c).2.2.2.2.2.2.1.trans (congr17 (G23 (F := Ideal)) h0 h1 h2 h3 h4 h5 h6 h7 h8 h9 h10 h11 h12 h13 h14 h15 h16),
      (h c).2.2.2.2.2.2.2.1.trans (congr17 (G24 (F := Ideal)) h0 h1 h2 h3 h4 h5 h6 h7 h8 h9 h10 h11 h12 h13 h14 h15 h16),
      (h c).2.2.2.2.2.2.2.2.1.trans (congr17 (G25 (F := Ideal)) h0 h1 h2 h3 h4 h5 h6 h7 h8 h9 h10 h11 h12 h13 h14 h15 h16), (h c).2.2.2.2.2.2.2.2.2⟩

theorem claim : Cert.Claim := ⟨Cert.Kernel.Gen.facts, Cert.KernelIdeal.Gen.facts, Cert.ReferenceIdeal.Gen.facts,
  fun m ρ _ => Cert.Kernel.Body.frame m ρ, fun m ρ _ => Cert.KernelIdeal.Body.frame m ρ,
  fun m ρ _ => Cert.ReferenceIdeal.Gen.frame m ρ, preserves, algebraic⟩

end Cert.Proof

end
